-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def preserves_Kernel_KernelIdeal : Prop :=
  IdealRules.named_const.Statement Cert.KernelIdeal.κ "q_scale" .f32 0x3E0293EE#32 (((Real.sqrt 128)⁻¹ * (Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v24_0)) (v1 : (c : Dev Cert.Kernel3Ideal.nD) → Buf (Elt Ideal) ((c.tc : Thread Cert.Kernel3Ideal.nD Cert.Kernel3Ideal.τ).loc Cert.Kernel3Ideal.main_v24_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v24_0) = v0 c
          ∧ r.2.mem ((c.tc : Thread Cert.Kernel3Ideal.nD Cert.Kernel3Ideal.τ).loc Cert.Kernel3Ideal.main_v24_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v49) = v0 c
          ∧ r.2.mem ((c.tc : Thread Cert.Reference3Ideal.nD Cert.Reference3Ideal.τ).loc Cert.Reference3Ideal.main_v66) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v10_0)) (v1 : (c : Dev Cert.Kernel4Ideal.nD) → Buf (Elt Ideal) ((c.tc : Thread Cert.Kernel4Ideal.nD Cert.Kernel4Ideal.τ).loc Cert.Kernel4Ideal.main_v10_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v10_0) = v0 c
          ∧ r.2.mem ((c.tc : Thread Cert.Kernel4Ideal.nD Cert.Kernel4Ideal.τ).loc Cert.Kernel4Ideal.main_v10_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v21) = v0 c
          ∧ r.2.mem ((c.tc : Thread Cert.Reference4Ideal.nD Cert.Reference4Ideal.τ).loc Cert.Reference4Ideal.main_v38) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v13_0)) (v1 : (c : Dev Cert.Kernel5Ideal.nD) → Buf (Elt Ideal) ((c.tc : Thread Cert.Kernel5Ideal.nD Cert.Kernel5Ideal.τ).loc Cert.Kernel5Ideal.main_v13_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v13_0) = v0 c
          ∧ r.2.mem ((c.tc : Thread Cert.Kernel5Ideal.nD Cert.Kernel5Ideal.τ).loc Cert.Kernel5Ideal.main_v13_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v32) = v0 c
          ∧ r.2.mem ((c.tc : Thread Cert.Reference5Ideal.nD Cert.Reference5Ideal.τ).loc Cert.Reference5Ideal.main_v49) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)) (v1 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_v1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_v9) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)) →
    ∃ (v0 : (c : Dev Cert.Kernel7Ideal.nD) → Buf (Elt Ideal) ((c.tc : Thread Cert.Kernel7Ideal.nD Cert.Kernel7Ideal.τ).loc Cert.Kernel7Ideal.main_v24_0)) (v1 : (c : Dev Cert.Kernel7Ideal.nD) → Buf (Elt Ideal) ((c.tc : Thread Cert.Kernel7Ideal.nD Cert.Kernel7Ideal.τ).loc Cert.Kernel7Ideal.main_v24_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v24_0) = v0 c
          ∧ r.2.mem ((c.tc : Thread Cert.Kernel7Ideal.nD Cert.Kernel7Ideal.τ).loc Cert.Kernel7Ideal.main_v24_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v49) = v0 c
          ∧ r.2.mem ((c.tc : Thread Cert.Reference7Ideal.nD Cert.Reference7Ideal.τ).loc Cert.Reference7Ideal.main_v66) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7))

def preserves_Kernel8_Kernel8Ideal : Prop :=
  IdealRules.named_const.Statement Cert.Kernel8Ideal.κ "q_scale" .f32 0x3E0293EE#32 (((Real.sqrt 128)⁻¹ * (Real.log 2)⁻¹ : ℝ) : EReal)

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v4)) (v1 : (c : Dev Cert.Kernel8Ideal.nD) → Buf (Elt Ideal) ((c.tc : Thread Cert.Kernel8Ideal.nD Cert.Kernel8Ideal.τ).loc Cert.Kernel8Ideal.main_v5)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4) = v0 c
          ∧ r.2.mem ((c.tc : Thread Cert.Kernel8Ideal.nD Cert.Kernel8Ideal.τ).loc Cert.Kernel8Ideal.main_v5) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v19) = v0 c
          ∧ r.2.mem ((c.tc : Thread Cert.Reference8Ideal.nD Cert.Reference8Ideal.τ).loc Cert.Reference8Ideal.main_v18) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)) →
    ∃ (v0 : (c : Dev Cert.Kernel9Ideal.nD) → Buf (Elt Ideal) ((c.tc : Thread Cert.Kernel9Ideal.nD Cert.Kernel9Ideal.τ).loc Cert.Kernel9Ideal.main_v10_0)) (v1 : (c : Dev Cert.Kernel9Ideal.nD) → Buf (Elt Ideal) ((c.tc : Thread Cert.Kernel9Ideal.nD Cert.Kernel9Ideal.τ).loc Cert.Kernel9Ideal.main_v10_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v10_0) = v0 c
          ∧ r.2.mem ((c.tc : Thread Cert.Kernel9Ideal.nD Cert.Kernel9Ideal.τ).loc Cert.Kernel9Ideal.main_v10_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v21) = v0 c
          ∧ r.2.mem ((c.tc : Thread Cert.Reference9Ideal.nD Cert.Reference9Ideal.τ).loc Cert.Reference9Ideal.main_v38) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)) →
    ∃ (v0 : (c : Dev Cert.Kernel10Ideal.nD) → Buf (Elt Ideal) ((c.tc : Thread Cert.Kernel10Ideal.nD Cert.Kernel10Ideal.τ).loc Cert.Kernel10Ideal.main_v13_0)) (v1 : (c : Dev Cert.Kernel10Ideal.nD) → Buf (Elt Ideal) ((c.tc : Thread Cert.Kernel10Ideal.nD Cert.Kernel10Ideal.τ).loc Cert.Kernel10Ideal.main_v13_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v13_0) = v0 c
          ∧ r.2.mem ((c.tc : Thread Cert.Kernel10Ideal.nD Cert.Kernel10Ideal.τ).loc Cert.Kernel10Ideal.main_v13_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v32) = v0 c
          ∧ r.2.mem ((c.tc : Thread Cert.Reference10Ideal.nD Cert.Reference10Ideal.τ).loc Cert.Reference10Ideal.main_v49) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6))

def preserves_Kernel2_Kernel2Ideal : Prop :=
  IdealRules.named_const.Statement Cert.Kernel2Ideal.κ "mask" .f32 0xF149F2CA#32 ⊥

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v44) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def Claim : Prop :=
  ∃ (hKernel : Cert.Kernel.Facts) (hKernelIdeal : Cert.KernelIdeal.Facts) (hReferenceIdeal : Cert.ReferenceIdeal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel2 : Cert.Kernel2.Facts) (hKernel2Ideal : Cert.Kernel2Ideal.Facts) (hReference2Ideal : Cert.Reference2Ideal.Facts) (hPre_finite2 : Cert.Pre_finite2.Facts),
    quiescent_Kernel (hKernel := hKernel)
    ∧ quiescent_KernelIdeal (hKernelIdeal := hKernelIdeal)
    ∧ quiescent_ReferenceIdeal (hReferenceIdeal := hReferenceIdeal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ preserves_Kernel_KernelIdeal
    ∧ algebraic_KernelIdeal_ReferenceIdeal (hKernelIdeal := hKernelIdeal) (hReferenceIdeal := hReferenceIdeal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel2_Kernel2Ideal
    ∧ algebraic_Kernel2Ideal_Reference2Ideal_pre_finite2 (hKernel2Ideal := hKernel2Ideal) (hReference2Ideal := hReference2Ideal) (hPre_finite2 := hPre_finite2)
-- ==== Pre_finite2.lean ====
abbrev S2x4096x6144 : Shape := ⟨3, ![2, 4096, 6144]⟩
abbrev S2x4096x128 : Shape := ⟨3, ![2, 4096, 128]⟩
abbrev S_ : Shape := ⟨0, ![]⟩

class Facts : Prop where
  bcast_S_S2x4096x6144 : S_.BroadcastsInDim S2x4096x6144 (![] : Fin 0 → Fin S2x4096x6144.rank)
  reducesTo_S2x4096x6144_S_d0_1_2 : S2x4096x6144.ReducesTo [0, 1, 2] S_
  h_S_ : 0 < S_.numel
  bcast_S_S2x4096x128 : S_.BroadcastsInDim S2x4096x128 (![] : Fin 0 → Fin S2x4096x128.rank)
  reducesTo_S2x4096x128_S_d0_1_2 : S2x4096x128.ReducesTo [0, 1, 2] S_

variable [Facts]

def fn {F : FTy → Type} [FloatOps F] (main_arg0 : FVec F S2x4096x6144 .bf16) (main_arg1 : FVec F S2x4096x128 .f32) : IVec S_ 1 :=
  let main_v0 : FVec F S2x4096x6144 .bf16 := Host.absf main_arg0
  let main_cst : FVec F S_ .bf16 := constant S_ .bf16 0x7F80#16
  let main_v1 : FVec F S2x4096x6144 .bf16 := broadcastInDim S2x4096x6144 ![] bcast_S_S2x4096x6144 main_cst
  let main_v2 : IVec S2x4096x6144 1 := cmpf .olt main_v0 main_v1
  let main_c : IVec S_ 1 := constantI S_ 1 1#1
  let main_v3 : IVec S_ 1 := (fun x v => Host.reduce IntOp.andi x v reducesTo_S2x4096x6144_S_d0_1_2 h_S_) main_v2 main_c
  let main_v4 : FVec F S2x4096x128 .f32 := Host.absf main_arg1
  let main_cst_0 : FVec F S_ .f32 := constant S_ .f32 0x7F800000#32
  let main_v5 : FVec F S2x4096x128 .f32 := broadcastInDim S2x4096x128 ![] bcast_S_S2x4096x128 main_cst_0
  let main_v6 : IVec S2x4096x128 1 := cmpf .olt main_v4 main_v5
  let main_c_1 : IVec S_ 1 := constantI S_ 1 1#1
  let main_v7 : IVec S_ 1 := (fun x v => Host.reduce IntOp.andi x v reducesTo_S2x4096x128_S_d0_1_2 h_S_) main_v6 main_c_1
  let main_v8 : IVec S_ 1 := andi main_v3 main_v7
  main_v8
-- ==== Kernel.lean ====
abbrev S2x4096x2048 : Shape := ⟨3, ![2, 4096, 2048]⟩
abbrev S2x2048 : Shape := ⟨2, ![2, 2048]⟩
abbrev S2x2048x7176 : Shape := ⟨3, ![2, 2048, 7176]⟩
abbrev S2x7176x2048 : Shape := ⟨3, ![2, 7176, 2048]⟩
abbrev S2x6144x2048 : Shape := ⟨3, ![2, 6144, 2048]⟩
abbrev S1x1024x2048 : Shape := ⟨3, ![1, 1024, 2048]⟩
abbrev S1024x2048 : Shape := ⟨2, ![1024, 2048]⟩
abbrev S2x1152x2048 : Shape := ⟨3, ![2, 1152, 2048]⟩
abbrev S1x8x2048 : Shape := ⟨3, ![1, 8, 2048]⟩
abbrev S1x1152x2048 : Shape := ⟨3, ![1, 1152, 2048]⟩
abbrev S120x2048 : Shape := ⟨2, ![120, 2048]⟩
abbrev S8x2048 : Shape := ⟨2, ![8, 2048]⟩
abbrev S128x2048 : Shape := ⟨2, ![128, 2048]⟩
abbrev S1x128x2048 : Shape := ⟨3, ![1, 128, 2048]⟩
abbrev S8192x2048 : Shape := ⟨2, ![8192, 2048]⟩
abbrev S1x2048 : Shape := ⟨2, ![1, 2048]⟩
abbrev S2048 : Shape := ⟨1, ![2048]⟩
abbrev S512x2048 : Shape := ⟨2, ![512, 2048]⟩
abbrev S512 : Shape := ⟨1, ![512]⟩
abbrev S512x1 : Shape := ⟨2, ![512, 1]⟩
abbrev S8192x6144 : Shape := ⟨2, ![8192, 6144]⟩
abbrev S1024x1024 : Shape := ⟨2, ![1024, 1024]⟩
abbrev S8192x1152 : Shape := ⟨2, ![8192, 1152]⟩
abbrev S1024x1152 : Shape := ⟨2, ![1024, 1152]⟩
abbrev S1152x2048 : Shape := ⟨2, ![1152, 2048]⟩

abbrev nBuf : Space → Nat
  | .hbm => 13
  | .vmem => 26
  | .smem => 0
  | _ => 0

abbrev bufTy : (tb : Table) → Fin (tcTables nBuf tb) → BufTy
  | .hbm, ⟨0, _⟩ => ⟨S2x4096x2048, .f32⟩
  | .hbm, ⟨1, _⟩ => ⟨S2x2048, .f32⟩
  | .hbm, ⟨2, _⟩ => ⟨S2x2048x7176, .f32⟩
  | .hbm, ⟨3, _⟩ => ⟨S2x7176x2048, .f32⟩
  | .hbm, ⟨4, _⟩ => ⟨S2x6144x2048, .bf16⟩
  | .hbm, ⟨5, _⟩ => ⟨S2x1152x2048, .bf16⟩
  | .hbm, ⟨6, _⟩ => ⟨S8192x2048, .f32⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S8192x2048, .bf16⟩
  | .hbm, ⟨11, _⟩ => ⟨S8192x6144, .bf16⟩
  | .hbm, ⟨12, _⟩ => ⟨S8192x1152, .f32⟩
  | .local _ .vmem, ⟨0, _⟩ => ⟨S1x1024x2048, .f32⟩
  | .local _ .vmem, ⟨1, _⟩ => ⟨S1x1024x2048, .f32⟩
  | .local _ .vmem, ⟨2, _⟩ => ⟨S1x1024x2048, .bf16⟩
  | .local _ .vmem, ⟨3, _⟩ => ⟨S1x1024x2048, .bf16⟩
  | .local _ .vmem, ⟨4, _⟩ => ⟨S1x1024x2048, .f32⟩
  | .local _ .vmem, ⟨5, _⟩ => ⟨S1x1024x2048, .f32⟩
  | .local _ .vmem, ⟨6, _⟩ => ⟨S1x8x2048, .f32⟩
  | .local _ .vmem, ⟨7, _⟩ => ⟨S1x8x2048, .f32⟩
  | .local _ .vmem, ⟨8, _⟩ => ⟨S1x1152x2048, .bf16⟩
  | .local _ .vmem, ⟨9, _⟩ => ⟨S1x1152x2048, .bf16⟩
  | .local _ .vmem, ⟨10, _⟩ => ⟨S512x2048, .f32⟩
  | .local _ .vmem, ⟨11, _⟩ => ⟨S512x2048, .f32⟩
  | .local _ .vmem, ⟨12, _⟩ => ⟨S1x2048, .f32⟩
  | .local _ .vmem, ⟨13, _⟩ => ⟨S512x2048, .bf16⟩
  | .local _ .vmem, ⟨14, _⟩ => ⟨S512x2048, .bf16⟩
  | .local _ .vmem, ⟨15, _⟩ => ⟨S1024x2048, .bf16⟩
  | .local _ .vmem, ⟨16, _⟩ => ⟨S1024x2048, .bf16⟩
  | .local _ .vmem, ⟨17, _⟩ => ⟨S1x1024x2048, .bf16⟩
  | .local _ .vmem, ⟨18, _⟩ => ⟨S1x1024x2048, .bf16⟩
  | .local _ .vmem, ⟨19, _⟩ => ⟨S1024x1024, .bf16⟩
  | .local _ .vmem, ⟨20, _⟩ => ⟨S1024x1024, .bf16⟩
  | .local _ .vmem, ⟨21, _⟩ => ⟨S1024x2048, .bf16⟩
  | .local _ .vmem, ⟨22, _⟩ => ⟨S1024x2048, .bf16⟩
  | .local _ .vmem, ⟨23, _⟩ => ⟨S1x1152x2048, .bf16⟩
  | .local _ .vmem, ⟨24, _⟩ => ⟨S1024x1152, .f32⟩
  | .local _ .vmem, ⟨25, _⟩ => ⟨S1024x1152, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg1_1 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg2_0 : Ref sig .tc := ⟨.vmem, 24, rfl⟩
abbrev cc4_stg2_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem1_1 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem2_0 : DmaSem sig := 24
abbrev cc4_sem2_1 : DmaSem sig := 25

abbrev nD : Nat := 1
abbrev τ : Topo := Topo.v7x

variable {F : FTy → Type} [FloatOps F]

abbrev grid0 : Pipeline.Grid := ⟨2, ![2, 6], ![false, false]⟩

def cc0_transform_0 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c3_i32 : BitVec 32 := 3#32
  let v1 : BitVec 1 := Scalar.cmpi .sge arg1 c3_i32
  let c1_i32 : BitVec 32 := 1#32
  let c0_i32 : BitVec 32 := 0#32
  let v2 : BitVec 32 := Scalar.select v1 c1_i32 c0_i32
  let v3 : BitVec 32 := Scalar.addi v0 v2
  let c4_i32 : BitVec 32 := 4#32
  let v4 : BitVec 1 := Scalar.cmpi .sge arg1 c4_i32
  let c128_i32_0 : BitVec 32 := 128#32
  let c0_i32_1 : BitVec 32 := 0#32
  let v5 : BitVec 32 := Scalar.select v4 c128_i32_0 c0_i32_1
  let v6 : BitVec 32 := Scalar.addi v3 v5
  let c8_i32 : BitVec 32 := 8#32
  let v7 : BitVec 32 := Scalar.muli v6 c8_i32
  let c0_i32_2 : BitVec 32 := 0#32
  let c0_i32_3 : BitVec 32 := 0#32
  ![arg0.toNat, v7.toNat, c0_i32_2.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨1, ![2], ![false]⟩

def cc1_transform_0 (i : grid1.Coords) : Fin 3 → Nat :=
  let arg0 : BitVec 32 := BitVec.ofNat 32 (i 0).val
  let c4104_i32 : BitVec 32 := 4104#32
  let c0_i32 : BitVec 32 := 0#32
  let c0_i32_0 : BitVec 32 := 0#32
  ![arg0.toNat, c4104_i32.toNat, c0_i32.toNat]

def cc1_transform_1 (i : grid1.Coords) : Fin 3 → Nat :=
  let arg0 : BitVec 32 := BitVec.ofNat 32 (i 0).val
  let c3072_i32 : BitVec 32 := 3072#32
  let c0_i32 : BitVec 32 := 0#32
  let c0_i32_0 : BitVec 32 := 0#32
  ![arg0.toNat, c3072_i32.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x8x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1152x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x2048 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x2048 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![8, 6], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S1x1024x2048 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x1024 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![8, 1], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S1024x2048 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 1 → Memref sig .tc .vmem S1x1152x2048 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true]

abbrev stage4_2 : Fin 2 → Memref sig .tc .vmem S1024x1152 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]
-- ==== KernelIdeal.lean ====
variable {F : FTy → Type} [FloatOps F] [Named F]
def κ : String → Option EReal := fun
  | "q_scale" => some (((Real.sqrt 128)⁻¹ * (Real.log 2)⁻¹ : ℝ) : EReal)
  | _ => none
-- ==== ReferenceIdeal.lean ====
abbrev S2x4096x2048 : Shape := ⟨3, ![2, 4096, 2048]⟩
abbrev S2x2048 : Shape := ⟨2, ![2, 2048]⟩
abbrev S2x2048x7176 : Shape := ⟨3, ![2, 2048, 7176]⟩
abbrev S1x2048 : Shape := ⟨2, ![1, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S1x2048x7176 : Shape := ⟨3, ![1, 2048, 7176]⟩
abbrev S2048x7176 : Shape := ⟨2, ![2048, 7176]⟩
abbrev S2x4096x7176 : Shape := ⟨3, ![2, 4096, 7176]⟩
abbrev S8192x7176 : Shape := ⟨2, ![8192, 7176]⟩
abbrev S8192x1024 : Shape := ⟨2, ![8192, 1024]⟩
abbrev S8192x2048 : Shape := ⟨2, ![8192, 2048]⟩
abbrev S8192x6144 : Shape := ⟨2, ![8192, 6144]⟩
abbrev S8192x8 : Shape := ⟨2, ![8192, 8]⟩
abbrev S8192x1032 : Shape := ⟨2, ![8192, 1032]⟩
abbrev S8192x1152 : Shape := ⟨2, ![8192, 1152]⟩

abbrev nBuf : Space → Nat
  | .hbm => 44
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x2048, .f32⟩
  | .hbm, ⟨2, _⟩ => ⟨S2x2048x7176, .f32⟩
  | .hbm, ⟨3, _⟩ => ⟨S1x2048, .f32⟩
  | .hbm, ⟨4, _⟩ => ⟨S2048, .f32⟩
  | .hbm, ⟨5, _⟩ => ⟨S2x4096x2048, .f32⟩
  | .hbm, ⟨6, _⟩ => ⟨S_, .f32⟩
  | .hbm, ⟨7, _⟩ => ⟨S2x4096, .f32⟩
  | .hbm, ⟨8, _⟩ => ⟨S2x4096x1, .f32⟩
  | .hbm, ⟨9, _⟩ => ⟨S_, .f32⟩
  | .hbm, ⟨10, _⟩ => ⟨S2x4096x1, .f32⟩
  | .hbm, ⟨11, _⟩ => ⟨S2x4096x1, .f32⟩
  | .hbm, ⟨12, _⟩ => ⟨S_, .f32⟩
  | .hbm, ⟨13, _⟩ => ⟨S2x4096x1, .f32⟩
  | .hbm, ⟨14, _⟩ => ⟨S2x4096x1, .f32⟩
  | .hbm, ⟨15, _⟩ => ⟨S2x4096x1, .f32⟩
  | .hbm, ⟨16, _⟩ => ⟨S2x4096x2048, .f32⟩
  | .hbm, ⟨17, _⟩ => ⟨S2x4096x2048, .f32⟩
  | .hbm, ⟨18, _⟩ => ⟨S1x1x2048, .f32⟩
  | .hbm, ⟨19, _⟩ => ⟨S2x4096x2048, .f32⟩
  | .hbm, ⟨20, _⟩ => ⟨S2x4096x2048, .f32⟩
  | .hbm, ⟨21, _⟩ => ⟨S1x2048x7176, .f32⟩
  | .hbm, ⟨22, _⟩ => ⟨S2048x7176, .f32⟩
  | .hbm, ⟨23, _⟩ => ⟨S2x4096x7176, .f32⟩
  | .hbm, ⟨24, _⟩ => ⟨S8192x7176, .f32⟩
  | .hbm, ⟨25, _⟩ => ⟨S8192x1024, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S8192x2048, .f32⟩
  | .hbm, ⟨34, _⟩ => ⟨S8192x1024, .f32⟩
  | .hbm, ⟨35, _⟩ => ⟨S8192x2048, .f32⟩
  | .hbm, ⟨36, _⟩ => ⟨S8192x6144, .f32⟩
  | .hbm, ⟨37, _⟩ => ⟨S8192x1024, .f32⟩
  | .hbm, ⟨38, _⟩ => ⟨S8192x8, .f32⟩
  | .hbm, ⟨39, _⟩ => ⟨S8192x1032, .f32⟩
  | .hbm, ⟨40, _⟩ => ⟨S_, .i32⟩
  | .hbm, ⟨41, _⟩ => ⟨S_, .f32⟩
  | .hbm, ⟨42, _⟩ => ⟨S8192x1152, .f32⟩
  | .hbm, ⟨43, _⟩ => ⟨S8192x6144, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_c : Ref sig .tc := ⟨.hbm, 40, rfl⟩
abbrev main_call0_v0 : Ref sig .tc := ⟨.hbm, 41, rfl⟩
abbrev main_v32 : Ref sig .tc := ⟨.hbm, 42, rfl⟩
abbrev main_v33 : Ref sig .tc := ⟨.hbm, 43, rfl⟩

abbrev nD : Nat := 1
abbrev τ : Topo := Topo.v7x

variable {F : FTy → Type} [FloatOps F]

def κ : String → Option EReal := fun
  | "q_scale" => some (((Real.sqrt 128)⁻¹ * (Real.log 2)⁻¹ : ℝ) : EReal)
  | _ => none
-- ==== Kernel3.lean ====
abbrev S2x4096x2048 : Shape := ⟨3, ![2, 4096, 2048]⟩
abbrev S2x2048x11264 : Shape := ⟨3, ![2, 2048, 11264]⟩
abbrev S2x3x11264 : Shape := ⟨3, ![2, 3, 11264]⟩
abbrev S2x11264 : Shape := ⟨2, ![2, 11264]⟩
abbrev S2x5632x2048 : Shape := ⟨3, ![2, 5632, 2048]⟩
abbrev S2x2048 : Shape := ⟨2, ![2, 2048]⟩
abbrev S2x2048x2x44x128 : Shape := ⟨5, ![2, 2048, 2, 44, 128]⟩
abbrev S2x2048x44x2x128 : Shape := ⟨5, ![2, 2048, 44, 2, 128]⟩
abbrev S8192x2048 : Shape := ⟨2, ![8192, 2048]⟩
abbrev S1x3x11264 : Shape := ⟨3, ![1, 3, 11264]⟩
abbrev S3x11264 : Shape := ⟨2, ![3, 11264]⟩
abbrev S3x2x44x128 : Shape := ⟨4, ![3, 2, 44, 128]⟩
abbrev S3x44x2x128 : Shape := ⟨4, ![3, 44, 2, 128]⟩
abbrev S1x11264 : Shape := ⟨2, ![1, 11264]⟩
abbrev S11264 : Shape := ⟨1, ![11264]⟩
abbrev S1x2x44x128 : Shape := ⟨4, ![1, 2, 44, 128]⟩
abbrev S1x44x2x128 : Shape := ⟨4, ![1, 44, 2, 128]⟩
abbrev S1x2048 : Shape := ⟨2, ![1, 2048]⟩
abbrev S2048 : Shape := ⟨1, ![2048]⟩
abbrev S512x2048 : Shape := ⟨2, ![512, 2048]⟩
abbrev S16x2048 : Shape := ⟨2, ![16, 2048]⟩
abbrev S1x2048x1024 : Shape := ⟨3, ![1, 2048, 1024]⟩
abbrev S3x1024 : Shape := ⟨2, ![3, 1024]⟩
abbrev S1x1024 : Shape := ⟨2, ![1, 1024]⟩
abbrev S1x512x2048 : Shape := ⟨3, ![1, 512, 2048]⟩
abbrev S528x2048 : Shape := ⟨2, ![528, 2048]⟩
abbrev S4x528x256 : Shape := ⟨3, ![4, 528, 256]⟩
abbrev S1x2048x256 : Shape := ⟨3, ![1, 2048, 256]⟩
abbrev S2048x256 : Shape := ⟨2, ![2048, 256]⟩
abbrev S528x256 : Shape := ⟨2, ![528, 256]⟩
abbrev S1x528x256 : Shape := ⟨3, ![1, 528, 256]⟩
abbrev S3x256 : Shape := ⟨2, ![3, 256]⟩
abbrev S1x256 : Shape := ⟨2, ![1, 256]⟩
abbrev S1x512x256 : Shape := ⟨3, ![1, 512, 256]⟩
abbrev S512x256 : Shape := ⟨2, ![512, 256]⟩
abbrev S512x128 : Shape := ⟨2, ![512, 128]⟩
abbrev S1x256x2048 : Shape := ⟨3, ![1, 256, 2048]⟩
abbrev S256x2048 : Shape := ⟨2, ![256, 2048]⟩
abbrev S512 : Shape := ⟨1, ![512]⟩
abbrev S512x1 : Shape := ⟨2, ![512, 1]⟩

abbrev nBuf : Space → Nat
  | .hbm => 34
  | .vmem => 23
  | .smem => 0
  | _ => 0

abbrev bufTy : (tb : Table) → Fin (tcTables nBuf tb) → BufTy
  | .hbm, ⟨0, _⟩ => ⟨S2x4096x2048, .bf16⟩
  | .hbm, ⟨1, _⟩ => ⟨S2x4096x2048, .f32⟩
  | .hbm, ⟨2, _⟩ => ⟨S2x2048x11264, .f32⟩
  | .hbm, ⟨3, _⟩ => ⟨S2x3x11264, .f32⟩
  | .hbm, ⟨4, _⟩ => ⟨S2x11264, .f32⟩
  | .hbm, ⟨5, _⟩ => ⟨S2x5632x2048, .f32⟩
  | .hbm, ⟨6, _⟩ => ⟨S2x2048, .f32⟩
  | .hbm, ⟨7, _⟩ => ⟨S2x2048, .f32⟩
  | .hbm, ⟨8, _⟩ => ⟨S2x2048x2x44x128, .f32⟩
  | .hbm, ⟨9, _⟩ => ⟨S2x2048x44x2x128, .f32⟩
  | .hbm, ⟨10, _⟩ => ⟨S2x2048x11264, .f32⟩
  | .hbm, ⟨11, _⟩ => ⟨S2x2048x11264, .bf16⟩
  | .hbm, ⟨12, _⟩ => ⟨S8192x2048, .bf16⟩
  | .hbm, ⟨13, _⟩ => ⟨S1x3x11264, .f32⟩
  | .hbm, ⟨14, _⟩ => ⟨S3x11264, .f32⟩
  | .hbm, ⟨15, _⟩ => ⟨S3x2x44x128, .f32⟩
  | .hbm, ⟨16, _⟩ => ⟨S3x44x2x128, .f32⟩
  | .hbm, ⟨17, _⟩ => ⟨S3x11264, .f32⟩
  | .hbm, ⟨18, _⟩ => ⟨S1x11264, .f32⟩
  | .hbm, ⟨19, _⟩ => ⟨S11264, .f32⟩
  | .hbm, ⟨20, _⟩ => ⟨S1x11264, .f32⟩
  | .hbm, ⟨21, _⟩ => ⟨S1x2x44x128, .f32⟩
  | .hbm, ⟨22, _⟩ => ⟨S1x44x2x128, .f32⟩
  | .hbm, ⟨23, _⟩ => ⟨S1x11264, .f32⟩
  | .hbm, ⟨24, _⟩ => ⟨S2x5632x2048, .bf16⟩
  | .hbm, ⟨25, _⟩ => ⟨S8192x2048, .f32⟩
  | .hbm, ⟨26, _⟩ => ⟨S1x2048, .f32⟩
  | .hbm, ⟨27, _⟩ => ⟨S2048, .f32⟩
  | .hbm, ⟨28, _⟩ => ⟨S1x2048, .f32⟩
  | .hbm, ⟨29, _⟩ => ⟨S1x2048, .f32⟩
  | .hbm, ⟨30, _⟩ => ⟨S2048, .f32⟩
  | .hbm, ⟨31, _⟩ => ⟨S1x2048, .f32⟩
  | .hbm, ⟨32, _⟩ => ⟨S8192x2048, .f32⟩
  | .hbm, ⟨33, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S16x2048, .bf16⟩
  | .local _ .vmem, ⟨3, _⟩ => ⟨S16x2048, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S3x1024, .f32⟩
  | .local _ .vmem, ⟨7, _⟩ => ⟨S3x1024, .f32⟩
  | .local _ .vmem, ⟨8, _⟩ => ⟨S1x1024, .f32⟩
  | .local _ .vmem, ⟨9, _⟩ => ⟨S1x1024, .f32⟩
  | .local _ .vmem, ⟨10, _⟩ => ⟨S1x512x2048, .bf16⟩
  | .local _ .vmem, ⟨11, _⟩ => ⟨S1x512x2048, .bf16⟩
  | .local _ .vmem, ⟨12, _⟩ => ⟨S512x2048, .f32⟩
  | .local _ .vmem, ⟨13, _⟩ => ⟨S512x2048, .f32⟩
  | .local _ .vmem, ⟨14, _⟩ => ⟨S1x2048, .f32⟩
  | .local _ .vmem, ⟨15, _⟩ => ⟨S1x2048, .f32⟩
  | .local _ .vmem, ⟨16, _⟩ => ⟨S512x2048, .f32⟩
  | .local _ .vmem, ⟨17, _⟩ => ⟨S512x2048, .f32⟩
  | .local _ .vmem, ⟨18, _⟩ => ⟨S512x2048, .bf16⟩
  | .local _ .vmem, ⟨19, _⟩ => ⟨S512x2048, .bf16⟩
  | .local _ .vmem, ⟨20, _⟩ => ⟨S528x2048, .bf16⟩
  | .local _ .vmem, ⟨21, _⟩ => ⟨S4x528x256, .f32⟩
  | .local _ .vmem, ⟨22, _⟩ => ⟨S512x2048, .f32⟩
  | _, _ => ⟨S2x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24_0 : Ref sig .tc := ⟨.hbm, 32, rfl⟩
abbrev main_v24_1 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![16, 11], ![false, false]⟩

def k0_cond2 (i : grid0.Coords) : BitVec 1 :=
  let arg1 : BitVec 32 := BitVec.ofNat 32 (i 1).val
  let c10_i32 : BitVec 32 := 10#32
  let v182 : BitVec 1 := Scalar.cmpi .eq arg1 c10_i32
  let v183 : BitVec 32 := Scalar.extui v182
  let c0_i32_96 : BitVec 32 := 0#32
  let v184 : BitVec 1 := Scalar.cmpi .ne v183 c0_i32_96
  v184

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S3x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference3Ideal.lean ====
abbrev S2x4096x2048 : Shape := ⟨3, ![2, 4096, 2048]⟩
abbrev S2x2048x11264 : Shape := ⟨3, ![2, 2048, 11264]⟩
abbrev S2x3x11264 : Shape := ⟨3, ![2, 3, 11264]⟩
abbrev S2x11264 : Shape := ⟨2, ![2, 11264]⟩
abbrev S2x5632x2048 : Shape := ⟨3, ![2, 5632, 2048]⟩
abbrev S2x2048 : Shape := ⟨2, ![2, 2048]⟩
abbrev S1x2048x11264 : Shape := ⟨3, ![1, 2048, 11264]⟩
abbrev S2048x11264 : Shape := ⟨2, ![2048, 11264]⟩
abbrev S2x4096x11264 : Shape := ⟨3, ![2, 4096, 11264]⟩
abbrev S_ : Shape := ⟨0, ![]⟩
abbrev S2x4098x11264 : Shape := ⟨3, ![2, 4098, 11264]⟩
abbrev S1x1x11264 : Shape := ⟨3, ![1, 1, 11264]⟩
abbrev S1x11264 : Shape := ⟨2, ![1, 11264]⟩
abbrev S2x4096x5632 : Shape := ⟨3, ![2, 4096, 5632]⟩
abbrev S1x5632x2048 : Shape := ⟨3, ![1, 5632, 2048]⟩
abbrev S5632x2048 : Shape := ⟨2, ![5632, 2048]⟩
abbrev S1x2048 : Shape := ⟨2, ![1, 2048]⟩
abbrev S2048 : Shape := ⟨1, ![2048]⟩
abbrev S2x4096 : Shape := ⟨2, ![2, 4096]⟩
abbrev S2x4096x1 : Shape := ⟨3, ![2, 4096, 1]⟩
abbrev S1x1x2048 : Shape := ⟨3, ![1, 1, 2048]⟩
abbrev S8192x2048 : Shape := ⟨2, ![8192, 2048]⟩

abbrev nBuf : Space → Nat
  | .hbm => 83
  | .vmem => 0
  | .smem => 0
  | _ => 0

abbrev bufTy : (tb : Table) → Fin (tcTables nBuf tb) → BufTy
  | .hbm, ⟨0, _⟩ => ⟨S2x4096x2048, .bf16⟩
  | .hbm, ⟨1, _⟩ => ⟨S2x4096x2048, .f32⟩
  | .hbm, ⟨2, _⟩ => ⟨S2x2048x11264, .f32⟩
  | .hbm, ⟨3, _⟩ => ⟨S2x3x11264, .f32⟩
  | .hbm, ⟨4, _⟩ => ⟨S2x11264, .f32⟩
  | .hbm, ⟨5, _⟩ => ⟨S2x5632x2048, .f32⟩
  | .hbm, ⟨6, _⟩ => ⟨S2x2048, .f32⟩
  | .hbm, ⟨7, _⟩ => ⟨S2x2048, .f32⟩
  | .hbm, ⟨8, _⟩ => ⟨S2x4096x2048, .f32⟩
  | .hbm, ⟨9, _⟩ => ⟨S1x2048x11264, .f32⟩
  | .hbm, ⟨10, _⟩ => ⟨S2048x11264, .f32⟩
  | .hbm, ⟨11, _⟩ => ⟨S2x4096x11264, .f32⟩
  | .hbm, ⟨12, _⟩ => ⟨S_, .f32⟩
  | .hbm, ⟨13, _⟩ => ⟨S2x4098x11264, .f32⟩
  | .hbm, ⟨14, _⟩ => ⟨S1x1x11264, .f32⟩
  | .hbm, ⟨15, _⟩ => ⟨S2x4096x11264, .f32⟩
  | .hbm, ⟨16, _⟩ => ⟨S2x4096x11264, .f32⟩
  | .hbm, ⟨17, _⟩ => ⟨S2x4096x11264, .f32⟩
  | .hbm, ⟨18, _⟩ => ⟨S1x1x11264, .f32⟩
  | .hbm, ⟨19, _⟩ => ⟨S2x4096x11264, .f32⟩
  | .hbm, ⟨20, _⟩ => ⟨S2x4096x11264, .f32⟩
  | .hbm, ⟨21, _⟩ => ⟨S2x4096x11264, .f32⟩
  | .hbm, ⟨22, _⟩ => ⟨S2x4096x11264, .f32⟩
  | .hbm, ⟨23, _⟩ => ⟨S1x1x11264, .f32⟩
  | .hbm, ⟨24, _⟩ => ⟨S2x4096x11264, .f32⟩
  | .hbm, ⟨25, _⟩ => ⟨S2x4096x11264, .f32⟩
  | .hbm, ⟨26, _⟩ => ⟨S2x4096x11264, .f32⟩
  | .hbm, ⟨27, _⟩ => ⟨S1x11264, .f32⟩
  | .hbm, ⟨28, _⟩ => ⟨S1x1x11264, .f32⟩
  | .hbm, ⟨29, _⟩ => ⟨S2x4096x11264, .f32⟩
  | .hbm, ⟨30, _⟩ => ⟨S2x4096x11264, .f32⟩
  | .hbm, ⟨31, _⟩ => ⟨S2x4096x5632, .f32⟩
  | .hbm, ⟨32, _⟩ => ⟨S2x4096x5632, .f32⟩
  | .hbm, ⟨33, _⟩ => ⟨S2x4096x5632, .f32⟩
  | .hbm, ⟨34, _⟩ => ⟨S2x4096x5632, .f32⟩
  | .hbm, ⟨35, _⟩ => ⟨S_, .f32⟩
  | .hbm, ⟨36, _⟩ => ⟨S2x4096x5632, .f32⟩
  | .hbm, ⟨37, _⟩ => ⟨S2x4096x5632, .f32⟩
  | .hbm, ⟨38, _⟩ => ⟨S2x4096x5632, .f32⟩
  | .hbm, ⟨39, _⟩ => ⟨S2x4096x5632, .f32⟩
  | .hbm, ⟨40, _⟩ => ⟨S1x5632x2048, .f32⟩
  | .hbm, ⟨41, _⟩ => ⟨S5632x2048, .f32⟩
  | .hbm, ⟨42, _⟩ => ⟨S2x4096x2048, .f32⟩
  | .hbm, ⟨43, _⟩ => ⟨S1x2048, .f32⟩
  | .hbm, ⟨44, _⟩ => ⟨S2048, .f32⟩
  | .hbm, ⟨45, _⟩ => ⟨S2x4096x2048, .f32⟩
  | .hbm, ⟨46, _⟩ => ⟨S_, .f32⟩
  | .hbm, ⟨47, _⟩ => ⟨S2x4096, .f32⟩
  | .hbm, ⟨48, _⟩ => ⟨S2x4096x1, .f32⟩
  | .hbm, ⟨49, _⟩ => ⟨S_, .f32⟩
  | .hbm, ⟨50, _⟩ => ⟨S2x4096x1, .f32⟩
  | .hbm, ⟨51, _⟩ => ⟨S2x4096x1, .f32⟩
  | .hbm, ⟨52, _⟩ => ⟨S_, .f32⟩
  | .hbm, ⟨53, _⟩ => ⟨S2x4096x1, .f32⟩
  | .hbm, ⟨54, _⟩ => ⟨S2x4096x1, .f32⟩
  | .hbm, ⟨55, _⟩ => ⟨S2x4096x1, .f32⟩
  | .hbm, ⟨56, _⟩ => ⟨S2x4096x2048, .f32⟩
  | .hbm, ⟨57, _⟩ => ⟨S2x4096x2048, .f32⟩
  | .hbm, ⟨58, _⟩ => ⟨S1x1x2048, .f32⟩
  | .hbm, ⟨59, _⟩ => ⟨S2x4096x2048, .f32⟩
  | .hbm, ⟨60, _⟩ => ⟨S2x4096x2048, .f32⟩
  | .hbm, ⟨61, _⟩ => ⟨S2x4096x2048, .f32⟩
  | .hbm, ⟨62, _⟩ => ⟨S8192x2048, .f32⟩
  | .hbm, ⟨63, _⟩ => ⟨S1x2048, .f32⟩
  | .hbm, ⟨64, _⟩ => ⟨S2048, .f32⟩
  | .hbm, ⟨65, _⟩ => ⟨S2x4096x2048, .f32⟩
  | .hbm, ⟨66, _⟩ => ⟨S_, .f32⟩
  | .hbm, ⟨67, _⟩ => ⟨S2x4096, .f32⟩
  | .hbm, ⟨68, _⟩ => ⟨S2x4096x1, .f32⟩
  | .hbm, ⟨69, _⟩ => ⟨S_, .f32⟩
  | .hbm, ⟨70, _⟩ => ⟨S2x4096x1, .f32⟩
  | .hbm, ⟨71, _⟩ => ⟨S2x4096x1, .f32⟩
  | .hbm, ⟨72, _⟩ => ⟨S_, .f32⟩
  | .hbm, ⟨73, _⟩ => ⟨S2x4096x1, .f32⟩
  | .hbm, ⟨74, _⟩ => ⟨S2x4096x1, .f32⟩
  | .hbm, ⟨75, _⟩ => ⟨S2x4096x1, .f32⟩
  | .hbm, ⟨76, _⟩ => ⟨S2x4096x2048, .f32⟩
  | .hbm, ⟨77, _⟩ => ⟨S2x4096x2048, .f32⟩
  | .hbm, ⟨78, _⟩ => ⟨S1x1x2048, .f32⟩
  | .hbm, ⟨79, _⟩ => ⟨S2x4096x2048, .f32⟩
  | .hbm, ⟨80, _⟩ => ⟨S2x4096x2048, .f32⟩
  | .hbm, ⟨81, _⟩ => ⟨S8192x2048, .f32⟩
  | .hbm, ⟨82, _⟩ => ⟨S8192x2048, .bf16⟩
  | _, _ => ⟨S2x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_0 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_1 : Ref sig .tc := ⟨.hbm, 46, rfl⟩
abbrev main_v36 : Ref sig .tc := ⟨.hbm, 47, rfl⟩
abbrev main_v37 : Ref sig .tc := ⟨.hbm, 48, rfl⟩
abbrev main_cst_2 : Ref sig .tc := ⟨.hbm, 49, rfl⟩
abbrev main_v38 : Ref sig .tc := ⟨.hbm, 50, rfl⟩
abbrev main_v39 : Ref sig .tc := ⟨.hbm, 51, rfl⟩
abbrev main_cst_3 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_4 : Ref sig .tc := ⟨.hbm, 66, rfl⟩
abbrev main_v53 : Ref sig .tc := ⟨.hbm, 67, rfl⟩
abbrev main_v54 : Ref sig .tc := ⟨.hbm, 68, rfl⟩
abbrev main_cst_5 : Ref sig .tc := ⟨.hbm, 69, rfl⟩
abbrev main_v55 : Ref sig .tc := ⟨.hbm, 70, rfl⟩
abbrev main_v56 : Ref sig .tc := ⟨.hbm, 71, rfl⟩
abbrev main_cst_6 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩

abbrev nD : Nat := 1
abbrev τ : Topo := Topo.v7x

variable {F : FTy → Type} [FloatOps F]
-- ==== Kernel4.lean ====
abbrev S2x4096x1024 : Shape := ⟨3, ![2, 4096, 1024]⟩
abbrev S2x4096x2048 : Shape := ⟨3, ![2, 4096, 2048]⟩
abbrev S2x2048x2048 : Shape := ⟨3, ![2, 2048, 2048]⟩
abbrev S2x2048 : Shape := ⟨2, ![2, 2048]⟩
abbrev S8192x1024 : Shape := ⟨2, ![8192, 1024]⟩
abbrev S1x1024x2048 : Shape := ⟨3, ![1, 1024, 2048]⟩
abbrev S8192x2048 : Shape := ⟨2, ![8192, 2048]⟩
abbrev S1x2048 : Shape := ⟨2, ![1, 2048]⟩
abbrev S2048 : Shape := ⟨1, ![2048]⟩
abbrev S512x1024 : Shape := ⟨2, ![512, 1024]⟩
abbrev S512x2048 : Shape := ⟨2, ![512, 2048]⟩
abbrev S1024x2048 : Shape := ⟨2, ![1024, 2048]⟩
abbrev S512 : Shape := ⟨1, ![512]⟩
abbrev S512x1 : Shape := ⟨2, ![512, 1]⟩

abbrev nBuf : Space → Nat
  | .hbm => 18
  | .vmem => 18
  | .smem => 0
  | _ => 0

abbrev bufTy : (tb : Table) → Fin (tcTables nBuf tb) → BufTy
  | .hbm, ⟨0, _⟩ => ⟨S2x4096x1024, .bf16⟩
  | .hbm, ⟨1, _⟩ => ⟨S2x4096x1024, .bf16⟩
  | .hbm, ⟨2, _⟩ => ⟨S2x4096x2048, .f32⟩
  | .hbm, ⟨3, _⟩ => ⟨S2x2048x2048, .f32⟩
  | .hbm, ⟨4, _⟩ => ⟨S2x2048, .f32⟩
  | .hbm, ⟨5, _⟩ => ⟨S2x2048, .f32⟩
  | .hbm, ⟨6, _⟩ => ⟨S8192x1024, .bf16⟩
  | .hbm, ⟨7, _⟩ => ⟨S8192x1024, .bf16⟩
  | .hbm, ⟨8, _⟩ => ⟨S2x2048x2048, .bf16⟩
  | .hbm, ⟨9, _⟩ => ⟨S8192x2048, .f32⟩
  | .hbm, ⟨10, _⟩ => ⟨S1x2048, .f32⟩
  | .hbm, ⟨11, _⟩ => ⟨S2048, .f32⟩
  | .hbm, ⟨12, _⟩ => ⟨S1x2048, .f32⟩
  | .hbm, ⟨13, _⟩ => ⟨S1x2048, .f32⟩
  | .hbm, ⟨14, _⟩ => ⟨S2048, .f32⟩
  | .hbm, ⟨15, _⟩ => ⟨S1x2048, .f32⟩
  | .hbm, ⟨16, _⟩ => ⟨S8192x2048, .f32⟩
  | .hbm, ⟨17, _⟩ => ⟨S8192x2048, .bf16⟩
  | .local _ .vmem, ⟨0, _⟩ => ⟨S1x1024x2048, .f32⟩
  | .local _ .vmem, ⟨1, _⟩ => ⟨S1x1024x2048, .f32⟩
  | .local _ .vmem, ⟨2, _⟩ => ⟨S1x1024x2048, .bf16⟩
  | .local _ .vmem, ⟨3, _⟩ => ⟨S1x1024x2048, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1x1024x2048, .bf16⟩
  | .local _ .vmem, ⟨9, _⟩ => ⟨S1x1024x2048, .bf16⟩
  | .local _ .vmem, ⟨10, _⟩ => ⟨S512x2048, .f32⟩
  | .local _ .vmem, ⟨11, _⟩ => ⟨S512x2048, .f32⟩
  | .local _ .vmem, ⟨12, _⟩ => ⟨S1x2048, .f32⟩
  | .local _ .vmem, ⟨13, _⟩ => ⟨S1x2048, .f32⟩
  | .local _ .vmem, ⟨14, _⟩ => ⟨S512x2048, .f32⟩
  | .local _ .vmem, ⟨15, _⟩ => ⟨S512x2048, .f32⟩
  | .local _ .vmem, ⟨16, _⟩ => ⟨S512x2048, .bf16⟩
  | .local _ .vmem, ⟨17, _⟩ => ⟨S512x2048, .bf16⟩
  | _, _ => ⟨S2x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg7_1 : Ref sig .tc := ⟨.vmem, 15, rfl⟩
abbrev cc1_stg8_0 : Ref sig .tc := ⟨.vmem, 16, rfl⟩
abbrev cc1_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem4_0 : DmaSem sig := 10
abbrev cc1_sem4_1 : DmaSem sig := 11
abbrev cc1_sem5_0 : DmaSem sig := 12
abbrev cc1_sem6_0 : DmaSem sig := 13
abbrev cc1_sem7_0 : DmaSem sig := 14
abbrev cc1_sem7_1 : DmaSem sig := 15
abbrev cc1_sem8_0 : DmaSem sig := 16
abbrev cc1_sem8_1 : DmaSem sig := 17

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1024x2048 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024x2048 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x2048 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x2048 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S512x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S512x2048 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]
-- ==== Reference4Ideal.lean ====
abbrev S2x4096x1024 : Shape := ⟨3, ![2, 4096, 1024]⟩
abbrev S2x4096x2048 : Shape := ⟨3, ![2, 4096, 2048]⟩
abbrev S2x2048x2048 : Shape := ⟨3, ![2, 2048, 2048]⟩
abbrev S2x2048 : Shape := ⟨2, ![2, 2048]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S8192x2048 : Shape := ⟨2, ![8192, 2048]⟩

abbrev nBuf : Space → Nat
  | .hbm => 51
  | .vmem => 0
  | .smem => 0
  | _ => 0

abbrev bufTy : (tb : Table) → Fin (tcTables nBuf tb) → BufTy
  | .hbm, ⟨0, _⟩ => ⟨S2x4096x1024, .bf16⟩
  | .hbm, ⟨1, _⟩ => ⟨S2x4096x1024, .bf16⟩
  | .hbm, ⟨2, _⟩ => ⟨S2x4096x2048, .f32⟩
  | .hbm, ⟨3, _⟩ => ⟨S2x2048x2048, .f32⟩
  | .hbm, ⟨4, _⟩ => ⟨S2x2048, .f32⟩
  | .hbm, ⟨5, _⟩ => ⟨S2x2048, .f32⟩
  | .hbm, ⟨6, _⟩ => ⟨S2x4096x2048, .bf16⟩
  | .hbm, ⟨7, _⟩ => ⟨S2x4096x2048, .f32⟩
  | .hbm, ⟨8, _⟩ => ⟨S1x2048x2048, .f32⟩
  | .hbm, ⟨9, _⟩ => ⟨S2048x2048, .f32⟩
  | .hbm, ⟨10, _⟩ => ⟨S2x4096x2048, .f32⟩
  | .hbm, ⟨11, _⟩ => ⟨S1x2048, .f32⟩
  | .hbm, ⟨12, _⟩ => ⟨S2048, .f32⟩
  | .hbm, ⟨13, _⟩ => ⟨S2x4096x2048, .f32⟩
  | .hbm, ⟨14, _⟩ => ⟨S_, .f32⟩
  | .hbm, ⟨15, _⟩ => ⟨S2x4096, .f32⟩
  | .hbm, ⟨16, _⟩ => ⟨S2x4096x1, .f32⟩
  | .hbm, ⟨17, _⟩ => ⟨S_, .f32⟩
  | .hbm, ⟨18, _⟩ => ⟨S2x4096x1, .f32⟩
  | .hbm, ⟨19, _⟩ => ⟨S2x4096x1, .f32⟩
  | .hbm, ⟨20, _⟩ => ⟨S_, .f32⟩
  | .hbm, ⟨21, _⟩ => ⟨S2x4096x1, .f32⟩
  | .hbm, ⟨22, _⟩ => ⟨S2x4096x1, .f32⟩
  | .hbm, ⟨23, _⟩ => ⟨S2x4096x1, .f32⟩
  | .hbm, ⟨24, _⟩ => ⟨S2x4096x2048, .f32⟩
  | .hbm, ⟨25, _⟩ => ⟨S2x4096x2048, .f32⟩
  | .hbm, ⟨26, _⟩ => ⟨S1x1x2048, .f32⟩
  | .hbm, ⟨27, _⟩ => ⟨S2x4096x2048, .f32⟩
  | .hbm, ⟨28, _⟩ => ⟨S2x4096x2048, .f32⟩
  | .hbm, ⟨29, _⟩ => ⟨S2x4096x2048, .f32⟩
  | .hbm, ⟨30, _⟩ => ⟨S8192x2048, .f32⟩
  | .hbm, ⟨31, _⟩ => ⟨S1x2048, .f32⟩
  | .hbm, ⟨32, _⟩ => ⟨S2048, .f32⟩
  | .hbm, ⟨33, _⟩ => ⟨S2x4096x2048, .f32⟩
  | .hbm, ⟨34, _⟩ => ⟨S_, .f32⟩
  | .hbm, ⟨35, _⟩ => ⟨S2x4096, .f32⟩
  | .hbm, ⟨36, _⟩ => ⟨S2x4096x1, .f32⟩
  | .hbm, ⟨37, _⟩ => ⟨S_, .f32⟩
  | .hbm, ⟨38, _⟩ => ⟨S2x4096x1, .f32⟩
  | .hbm, ⟨39, _⟩ => ⟨S2x4096x1, .f32⟩
  | .hbm, ⟨40, _⟩ => ⟨S_, .f32⟩
  | .hbm, ⟨41, _⟩ => ⟨S2x4096x1, .f32⟩
  | .hbm, ⟨42, _⟩ => ⟨S2x4096x1, .f32⟩
  | .hbm, ⟨43, _⟩ => ⟨S2x4096x1, .f32⟩
  | .hbm, ⟨44, _⟩ => ⟨S2x4096x2048, .f32⟩
  | .hbm, ⟨45, _⟩ => ⟨S2x4096x2048, .f32⟩
  | .hbm, ⟨46, _⟩ => ⟨S1x1x2048, .f32⟩
  | .hbm, ⟨47, _⟩ => ⟨S2x4096x2048, .f32⟩
  | .hbm, ⟨48, _⟩ => ⟨S2x4096x2048, .f32⟩
  | .hbm, ⟨49, _⟩ => ⟨S8192x2048, .f32⟩
  | .hbm, ⟨50, _⟩ => ⟨S8192x2048, .bf16⟩
  | _, _ => ⟨S2x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== Kernel5.lean ====
abbrev S2x2x4096x256 : Shape := ⟨4, ![2, 2, 4096, 256]⟩
abbrev S2x4096x2048 : Shape := ⟨3, ![2, 4096, 2048]⟩
abbrev S2x2048x2048 : Shape := ⟨3, ![2, 2048, 2048]⟩
abbrev S2x256x2048 : Shape := ⟨3, ![2, 256, 2048]⟩
abbrev S2x2048 : Shape := ⟨2, ![2, 2048]⟩
abbrev S1x1024x2048 : Shape := ⟨3, ![1, 1024, 2048]⟩
abbrev S1x256x2048 : Shape := ⟨3, ![1, 256, 2048]⟩
abbrev S1x2x4096x256 : Shape := ⟨4, ![1, 2, 4096, 256]⟩
abbrev S2x4096x256 : Shape := ⟨3, ![2, 4096, 256]⟩
abbrev S8192x256 : Shape := ⟨2, ![8192, 256]⟩
abbrev S8192x2048 : Shape := ⟨2, ![8192, 2048]⟩
abbrev S1x2048 : Shape := ⟨2, ![1, 2048]⟩
abbrev S2048 : Shape := ⟨1, ![2048]⟩
abbrev S512x256 : Shape := ⟨2, ![512, 256]⟩
abbrev S512x2048 : Shape := ⟨2, ![512, 2048]⟩
abbrev S1x2048x2048 : Shape := ⟨3, ![1, 2048, 2048]⟩
abbrev S256x2048 : Shape := ⟨2, ![256, 2048]⟩
abbrev S2048x2048 : Shape := ⟨2, ![2048, 2048]⟩
abbrev S512 : Shape := ⟨1, ![512]⟩
abbrev S512x1 : Shape := ⟨2, ![512, 1]⟩

abbrev nBuf : Space → Nat
  | .hbm => 22
  | .vmem => 22
  | .smem => 0
  | _ => 0

abbrev bufTy : (tb : Table) → Fin (tcTables nBuf tb) → BufTy
  | .hbm, ⟨0, _⟩ => ⟨S2x2x4096x256, .f32⟩
  | .hbm, ⟨1, _⟩ => ⟨S2x4096x2048, .bf16⟩
  | .hbm, ⟨2, _⟩ => ⟨S2x4096x2048, .f32⟩
  | .hbm, ⟨3, _⟩ => ⟨S2x2048x2048, .f32⟩
  | .hbm, ⟨4, _⟩ => ⟨S2x256x2048, .f32⟩
  | .hbm, ⟨5, _⟩ => ⟨S2x2048, .f32⟩
  | .hbm, ⟨6, _⟩ => ⟨S2x2048, .f32⟩
  | .hbm, ⟨7, _⟩ => ⟨S2x2048x2048, .bf16⟩
  | .hbm, ⟨8, _⟩ => ⟨S2x256x2048, .bf16⟩
  | .hbm, ⟨9, _⟩ => ⟨S1x2x4096x256, .f32⟩
  | .hbm, ⟨10, _⟩ => ⟨S2x4096x256, .f32⟩
  | .hbm, ⟨11, _⟩ => ⟨S8192x256, .f32⟩
  | .hbm, ⟨12, _⟩ => ⟨S8192x2048, .bf16⟩
  | .hbm, ⟨13, _⟩ => ⟨S8192x2048, .f32⟩
  | .hbm, ⟨14, _⟩ => ⟨S1x2048, .f32⟩
  | .hbm, ⟨15, _⟩ => ⟨S2048, .f32⟩
  | .hbm, ⟨16, _⟩ => ⟨S1x2048, .f32⟩
  | .hbm, ⟨17, _⟩ => ⟨S1x2048, .f32⟩
  | .hbm, ⟨18, _⟩ => ⟨S2048, .f32⟩
  | .hbm, ⟨19, _⟩ => ⟨S1x2048, .f32⟩
  | .hbm, ⟨20, _⟩ => ⟨S8192x2048, .f32⟩
  | .hbm, ⟨21, _⟩ => ⟨S8192x2048, .bf16⟩
  | .local _ .vmem, ⟨0, _⟩ => ⟨S1x1024x2048, .f32⟩
  | .local _ .vmem, ⟨1, _⟩ => ⟨S1x1024x2048, .f32⟩
  | .local _ .vmem, ⟨2, _⟩ => ⟨S1x1024x2048, .bf16⟩
  | .local _ .vmem, ⟨3, _⟩ => ⟨S1x1024x2048, .bf16⟩
  | .local _ .vmem, ⟨4, _⟩ => ⟨S1x256x2048, .f32⟩
  | .local _ .vmem, ⟨5, _⟩ => ⟨S1x256x2048, .f32⟩
  | .local _ .vmem, ⟨6, _⟩ => ⟨S1x256x2048, .bf16⟩
  | .local _ .vmem, ⟨7, _⟩ => ⟨S1x256x2048, .bf16⟩
  | .local _ .vmem, ⟨8, _⟩ => ⟨S512x256, .f32⟩
  | .local _ .vmem, ⟨9, _⟩ => ⟨S512x256, .f32⟩
  | .local _ .vmem, ⟨10, _⟩ => ⟨S512x2048, .bf16⟩
  | .local _ .vmem, ⟨11, _⟩ => ⟨S512x2048, .bf16⟩
  | .local _ .vmem, ⟨12, _⟩ => ⟨S1x256x2048, .bf16⟩
  | .local _ .vmem, ⟨13, _⟩ => ⟨S1x2048x2048, .bf16⟩
  | .local _ .vmem, ⟨14, _⟩ => ⟨S512x2048, .f32⟩
  | .local _ .vmem, ⟨15, _⟩ => ⟨S512x2048, .f32⟩
  | .local _ .vmem, ⟨16, _⟩ => ⟨S1x2048, .f32⟩
  | .local _ .vmem, ⟨17, _⟩ => ⟨S1x2048, .f32⟩
  | .local _ .vmem, ⟨18, _⟩ => ⟨S512x2048, .f32⟩
  | .local _ .vmem, ⟨19, _⟩ => ⟨S512x2048, .f32⟩
  | .local _ .vmem, ⟨20, _⟩ => ⟨S512x2048, .bf16⟩
  | .local _ .vmem, ⟨21, _⟩ => ⟨S512x2048, .bf16⟩
  | _, _ => ⟨S2x2x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg4_0 : Ref sig .tc := ⟨.vmem, 14, rfl⟩
abbrev cc2_stg4_1 : Ref sig .tc := ⟨.vmem, 15, rfl⟩
abbrev cc2_stg5_0 : Ref sig .tc := ⟨.vmem, 16, rfl⟩
abbrev cc2_stg6_0 : Ref sig .tc := ⟨.vmem, 17, rfl⟩
abbrev cc2_stg7_0 : Ref sig .tc := ⟨.vmem, 18, rfl⟩
abbrev cc2_stg7_1 : Ref sig .tc := ⟨.vmem, 19, rfl⟩
abbrev cc2_stg8_0 : Ref sig .tc := ⟨.vmem, 20, rfl⟩
abbrev cc2_stg8_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem3_0 : DmaSem sig := 13
abbrev cc2_sem4_0 : DmaSem sig := 14
abbrev cc2_sem4_1 : DmaSem sig := 15
abbrev cc2_sem5_0 : DmaSem sig := 16
abbrev cc2_sem6_0 : DmaSem sig := 17
abbrev cc2_sem7_0 : DmaSem sig := 18
abbrev cc2_sem7_1 : DmaSem sig := 19
abbrev cc2_sem8_0 : DmaSem sig := 20
abbrev cc2_sem8_1 : DmaSem sig := 21

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![2, 1], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x256x2048 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x2048x2048 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S512x2048 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S1x2048 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x2048 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S512x2048 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S512x2048 .bf16 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]
-- ==== Reference5Ideal.lean ====
abbrev S2x2x4096x256 : Shape := ⟨4, ![2, 2, 4096, 256]⟩
abbrev S2x4096x2048 : Shape := ⟨3, ![2, 4096, 2048]⟩
abbrev S2x2048x2048 : Shape := ⟨3, ![2, 2048, 2048]⟩
abbrev S2x256x2048 : Shape := ⟨3, ![2, 256, 2048]⟩
abbrev S2x2048 : Shape := ⟨2, ![2, 2048]⟩
abbrev S1x2x4096x256 : Shape := ⟨4, ![1, 2, 4096, 256]⟩
abbrev S2x4096x256 : Shape := ⟨3, ![2, 4096, 256]⟩
abbrev S1x256x2048 : Shape := ⟨3, ![1, 256, 2048]⟩
abbrev S256x2048 : Shape := ⟨2, ![256, 2048]⟩
abbrev S1x2048x2048 : Shape := ⟨3, ![1, 2048, 2048]⟩
abbrev S2048x2048 : Shape := ⟨2, ![2048, 2048]⟩
abbrev S_ : Shape := ⟨0, ![]⟩
abbrev S1x2048 : Shape := ⟨2, ![1, 2048]⟩
abbrev S2048 : Shape := ⟨1, ![2048]⟩
abbrev S2x4096 : Shape := ⟨2, ![2, 4096]⟩
abbrev S2x4096x1 : Shape := ⟨3, ![2, 4096, 1]⟩
abbrev S1x1x2048 : Shape := ⟨3, ![1, 1, 2048]⟩
abbrev S8192x2048 : Shape := ⟨2, ![8192, 2048]⟩

abbrev nBuf : Space → Nat
  | .hbm => 65
  | .vmem => 0
  | .smem => 0
  | _ => 0

abbrev bufTy : (tb : Table) → Fin (tcTables nBuf tb) → BufTy
  | .hbm, ⟨0, _⟩ => ⟨S2x2x4096x256, .f32⟩
  | .hbm, ⟨1, _⟩ => ⟨S2x4096x2048, .bf16⟩
  | .hbm, ⟨2, _⟩ => ⟨S2x4096x2048, .f32⟩
  | .hbm, ⟨3, _⟩ => ⟨S2x2048x2048, .f32⟩
  | .hbm, ⟨4, _⟩ => ⟨S2x256x2048, .f32⟩
  | .hbm, ⟨5, _⟩ => ⟨S2x2048, .f32⟩
  | .hbm, ⟨6, _⟩ => ⟨S2x2048, .f32⟩
  | .hbm, ⟨7, _⟩ => ⟨S1x2x4096x256, .f32⟩
  | .hbm, ⟨8, _⟩ => ⟨S2x4096x256, .f32⟩
  | .hbm, ⟨9, _⟩ => ⟨S1x256x2048, .f32⟩
  | .hbm, ⟨10, _⟩ => ⟨S256x2048, .f32⟩
  | .hbm, ⟨11, _⟩ => ⟨S2x4096x2048, .f32⟩
  | .hbm, ⟨12, _⟩ => ⟨S2x4096x2048, .f32⟩
  | .hbm, ⟨13, _⟩ => ⟨S1x2048x2048, .f32⟩
  | .hbm, ⟨14, _⟩ => ⟨S2048x2048, .f32⟩
  | .hbm, ⟨15, _⟩ => ⟨S2x4096x2048, .f32⟩
  | .hbm, ⟨16, _⟩ => ⟨S2x4096x2048, .f32⟩
  | .hbm, ⟨17, _⟩ => ⟨S2x4096x2048, .f32⟩
  | .hbm, ⟨18, _⟩ => ⟨S_, .f32⟩
  | .hbm, ⟨19, _⟩ => ⟨S2x4096x2048, .f32⟩
  | .hbm, ⟨20, _⟩ => ⟨S2x4096x2048, .f32⟩
  | .hbm, ⟨21, _⟩ => ⟨S_, .f32⟩
  | .hbm, ⟨22, _⟩ => ⟨S2x4096x2048, .f32⟩
  | .hbm, ⟨23, _⟩ => ⟨S2x4096x2048, .f32⟩
  | .hbm, ⟨24, _⟩ => ⟨S2x4096x2048, .f32⟩
  | .hbm, ⟨25, _⟩ => ⟨S1x2048, .f32⟩
  | .hbm, ⟨26, _⟩ => ⟨S2048, .f32⟩
  | .hbm, ⟨27, _⟩ => ⟨S2x4096x2048, .f32⟩
  | .hbm, ⟨28, _⟩ => ⟨S_, .f32⟩
  | .hbm, ⟨29, _⟩ => ⟨S2x4096, .f32⟩
  | .hbm, ⟨30, _⟩ => ⟨S2x4096x1, .f32⟩
  | .hbm, ⟨31, _⟩ => ⟨S_, .f32⟩
  | .hbm, ⟨32, _⟩ => ⟨S2x4096x1, .f32⟩
  | .hbm, ⟨33, _⟩ => ⟨S2x4096x1, .f32⟩
  | .hbm, ⟨34, _⟩ => ⟨S_, .f32⟩
  | .hbm, ⟨35, _⟩ => ⟨S2x4096x1, .f32⟩
  | .hbm, ⟨36, _⟩ => ⟨S2x4096x1, .f32⟩
  | .hbm, ⟨37, _⟩ => ⟨S2x4096x1, .f32⟩
  | .hbm, ⟨38, _⟩ => ⟨S2x4096x2048, .f32⟩
  | .hbm, ⟨39, _⟩ => ⟨S2x4096x2048, .f32⟩
  | .hbm, ⟨40, _⟩ => ⟨S1x1x2048, .f32⟩
  | .hbm, ⟨41, _⟩ => ⟨S2x4096x2048, .f32⟩
  | .hbm, ⟨42, _⟩ => ⟨S2x4096x2048, .f32⟩
  | .hbm, ⟨43, _⟩ => ⟨S2x4096x2048, .f32⟩
  | .hbm, ⟨44, _⟩ => ⟨S8192x2048, .f32⟩
  | .hbm, ⟨45, _⟩ => ⟨S1x2048, .f32⟩
  | .hbm, ⟨46, _⟩ => ⟨S2048, .f32⟩
  | .hbm, ⟨47, _⟩ => ⟨S2x4096x2048, .f32⟩
  | .hbm, ⟨48, _⟩ => ⟨S_, .f32⟩
  | .hbm, ⟨49, _⟩ => ⟨S2x4096, .f32⟩
  | .hbm, ⟨50, _⟩ => ⟨S2x4096x1, .f32⟩
  | .hbm, ⟨51, _⟩ => ⟨S_, .f32⟩
  | .hbm, ⟨52, _⟩ => ⟨S2x4096x1, .f32⟩
  | .hbm, ⟨53, _⟩ => ⟨S2x4096x1, .f32⟩
  | .hbm, ⟨54, _⟩ => ⟨S_, .f32⟩
  | .hbm, ⟨55, _⟩ => ⟨S2x4096x1, .f32⟩
  | .hbm, ⟨56, _⟩ => ⟨S2x4096x1, .f32⟩
  | .hbm, ⟨57, _⟩ => ⟨S2x4096x1, .f32⟩
  | .hbm, ⟨58, _⟩ => ⟨S2x4096x2048, .f32⟩
  | .hbm, ⟨59, _⟩ => ⟨S2x4096x2048, .f32⟩
  | .hbm, ⟨60, _⟩ => ⟨S1x1x2048, .f32⟩
  | .hbm, ⟨61, _⟩ => ⟨S2x4096x2048, .f32⟩
  | .hbm, ⟨62, _⟩ => ⟨S2x4096x2048, .f32⟩
  | .hbm, ⟨63, _⟩ => ⟨S8192x2048, .f32⟩
  | .hbm, ⟨64, _⟩ => ⟨S8192x2048, .bf16⟩
  | _, _ => ⟨S2x2x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_4 : Ref sig .tc := ⟨.hbm, 48, rfl⟩
abbrev main_v36 : Ref sig .tc := ⟨.hbm, 49, rfl⟩
abbrev main_v37 : Ref sig .tc := ⟨.hbm, 50, rfl⟩
abbrev main_cst_5 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩

abbrev nD : Nat := 1
abbrev τ : Topo := Topo.v7x

variable {F : FTy → Type} [FloatOps F]
-- ==== Kernel6.lean ====
abbrev S2x2048x11264 : Shape := ⟨3, ![2, 2048, 11264]⟩
abbrev S2x5632x2048 : Shape := ⟨3, ![2, 5632, 2048]⟩
abbrev S1x2048x256 : Shape := ⟨3, ![1, 2048, 256]⟩
abbrev S1x2048x512 : Shape := ⟨3, ![1, 2048, 512]⟩
abbrev S1x2048x128 : Shape := ⟨3, ![1, 2048, 128]⟩
abbrev S2048x128 : Shape := ⟨2, ![2048, 128]⟩
abbrev S1x512x2048 : Shape := ⟨3, ![1, 512, 2048]⟩

abbrev nBuf : Space → Nat
  | .hbm => 4
  | .vmem => 10
  | .smem => 0
  | _ => 0

abbrev bufTy : (tb : Table) → Fin (tcTables nBuf tb) → BufTy
  | .hbm, ⟨0, _⟩ => ⟨S2x2048x11264, .f32⟩
  | .hbm, ⟨1, _⟩ => ⟨S2x5632x2048, .f32⟩
  | .hbm, ⟨2, _⟩ => ⟨S2x2048x11264, .bf16⟩
  | .hbm, ⟨3, _⟩ => ⟨S2x5632x2048, .bf16⟩
  | .local _ .vmem, ⟨0, _⟩ => ⟨S1x2048x256, .f32⟩
  | .local _ .vmem, ⟨1, _⟩ => ⟨S1x2048x256, .f32⟩
  | .local _ .vmem, ⟨2, _⟩ => ⟨S1x2048x256, .f32⟩
  | .local _ .vmem, ⟨3, _⟩ => ⟨S1x2048x256, .f32⟩
  | .local _ .vmem, ⟨4, _⟩ => ⟨S1x2048x512, .bf16⟩
  | .local _ .vmem, ⟨5, _⟩ => ⟨S1x2048x512, .bf16⟩
  | .local _ .vmem, ⟨6, _⟩ => ⟨S1x512x2048, .f32⟩
  | .local _ .vmem, ⟨7, _⟩ => ⟨S1x512x2048, .f32⟩
  | .local _ .vmem, ⟨8, _⟩ => ⟨S1x512x2048, .bf16⟩
  | .local _ .vmem, ⟨9, _⟩ => ⟨S1x512x2048, .bf16⟩
  | _, _ => ⟨S2x2048x11264, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9

abbrev nD : Nat := 1
abbrev τ : Topo := Topo.v7x

variable {F : FTy → Type} [FloatOps F]

abbrev grid0 : Pipeline.Grid := ⟨2, ![2, 22], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c22_i32 : BitVec 32 := 22#32
  let v0 : BitVec 32 := Scalar.addi c22_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![2, 11], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x512x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]
-- ==== Reference6Ideal.lean ====
abbrev S2x2048x11264 : Shape := ⟨3, ![2, 2048, 11264]⟩
abbrev S2x5632x2048 : Shape := ⟨3, ![2, 5632, 2048]⟩
abbrev S2x2048x5632 : Shape := ⟨3, ![2, 2048, 5632]⟩
abbrev S2x2048x44x128 : Shape := ⟨4, ![2, 2048, 44, 128]⟩
abbrev S2x2048x44x1x128 : Shape := ⟨5, ![2, 2048, 44, 1, 128]⟩
abbrev S2x2048x44x2x128 : Shape := ⟨5, ![2, 2048, 44, 2, 128]⟩

abbrev nBuf : Space → Nat
  | .hbm => 12
  | .vmem => 0
  | .smem => 0
  | _ => 0

abbrev bufTy : (tb : Table) → Fin (tcTables nBuf tb) → BufTy
  | .hbm, ⟨0, _⟩ => ⟨S2x2048x11264, .f32⟩
  | .hbm, ⟨1, _⟩ => ⟨S2x5632x2048, .f32⟩
  | .hbm, ⟨2, _⟩ => ⟨S2x2048x5632, .f32⟩
  | .hbm, ⟨3, _⟩ => ⟨S2x2048x44x128, .f32⟩
  | .hbm, ⟨4, _⟩ => ⟨S2x2048x5632, .f32⟩
  | .hbm, ⟨5, _⟩ => ⟨S2x2048x44x128, .f32⟩
  | .hbm, ⟨6, _⟩ => ⟨S2x2048x44x1x128, .f32⟩
  | .hbm, ⟨7, _⟩ => ⟨S2x2048x44x1x128, .f32⟩
  | .hbm, ⟨8, _⟩ => ⟨S2x2048x44x2x128, .f32⟩
  | .hbm, ⟨9, _⟩ => ⟨S2x2048x11264, .f32⟩
  | .hbm, ⟨10, _⟩ => ⟨S2x2048x11264, .bf16⟩
  | .hbm, ⟨11, _⟩ => ⟨S2x5632x2048, .bf16⟩
  | _, _ => ⟨S2x2048x11264, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== Kernel7.lean ====
abbrev S2x4096x2048 : Shape := ⟨3, ![2, 4096, 2048]⟩
abbrev S2x2048x11264 : Shape := ⟨3, ![2, 2048, 11264]⟩
abbrev S2x3x11264 : Shape := ⟨3, ![2, 3, 11264]⟩
abbrev S2x11264 : Shape := ⟨2, ![2, 11264]⟩
abbrev S2x5632x2048 : Shape := ⟨3, ![2, 5632, 2048]⟩
abbrev S2x2048 : Shape := ⟨2, ![2, 2048]⟩
abbrev S2x2048x2x44x128 : Shape := ⟨5, ![2, 2048, 2, 44, 128]⟩
abbrev S2x2048x44x2x128 : Shape := ⟨5, ![2, 2048, 44, 2, 128]⟩
abbrev S8192x2048 : Shape := ⟨2, ![8192, 2048]⟩
abbrev S1x3x11264 : Shape := ⟨3, ![1, 3, 11264]⟩
abbrev S3x11264 : Shape := ⟨2, ![3, 11264]⟩
abbrev S3x2x44x128 : Shape := ⟨4, ![3, 2, 44, 128]⟩
abbrev S3x44x2x128 : Shape := ⟨4, ![3, 44, 2, 128]⟩
abbrev S1x11264 : Shape := ⟨2, ![1, 11264]⟩
abbrev S11264 : Shape := ⟨1, ![11264]⟩
abbrev S1x2x44x128 : Shape := ⟨4, ![1, 2, 44, 128]⟩
abbrev S1x44x2x128 : Shape := ⟨4, ![1, 44, 2, 128]⟩
abbrev S1x2048 : Shape := ⟨2, ![1, 2048]⟩
abbrev S2048 : Shape := ⟨1, ![2048]⟩
abbrev S512x2048 : Shape := ⟨2, ![512, 2048]⟩
abbrev S16x2048 : Shape := ⟨2, ![16, 2048]⟩
abbrev S1x2048x1024 : Shape := ⟨3, ![1, 2048, 1024]⟩
abbrev S3x1024 : Shape := ⟨2, ![3, 1024]⟩
abbrev S1x1024 : Shape := ⟨2, ![1, 1024]⟩
abbrev S1x512x2048 : Shape := ⟨3, ![1, 512, 2048]⟩
abbrev S528x2048 : Shape := ⟨2, ![528, 2048]⟩
abbrev S4x528x256 : Shape := ⟨3, ![4, 528, 256]⟩
abbrev S1x2048x256 : Shape := ⟨3, ![1, 2048, 256]⟩
abbrev S2048x256 : Shape := ⟨2, ![2048, 256]⟩
abbrev S528x256 : Shape := ⟨2, ![528, 256]⟩
abbrev S1x528x256 : Shape := ⟨3, ![1, 528, 256]⟩
abbrev S3x256 : Shape := ⟨2, ![3, 256]⟩
abbrev S1x256 : Shape := ⟨2, ![1, 256]⟩
abbrev S1x512x256 : Shape := ⟨3, ![1, 512, 256]⟩
abbrev S512x256 : Shape := ⟨2, ![512, 256]⟩
abbrev S512x128 : Shape := ⟨2, ![512, 128]⟩
abbrev S1x256x2048 : Shape := ⟨3, ![1, 256, 2048]⟩
abbrev S256x2048 : Shape := ⟨2, ![256, 2048]⟩
abbrev S512 : Shape := ⟨1, ![512]⟩
abbrev S512x1 : Shape := ⟨2, ![512, 1]⟩

abbrev nBuf : Space → Nat
  | .hbm => 34
  | .vmem => 23
  | .smem => 0
  | _ => 0

abbrev bufTy : (tb : Table) → Fin (tcTables nBuf tb) → BufTy
  | .hbm, ⟨0, _⟩ => ⟨S2x4096x2048, .bf16⟩
  | .hbm, ⟨1, _⟩ => ⟨S2x4096x2048, .f32⟩
  | .hbm, ⟨2, _⟩ => ⟨S2x2048x11264, .f32⟩
  | .hbm, ⟨3, _⟩ => ⟨S2x3x11264, .f32⟩
  | .hbm, ⟨4, _⟩ => ⟨S2x11264, .f32⟩
  | .hbm, ⟨5, _⟩ => ⟨S2x5632x2048, .f32⟩
  | .hbm, ⟨6, _⟩ => ⟨S2x2048, .f32⟩
  | .hbm, ⟨7, _⟩ => ⟨S2x2048, .f32⟩
  | .hbm, ⟨8, _⟩ => ⟨S2x2048x2x44x128, .f32⟩
  | .hbm, ⟨9, _⟩ => ⟨S2x2048x44x2x128, .f32⟩
  | .hbm, ⟨10, _⟩ => ⟨S2x2048x11264, .f32⟩
  | .hbm, ⟨11, _⟩ => ⟨S2x2048x11264, .bf16⟩
  | .hbm, ⟨12, _⟩ => ⟨S8192x2048, .bf16⟩
  | .hbm, ⟨13, _⟩ => ⟨S1x3x11264, .f32⟩
  | .hbm, ⟨14, _⟩ => ⟨S3x11264, .f32⟩
  | .hbm, ⟨15, _⟩ => ⟨S3x2x44x128, .f32⟩
  | .hbm, ⟨16, _⟩ => ⟨S3x44x2x128, .f32⟩
  | .hbm, ⟨17, _⟩ => ⟨S3x11264, .f32⟩
  | .hbm, ⟨18, _⟩ => ⟨S1x11264, .f32⟩
  | .hbm, ⟨19, _⟩ => ⟨S11264, .f32⟩
  | .hbm, ⟨20, _⟩ => ⟨S1x11264, .f32⟩
  | .hbm, ⟨21, _⟩ => ⟨S1x2x44x128, .f32⟩
  | .hbm, ⟨22, _⟩ => ⟨S1x44x2x128, .f32⟩
  | .hbm, ⟨23, _⟩ => ⟨S1x11264, .f32⟩
  | .hbm, ⟨24, _⟩ => ⟨S2x5632x2048, .bf16⟩
  | .hbm, ⟨25, _⟩ => ⟨S8192x2048, .f32⟩
  | .hbm, ⟨26, _⟩ => ⟨S1x2048, .f32⟩
  | .hbm, ⟨27, _⟩ => ⟨S2048, .f32⟩
  | .hbm, ⟨28, _⟩ => ⟨S1x2048, .f32⟩
  | .hbm, ⟨29, _⟩ => ⟨S1x2048, .f32⟩
  | .hbm, ⟨30, _⟩ => ⟨S2048, .f32⟩
  | .hbm, ⟨31, _⟩ => ⟨S1x2048, .f32⟩
  | .hbm, ⟨32, _⟩ => ⟨S8192x2048, .f32⟩
  | .hbm, ⟨33, _⟩ => ⟨S8192x2048, .bf16⟩
  | .local _ .vmem, ⟨0, _⟩ => ⟨S512x2048, .bf16⟩
  | .local _ .vmem, ⟨1, _⟩ => ⟨S512x2048, .bf16⟩
  | .local _ .vmem, ⟨2, _⟩ => ⟨S16x2048, .bf16⟩
  | .local _ .vmem, ⟨3, _⟩ => ⟨S16x2048, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S3x1024, .f32⟩
  | .local _ .vmem, ⟨7, _⟩ => ⟨S3x1024, .f32⟩
  | .local _ .vmem, ⟨8, _⟩ => ⟨S1x1024, .f32⟩
  | .local _ .vmem, ⟨9, _⟩ => ⟨S1x1024, .f32⟩
  | .local _ .vmem, ⟨10, _⟩ => ⟨S1x512x2048, .bf16⟩
  | .local _ .vmem, ⟨11, _⟩ => ⟨S1x512x2048, .bf16⟩
  | .local _ .vmem, ⟨12, _⟩ => ⟨S512x2048, .f32⟩
  | .local _ .vmem, ⟨13, _⟩ => ⟨S512x2048, .f32⟩
  | .local _ .vmem, ⟨14, _⟩ => ⟨S1x2048, .f32⟩
  | .local _ .vmem, ⟨15, _⟩ => ⟨S1x2048, .f32⟩
  | .local _ .vmem, ⟨16, _⟩ => ⟨S512x2048, .f32⟩
  | .local _ .vmem, ⟨17, _⟩ => ⟨S512x2048, .f32⟩
  | .local _ .vmem, ⟨18, _⟩ => ⟨S512x2048, .bf16⟩
  | .local _ .vmem, ⟨19, _⟩ => ⟨S512x2048, .bf16⟩
  | .local _ .vmem, ⟨20, _⟩ => ⟨S528x2048, .bf16⟩
  | .local _ .vmem, ⟨21, _⟩ => ⟨S4x528x256, .f32⟩
  | .local _ .vmem, ⟨22, _⟩ => ⟨S512x2048, .f32⟩
  | _, _ => ⟨S2x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24_0 : Ref sig .tc := ⟨.hbm, 32, rfl⟩
abbrev main_v24_1 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![16, 11], ![false, false]⟩

def k0_cond2 (i : grid0.Coords) : BitVec 1 :=
  let arg1 : BitVec 32 := BitVec.ofNat 32 (i 1).val
  let c10_i32 : BitVec 32 := 10#32
  let v182 : BitVec 1 := Scalar.cmpi .eq arg1 c10_i32
  let v183 : BitVec 32 := Scalar.extui v182
  let c0_i32_96 : BitVec 32 := 0#32
  let v184 : BitVec 1 := Scalar.cmpi .ne v183 c0_i32_96
  v184

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S3x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S512x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference7Ideal.lean ====
abbrev S2x4096x2048 : Shape := ⟨3, ![2, 4096, 2048]⟩
abbrev S2x2048x11264 : Shape := ⟨3, ![2, 2048, 11264]⟩
abbrev S2x3x11264 : Shape := ⟨3, ![2, 3, 11264]⟩
abbrev S2x11264 : Shape := ⟨2, ![2, 11264]⟩
abbrev S2x5632x2048 : Shape := ⟨3, ![2, 5632, 2048]⟩
abbrev S2x2048 : Shape := ⟨2, ![2, 2048]⟩
abbrev S1x2048x11264 : Shape := ⟨3, ![1, 2048, 11264]⟩
abbrev S2048x11264 : Shape := ⟨2, ![2048, 11264]⟩
abbrev S2x4096x11264 : Shape := ⟨3, ![2, 4096, 11264]⟩
abbrev S_ : Shape := ⟨0, ![]⟩
abbrev S2x4098x11264 : Shape := ⟨3, ![2, 4098, 11264]⟩
abbrev S1x1x11264 : Shape := ⟨3, ![1, 1, 11264]⟩
abbrev S1x11264 : Shape := ⟨2, ![1, 11264]⟩
abbrev S2x4096x5632 : Shape := ⟨3, ![2, 4096, 5632]⟩
abbrev S1x5632x2048 : Shape := ⟨3, ![1, 5632, 2048]⟩
abbrev S5632x2048 : Shape := ⟨2, ![5632, 2048]⟩
abbrev S1x2048 : Shape := ⟨2, ![1, 2048]⟩
abbrev S2048 : Shape := ⟨1, ![2048]⟩
abbrev S2x4096 : Shape := ⟨2, ![2, 4096]⟩
abbrev S2x4096x1 : Shape := ⟨3, ![2, 4096, 1]⟩
abbrev S1x1x2048 : Shape := ⟨3, ![1, 1, 2048]⟩
abbrev S8192x2048 : Shape := ⟨2, ![8192, 2048]⟩

abbrev nBuf : Space → Nat
  | .hbm => 83
  | .vmem => 0
  | .smem => 0
  | _ => 0

abbrev bufTy : (tb : Table) → Fin (tcTables nBuf tb) → BufTy
  | .hbm, ⟨0, _⟩ => ⟨S2x4096x2048, .bf16⟩
  | .hbm, ⟨1, _⟩ => ⟨S2x4096x2048, .f32⟩
  | .hbm, ⟨2, _⟩ => ⟨S2x2048x11264, .f32⟩
  | .hbm, ⟨3, _⟩ => ⟨S2x3x11264, .f32⟩
  | .hbm, ⟨4, _⟩ => ⟨S2x11264, .f32⟩
  | .hbm, ⟨5, _⟩ => ⟨S2x5632x2048, .f32⟩
  | .hbm, ⟨6, _⟩ => ⟨S2x2048, .f32⟩
  | .hbm, ⟨7, _⟩ => ⟨S2x2048, .f32⟩
  | .hbm, ⟨8, _⟩ => ⟨S2x4096x2048, .f32⟩
  | .hbm, ⟨9, _⟩ => ⟨S1x2048x11264, .f32⟩
  | .hbm, ⟨10, _⟩ => ⟨S2048x11264, .f32⟩
  | .hbm, ⟨11, _⟩ => ⟨S2x4096x11264, .f32⟩
  | .hbm, ⟨12, _⟩ => ⟨S_, .f32⟩
  | .hbm, ⟨13, _⟩ => ⟨S2x4098x11264, .f32⟩
  | .hbm, ⟨14, _⟩ => ⟨S1x1x11264, .f32⟩
  | .hbm, ⟨15, _⟩ => ⟨S2x4096x11264, .f32⟩
  | .hbm, ⟨16, _⟩ => ⟨S2x4096x11264, .f32⟩
  | .hbm, ⟨17, _⟩ => ⟨S2x4096x11264, .f32⟩
  | .hbm, ⟨18, _⟩ => ⟨S1x1x11264, .f32⟩
  | .hbm, ⟨19, _⟩ => ⟨S2x4096x11264, .f32⟩
  | .hbm, ⟨20, _⟩ => ⟨S2x4096x11264, .f32⟩
  | .hbm, ⟨21, _⟩ => ⟨S2x4096x11264, .f32⟩
  | .hbm, ⟨22, _⟩ => ⟨S2x4096x11264, .f32⟩
  | .hbm, ⟨23, _⟩ => ⟨S1x1x11264, .f32⟩
  | .hbm, ⟨24, _⟩ => ⟨S2x4096x11264, .f32⟩
  | .hbm, ⟨25, _⟩ => ⟨S2x4096x11264, .f32⟩
  | .hbm, ⟨26, _⟩ => ⟨S2x4096x11264, .f32⟩
  | .hbm, ⟨27, _⟩ => ⟨S1x11264, .f32⟩
  | .hbm, ⟨28, _⟩ => ⟨S1x1x11264, .f32⟩
  | .hbm, ⟨29, _⟩ => ⟨S2x4096x11264, .f32⟩
  | .hbm, ⟨30, _⟩ => ⟨S2x4096x11264, .f32⟩
  | .hbm, ⟨31, _⟩ => ⟨S2x4096x5632, .f32⟩
  | .hbm, ⟨32, _⟩ => ⟨S2x4096x5632, .f32⟩
  | .hbm, ⟨33, _⟩ => ⟨S2x4096x5632, .f32⟩
  | .hbm, ⟨34, _⟩ => ⟨S2x4096x5632, .f32⟩
  | .hbm, ⟨35, _⟩ => ⟨S_, .f32⟩
  | .hbm, ⟨36, _⟩ => ⟨S2x4096x5632, .f32⟩
  | .hbm, ⟨37, _⟩ => ⟨S2x4096x5632, .f32⟩
  | .hbm, ⟨38, _⟩ => ⟨S2x4096x5632, .f32⟩
  | .hbm, ⟨39, _⟩ => ⟨S2x4096x5632, .f32⟩
  | .hbm, ⟨40, _⟩ => ⟨S1x5632x2048, .f32⟩
  | .hbm, ⟨41, _⟩ => ⟨S5632x2048, .f32⟩
  | .hbm, ⟨42, _⟩ => ⟨S2x4096x2048, .f32⟩
  | .hbm, ⟨43, _⟩ => ⟨S1x2048, .f32⟩
  | .hbm, ⟨44, _⟩ => ⟨S2048, .f32⟩
  | .hbm, ⟨45, _⟩ => ⟨S2x4096x2048, .f32⟩
  | .hbm, ⟨46, _⟩ => ⟨S_, .f32⟩
  | .hbm, ⟨47, _⟩ => ⟨S2x4096, .f32⟩
  | .hbm, ⟨48, _⟩ => ⟨S2x4096x1, .f32⟩
  | .hbm, ⟨49, _⟩ => ⟨S_, .f32⟩
  | .hbm, ⟨50, _⟩ => ⟨S2x4096x1, .f32⟩
  | .hbm, ⟨51, _⟩ => ⟨S2x4096x1, .f32⟩
  | .hbm, ⟨52, _⟩ => ⟨S_, .f32⟩
  | .hbm, ⟨53, _⟩ => ⟨S2x4096x1, .f32⟩
  | .hbm, ⟨54, _⟩ => ⟨S2x4096x1, .f32⟩
  | .hbm, ⟨55, _⟩ => ⟨S2x4096x1, .f32⟩
  | .hbm, ⟨56, _⟩ => ⟨S2x4096x2048, .f32⟩
  | .hbm, ⟨57, _⟩ => ⟨S2x4096x2048, .f32⟩
  | .hbm, ⟨58, _⟩ => ⟨S1x1x2048, .f32⟩
  | .hbm, ⟨59, _⟩ => ⟨S2x4096x2048, .f32⟩
  | .hbm, ⟨60, _⟩ => ⟨S2x4096x2048, .f32⟩
  | .hbm, ⟨61, _⟩ => ⟨S2x4096x2048, .f32⟩
  | .hbm, ⟨62, _⟩ => ⟨S8192x2048, .f32⟩
  | .hbm, ⟨63, _⟩ => ⟨S1x2048, .f32⟩
  | .hbm, ⟨64, _⟩ => ⟨S2048, .f32⟩
  | .hbm, ⟨65, _⟩ => ⟨S2x4096x2048, .f32⟩
  | .hbm, ⟨66, _⟩ => ⟨S_, .f32⟩
  | .hbm, ⟨67, _⟩ => ⟨S2x4096, .f32⟩
  | .hbm, ⟨68, _⟩ => ⟨S2x4096x1, .f32⟩
  | .hbm, ⟨69, _⟩ => ⟨S_, .f32⟩
  | .hbm, ⟨70, _⟩ => ⟨S2x4096x1, .f32⟩
  | .hbm, ⟨71, _⟩ => ⟨S2x4096x1, .f32⟩
  | .hbm, ⟨72, _⟩ => ⟨S_, .f32⟩
  | .hbm, ⟨73, _⟩ => ⟨S2x4096x1, .f32⟩
  | .hbm, ⟨74, _⟩ => ⟨S2x4096x1, .f32⟩
  | .hbm, ⟨75, _⟩ => ⟨S2x4096x1, .f32⟩
  | .hbm, ⟨76, _⟩ => ⟨S2x4096x2048, .f32⟩
  | .hbm, ⟨77, _⟩ => ⟨S2x4096x2048, .f32⟩
  | .hbm, ⟨78, _⟩ => ⟨S1x1x2048, .f32⟩
  | .hbm, ⟨79, _⟩ => ⟨S2x4096x2048, .f32⟩
  | .hbm, ⟨80, _⟩ => ⟨S2x4096x2048, .f32⟩
  | .hbm, ⟨81, _⟩ => ⟨S8192x2048, .f32⟩
  | .hbm, ⟨82, _⟩ => ⟨S8192x2048, .bf16⟩
  | _, _ => ⟨S2x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_0 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_1 : Ref sig .tc := ⟨.hbm, 46, rfl⟩
abbrev main_v36 : Ref sig .tc := ⟨.hbm, 47, rfl⟩
abbrev main_v37 : Ref sig .tc := ⟨.hbm, 48, rfl⟩
abbrev main_cst_2 : Ref sig .tc := ⟨.hbm, 49, rfl⟩
abbrev main_v38 : Ref sig .tc := ⟨.hbm, 50, rfl⟩
abbrev main_v39 : Ref sig .tc := ⟨.hbm, 51, rfl⟩
abbrev main_cst_3 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_4 : Ref sig .tc := ⟨.hbm, 66, rfl⟩
abbrev main_v53 : Ref sig .tc := ⟨.hbm, 67, rfl⟩
abbrev main_v54 : Ref sig .tc := ⟨.hbm, 68, rfl⟩
abbrev main_cst_5 : Ref sig .tc := ⟨.hbm, 69, rfl⟩
abbrev main_v55 : Ref sig .tc := ⟨.hbm, 70, rfl⟩
abbrev main_v56 : Ref sig .tc := ⟨.hbm, 71, rfl⟩
abbrev main_cst_6 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩

abbrev nD : Nat := 1
abbrev τ : Topo := Topo.v7x

variable {F : FTy → Type} [FloatOps F]
-- ==== Kernel8.lean ====
abbrev S2x4096x2048 : Shape := ⟨3, ![2, 4096, 2048]⟩
abbrev S2x2048x7176 : Shape := ⟨3, ![2, 2048, 7176]⟩
abbrev S2x7176x2048 : Shape := ⟨3, ![2, 7176, 2048]⟩
abbrev S2x6144x2048 : Shape := ⟨3, ![2, 6144, 2048]⟩
abbrev S1x1024x2048 : Shape := ⟨3, ![1, 1024, 2048]⟩
abbrev S1024x2048 : Shape := ⟨2, ![1024, 2048]⟩
abbrev S2x1152x2048 : Shape := ⟨3, ![2, 1152, 2048]⟩
abbrev S1x8x2048 : Shape := ⟨3, ![1, 8, 2048]⟩
abbrev S1x1152x2048 : Shape := ⟨3, ![1, 1152, 2048]⟩
abbrev S120x2048 : Shape := ⟨2, ![120, 2048]⟩
abbrev S8x2048 : Shape := ⟨2, ![8, 2048]⟩
abbrev S128x2048 : Shape := ⟨2, ![128, 2048]⟩
abbrev S1x128x2048 : Shape := ⟨3, ![1, 128, 2048]⟩
abbrev S8192x2048 : Shape := ⟨2, ![8192, 2048]⟩
abbrev S8192x6144 : Shape := ⟨2, ![8192, 6144]⟩
abbrev S1024x1024 : Shape := ⟨2, ![1024, 1024]⟩
abbrev S8192x1152 : Shape := ⟨2, ![8192, 1152]⟩
abbrev S1024x1152 : Shape := ⟨2, ![1024, 1152]⟩
abbrev S1152x2048 : Shape := ⟨2, ![1152, 2048]⟩

abbrev nBuf : Space → Nat
  | .hbm => 8
  | .vmem => 21
  | .smem => 0
  | _ => 0

abbrev bufTy : (tb : Table) → Fin (tcTables nBuf tb) → BufTy
  | .hbm, ⟨0, _⟩ => ⟨S2x4096x2048, .bf16⟩
  | .hbm, ⟨1, _⟩ => ⟨S2x2048x7176, .f32⟩
  | .hbm, ⟨2, _⟩ => ⟨S2x7176x2048, .f32⟩
  | .hbm, ⟨3, _⟩ => ⟨S2x6144x2048, .bf16⟩
  | .hbm, ⟨4, _⟩ => ⟨S2x1152x2048, .bf16⟩
  | .hbm, ⟨5, _⟩ => ⟨S8192x2048, .bf16⟩
  | .hbm, ⟨6, _⟩ => ⟨S8192x6144, .bf16⟩
  | .hbm, ⟨7, _⟩ => ⟨S8192x1152, .f32⟩
  | .local _ .vmem, ⟨0, _⟩ => ⟨S1x1024x2048, .f32⟩
  | .local _ .vmem, ⟨1, _⟩ => ⟨S1x1024x2048, .f32⟩
  | .local _ .vmem, ⟨2, _⟩ => ⟨S1x1024x2048, .bf16⟩
  | .local _ .vmem, ⟨3, _⟩ => ⟨S1x1024x2048, .bf16⟩
  | .local _ .vmem, ⟨4, _⟩ => ⟨S1x1024x2048, .f32⟩
  | .local _ .vmem, ⟨5, _⟩ => ⟨S1x1024x2048, .f32⟩
  | .local _ .vmem, ⟨6, _⟩ => ⟨S1x8x2048, .f32⟩
  | .local _ .vmem, ⟨7, _⟩ => ⟨S1x8x2048, .f32⟩
  | .local _ .vmem, ⟨8, _⟩ => ⟨S1x1152x2048, .bf16⟩
  | .local _ .vmem, ⟨9, _⟩ => ⟨S1x1152x2048, .bf16⟩
  | .local _ .vmem, ⟨10, _⟩ => ⟨S1024x2048, .bf16⟩
  | .local _ .vmem, ⟨11, _⟩ => ⟨S1024x2048, .bf16⟩
  | .local _ .vmem, ⟨12, _⟩ => ⟨S1x1024x2048, .bf16⟩
  | .local _ .vmem, ⟨13, _⟩ => ⟨S1x1024x2048, .bf16⟩
  | .local _ .vmem, ⟨14, _⟩ => ⟨S1024x1024, .bf16⟩
  | .local _ .vmem, ⟨15, _⟩ => ⟨S1024x1024, .bf16⟩
  | .local _ .vmem, ⟨16, _⟩ => ⟨S1024x2048, .bf16⟩
  | .local _ .vmem, ⟨17, _⟩ => ⟨S1024x2048, .bf16⟩
  | .local _ .vmem, ⟨18, _⟩ => ⟨S1x1152x2048, .bf16⟩
  | .local _ .vmem, ⟨19, _⟩ => ⟨S1024x1152, .f32⟩
  | .local _ .vmem, ⟨20, _⟩ => ⟨S1024x1152, .f32⟩
  | _, _ => ⟨S2x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20

abbrev nD : Nat := 1
abbrev τ : Topo := Topo.v7x

variable {F : FTy → Type} [FloatOps F]

abbrev grid0 : Pipeline.Grid := ⟨2, ![2, 6], ![false, false]⟩

def cc0_transform_0 (i : grid0.Coords) : Fin 3 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c3_i32 : BitVec 32 := 3#32
  let v1 : BitVec 1 := Scalar.cmpi .sge arg1 c3_i32
  let c1_i32 : BitVec 32 := 1#32
  let c0_i32 : BitVec 32 := 0#32
  let v2 : BitVec 32 := Scalar.select v1 c1_i32 c0_i32
  let v3 : BitVec 32 := Scalar.addi v0 v2
  let c4_i32 : BitVec 32 := 4#32
  let v4 : BitVec 1 := Scalar.cmpi .sge arg1 c4_i32
  let c128_i32_0 : BitVec 32 := 128#32
  let c0_i32_1 : BitVec 32 := 0#32
  let v5 : BitVec 32 := Scalar.select v4 c128_i32_0 c0_i32_1
  let v6 : BitVec 32 := Scalar.addi v3 v5
  let c8_i32 : BitVec 32 := 8#32
  let v7 : BitVec 32 := Scalar.muli v6 c8_i32
  let c0_i32_2 : BitVec 32 := 0#32
  let c0_i32_3 : BitVec 32 := 0#32
  ![arg0.toNat, v7.toNat, c0_i32_2.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨1, ![2], ![false]⟩

def cc1_transform_0 (i : grid1.Coords) : Fin 3 → Nat :=
  let arg0 : BitVec 32 := BitVec.ofNat 32 (i 0).val
  let c4104_i32 : BitVec 32 := 4104#32
  let c0_i32 : BitVec 32 := 0#32
  let c0_i32_0 : BitVec 32 := 0#32
  ![arg0.toNat, c4104_i32.toNat, c0_i32.toNat]

def cc1_transform_1 (i : grid1.Coords) : Fin 3 → Nat :=
  let arg0 : BitVec 32 := BitVec.ofNat 32 (i 0).val
  let c3072_i32 : BitVec 32 := 3072#32
  let c0_i32 : BitVec 32 := 0#32
  let c0_i32_0 : BitVec 32 := 0#32
  ![arg0.toNat, c3072_i32.toNat, c0_i32.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x8x2048 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1152x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨2, ![8, 6], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1x1024x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![8, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S1024x2048 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 1 → Memref sig .tc .vmem S1x1152x2048 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true]

abbrev stage3_2 : Fin 2 → Memref sig .tc .vmem S1024x1152 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]
-- ==== Kernel8Ideal.lean ====
variable {F : FTy → Type} [FloatOps F] [Named F]
def κ : String → Option EReal := fun
  | "q_scale" => some (((Real.sqrt 128)⁻¹ * (Real.log 2)⁻¹ : ℝ) : EReal)
  | _ => none
-- ==== Reference8Ideal.lean ====
abbrev S2x4096x2048 : Shape := ⟨3, ![2, 4096, 2048]⟩
abbrev S2x2048x7176 : Shape := ⟨3, ![2, 2048, 7176]⟩
abbrev S1x2048x7176 : Shape := ⟨3, ![1, 2048, 7176]⟩
abbrev S2048x7176 : Shape := ⟨2, ![2048, 7176]⟩
abbrev S2x4096x7176 : Shape := ⟨3, ![2, 4096, 7176]⟩
abbrev S8192x7176 : Shape := ⟨2, ![8192, 7176]⟩
abbrev S8192x1024 : Shape := ⟨2, ![8192, 1024]⟩
abbrev S_ : Shape := ⟨0, ![]⟩
abbrev S8192x2048 : Shape := ⟨2, ![8192, 2048]⟩
abbrev S8192x6144 : Shape := ⟨2, ![8192, 6144]⟩
abbrev S8192x8 : Shape := ⟨2, ![8192, 8]⟩
abbrev S8192x1032 : Shape := ⟨2, ![8192, 1032]⟩
abbrev S8192x1152 : Shape := ⟨2, ![8192, 1152]⟩

abbrev nBuf : Space → Nat
  | .hbm => 26
  | .vmem => 0
  | .smem => 0
  | _ => 0

abbrev bufTy : (tb : Table) → Fin (tcTables nBuf tb) → BufTy
  | .hbm, ⟨0, _⟩ => ⟨S2x4096x2048, .bf16⟩
  | .hbm, ⟨1, _⟩ => ⟨S2x2048x7176, .f32⟩
  | .hbm, ⟨2, _⟩ => ⟨S2x4096x2048, .f32⟩
  | .hbm, ⟨3, _⟩ => ⟨S1x2048x7176, .f32⟩
  | .hbm, ⟨4, _⟩ => ⟨S2048x7176, .f32⟩
  | .hbm, ⟨5, _⟩ => ⟨S2x4096x7176, .f32⟩
  | .hbm, ⟨6, _⟩ => ⟨S8192x7176, .f32⟩
  | .hbm, ⟨7, _⟩ => ⟨S8192x1024, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x2048, .f32⟩
  | .hbm, ⟨16, _⟩ => ⟨S8192x1024, .f32⟩
  | .hbm, ⟨17, _⟩ => ⟨S8192x2048, .f32⟩
  | .hbm, ⟨18, _⟩ => ⟨S8192x6144, .f32⟩
  | .hbm, ⟨19, _⟩ => ⟨S8192x1024, .f32⟩
  | .hbm, ⟨20, _⟩ => ⟨S8192x8, .f32⟩
  | .hbm, ⟨21, _⟩ => ⟨S8192x1032, .f32⟩
  | .hbm, ⟨22, _⟩ => ⟨S_, .i32⟩
  | .hbm, ⟨23, _⟩ => ⟨S_, .f32⟩
  | .hbm, ⟨24, _⟩ => ⟨S8192x1152, .f32⟩
  | .hbm, ⟨25, _⟩ => ⟨S8192x6144, .bf16⟩
  | _, _ => ⟨S2x4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_c : Ref sig .tc := ⟨.hbm, 22, rfl⟩
abbrev main_call0_v0 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]

def κ : String → Option EReal := fun
  | "q_scale" => some (((Real.sqrt 128)⁻¹ * (Real.log 2)⁻¹ : ℝ) : EReal)
  | _ => none
-- ==== Kernel9.lean ====
abbrev S2x4096x1024 : Shape := ⟨3, ![2, 4096, 1024]⟩
abbrev S2x4096x2048 : Shape := ⟨3, ![2, 4096, 2048]⟩
abbrev S2x2048x2048 : Shape := ⟨3, ![2, 2048, 2048]⟩
abbrev S2x2048 : Shape := ⟨2, ![2, 2048]⟩
abbrev S8192x1024 : Shape := ⟨2, ![8192, 1024]⟩
abbrev S1x1024x2048 : Shape := ⟨3, ![1, 1024, 2048]⟩
abbrev S8192x2048 : Shape := ⟨2, ![8192, 2048]⟩
abbrev S1x2048 : Shape := ⟨2, ![1, 2048]⟩
abbrev S2048 : Shape := ⟨1, ![2048]⟩
abbrev S512x1024 : Shape := ⟨2, ![512, 1024]⟩
abbrev S512x2048 : Shape := ⟨2, ![512, 2048]⟩
abbrev S1024x2048 : Shape := ⟨2, ![1024, 2048]⟩
abbrev S512 : Shape := ⟨1, ![512]⟩
abbrev S512x1 : Shape := ⟨2, ![512, 1]⟩

abbrev nBuf : Space → Nat
  | .hbm => 18
  | .vmem => 18
  | .smem => 0
  | _ => 0

abbrev bufTy : (tb : Table) → Fin (tcTables nBuf tb) → BufTy
  | .hbm, ⟨0, _⟩ => ⟨S2x4096x1024, .bf16⟩
  | .hbm, ⟨1, _⟩ => ⟨S2x4096x1024, .bf16⟩
  | .hbm, ⟨2, _⟩ => ⟨S2x4096x2048, .f32⟩
  | .hbm, ⟨3, _⟩ => ⟨S2x2048x2048, .f32⟩
  | .hbm, ⟨4, _⟩ => ⟨S2x2048, .f32⟩
  | .hbm, ⟨5, _⟩ => ⟨S2x2048, .f32⟩
  | .hbm, ⟨6, _⟩ => ⟨S8192x1024, .bf16⟩
  | .hbm, ⟨7, _⟩ => ⟨S8192x1024, .bf16⟩
  | .hbm, ⟨8, _⟩ => ⟨S2x2048x2048, .bf16⟩
  | .hbm, ⟨9, _⟩ => ⟨S8192x2048, .f32⟩
  | .hbm, ⟨10, _⟩ => ⟨S1x2048, .f32⟩
  | .hbm, ⟨11, _⟩ => ⟨S2048, .f32⟩
  | .hbm, ⟨12, _⟩ => ⟨S1x2048, .f32⟩
  | .hbm, ⟨13, _⟩ => ⟨S1x2048, .f32⟩
  | .hbm, ⟨14, _⟩ => ⟨S2048, .f32⟩
  | .hbm, ⟨15, _⟩ => ⟨S1x2048, .f32⟩
  | .hbm, ⟨16, _⟩ => ⟨S8192x2048, .f32⟩
  | .hbm, ⟨17, _⟩ => ⟨S8192x2048, .bf16⟩
  | .local _ .vmem, ⟨0, _⟩ => ⟨S1x1024x2048, .f32⟩
  | .local _ .vmem, ⟨1, _⟩ => ⟨S1x1024x2048, .f32⟩
  | .local _ .vmem, ⟨2, _⟩ => ⟨S1x1024x2048, .bf16⟩
  | .local _ .vmem, ⟨3, _⟩ => ⟨S1x1024x2048, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S1x1024x2048, .bf16⟩
  | .local _ .vmem, ⟨9, _⟩ => ⟨S1x1024x2048, .bf16⟩
  | .local _ .vmem, ⟨10, _⟩ => ⟨S512x2048, .f32⟩
  | .local _ .vmem, ⟨11, _⟩ => ⟨S512x2048, .f32⟩
  | .local _ .vmem, ⟨12, _⟩ => ⟨S1x2048, .f32⟩
  | .local _ .vmem, ⟨13, _⟩ => ⟨S1x2048, .f32⟩
  | .local _ .vmem, ⟨14, _⟩ => ⟨S512x2048, .f32⟩
  | .local _ .vmem, ⟨15, _⟩ => ⟨S512x2048, .f32⟩
  | .local _ .vmem, ⟨16, _⟩ => ⟨S512x2048, .bf16⟩
  | .local _ .vmem, ⟨17, _⟩ => ⟨S512x2048, .bf16⟩
  | _, _ => ⟨S2x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg7_1 : Ref sig .tc := ⟨.vmem, 15, rfl⟩
abbrev cc1_stg8_0 : Ref sig .tc := ⟨.vmem, 16, rfl⟩
abbrev cc1_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem3_0 : DmaSem sig := 9
abbrev cc1_sem4_0 : DmaSem sig := 10
abbrev cc1_sem4_1 : DmaSem sig := 11
abbrev cc1_sem5_0 : DmaSem sig := 12
abbrev cc1_sem6_0 : DmaSem sig := 13
abbrev cc1_sem7_0 : DmaSem sig := 14
abbrev cc1_sem7_1 : DmaSem sig := 15
abbrev cc1_sem8_0 : DmaSem sig := 16
abbrev cc1_sem8_1 : DmaSem sig := 17

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc1_transform_3 (i : grid1.Coords) : Fin 3 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  ![c1_i32.toNat, c1_i32_0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1024x2048 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024x2048 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x2048 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x2048 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S512x2048 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S512x2048 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]
-- ==== Reference9Ideal.lean ====
abbrev S2x4096x1024 : Shape := ⟨3, ![2, 4096, 1024]⟩
abbrev S2x4096x2048 : Shape := ⟨3, ![2, 4096, 2048]⟩
abbrev S2x2048x2048 : Shape := ⟨3, ![2, 2048, 2048]⟩
abbrev S2x2048 : Shape := ⟨2, ![2, 2048]⟩
abbrev S1x2048x2048 : Shape := ⟨3, ![1, 2048, 2048]⟩
abbrev S2048x2048 : Shape := ⟨2, ![2048, 2048]⟩
abbrev S1x2048 : Shape := ⟨2, ![1, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S8192x2048 : Shape := ⟨2, ![8192, 2048]⟩

abbrev nBuf : Space → Nat
  | .hbm => 51
  | .vmem => 0
  | .smem => 0
  | _ => 0

abbrev bufTy : (tb : Table) → Fin (tcTables nBuf tb) → BufTy
  | .hbm, ⟨0, _⟩ => ⟨S2x4096x1024, .bf16⟩
  | .hbm, ⟨1, _⟩ => ⟨S2x4096x1024, .bf16⟩
  | .hbm, ⟨2, _⟩ => ⟨S2x4096x2048, .f32⟩
  | .hbm, ⟨3, _⟩ => ⟨S2x2048x2048, .f32⟩
  | .hbm, ⟨4, _⟩ => ⟨S2x2048, .f32⟩
  | .hbm, ⟨5, _⟩ => ⟨S2x2048, .f32⟩
  | .hbm, ⟨6, _⟩ => ⟨S2x4096x2048, .bf16⟩
  | .hbm, ⟨7, _⟩ => ⟨S2x4096x2048, .f32⟩
  | .hbm, ⟨8, _⟩ => ⟨S1x2048x2048, .f32⟩
  | .hbm, ⟨9, _⟩ => ⟨S2048x2048, .f32⟩
  | .hbm, ⟨10, _⟩ => ⟨S2x4096x2048, .f32⟩
  | .hbm, ⟨11, _⟩ => ⟨S1x2048, .f32⟩
  | .hbm, ⟨12, _⟩ => ⟨S2048, .f32⟩
  | .hbm, ⟨13, _⟩ => ⟨S2x4096x2048, .f32⟩
  | .hbm, ⟨14, _⟩ => ⟨S_, .f32⟩
  | .hbm, ⟨15, _⟩ => ⟨S2x4096, .f32⟩
  | .hbm, ⟨16, _⟩ => ⟨S2x4096x1, .f32⟩
  | .hbm, ⟨17, _⟩ => ⟨S_, .f32⟩
  | .hbm, ⟨18, _⟩ => ⟨S2x4096x1, .f32⟩
  | .hbm, ⟨19, _⟩ => ⟨S2x4096x1, .f32⟩
  | .hbm, ⟨20, _⟩ => ⟨S_, .f32⟩
  | .hbm, ⟨21, _⟩ => ⟨S2x4096x1, .f32⟩
  | .hbm, ⟨22, _⟩ => ⟨S2x4096x1, .f32⟩
  | .hbm, ⟨23, _⟩ => ⟨S2x4096x1, .f32⟩
  | .hbm, ⟨24, _⟩ => ⟨S2x4096x2048, .f32⟩
  | .hbm, ⟨25, _⟩ => ⟨S2x4096x2048, .f32⟩
  | .hbm, ⟨26, _⟩ => ⟨S1x1x2048, .f32⟩
  | .hbm, ⟨27, _⟩ => ⟨S2x4096x2048, .f32⟩
  | .hbm, ⟨28, _⟩ => ⟨S2x4096x2048, .f32⟩
  | .hbm, ⟨29, _⟩ => ⟨S2x4096x2048, .f32⟩
  | .hbm, ⟨30, _⟩ => ⟨S8192x2048, .f32⟩
  | .hbm, ⟨31, _⟩ => ⟨S1x2048, .f32⟩
  | .hbm, ⟨32, _⟩ => ⟨S2048, .f32⟩
  | .hbm, ⟨33, _⟩ => ⟨S2x4096x2048, .f32⟩
  | .hbm, ⟨34, _⟩ => ⟨S_, .f32⟩
  | .hbm, ⟨35, _⟩ => ⟨S2x4096, .f32⟩
  | .hbm, ⟨36, _⟩ => ⟨S2x4096x1, .f32⟩
  | .hbm, ⟨37, _⟩ => ⟨S_, .f32⟩
  | .hbm, ⟨38, _⟩ => ⟨S2x4096x1, .f32⟩
  | .hbm, ⟨39, _⟩ => ⟨S2x4096x1, .f32⟩
  | .hbm, ⟨40, _⟩ => ⟨S_, .f32⟩
  | .hbm, ⟨41, _⟩ => ⟨S2x4096x1, .f32⟩
  | .hbm, ⟨42, _⟩ => ⟨S2x4096x1, .f32⟩
  | .hbm, ⟨43, _⟩ => ⟨S2x4096x1, .f32⟩
  | .hbm, ⟨44, _⟩ => ⟨S2x4096x2048, .f32⟩
  | .hbm, ⟨45, _⟩ => ⟨S2x4096x2048, .f32⟩
  | .hbm, ⟨46, _⟩ => ⟨S1x1x2048, .f32⟩
  | .hbm, ⟨47, _⟩ => ⟨S2x4096x2048, .f32⟩
  | .hbm, ⟨48, _⟩ => ⟨S2x4096x2048, .f32⟩
  | .hbm, ⟨49, _⟩ => ⟨S8192x2048, .f32⟩
  | .hbm, ⟨50, _⟩ => ⟨S8192x2048, .bf16⟩
  | _, _ => ⟨S2x4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== Kernel10.lean ====
abbrev S2x2x4096x256 : Shape := ⟨4, ![2, 2, 4096, 256]⟩
abbrev S2x4096x2048 : Shape := ⟨3, ![2, 4096, 2048]⟩
abbrev S2x2048x2048 : Shape := ⟨3, ![2, 2048, 2048]⟩
abbrev S2x256x2048 : Shape := ⟨3, ![2, 256, 2048]⟩
abbrev S2x2048 : Shape := ⟨2, ![2, 2048]⟩
abbrev S1x1024x2048 : Shape := ⟨3, ![1, 1024, 2048]⟩
abbrev S1x256x2048 : Shape := ⟨3, ![1, 256, 2048]⟩
abbrev S1x2x4096x256 : Shape := ⟨4, ![1, 2, 4096, 256]⟩
abbrev S2x4096x256 : Shape := ⟨3, ![2, 4096, 256]⟩
abbrev S8192x256 : Shape := ⟨2, ![8192, 256]⟩
abbrev S8192x2048 : Shape := ⟨2, ![8192, 2048]⟩
abbrev S1x2048 : Shape := ⟨2, ![1, 2048]⟩
abbrev S2048 : Shape := ⟨1, ![2048]⟩
abbrev S512x256 : Shape := ⟨2, ![512, 256]⟩
abbrev S512x2048 : Shape := ⟨2, ![512, 2048]⟩
abbrev S1x2048x2048 : Shape := ⟨3, ![1, 2048, 2048]⟩
abbrev S256x2048 : Shape := ⟨2, ![256, 2048]⟩
abbrev S2048x2048 : Shape := ⟨2, ![2048, 2048]⟩
abbrev S512 : Shape := ⟨1, ![512]⟩
abbrev S512x1 : Shape := ⟨2, ![512, 1]⟩

abbrev nBuf : Space → Nat
  | .hbm => 22
  | .vmem => 22
  | .smem => 0
  | _ => 0

abbrev bufTy : (tb : Table) → Fin (tcTables nBuf tb) → BufTy
  | .hbm, ⟨0, _⟩ => ⟨S2x2x4096x256, .f32⟩
  | .hbm, ⟨1, _⟩ => ⟨S2x4096x2048, .bf16⟩
  | .hbm, ⟨2, _⟩ => ⟨S2x4096x2048, .f32⟩
  | .hbm, ⟨3, _⟩ => ⟨S2x2048x2048, .f32⟩
  | .hbm, ⟨4, _⟩ => ⟨S2x256x2048, .f32⟩
  | .hbm, ⟨5, _⟩ => ⟨S2x2048, .f32⟩
  | .hbm, ⟨6, _⟩ => ⟨S2x2048, .f32⟩
  | .hbm, ⟨7, _⟩ => ⟨S2x2048x2048, .bf16⟩
  | .hbm, ⟨8, _⟩ => ⟨S2x256x2048, .bf16⟩
  | .hbm, ⟨9, _⟩ => ⟨S1x2x4096x256, .f32⟩
  | .hbm, ⟨10, _⟩ => ⟨S2x4096x256, .f32⟩
  | .hbm, ⟨11, _⟩ => ⟨S8192x256, .f32⟩
  | .hbm, ⟨12, _⟩ => ⟨S8192x2048, .bf16⟩
  | .hbm, ⟨13, _⟩ => ⟨S8192x2048, .f32⟩
  | .hbm, ⟨14, _⟩ => ⟨S1x2048, .f32⟩
  | .hbm, ⟨15, _⟩ => ⟨S2048, .f32⟩
  | .hbm, ⟨16, _⟩ => ⟨S1x2048, .f32⟩
  | .hbm, ⟨17, _⟩ => ⟨S1x2048, .f32⟩
  | .hbm, ⟨18, _⟩ => ⟨S2048, .f32⟩
  | .hbm, ⟨19, _⟩ => ⟨S1x2048, .f32⟩
  | .hbm, ⟨20, _⟩ => ⟨S8192x2048, .f32⟩
  | .hbm, ⟨21, _⟩ => ⟨S8192x2048, .bf16⟩
  | .local _ .vmem, ⟨0, _⟩ => ⟨S1x1024x2048, .f32⟩
  | .local _ .vmem, ⟨1, _⟩ => ⟨S1x1024x2048, .f32⟩
  | .local _ .vmem, ⟨2, _⟩ => ⟨S1x1024x2048, .bf16⟩
  | .local _ .vmem, ⟨3, _⟩ => ⟨S1x1024x2048, .bf16⟩
  | .local _ .vmem, ⟨4, _⟩ => ⟨S1x256x2048, .f32⟩
  | .local _ .vmem, ⟨5, _⟩ => ⟨S1x256x2048, .f32⟩
  | .local _ .vmem, ⟨6, _⟩ => ⟨S1x256x2048, .bf16⟩
  | .local _ .vmem, ⟨7, _⟩ => ⟨S1x256x2048, .bf16⟩
  | .local _ .vmem, ⟨8, _⟩ => ⟨S512x256, .f32⟩
  | .local _ .vmem, ⟨9, _⟩ => ⟨S512x256, .f32⟩
  | .local _ .vmem, ⟨10, _⟩ => ⟨S512x2048, .bf16⟩
  | .local _ .vmem, ⟨11, _⟩ => ⟨S512x2048, .bf16⟩
  | .local _ .vmem, ⟨12, _⟩ => ⟨S1x256x2048, .bf16⟩
  | .local _ .vmem, ⟨13, _⟩ => ⟨S1x2048x2048, .bf16⟩
  | .local _ .vmem, ⟨14, _⟩ => ⟨S512x2048, .f32⟩
  | .local _ .vmem, ⟨15, _⟩ => ⟨S512x2048, .f32⟩
  | .local _ .vmem, ⟨16, _⟩ => ⟨S1x2048, .f32⟩
  | .local _ .vmem, ⟨17, _⟩ => ⟨S1x2048, .f32⟩
  | .local _ .vmem, ⟨18, _⟩ => ⟨S512x2048, .f32⟩
  | .local _ .vmem, ⟨19, _⟩ => ⟨S512x2048, .f32⟩
  | .local _ .vmem, ⟨20, _⟩ => ⟨S512x2048, .bf16⟩
  | .local _ .vmem, ⟨21, _⟩ => ⟨S512x2048, .bf16⟩
  | _, _ => ⟨S2x2x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg3_0 : Ref sig .tc := ⟨.vmem, 13, rfl⟩
abbrev cc2_stg4_0 : Ref sig .tc := ⟨.vmem, 14, rfl⟩
abbrev cc2_stg4_1 : Ref sig .tc := ⟨.vmem, 15, rfl⟩
abbrev cc2_stg5_0 : Ref sig .tc := ⟨.vmem, 16, rfl⟩
abbrev cc2_stg6_0 : Ref sig .tc := ⟨.vmem, 17, rfl⟩
abbrev cc2_stg7_0 : Ref sig .tc := ⟨.vmem, 18, rfl⟩
abbrev cc2_stg7_1 : Ref sig .tc := ⟨.vmem, 19, rfl⟩
abbrev cc2_stg8_0 : Ref sig .tc := ⟨.vmem, 20, rfl⟩
abbrev cc2_stg8_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem3_0 : DmaSem sig := 13
abbrev cc2_sem4_0 : DmaSem sig := 14
abbrev cc2_sem4_1 : DmaSem sig := 15
abbrev cc2_sem5_0 : DmaSem sig := 16
abbrev cc2_sem6_0 : DmaSem sig := 17
abbrev cc2_sem7_0 : DmaSem sig := 18
abbrev cc2_sem7_1 : DmaSem sig := 19
abbrev cc2_sem8_0 : DmaSem sig := 20
abbrev cc2_sem8_1 : DmaSem sig := 21

abbrev nD : Nat := 1
abbrev τ : Topo := Topo.v7x

variable {F : FTy → Type} [FloatOps F]

abbrev grid0 : Pipeline.Grid := ⟨2, ![2, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨2, ![2, 1], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x256x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc2_transform_3 (i : grid2.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x256x2048 .bf16 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x2048x2048 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S512x2048 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S1x2048 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x2048 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S512x2048 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S512x2048 .bf16 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]
-- ==== Reference10Ideal.lean ====
abbrev S2x2x4096x256 : Shape := ⟨4, ![2, 2, 4096, 256]⟩
abbrev S2x4096x2048 : Shape := ⟨3, ![2, 4096, 2048]⟩
abbrev S2x2048x2048 : Shape := ⟨3, ![2, 2048, 2048]⟩
abbrev S2x256x2048 : Shape := ⟨3, ![2, 256, 2048]⟩
abbrev S2x2048 : Shape := ⟨2, ![2, 2048]⟩
abbrev S1x2x4096x256 : Shape := ⟨4, ![1, 2, 4096, 256]⟩
abbrev S2x4096x256 : Shape := ⟨3, ![2, 4096, 256]⟩
abbrev S1x256x2048 : Shape := ⟨3, ![1, 256, 2048]⟩
abbrev S256x2048 : Shape := ⟨2, ![256, 2048]⟩
abbrev S1x2048x2048 : Shape := ⟨3, ![1, 2048, 2048]⟩
abbrev S2048x2048 : Shape := ⟨2, ![2048, 2048]⟩
abbrev S_ : Shape := ⟨0, ![]⟩
abbrev S1x2048 : Shape := ⟨2, ![1, 2048]⟩
abbrev S2048 : Shape := ⟨1, ![2048]⟩
abbrev S2x4096 : Shape := ⟨2, ![2, 4096]⟩
abbrev S2x4096x1 : Shape := ⟨3, ![2, 4096, 1]⟩
abbrev S1x1x2048 : Shape := ⟨3, ![1, 1, 2048]⟩
abbrev S8192x2048 : Shape := ⟨2, ![8192, 2048]⟩

abbrev nBuf : Space → Nat
  | .hbm => 65
  | .vmem => 0
  | .smem => 0
  | _ => 0

abbrev bufTy : (tb : Table) → Fin (tcTables nBuf tb) → BufTy
  | .hbm, ⟨0, _⟩ => ⟨S2x2x4096x256, .f32⟩
  | .hbm, ⟨1, _⟩ => ⟨S2x4096x2048, .bf16⟩
  | .hbm, ⟨2, _⟩ => ⟨S2x4096x2048, .f32⟩
  | .hbm, ⟨3, _⟩ => ⟨S2x2048x2048, .f32⟩
  | .hbm, ⟨4, _⟩ => ⟨S2x256x2048, .f32⟩
  | .hbm, ⟨5, _⟩ => ⟨S2x2048, .f32⟩
  | .hbm, ⟨6, _⟩ => ⟨S2x2048, .f32⟩
  | .hbm, ⟨7, _⟩ => ⟨S1x2x4096x256, .f32⟩
  | .hbm, ⟨8, _⟩ => ⟨S2x4096x256, .f32⟩
  | .hbm, ⟨9, _⟩ => ⟨S1x256x2048, .f32⟩
  | .hbm, ⟨10, _⟩ => ⟨S256x2048, .f32⟩
  | .hbm, ⟨11, _⟩ => ⟨S2x4096x2048, .f32⟩
  | .hbm, ⟨12, _⟩ => ⟨S2x4096x2048, .f32⟩
  | .hbm, ⟨13, _⟩ => ⟨S1x2048x2048, .f32⟩
  | .hbm, ⟨14, _⟩ => ⟨S2048x2048, .f32⟩
  | .hbm, ⟨15, _⟩ => ⟨S2x4096x2048, .f32⟩
  | .hbm, ⟨16, _⟩ => ⟨S2x4096x2048, .f32⟩
  | .hbm, ⟨17, _⟩ => ⟨S2x4096x2048, .f32⟩
  | .hbm, ⟨18, _⟩ => ⟨S_, .f32⟩
  | .hbm, ⟨19, _⟩ => ⟨S2x4096x2048, .f32⟩
  | .hbm, ⟨20, _⟩ => ⟨S2x4096x2048, .f32⟩
  | .hbm, ⟨21, _⟩ => ⟨S_, .f32⟩
  | .hbm, ⟨22, _⟩ => ⟨S2x4096x2048, .f32⟩
  | .hbm, ⟨23, _⟩ => ⟨S2x4096x2048, .f32⟩
  | .hbm, ⟨24, _⟩ => ⟨S2x4096x2048, .f32⟩
  | .hbm, ⟨25, _⟩ => ⟨S1x2048, .f32⟩
  | .hbm, ⟨26, _⟩ => ⟨S2048, .f32⟩
  | .hbm, ⟨27, _⟩ => ⟨S2x4096x2048, .f32⟩
  | .hbm, ⟨28, _⟩ => ⟨S_, .f32⟩
  | .hbm, ⟨29, _⟩ => ⟨S2x4096, .f32⟩
  | .hbm, ⟨30, _⟩ => ⟨S2x4096x1, .f32⟩
  | .hbm, ⟨31, _⟩ => ⟨S_, .f32⟩
  | .hbm, ⟨32, _⟩ => ⟨S2x4096x1, .f32⟩
  | .hbm, ⟨33, _⟩ => ⟨S2x4096x1, .f32⟩
  | .hbm, ⟨34, _⟩ => ⟨S_, .f32⟩
  | .hbm, ⟨35, _⟩ => ⟨S2x4096x1, .f32⟩
  | .hbm, ⟨36, _⟩ => ⟨S2x4096x1, .f32⟩
  | .hbm, ⟨37, _⟩ => ⟨S2x4096x1, .f32⟩
  | .hbm, ⟨38, _⟩ => ⟨S2x4096x2048, .f32⟩
  | .hbm, ⟨39, _⟩ => ⟨S2x4096x2048, .f32⟩
  | .hbm, ⟨40, _⟩ => ⟨S1x1x2048, .f32⟩
  | .hbm, ⟨41, _⟩ => ⟨S2x4096x2048, .f32⟩
  | .hbm, ⟨42, _⟩ => ⟨S2x4096x2048, .f32⟩
  | .hbm, ⟨43, _⟩ => ⟨S2x4096x2048, .f32⟩
  | .hbm, ⟨44, _⟩ => ⟨S8192x2048, .f32⟩
  | .hbm, ⟨45, _⟩ => ⟨S1x2048, .f32⟩
  | .hbm, ⟨46, _⟩ => ⟨S2048, .f32⟩
  | .hbm, ⟨47, _⟩ => ⟨S2x4096x2048, .f32⟩
  | .hbm, ⟨48, _⟩ => ⟨S_, .f32⟩
  | .hbm, ⟨49, _⟩ => ⟨S2x4096, .f32⟩
  | .hbm, ⟨50, _⟩ => ⟨S2x4096x1, .f32⟩
  | .hbm, ⟨51, _⟩ => ⟨S_, .f32⟩
  | .hbm, ⟨52, _⟩ => ⟨S2x4096x1, .f32⟩
  | .hbm, ⟨53, _⟩ => ⟨S2x4096x1, .f32⟩
  | .hbm, ⟨54, _⟩ => ⟨S_, .f32⟩
  | .hbm, ⟨55, _⟩ => ⟨S2x4096x1, .f32⟩
  | .hbm, ⟨56, _⟩ => ⟨S2x4096x1, .f32⟩
  | .hbm, ⟨57, _⟩ => ⟨S2x4096x1, .f32⟩
  | .hbm, ⟨58, _⟩ => ⟨S2x4096x2048, .f32⟩
  | .hbm, ⟨59, _⟩ => ⟨S2x4096x2048, .f32⟩
  | .hbm, ⟨60, _⟩ => ⟨S1x1x2048, .f32⟩
  | .hbm, ⟨61, _⟩ => ⟨S2x4096x2048, .f32⟩
  | .hbm, ⟨62, _⟩ => ⟨S2x4096x2048, .f32⟩
  | .hbm, ⟨63, _⟩ => ⟨S8192x2048, .f32⟩
  | .hbm, ⟨64, _⟩ => ⟨S8192x2048, .bf16⟩
  | _, _ => ⟨S2x2x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_1 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_4 : Ref sig .tc := ⟨.hbm, 48, rfl⟩
abbrev main_v36 : Ref sig .tc := ⟨.hbm, 49, rfl⟩
abbrev main_v37 : Ref sig .tc := ⟨.hbm, 50, rfl⟩
abbrev main_cst_5 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩

abbrev nD : Nat := 1
abbrev τ : Topo := Topo.v7x

variable {F : FTy → Type} [FloatOps F]
-- ==== Kernel2.lean ====
abbrev S2x4096x6144 : Shape := ⟨3, ![2, 4096, 6144]⟩
abbrev S2x4096x128 : Shape := ⟨3, ![2, 4096, 128]⟩
abbrev S2x4096x8 : Shape := ⟨3, ![2, 4096, 8]⟩
abbrev S2x8x4096 : Shape := ⟨3, ![2, 8, 4096]⟩
abbrev S2x8x1x4096 : Shape := ⟨4, ![2, 8, 1, 4096]⟩
abbrev S2x4096x1024 : Shape := ⟨3, ![2, 4096, 1024]⟩
abbrev S1x1024x128 : Shape := ⟨3, ![1, 1024, 128]⟩
abbrev S1x4096x128 : Shape := ⟨3, ![1, 4096, 128]⟩
abbrev S1x1x1x4096 : Shape := ⟨4, ![1, 1, 1, 4096]⟩
abbrev S1024x128 : Shape := ⟨2, ![1024, 128]⟩
abbrev S1x1x1x128 : Shape := ⟨4, ![1, 1, 1, 128]⟩
abbrev S1x128 : Shape := ⟨2, ![1, 128]⟩
abbrev S1x1 : Shape := ⟨2, ![1, 1]⟩
abbrev S1024x1 : Shape := ⟨2, ![1024, 1]⟩
abbrev S1x512x128 : Shape := ⟨3, ![1, 512, 128]⟩
abbrev S512x128 : Shape := ⟨2, ![512, 128]⟩
abbrev S1024x512 : Shape := ⟨2, ![1024, 512]⟩
abbrev S1x1x1x512 : Shape := ⟨4, ![1, 1, 1, 512]⟩
abbrev S1x512 : Shape := ⟨2, ![1, 512]⟩
abbrev S1024 : Shape := ⟨1, ![1024]⟩
abbrev S512x1 : Shape := ⟨2, ![512, 1]⟩
abbrev S512x512 : Shape := ⟨2, ![512, 512]⟩
abbrev S512 : Shape := ⟨1, ![512]⟩

abbrev nBuf : Space → Nat
  | .hbm => 6
  | .vmem => 10
  | .smem => 0
  | _ => 0

abbrev bufTy : (tb : Table) → Fin (tcTables nBuf tb) → BufTy
  | .hbm, ⟨0, _⟩ => ⟨S2x4096x6144, .bf16⟩
  | .hbm, ⟨1, _⟩ => ⟨S2x4096x128, .f32⟩
  | .hbm, ⟨2, _⟩ => ⟨S2x4096x8, .f32⟩
  | .hbm, ⟨3, _⟩ => ⟨S2x8x4096, .f32⟩
  | .hbm, ⟨4, _⟩ => ⟨S2x8x1x4096, .f32⟩
  | .hbm, ⟨5, _⟩ => ⟨S2x4096x1024, .bf16⟩
  | .local _ .vmem, ⟨0, _⟩ => ⟨S1x1024x128, .bf16⟩
  | .local _ .vmem, ⟨1, _⟩ => ⟨S1x1024x128, .bf16⟩
  | .local _ .vmem, ⟨2, _⟩ => ⟨S1x4096x128, .bf16⟩
  | .local _ .vmem, ⟨3, _⟩ => ⟨S1x4096x128, .bf16⟩
  | .local _ .vmem, ⟨4, _⟩ => ⟨S1x4096x128, .bf16⟩
  | .local _ .vmem, ⟨5, _⟩ => ⟨S1x4096x128, .bf16⟩
  | .local _ .vmem, ⟨6, _⟩ => ⟨S1x1x1x4096, .f32⟩
  | .local _ .vmem, ⟨7, _⟩ => ⟨S1x1x1x4096, .f32⟩
  | .local _ .vmem, ⟨8, _⟩ => ⟨S1x1024x128, .bf16⟩
  | .local _ .vmem, ⟨9, _⟩ => ⟨S1x1024x128, .bf16⟩
  | _, _ => ⟨S2x4096x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 8, 4], ![false, false, false]⟩

def k0_mult1 (i : grid0.Coords) : BitVec 32 :=
  let arg2 : BitVec 32 := BitVec.ofNat 32 (i 2).val
  let c1024_i32 : BitVec 32 := 1024#32
  let v2 : BitVec 32 := Scalar.muli arg2 c1024_i32
  v2
def k0_off1 (i : grid0.Coords) : Fin 4 → Nat :=
  let c0_2 : Index := 0#32
  let c0_3 : Index := 0#32
  let c0_4 : Index := 0#32
  let arg2 : BitVec 32 := BitVec.ofNat 32 (i 2).val
  let c1024_i32 : BitVec 32 := 1024#32
  let v2 : BitVec 32 := Scalar.muli arg2 c1024_i32
  let v3 : BitVec 32 := v2
  let v4 : Index := Scalar.indexCast v3
  ![0, 0, 0, v4.toNat]
@[reducible] def k0_t1_loop (i : grid0.Coords) : Scf.Loop 32 :=
  let c0_i32 : BitVec 32 := 0#32
  let c2_i32 : BitVec 32 := 2#32
  let arg2 : BitVec 32 := BitVec.ofNat 32 (i 2).val
  let v11 : BitVec 32 := Scalar.muli c2_i32 arg2
  let v12 : BitVec 32 := Scalar.subi v11 c0_i32
  let c1_i32 : BitVec 32 := 1#32
  let v14 : BitVec 32 := Scalar.divsi v12 c1_i32
  let v15 : BitVec 32 := Scalar.muli v14 c1_i32
  let v16 : BitVec 32 := Scalar.addi c0_i32 v15
  let c1_i32_7 : BitVec 32 := 1#32
  ⟨c0_i32, v16, c1_i32_7⟩
def k0_mult2 (i : grid0.Coords) (k0_t1 : Fin (k0_t1_loop i).trips) : BitVec 32 :=
  let c0_i32 : BitVec 32 := 0#32
  let c1_i32_7 : BitVec 32 := 1#32
  let arg8 : BitVec 32 := Scf.iv c0_i32 c1_i32_7 k0_t1
  let c512_i32_62 : BitVec 32 := 512#32
  let v163 : BitVec 32 := Scalar.muli arg8 c512_i32_62
  v163
def k0_off2 (i : grid0.Coords) (k0_t1 : Fin (k0_t1_loop i).trips) : Fin 3 → Nat :=
  let c0_63 : Index := 0#32
  let c0_i32 : BitVec 32 := 0#32
  let c1_i32_7 : BitVec 32 := 1#32
  let arg8 : BitVec 32 := Scf.iv c0_i32 c1_i32_7 k0_t1
  let c512_i32_62 : BitVec 32 := 512#32
  let v163 : BitVec 32 := Scalar.muli arg8 c512_i32_62
  let v164 : BitVec 32 := v163
  let v165 : Index := Scalar.indexCast v164
  let c0_64 : Index := 0#32
  ![0, v165.toNat, 0]
def k0_off3 (i : grid0.Coords) (k0_t1 : Fin (k0_t1_loop i).trips) : Fin 4 → Nat :=
  let c0_66 : Index := 0#32
  let c0_67 : Index := 0#32
  let c0_68 : Index := 0#32
  let c0_i32 : BitVec 32 := 0#32
  let c1_i32_7 : BitVec 32 := 1#32
  let arg8 : BitVec 32 := Scf.iv c0_i32 c1_i32_7 k0_t1
  let c512_i32_62 : BitVec 32 := 512#32
  let v163 : BitVec 32 := Scalar.muli arg8 c512_i32_62
  let v164 : BitVec 32 := v163
  let v169 : Index := Scalar.indexCast v164
  ![0, 0, 0, v169.toNat]
def k0_mult3 (i : grid0.Coords) (k0_t1 : Fin (k0_t1_loop i).trips) : BitVec 32 :=
  let c0_i32 : BitVec 32 := 0#32
  let c1_i32_7 : BitVec 32 := 1#32
  let arg8 : BitVec 32 := Scf.iv c0_i32 c1_i32_7 k0_t1
  let c512_i32_69 : BitVec 32 := 512#32
  let v176 : BitVec 32 := Scalar.muli arg8 c512_i32_69
  v176
@[reducible] def k0_t2_loop (i : grid0.Coords) : Scf.Loop 32 :=
  let c0_i32 : BitVec 32 := 0#32
  let c2_i32 : BitVec 32 := 2#32
  let arg2 : BitVec 32 := BitVec.ofNat 32 (i 2).val
  let v11 : BitVec 32 := Scalar.muli c2_i32 arg2
  let v12 : BitVec 32 := Scalar.subi v11 c0_i32
  let c1_i32 : BitVec 32 := 1#32
  let v14 : BitVec 32 := Scalar.divsi v12 c1_i32
  let v15 : BitVec 32 := Scalar.muli v14 c1_i32
  let v16 : BitVec 32 := Scalar.addi c0_i32 v15
  let v13 : BitVec 32 := Scalar.addi c0_i32 v12
  let c1_i32_8 : BitVec 32 := 1#32
  ⟨v16, v13, c1_i32_8⟩
def k0_mult4 (i : grid0.Coords) (k0_t2 : Fin (k0_t2_loop i).trips) : BitVec 32 :=
  let c0_i32 : BitVec 32 := 0#32
  let c2_i32 : BitVec 32 := 2#32
  let arg2 : BitVec 32 := BitVec.ofNat 32 (i 2).val
  let v11 : BitVec 32 := Scalar.muli c2_i32 arg2
  let v12 : BitVec 32 := Scalar.subi v11 c0_i32
  let c1_i32 : BitVec 32 := 1#32
  let v14 : BitVec 32 := Scalar.divsi v12 c1_i32
  let v15 : BitVec 32 := Scalar.muli v14 c1_i32
  let v16 : BitVec 32 := Scalar.addi c0_i32 v15
  let c1_i32_8 : BitVec 32 := 1#32
  let arg8 : BitVec 32 := Scf.iv v16 c1_i32_8 k0_t2
  let c512_i32_62 : BitVec 32 := 512#32
  let v163 : BitVec 32 := Scalar.muli arg8 c512_i32_62
  v163
def k0_off4 (i : grid0.Coords) (k0_t2 : Fin (k0_t2_loop i).trips) : Fin 3 → Nat :=
  let c0_63 : Index := 0#32
  let c0_i32 : BitVec 32 := 0#32
  let c2_i32 : BitVec 32 := 2#32
  let arg2 : BitVec 32 := BitVec.ofNat 32 (i 2).val
  let v11 : BitVec 32 := Scalar.muli c2_i32 arg2
  let v12 : BitVec 32 := Scalar.subi v11 c0_i32
  let c1_i32 : BitVec 32 := 1#32
  let v14 : BitVec 32 := Scalar.divsi v12 c1_i32
  let v15 : BitVec 32 := Scalar.muli v14 c1_i32
  let v16 : BitVec 32 := Scalar.addi c0_i32 v15
  let c1_i32_8 : BitVec 32 := 1#32
  let arg8 : BitVec 32 := Scf.iv v16 c1_i32_8 k0_t2
  let c512_i32_62 : BitVec 32 := 512#32
  let v163 : BitVec 32 := Scalar.muli arg8 c512_i32_62
  let v164 : BitVec 32 := v163
  let v165 : Index := Scalar.indexCast v164
  let c0_64 : Index := 0#32
  ![0, v165.toNat, 0]
def k0_off5 (i : grid0.Coords) (k0_t2 : Fin (k0_t2_loop i).trips) : Fin 4 → Nat :=
  let c0_66 : Index := 0#32
  let c0_67 : Index := 0#32
  let c0_68 : Index := 0#32
  let c0_i32 : BitVec 32 := 0#32
  let c2_i32 : BitVec 32 := 2#32
  let arg2 : BitVec 32 := BitVec.ofNat 32 (i 2).val
  let v11 : BitVec 32 := Scalar.muli c2_i32 arg2
  let v12 : BitVec 32 := Scalar.subi v11 c0_i32
  let c1_i32 : BitVec 32 := 1#32
  let v14 : BitVec 32 := Scalar.divsi v12 c1_i32
  let v15 : BitVec 32 := Scalar.muli v14 c1_i32
  let v16 : BitVec 32 := Scalar.addi c0_i32 v15
  let c1_i32_8 : BitVec 32 := 1#32
  let arg8 : BitVec 32 := Scf.iv v16 c1_i32_8 k0_t2
  let c512_i32_62 : BitVec 32 := 512#32
  let v163 : BitVec 32 := Scalar.muli arg8 c512_i32_62
  let v164 : BitVec 32 := v163
  let v169 : Index := Scalar.indexCast v164
  ![0, 0, 0, v169.toNat]
def k0_mult5 (i : grid0.Coords) (k0_t2 : Fin (k0_t2_loop i).trips) : BitVec 32 :=
  let c0_i32 : BitVec 32 := 0#32
  let c2_i32 : BitVec 32 := 2#32
  let arg2 : BitVec 32 := BitVec.ofNat 32 (i 2).val
  let v11 : BitVec 32 := Scalar.muli c2_i32 arg2
  let v12 : BitVec 32 := Scalar.subi v11 c0_i32
  let c1_i32 : BitVec 32 := 1#32
  let v14 : BitVec 32 := Scalar.divsi v12 c1_i32
  let v15 : BitVec 32 := Scalar.muli v14 c1_i32
  let v16 : BitVec 32 := Scalar.addi c0_i32 v15
  let c1_i32_8 : BitVec 32 := 1#32
  let arg8 : BitVec 32 := Scf.iv v16 c1_i32_8 k0_t2
  let c512_i32_69 : BitVec 32 := 512#32
  let v176 : BitVec 32 := Scalar.muli arg8 c512_i32_69
  v176
def k0_mult6 (i : grid0.Coords) : BitVec 32 :=
  let c2_i32_10 : BitVec 32 := 2#32
  let arg2 : BitVec 32 := BitVec.ofNat 32 (i 2).val
  let v27 : BitVec 32 := Scalar.muli c2_i32_10 arg2
  let c512_i32 : BitVec 32 := 512#32
  let v28 : BitVec 32 := Scalar.muli v27 c512_i32
  v28
def k0_off6 (i : grid0.Coords) : Fin 3 → Nat :=
  let c0_11 : Index := 0#32
  let c2_i32_10 : BitVec 32 := 2#32
  let arg2 : BitVec 32 := BitVec.ofNat 32 (i 2).val
  let v27 : BitVec 32 := Scalar.muli c2_i32_10 arg2
  let c512_i32 : BitVec 32 := 512#32
  let v28 : BitVec 32 := Scalar.muli v27 c512_i32
  let v29 : BitVec 32 := v28
  let v30 : Index := Scalar.indexCast v29
  let c0_12 : Index := 0#32
  ![0, v30.toNat, 0]
def k0_off7 (i : grid0.Coords) : Fin 4 → Nat :=
  let c0_14 : Index := 0#32
  let c0_15 : Index := 0#32
  let c0_16 : Index := 0#32
  let c2_i32_10 : BitVec 32 := 2#32
  let arg2 : BitVec 32 := BitVec.ofNat 32 (i 2).val
  let v27 : BitVec 32 := Scalar.muli c2_i32_10 arg2
  let c512_i32 : BitVec 32 := 512#32
  let v28 : BitVec 32 := Scalar.muli v27 c512_i32
  let v29 : BitVec 32 := v28
  let v34 : Index := Scalar.indexCast v29
  ![0, 0, 0, v34.toNat]
def k0_mult7 (i : grid0.Coords) : BitVec 32 :=
  let c2_i32_9 : BitVec 32 := 2#32
  let arg2 : BitVec 32 := BitVec.ofNat 32 (i 2).val
  let v25 : BitVec 32 := Scalar.muli c2_i32_9 arg2
  let c512_i32_17 : BitVec 32 := 512#32
  let v41 : BitVec 32 := Scalar.muli v25 c512_i32_17
  v41
def k0_mult8 (i : grid0.Coords) : BitVec 32 :=
  let c2_i32_25 : BitVec 32 := 2#32
  let arg2 : BitVec 32 := BitVec.ofNat 32 (i 2).val
  let v70 : BitVec 32 := Scalar.muli c2_i32_25 arg2
  let c512_i32_26 : BitVec 32 := 512#32
  let v71 : BitVec 32 := Scalar.muli v70 c512_i32_26
  v71
def k0_mult9 (i : grid0.Coords) : BitVec 32 :=
  let c2_i32_24 : BitVec 32 := 2#32
  let arg2 : BitVec 32 := BitVec.ofNat 32 (i 2).val
  let v68 : BitVec 32 := Scalar.muli c2_i32_24 arg2
  let c512_i32_33 : BitVec 32 := 512#32
  let v84 : BitVec 32 := Scalar.muli v68 c512_i32_33
  v84
def k0_mult10 (i : grid0.Coords) : BitVec 32 :=
  let c2_i32_41 : BitVec 32 := 2#32
  let arg2 : BitVec 32 := BitVec.ofNat 32 (i 2).val
  let v109 : BitVec 32 := Scalar.muli c2_i32_41 arg2
  let c1_i32_42 : BitVec 32 := 1#32
  let v110 : BitVec 32 := Scalar.addi v109 c1_i32_42
  let c512_i32_43 : BitVec 32 := 512#32
  let v111 : BitVec 32 := Scalar.muli v110 c512_i32_43
  v111
def k0_off8 (i : grid0.Coords) : Fin 3 → Nat :=
  let c0_44 : Index := 0#32
  let c2_i32_41 : BitVec 32 := 2#32
  let arg2 : BitVec 32 := BitVec.ofNat 32 (i 2).val
  let v109 : BitVec 32 := Scalar.muli c2_i32_41 arg2
  let c1_i32_42 : BitVec 32 := 1#32
  let v110 : BitVec 32 := Scalar.addi v109 c1_i32_42
  let c512_i32_43 : BitVec 32 := 512#32
  let v111 : BitVec 32 := Scalar.muli v110 c512_i32_43
  let v112 : BitVec 32 := v111
  let v113 : Index := Scalar.indexCast v112
  let c0_45 : Index := 0#32
  ![0, v113.toNat, 0]
def k0_off9 (i : grid0.Coords) : Fin 4 → Nat :=
  let c0_47 : Index := 0#32
  let c0_48 : Index := 0#32
  let c0_49 : Index := 0#32
  let c2_i32_41 : BitVec 32 := 2#32
  let arg2 : BitVec 32 := BitVec.ofNat 32 (i 2).val
  let v109 : BitVec 32 := Scalar.muli c2_i32_41 arg2
  let c1_i32_42 : BitVec 32 := 1#32
  let v110 : BitVec 32 := Scalar.addi v109 c1_i32_42
  let c512_i32_43 : BitVec 32 := 512#32
  let v111 : BitVec 32 := Scalar.muli v110 c512_i32_43
  let v112 : BitVec 32 := v111
  let v117 : Index := Scalar.indexCast v112
  ![0, 0, 0, v117.toNat]
def k0_mult11 (i : grid0.Coords) : BitVec 32 :=
  let c2_i32_39 : BitVec 32 := 2#32
  let arg2 : BitVec 32 := BitVec.ofNat 32 (i 2).val
  let v106 : BitVec 32 := Scalar.muli c2_i32_39 arg2
  let c1_i32_40 : BitVec 32 := 1#32
  let v107 : BitVec 32 := Scalar.addi v106 c1_i32_40
  let c512_i32_50 : BitVec 32 := 512#32
  let v124 : BitVec 32 := Scalar.muli v107 c512_i32_50
  v124
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![arg0.toNat, c0_i32.toNat, v0.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x1024x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== Kernel2Ideal.lean ====
variable {F : FTy → Type} [FloatOps F] [Named F]
def κ : String → Option EReal := fun
  | "mask" => some ⊥
  | _ => none
-- ==== Reference2Ideal.lean ====
abbrev S2x4096x6144 : Shape := ⟨3, ![2, 4096, 6144]⟩
abbrev S2x4096x128 : Shape := ⟨3, ![2, 4096, 128]⟩
abbrev S2x4096x1024 : Shape := ⟨3, ![2, 4096, 1024]⟩
abbrev S2x4096x8x128 : Shape := ⟨4, ![2, 4096, 8, 128]⟩
abbrev S2x8x4096x128 : Shape := ⟨4, ![2, 8, 4096, 128]⟩
abbrev S2x4096x8 : Shape := ⟨3, ![2, 4096, 8]⟩
abbrev S2x8x4096 : Shape := ⟨3, ![2, 8, 4096]⟩
abbrev S2x8x4096x4096 : Shape := ⟨4, ![2, 8, 4096, 4096]⟩
abbrev S2x8x4096x1 : Shape := ⟨4, ![2, 8, 4096, 1]⟩
abbrev S2x8x1x4096 : Shape := ⟨4, ![2, 8, 1, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩

abbrev nBuf : Space → Nat
  | .hbm => 55
  | .vmem => 0
  | .smem => 0
  | _ => 0

abbrev bufTy : (tb : Table) → Fin (tcTables nBuf tb) → BufTy
  | .hbm, ⟨0, _⟩ => ⟨S2x4096x6144, .bf16⟩
  | .hbm, ⟨1, _⟩ => ⟨S2x4096x128, .f32⟩
  | .hbm, ⟨2, _⟩ => ⟨S2x4096x6144, .f32⟩
  | .hbm, ⟨3, _⟩ => ⟨S2x4096x1024, .f32⟩
  | .hbm, ⟨4, _⟩ => ⟨S2x4096x8x128, .f32⟩
  | .hbm, ⟨5, _⟩ => ⟨S2x8x4096x128, .f32⟩
  | .hbm, ⟨6, _⟩ => ⟨S2x4096x1024, .f32⟩
  | .hbm, ⟨7, _⟩ => ⟨S2x4096x8x128, .f32⟩
  | .hbm, ⟨8, _⟩ => ⟨S2x8x4096x128, .f32⟩
  | .hbm, ⟨9, _⟩ => ⟨S2x4096x1024, .f32⟩
  | .hbm, ⟨10, _⟩ => ⟨S2x4096x8x128, .f32⟩
  | .hbm, ⟨11, _⟩ => ⟨S2x8x4096x128, .f32⟩
  | .hbm, ⟨12, _⟩ => ⟨S2x4096x8, .f32⟩
  | .hbm, ⟨13, _⟩ => ⟨S2x8x4096, .f32⟩
  | .hbm, ⟨14, _⟩ => ⟨S2x8x4096x4096, .f32⟩
  | .hbm, ⟨15, _⟩ => ⟨S2x8x4096x1, .f32⟩
  | .hbm, ⟨16, _⟩ => ⟨S2x8x4096x4096, .f32⟩
  | .hbm, ⟨17, _⟩ => ⟨S2x8x4096x4096, .f32⟩
  | .hbm, ⟨18, _⟩ => ⟨S2x8x1x4096, .f32⟩
  | .hbm, ⟨19, _⟩ => ⟨S2x8x4096x4096, .f32⟩
  | .hbm, ⟨20, _⟩ => ⟨S2x8x4096x4096, .f32⟩
  | .hbm, ⟨21, _⟩ => ⟨S_, .f32⟩
  | .hbm, ⟨22, _⟩ => ⟨S_, .f32⟩
  | .hbm, ⟨23, _⟩ => ⟨S2x8x4096x4096, .f32⟩
  | .hbm, ⟨24, _⟩ => ⟨S2x8x4096x4096, .f32⟩
  | .hbm, ⟨25, _⟩ => ⟨S4096, .i32⟩
  | .hbm, ⟨26, _⟩ => ⟨S4096x1, .i32⟩
  | .hbm, ⟨27, _⟩ => ⟨S4096, .i32⟩
  | .hbm, ⟨28, _⟩ => ⟨S1x4096, .i32⟩
  | .hbm, ⟨29, _⟩ => ⟨S4096x4096, .i32⟩
  | .hbm, ⟨30, _⟩ => ⟨S4096x4096, .i32⟩
  | .hbm, ⟨31, _⟩ => ⟨S4096x4096, .i1⟩
  | .hbm, ⟨32, _⟩ => ⟨S_, .f32⟩
  | .hbm, ⟨33, _⟩ => ⟨S_, .f32⟩
  | .hbm, ⟨34, _⟩ => ⟨S2x8x4096x4096, .i1⟩
  | .hbm, ⟨35, _⟩ => ⟨S2x8x4096x4096, .f32⟩
  | .hbm, ⟨36, _⟩ => ⟨S2x8x4096x4096, .f32⟩
  | .hbm, ⟨37, _⟩ => ⟨S_, .f32⟩
  | .hbm, ⟨38, _⟩ => ⟨S2x8x4096, .f32⟩
  | .hbm, ⟨39, _⟩ => ⟨S_, .f32⟩
  | .hbm, ⟨40, _⟩ => ⟨S2x8x4096, .f32⟩
  | .hbm, ⟨41, _⟩ => ⟨S2x8x4096, .f32⟩
  | .hbm, ⟨42, _⟩ => ⟨S2x8x4096x1, .f32⟩
  | .hbm, ⟨43, _⟩ => ⟨S2x8x4096x4096, .f32⟩
  | .hbm, ⟨44, _⟩ => ⟨S2x8x4096x4096, .f32⟩
  | .hbm, ⟨45, _⟩ => ⟨S2x8x4096x4096, .f32⟩
  | .hbm, ⟨46, _⟩ => ⟨S_, .f32⟩
  | .hbm, ⟨47, _⟩ => ⟨S2x8x4096, .f32⟩
  | .hbm, ⟨48, _⟩ => ⟨S2x8x4096x1, .f32⟩
  | .hbm, ⟨49, _⟩ => ⟨S2x8x4096x4096, .f32⟩
  | .hbm, ⟨50, _⟩ => ⟨S2x8x4096x4096, .f32⟩
  | .hbm, ⟨51, _⟩ => ⟨S2x8x4096x128, .f32⟩
  | .hbm, ⟨52, _⟩ => ⟨S2x4096x8x128, .f32⟩
  | .hbm, ⟨53, _⟩ => ⟨S2x4096x1024, .f32⟩
  | .hbm, ⟨54, _⟩ => ⟨S2x4096x1024, .bf16⟩
  | _, _ => ⟨S2x4096x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_cst : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_cst_0 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v29 : Ref sig .tc := ⟨.hbm, 36, rfl⟩
abbrev main_cst_1 : Ref sig .tc := ⟨.hbm, 37, rfl⟩
abbrev main_v30 : Ref sig .tc := ⟨.hbm, 38, rfl⟩
abbrev main_cst_2 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_3 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩

abbrev nD : Nat := 1
abbrev τ : Topo := Topo.v7x

variable {F : FTy → Type} [FloatOps F]

def κ : String → Option EReal := fun
  | "mask" => some ⊥
  | _ => none
-- ==== Proof.Run.lean ====
module

public import proofs.«01_k».proof.Defs
public import proofs.«01_k».proof.Proof.Gen.KernelIdeal.Frame
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

open Idealize.ShloMosaic.Tactic Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode

namespace Cert.KernelIdeal.InProj

open Cert.KernelIdeal Cert.KernelIdeal.Gen

variable {F : FTy → Type} [FloatOps F] [Named F]
local notation "𝕄" => MT nD τ sig Unit (Elt F) ℕ (UR sig nD τ) ℕ

variable (m : (ℓ : Loc nD τ sig) → Buf (Elt F) ℓ) (ρ : Dev nD → PrngReg)

/-- The launch ends with both results at the last boundary's contents and the arguments unchanged. -/
theorem launch : θ_run defs (onTc (τ := τ) (main (F := F))) ⟨m, fun _ => 0, ρ⟩ (fun r => ∀ c : Dev nD,
      r.2.mem ((c.tc : Thread nD τ).loc main_v8) = W7 m ρ c (Proc.devRef .tc main_v8)
      ∧ r.2.mem ((c.tc : Thread nD τ).loc main_v9) = W7 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => (fun c =>
      ⟨h c _ (mem_uc main_v8 (by decide)), h c _ (mem_uc main_v9 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c)⟩))

end Cert.KernelIdeal.InProj

end
-- ==== Proof.Regroup.lean ====
module

public import proofs.«01_k».proof.Defs
public import proofs.«01_k».proof.Proof.Gen.KernelIdeal.Frame
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.KernelIdeal.InProj

open Cert.KernelIdeal Cert.KernelIdeal.Gen

variable (V : (c : Dev nD) → (b : Ref sig .tc) → Buf (Elt Ideal) ((c : Thread nD τ).loc b))

/-- How many rows of the projection matrix lie before row `n` of the regrouped one beyond `n` itself: the
    eight forget-gate rows from row 3072 on, and those and the second gate section's 1024 rows from 4096 on. -/
def skip (n : Nat) : Nat := if n < 3072 then 0 else if n < 4096 then 8 else 1032

/-- The regrouped matrix: the sections' rows one after the other, the first 1024 scaled. -/
def wA (X : Vec Ideal S2x7176x2048 .f32) : Vec Ideal S2x6144x2048 .bf16 := fun i =>
  X (ix3 (i 0) ⟨(i 1).val + skip (i 1).val, by
      have h : (i 1).val < 6144 := (i 1).isLt
      show _ < 7176
      unfold skip; split_ifs <;> omega⟩ (i 2))
    * (if (i 1).val < 1024 then (Named.named (F := Ideal) (φ := .f32) κ "q_scale" 0x3E0293EE#32 : EReal) else (1 : EReal))

/-- The block geometry of the regrouping, checked at its twelve points. -/
theorem geo0 : ∀ t : Fin grid0.N, win0_0.index t 0 = win0_1.index t 0
    ∧ win0_0.index t 1 = win0_1.index t 1 * 1024 + skip (win0_1.index t 1 * 1024)
    ∧ win0_0.index t 2 = 0 ∧ win0_1.index t 2 = 0 ∧ win0_1.index t 1 < 6
    ∧ (grid0.coords t 1).val = win0_1.index t 1 := by decide +kernel

/-- What one point stores, at an index. -/
theorem pay0_apply (i : grid0.Coords) (v : Vec Ideal S1x1024x2048 .f32) (a : Fin 1) (b : Fin 1024) (k : Fin 2048) :
    k0_pay1 i v (ix3 a b k) = v (ix3 0 b k) * (if (i 1).val = 0 then (Named.named (F := Ideal) (φ := .f32) κ "q_scale" 0x3E0293EE#32 : EReal) else (1 : EReal)) := by
  pointwise [k0_pay1]
  congr 1
  generalize hn : (i 1).val = n
  have hlt : n < 6 := hn ▸ (i 1).isLt
  interval_cases n <;> rfl

/-- An element-indexed block read at an index is the array read at the block's offset and that index. -/
theorem blk0_apply (c : Dev nD) (t : Fin grid0.N) (b : Fin 1024) (k : Fin 2048) (i : S2x7176x2048.Idx)
    (h0 : (i 0).val = win0_0.index t 0) (h1 : (i 1).val = win0_0.index t 1 + b.val) (h2 : (i 2).val = win0_0.index t 2 + k.val) :
    iblk0 V c 0 t (ix3 0 b k) = V c main_v0 i := by
  unfold iblk0
  show V c main_v0 (((View.whole main_v0).slice (win0_0.rect t)).emb _) = _
  congr 1
  funext a
  apply Fin.ext
  match a with
  | ⟨0, _⟩ => refine Eq.trans ?_ h0.symm; show win0_0.index t 0 + 1 * 0 = _; omega
  | ⟨1, _⟩ => refine Eq.trans ?_ h1.symm; show win0_0.index t 1 + 1 * b.val = _; omega
  | ⟨2, _⟩ => refine Eq.trans ?_ h2.symm; show win0_0.index t 2 + 1 * k.val = _; omega

/-- A block's rows are shifted together. -/
theorem skip_add (b : Nat) (hb : b < 6) (n : Nat) (hn : n < 1024) : skip (b * 1024 + n) = skip (b * 1024) := by
  unfold skip; split_ifs <;> omega

/-- After the regrouping's run its result array is the regrouped matrix. -/
theorem final0 (c : Dev nD) : (dat0 V c).arrAt 1 cfg0.N = wA (V c main_v0) := by
  refine (dat0 V c).arrAt_eq_of_covers 1 _ (by decide +kernel) fun t hf y => ?_
  blk_simp
  rw [after0_1]
  frame_out
  idx_vars y
  obtain ⟨g0, g1, g2, g3, g4, g5⟩ := geo0 t
  have e0 : ((((View.whole main_v1).slice (win0_1.rect t)).emb (ix3 y0 y1 y2) : S2x6144x2048.Idx) 0).val = win0_1.index t 0 := by
    blk_simp
  have e1 : ((((View.whole main_v1).slice (win0_1.rect t)).emb (ix3 y0 y1 y2) : S2x6144x2048.Idx) 1).val = win0_1.index t 1 * 1024 + y1.val := by
    blk_simp
  have e2 : ((((View.whole main_v1).slice (win0_1.rect t)).emb (ix3 y0 y1 y2) : S2x6144x2048.Idx) 2).val = y2.val := by
    blk_simp; omega
  generalize (((View.whole main_v1).slice (win0_1.rect t)).emb (ix3 y0 y1 y2) : S2x6144x2048.Idx) = j at e0 e1 e2 ⊢
  rw [pay0_apply, g5, wA]
  have hs := skip_add _ g4 y1.val y1.isLt
  have hy := y1.isLt
  congr 1
  · refine blk0_apply V c t y1 y2 _ ?_ ?_ ?_
    · show (j 0).val = _; omega
    · show (j 1).val + skip (j 1).val = _; rw [e1, hs]; omega
    · show (j 2).val = _; omega
  · rw [e1]
    by_cases h : win0_1.index t 1 = 0
    · rw [if_pos h, if_pos (by omega)]
    · rw [if_neg h, if_neg (by omega)]

end Cert.KernelIdeal.InProj

end
-- ==== Proof.Gates.lean ====
module

public import proofs.«01_k».proof.Defs
public import proofs.«01_k».proof.Proof.Gen.KernelIdeal.Frame
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.KernelIdeal.InProj

open Cert.KernelIdeal Cert.KernelIdeal.Gen

variable (V : (c : Dev nD) → (b : Ref sig .tc) → Buf (Elt Ideal) ((c : Thread nD τ).loc b))

/-- The gate matrix: the second gate section's 1024 rows, the eight forget-gate rows, then zero rows. -/
def wF (X : Vec Ideal S2x7176x2048 .f32) : Vec Ideal S2x1152x2048 .bf16 := fun i =>
  if h : (i 1).val < 1024 then X (ix3 (i 0) ⟨4104 + (i 1).val, by show _ < 7176; omega⟩ (i 2))
  else if h2 : (i 1).val < 1032 then X (ix3 (i 0) ⟨2048 + (i 1).val, by show _ < 7176; omega⟩ (i 2)) else 0

/-- The block geometry, checked at the two points. -/
theorem geo1 : ∀ t : Fin grid1.N, win1_0.index t = ![t.val, 4104, 0] ∧ win1_1.index t = ![t.val, 3072, 0]
    ∧ win1_2.index t = ![t.val, 0, 0] := by decide +kernel

/-- The first store's payload, at an index. -/
theorem pay1_apply (v : Vec Ideal S1x1024x2048 .f32) (a : Fin 1) (b : Fin 1024) (k : Fin 2048) :
    k1_pay1 v (ix3 a b k) = v (ix3 0 b k) := by
  pointwise [k1_pay1]

/-- The second store's payload, at an index: the eight rows, then zeros. -/
theorem pay2_apply (v : Vec Ideal S1x8x2048 .f32) (a : Fin 1) (b : Fin 128) (k : Fin 2048) :
    k1_pay2 v (ix3 a b k) = if h : b.val < 8 then v (ix3 0 ⟨b.val, h⟩ k) else 0 := by
  pointwise [k1_pay2]

/-- The gate section's block read at an index. -/
theorem blk10_apply (c : Dev nD) (t : Fin grid1.N) (b : Fin 1024) (k : Fin 2048) (i : S2x7176x2048.Idx)
    (h0 : (i 0).val = t.val) (h1 : (i 1).val = 4104 + b.val) (h2 : (i 2).val = k.val) :
    iblk1 V c 0 t (ix3 0 b k) = V c main_v0 i := by
  have g := (geo1 t).1
  unfold iblk1
  show V c main_v0 (((View.whole main_v0).slice (win1_0.rect t)).emb _) = _
  congr 1
  funext a
  apply Fin.ext
  match a with
  | ⟨0, _⟩ => refine Eq.trans ?_ h0.symm; show win1_0.index t 0 + 1 * 0 = _; rw [g]; show t.val + 1 * 0 = _; omega
  | ⟨1, _⟩ => refine Eq.trans ?_ h1.symm; show win1_0.index t 1 + 1 * b.val = _; rw [g]; show 4104 + 1 * b.val = _; omega
  | ⟨2, _⟩ => refine Eq.trans ?_ h2.symm; show win1_0.index t 2 + 1 * k.val = _; rw [g]; show 0 + 1 * k.val = _; omega

/-- The forget gates' block read at an index. -/
theorem blk11_apply (c : Dev nD) (t : Fin grid1.N) (b : Fin 8) (k : Fin 2048) (i : S2x7176x2048.Idx)
    (h0 : (i 0).val = t.val) (h1 : (i 1).val = 3072 + b.val) (h2 : (i 2).val = k.val) :
    iblk1 V c 1 t (ix3 0 b k) = V c main_v0 i := by
  have g := (geo1 t).2.1
  unfold iblk1
  show V c main_v0 (((View.whole main_v0).slice (win1_1.rect t)).emb _) = _
  congr 1
  funext a
  apply Fin.ext
  match a with
  | ⟨0, _⟩ => refine Eq.trans ?_ h0.symm; show win1_1.index t 0 + 1 * 0 = _; rw [g]; show t.val + 1 * 0 = _; omega
  | ⟨1, _⟩ => refine Eq.trans ?_ h1.symm; show win1_1.index t 1 + 1 * b.val = _; rw [g]; show 3072 + 1 * b.val = _; omega
  | ⟨2, _⟩ => refine Eq.trans ?_ h2.symm; show win1_1.index t 2 + 1 * k.val = _; rw [g]; show 0 + 1 * k.val = _; omega

/-- After the run the gate matrix. -/
theorem final1 (c : Dev nD) : (dat1 V c).arrAt 2 cfg1.N = wF (V c main_v0) := by
  refine (dat1 V c).arrAt_eq_of_covers 2 _ (by decide +kernel) fun t hf y => ?_
  blk_simp
  rw [after1_2]
  unfold outsAt1
  frame_out
  idx_vars y
  have e0 : ((((View.whole main_v2).slice (win1_2.rect t)).emb (ix3 y0 y1 y2) : S2x1152x2048.Idx) 0).val = t.val := by
    blk_simp [(geo1 t).2.2]
  have e1 : ((((View.whole main_v2).slice (win1_2.rect t)).emb (ix3 y0 y1 y2) : S2x1152x2048.Idx) 1).val = y1.val := by
    blk_simp [(geo1 t).2.2]
  have e2 : ((((View.whole main_v2).slice (win1_2.rect t)).emb (ix3 y0 y1 y2) : S2x1152x2048.Idx) 2).val = y2.val := by
    blk_simp [(geo1 t).2.2]
  generalize (((View.whole main_v2).slice (win1_2.rect t)).emb (ix3 y0 y1 y2) : S2x1152x2048.Idx) = j at e0 e1 e2 ⊢
  have hy := y1.isLt
  rw [wF]
  by_cases h : y1.val < 1024
  · rw [dif_pos (by omega), View.canon_cons_of_not_mem]
    · have hw : (ix3 y0 y1 y2 : S1x1152x2048.Idx) = (Rect.unit (s := S1x1152x2048) ![0, 0, 0] ![1, 1024, 2048] inb_S1x1152x2048_S1x1024x2048_0_0_0).emb
          (ix3 y0 ⟨y1.val, h⟩ y2) := by
        funext a; apply Fin.ext
        match a with
        | ⟨0, _⟩ => show y0.val = 0 + 1 * y0.val; omega
        | ⟨1, _⟩ => show y1.val = 0 + 1 * y1.val; omega
        | ⟨2, _⟩ => show y2.val = 0 + 1 * y2.val; omega
      rw [hw, View.canon_cons_emb]
      refine (pay1_apply _ _ _ _).trans (blk10_apply V c t _ _ _ ?_ ?_ ?_)
      · exact e0
      · show 4104 + (j 1).val = 4104 + y1.val; omega
      · exact e2
    · show _ ∉ (Rect.unit (s := S1x1152x2048) ![0, 1024, 0] ![1, 128, 2048] inb_S1x1152x2048_S1x128x2048_0_1024_0).set
      rw [Rect.mem_set_unit]
      intro hh
      have h1 : 1024 ≤ y1.val := (hh 1).1
      omega
  · have hw : (ix3 y0 y1 y2 : S1x1152x2048.Idx) = (Rect.unit (s := S1x1152x2048) ![0, 1024, 0] ![1, 128, 2048] inb_S1x1152x2048_S1x128x2048_0_1024_0).emb
        (ix3 y0 ⟨y1.val - 1024, by show _ < 128; omega⟩ y2) := by
      funext a; apply Fin.ext
      match a with
      | ⟨0, _⟩ => show y0.val = 0 + 1 * y0.val; omega
      | ⟨1, _⟩ => show y1.val = 1024 + 1 * (y1.val - 1024); omega
      | ⟨2, _⟩ => show y2.val = 0 + 1 * y2.val; omega
    rw [dif_neg (by omega), hw, View.canon_cons_emb]
    refine (pay2_apply _ _ _ _).trans ?_
    by_cases h2 : y1.val < 1032
    · rw [dif_pos (by show y1.val - 1024 < 8; omega), dif_pos (by omega)]
      refine blk11_apply V c t _ _ _ ?_ ?_ ?_
      · exact e0
      · show 2048 + (j 1).val = 3072 + (y1.val - 1024); omega
      · exact e2
    · rw [dif_neg (by show ¬ y1.val - 1024 < 8; omega), dif_neg (by omega)]

end Cert.KernelIdeal.InProj

end
-- ==== Proof.Prenorm.lean ====
module

public import proofs.«01_k».proof.Defs
public import proofs.«01_k».proof.Proof.Gen.KernelIdeal.Frame
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.KernelIdeal.InProj

open Cert.KernelIdeal Cert.KernelIdeal.Gen

variable (V : (c : Dev nD) → (b : Ref sig .tc) → Buf (Elt Ideal) ((c : Thread nD τ).loc b))

/-- The normalised rows: each row times the reciprocal root of its mean square (plus the small constant), times the gain. -/
def hN (X : Vec Ideal S8192x2048 .f32) (g : Vec Ideal S1x2048 .f32) : Vec Ideal S8192x2048 .bf16 := fun i =>
  X i * Ideal.rsqrt (Ideal.div (∑ k : Fin 2048, X (ix2 (i 0) k) * X (ix2 (i 0) k)) (Ideal.ofBits FTy.f32 0x45000000#32)
      + Ideal.ofBits FTy.f32 0x358637BD#32) * g (ix2 0 (i 1))

/-- The blocks' places. -/
theorem idx2_0 : ∀ t : Fin grid2.N, win2_0.index t = ![t.val, 0] := by decide +kernel
/-- The gain is one block. -/
theorem idx2_1 : ∀ t : Fin grid2.N, win2_1.index t = ![0, 0] := by decide +kernel
/-- The result's blocks. -/
theorem idx2_2 : ∀ t : Fin grid2.N, win2_2.index t = ![t.val, 0] := by decide +kernel

/-- After the run the normalised rows. -/
theorem final2 (c : Dev nD) : (dat2 V c).arrAt 2 cfg2.N = hN (V c main_v3) (V c main_v6) := by
  refine (dat2 V c).arrAt_eq_of_covers 2 _ (by decide +kernel) fun t hf y => ?_
  blk_simp
  rw [after2_2]
  frame_out
  idx_vars y
  pointwise [k2_pay1, hN]
  blk_point [iblk2, idx2_0 t, idx2_1 t, idx2_2 t]

end Cert.KernelIdeal.InProj

end
-- ==== Proof.Project.lean ====
module

public import proofs.«01_k».proof.Defs
public import proofs.«01_k».proof.Proof.Gen.KernelIdeal.Frame
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.KernelIdeal.InProj

open Cert.KernelIdeal Cert.KernelIdeal.Gen

variable (V : (c : Dev nD) → (b : Ref sig .tc) → Buf (Elt Ideal) ((c : Thread nD τ).loc b))

/-- Row `r` of the left matrix against row `j` of the right one. -/
def pA (H : Vec Ideal S8192x2048 .bf16) (w : Vec Ideal S2x6144x2048 .bf16) : Vec Ideal S8192x6144 .bf16 := fun i =>
  ∑ k : Fin 2048, H (ix2 (i 0) k) * w (ix3 0 (i 1) k)

/-- The same with the gate matrix. -/
def pF (H : Vec Ideal S8192x2048 .bf16) (w : Vec Ideal S2x1152x2048 .bf16) : Vec Ideal S8192x1152 .f32 := fun i =>
  ∑ k : Fin 2048, H (ix2 (i 0) k) * w (ix3 0 (i 1) k)

/-- The blocks' places: rows of the left matrix, rows of the right one, and the result's. -/
theorem idx3_0 : ∀ t : Fin grid3.N, win3_0.index t = ![t.val / 6, 0] := by decide +kernel
/-- The right matrix's blocks. -/
theorem idx3_1 : ∀ t : Fin grid3.N, win3_1.index t = ![0, t.val % 6, 0] := by decide +kernel
/-- The result's blocks. -/
theorem idx3_2 : ∀ t : Fin grid3.N, win3_2.index t = ![t.val / 6, t.val % 6] := by decide +kernel
/-- The left matrix's blocks. -/
theorem idx4_0 : ∀ t : Fin grid4.N, win4_0.index t = ![t.val, 0] := by decide +kernel
/-- The gate matrix is one block. -/
theorem idx4_1 : ∀ t : Fin grid4.N, win4_1.index t = ![0, 0, 0] := by decide +kernel
/-- The result's blocks. -/
theorem idx4_2 : ∀ t : Fin grid4.N, win4_2.index t = ![t.val, 0] := by decide +kernel

/-- After the run the product. -/
theorem final3 (c : Dev nD) : (dat3 V c).arrAt 2 cfg3.N = pA (V c main_v7) (V c main_v1) := by
  refine (dat3 V c).arrAt_eq_of_covers 2 _ (by decide +kernel) fun t hf y => ?_
  blk_simp
  rw [after3_2]
  frame_out
  idx_vars y
  pointwise [k3_pay1, pA]
  blk_point [iblk3, idx3_0 t, idx3_1 t, idx3_2 t]

/-- After the run the product. -/
theorem final4 (c : Dev nD) : (dat4 V c).arrAt 2 cfg4.N = pF (V c main_v7) (V c main_v2) := by
  refine (dat4 V c).arrAt_eq_of_covers 2 _ (by decide +kernel) fun t hf y => ?_
  blk_simp
  rw [after4_2]
  frame_out
  idx_vars y
  pointwise [k4_pay1, pF]
  blk_point [iblk4, idx4_0 t, idx4_1 t, idx4_2 t]

end Cert.KernelIdeal.InProj

end
-- ==== Proof.Values.lean ====
module

public import proofs.«01_k».proof.Defs
public import proofs.«01_k».proof.Proof.Regroup
public import proofs.«01_k».proof.Proof.Gates
public import proofs.«01_k».proof.Proof.Prenorm
public import proofs.«01_k».proof.Proof.Project
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.KernelIdeal.InProj

open Cert.KernelIdeal Cert.KernelIdeal.Gen

variable (m : (ℓ : Loc nD τ sig) → Buf (Elt Ideal) ℓ) (ρ : Dev nD → PrngReg)

/-- The transposed matrix, as the first launch meets it. -/
theorem v0_eq (c : Dev nD) : W1 m ρ c (Proc.devRef .tc main_v0)
    = transpose S2x7176x2048 [0, 2, 1] (m ((c : Thread nD τ).loc main_arg2) : Vec Ideal S2x2048x7176 .f32) transposes_S2x2048x7176_S2x7176x2048_0_2_1 := by
  show StableHlo.after hostOps0 (W0 m ρ c) _ = _
  after_results_simp <;> rfl

/-- The input's rows. -/
theorem v3_eq (c : Dev nD) : W4 m ρ c (Proc.devRef .tc main_v3)
    = shapeCast S8192x2048 (m ((c : Thread nD τ).loc main_arg0) : Vec Ideal S2x4096x2048 .f32) shapeCasts_S2x4096x2048_S8192x2048 := by
  have h : W3 m ρ c (Proc.devRef .tc main_arg0) = m ((c : Thread nD τ).loc main_arg0) := W3_args m ρ c main_arg0 (by decide)
  rw [← h]
  show StableHlo.after hostOps2 (W3 m ρ c) _ = _
  after_results_simp <;> rfl

/-- The layer's gain, a row. -/
theorem v6_eq (c : Dev nD) : W4 m ρ c (Proc.devRef .tc main_v6)
    = shapeCast S1x2048 (shapeCast S2048 (extractStridedSlice S1x2048 ![0, 0] (m ((c : Thread nD τ).loc main_arg1) : Vec Ideal S2x2048 .f32)
        slices_S2x2048_S1x2048_0_0) shapeCasts_S1x2048_S2048) shapeCasts_S2048_S1x2048 := by
  have h : W3 m ρ c (Proc.devRef .tc main_arg1) = m ((c : Thread nD τ).loc main_arg1) := W3_args m ρ c main_arg1 (by decide)
  rw [← h]
  show StableHlo.after hostOps2 (W3 m ρ c) _ = _
  after_results_simp <;> rfl

/-- The normalised rows stay until the end. -/
theorem v7_eq (c : Dev nD) : W5 m ρ c (Proc.devRef .tc main_v7) = hN (W4 m ρ c (Proc.devRef .tc main_v3)) (W4 m ρ c (Proc.devRef .tc main_v6)) :=
  (W5_arr m ρ c 2).trans (final2 (V4 m ρ) c)

/-- The regrouped matrix, as the projection meets it. -/
theorem v1_eq (c : Dev nD) : W5 m ρ c (Proc.devRef .tc main_v1) = wA (W1 m ρ c (Proc.devRef .tc main_v0)) :=
  (W5_of m ρ c main_v1 (by decide)).trans <| (W4_of m ρ c main_v1 (by decide)).trans <| (W3_of m ρ c main_v1 (by decide)).trans <|
    (W2_arr m ρ c 1).trans (final0 (V1 m ρ) c)

/-- The gate matrix, as the projection meets it. -/
theorem v2_eq (c : Dev nD) : W6 m ρ c (Proc.devRef .tc main_v2) = wF (W1 m ρ c (Proc.devRef .tc main_v0)) :=
  (W6_of m ρ c main_v2 (by decide)).trans <| (W5_of m ρ c main_v2 (by decide)).trans <| (W4_of m ρ c main_v2 (by decide)).trans <|
    (W3_arr m ρ c 2).trans <| (final1 (V2 m ρ) c).trans (congrArg wF (W2_of m ρ c main_v0 (by decide)))

/-- The first result. -/
theorem v8_eq (c : Dev nD) : W7 m ρ c (Proc.devRef .tc main_v8)
    = pA (W5 m ρ c (Proc.devRef .tc main_v7)) (W5 m ρ c (Proc.devRef .tc main_v1)) :=
  (W7_of m ρ c main_v8 (by decide)).trans <| (W6_arr m ρ c 2).trans (final3 (V5 m ρ) c)

/-- The second result. -/
theorem v9_eq (c : Dev nD) : W7 m ρ c (Proc.devRef .tc main_v9)
    = pF (W5 m ρ c (Proc.devRef .tc main_v7)) (W6 m ρ c (Proc.devRef .tc main_v2)) :=
  (W7_arr m ρ c 2).trans <| (final4 (V6 m ρ) c).trans (congrArg (pF · _) (W6_of m ρ c main_v7 (by decide)))

end Cert.KernelIdeal.InProj

end
-- ==== Proof.Equal.lean ====
module

public import proofs.«01_k».proof.Defs
public import proofs.«01_k».proof.Proof.Regroup
public import proofs.«01_k».proof.Proof.Gates
public import proofs.«01_k».proof.Proof.Prenorm
public import proofs.«01_k».proof.Proof.Project
public import proofs.«01_k».proof.Proof.Gen.ReferenceIdeal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.KernelIdeal.InProj

open Cert.KernelIdeal Cert.KernelIdeal.Gen
open Cert.ReferenceIdeal.Read (val_main_v14 val_main_v18)

variable (x0 : Vec Ideal S2x4096x2048 .f32) (x1 : Vec Ideal S2x2048 .f32) (x2 : Vec Ideal S2x2048x7176 .f32)

/-- The normalised rows of the arguments. -/
abbrev rows : Vec Ideal S8192x2048 .bf16 :=
  hN (shapeCast S8192x2048 x0 shapeCasts_S2x4096x2048_S8192x2048)
    (shapeCast S1x2048 (shapeCast S2048 (extractStridedSlice S1x2048 ![0, 0] x1
        slices_S2x2048_S1x2048_0_0) shapeCasts_S1x2048_S2048) shapeCasts_S2048_S1x2048)

/-- The transposed matrix. -/
abbrev cols : Vec Ideal S2x7176x2048 .f32 :=
  transpose S2x7176x2048 [0, 2, 1] x2 transposes_S2x2048x7176_S2x7176x2048_0_2_1

/-- The reference's unscaled projection is the sum over the normalised rows and the matrix's columns. -/
theorem proj_eq (r : Fin 8192) (n : Fin 7176) :
    val_main_v18 (F := Ideal) x0 x1 x2 (ix2 r n) = ∑ k : Fin 2048, rows x0 x1 (ix2 r k) * cols x2 (ix3 0 n k) := by
  rw [Cert.ReferenceIdeal.Read.val_main_v18_apply, Cert.ReferenceIdeal.Read.val_main_v17_apply]
  refine Finset.sum_congr rfl fun k _ => ?_
  have hr := r.isLt
  have hn := n.isLt
  have hL : Cert.ReferenceIdeal.Read.lidx_main_v17 (Cert.ReferenceIdeal.Read.idx_main_v18 (ix2 r n)) k
      = ix3 (⟨r.val / 4096, by omega⟩ : Fin 2) (⟨r.val % 4096, by omega⟩ : Fin 4096) k := by
    funext a; apply Fin.ext
    match a with
    | ⟨0, _⟩ => show (r.val * 7176 + n.val) / 29392896 = r.val / 4096; omega
    | ⟨1, _⟩ => show (r.val * 7176 + n.val) / 7176 % 4096 = r.val % 4096; omega
    | ⟨2, _⟩ => rfl
  have hR : Cert.ReferenceIdeal.Read.ridx_main_v17 (Cert.ReferenceIdeal.Read.idx_main_v18 (ix2 r n)) k = ix2 k n := by
    funext a; apply Fin.ext
    match a with
    | ⟨0, _⟩ => rfl
    | ⟨1, _⟩ => show (r.val * 7176 + n.val) % 7176 = n.val; omega
  rw [hL, hR]
  pointwise [rows, cols, hN, Cert.ReferenceIdeal.Read.val_main_v14, Cert.ReferenceIdeal.Read.val_main_v13,Cert.ReferenceIdeal.Read.val_main_v12,
   Cert.ReferenceIdeal.Read.val_main_v11,Cert.ReferenceIdeal.Read.val_main_v10,Cert.ReferenceIdeal.Read.val_main_v9,Cert.ReferenceIdeal.Read.val_main_v8,Cert.ReferenceIdeal.Read.val_main_v7,Cert.ReferenceIdeal.Read.val_main_v6,Cert.ReferenceIdeal.Read.val_main_v5,Cert.ReferenceIdeal.Read.val_main_v4,Cert.ReferenceIdeal.Read.val_main_v3,Cert.ReferenceIdeal.Read.val_main_v2,Cert.ReferenceIdeal.Read.val_main_v1,Cert.ReferenceIdeal.Read.val_main_v0,Cert.ReferenceIdeal.Read.val_main_v16,Cert.ReferenceIdeal.Read.val_main_v15,
   Cert.ReferenceIdeal.Read.val_main_cst, Cert.ReferenceIdeal.Read.val_main_cst_0, Cert.ReferenceIdeal.Read.val_main_cst_1]

/-- A finite factor that is not negative goes through a sum. -/
theorem sum_mul_real {ι : Type} (S : Finset ι) (f : ι → EReal) (a : ℝ) (ha : 0 ≤ a) : ∑ k ∈ S, f k * (a : EReal) = (∑ k ∈ S, f k) * (a : EReal) := by
  classical
  induction S using Finset.induction_on with
  | empty => simp
  | insert k S hk ih =>
    rw [Finset.sum_insert hk, Finset.sum_insert hk, ih,
      EReal.right_distrib_of_nonneg_of_ne_top (by exact_mod_cast ha) (EReal.coe_ne_top a)]

/-- The query scale, as a real number. -/
abbrev qs : ℝ := (Real.sqrt 128)⁻¹ * (Real.log 2)⁻¹

/-- The constant the table names. -/
theorem named_qs : (Named.named (F := Ideal) (φ := .f32) κ "q_scale" 0x3E0293EE#32 : EReal) = (qs : EReal) := rfl

/-- It is positive. -/
theorem qs_pos : 0 < qs := by
  unfold qs
  have := Real.log_pos (by norm_num : (1 : ℝ) < 2)
  have : 0 < Real.sqrt 128 := Real.sqrt_pos.mpr (by norm_num)
  positivity

/-- Dividing by the root of 128 times the logarithm of 2 is multiplying by the scale. -/
theorem div_qs (z : EReal) : Ideal.div z (Ideal.sqrt (Ideal.ofBits FTy.f32 0x43000000#32) * Ideal.log (Ideal.ofBits FTy.f32 0x40000000#32)) = z * (qs : EReal) := by
  have h128 : Ideal.ofBits FTy.f32 0x43000000#32 = ((128 : ℝ) : EReal) := by simp [Ideal.ofBits, Ideal.ieee, -EReal.coe_mul]; norm_num
  have h2 : Ideal.ofBits FTy.f32 0x40000000#32 = ((2 : ℝ) : EReal) := by simp [Ideal.ofBits, Ideal.ieee, -EReal.coe_mul]; norm_num
  have hl := Real.log_pos (by norm_num : (1 : ℝ) < 2)
  have hs : 0 < Real.sqrt 128 := Real.sqrt_pos.mpr (by norm_num)
  rw [h128, h2, Ideal.sqrt_coe, Ideal.log_coe, if_neg (by norm_num), if_neg (by norm_num), ← EReal.coe_mul, Ideal.div_coe (mul_pos hs hl).ne']
  congr 2
  rw [one_div, mul_inv]

/-- The first result of the reference, at an index. -/
theorem zA_eq (r : Fin 8192) (j : Fin 6144) :
    Cert.ReferenceIdeal.Read.val_main_v33 (F := Ideal) x0 x1 x2 (ix2 r j) = pA (rows x0 x1) (wA (cols x2)) (ix2 r j) := by
  pointwise [Cert.ReferenceIdeal.Read.val_main_v33, Cert.ReferenceIdeal.Read.val_main_v28, Cert.ReferenceIdeal.Read.val_main_v27, Cert.ReferenceIdeal.Read.val_main_v26, Cert.ReferenceIdeal.Read.val_main_v25, Cert.ReferenceIdeal.Read.val_main_v24, Cert.ReferenceIdeal.Read.val_main_v23, Cert.ReferenceIdeal.Read.val_main_v22, Cert.ReferenceIdeal.Read.val_main_v21, Cert.ReferenceIdeal.Read.val_main_v20, Cert.ReferenceIdeal.Read.val_main_v19, Cert.ReferenceIdeal.Read.val_main_cst_2, Cert.ReferenceIdeal.Read.val_main_cst_3, pA, wA]
  have hj := j.isLt
  have e : ∀ (n : Fin 7176) (_ : n.val = j.val + skip j.val), val_main_v18 (F := Ideal) x0 x1 x2 (ix2 r n)
      = ∑ k : Fin 2048, rows x0 x1 (ix2 r k) * x2 (ix3 0 k n) := fun n _ => (proj_eq x0 x1 x2 r n).trans (by pointwise [cols])
  have go : ∀ (n : Fin 7176) (hn : n.val = j.val + skip j.val) (h1 : ¬ j.val < 1024) (p : j.val + skip j.val < 7176), val_main_v18 (F := Ideal) x0 x1 x2 (ix2 r n)
      = ∑ k : Fin 2048, rows x0 x1 (ix2 r k) * (x2 (ix3 0 k ⟨j.val + skip j.val, p⟩)
        * if j.val < 1024 then (Named.named (F := Ideal) (φ := .f32) κ "q_scale" 0x3E0293EE#32 : EReal) else (1 : EReal)) := by
    intro n hn h1 p
    rw [e n hn]
    refine Finset.sum_congr rfl fun k _ => ?_
    rw [if_neg h1, mul_one]
    congr 3
    exact Fin.ext hn
  have gp : ∀ (n : Fin 7176) (hn : n.val = j.val + skip j.val) (h1 : j.val < 1024) (p : j.val + skip j.val < 7176), val_main_v18 (F := Ideal) x0 x1 x2 (ix2 r n) * (qs : EReal)
      = ∑ k : Fin 2048, rows x0 x1 (ix2 r k) * (x2 (ix3 0 k ⟨j.val + skip j.val, p⟩)
        * if j.val < 1024 then (Named.named (F := Ideal) (φ := .f32) κ "q_scale" 0x3E0293EE#32 : EReal) else (1 : EReal)) := by
    intro n hn h1 p
    rw [e n hn, ← sum_mul_real _ _ _ qs_pos.le]
    refine Finset.sum_congr rfl fun k _ => ?_
    rw [if_pos h1, named_qs, mul_assoc]
    congr 4
    exact Fin.ext hn
  by_cases h1 : j.val < 1024
  · rw [dif_pos h1]
    exact (div_qs _).trans (gp _ (by unfold skip; simp only; split_ifs <;> omega) h1 _)
  · rw [dif_neg h1]
    by_cases h2 : j.val - 1024 < 2048
    · rw [dif_pos h2]
      exact go _ (by unfold skip; simp only; split_ifs <;> omega) h1 _
    · rw [dif_neg h2]
      by_cases h3 : j.val - 1024 - 2048 < 1024
      · rw [dif_pos h3]
        exact go _ (by unfold skip; simp only; split_ifs <;> omega) h1 _
      · rw [dif_neg h3]
        exact go _ (by unfold skip; simp only; split_ifs <;> omega) h1 _

/-- The second result of the reference, at an index. -/
theorem zF_eq (r : Fin 8192) (j : Fin 1152) :
    Cert.ReferenceIdeal.Read.val_main_v32 (F := Ideal) x0 x1 x2 (ix2 r j) = pF (rows x0 x1) (wF (cols x2)) (ix2 r j) := by
  pointwise [Cert.ReferenceIdeal.Read.val_main_v32, Cert.ReferenceIdeal.Read.val_main_v31, Cert.ReferenceIdeal.Read.val_main_v30, Cert.ReferenceIdeal.Read.val_main_v29, Cert.ReferenceIdeal.Read.val_main_c, Cert.ReferenceIdeal.Read.val_main_call0_v0, pF, wF]
  have hj := j.isLt
  have e : ∀ (n : Fin 7176), val_main_v18 (F := Ideal) x0 x1 x2 (ix2 r n)
      = ∑ k : Fin 2048, rows x0 x1 (ix2 r k) * x2 (ix3 0 k n) := fun n => (proj_eq x0 x1 x2 r n).trans (by pointwise [cols])
  by_cases h1 : j.val < 1024
  · simp only [dif_pos h1, dif_pos (show j.val < 1032 by omega)]
    rw [e]
  · by_cases h2 : j.val < 1032
    · simp only [dif_neg h1, dif_pos h2]
      rw [e]
      refine Finset.sum_congr rfl fun k _ => ?_
      congr 3
      exact Fin.ext (by simp only; omega)
    · simp only [dif_neg h1, dif_neg h2, mul_zero, Finset.sum_const_zero]
      show (((0 : Int) : ℝ) : EReal) = 0
      simp

end Cert.KernelIdeal.InProj

end
-- ==== Proof.FfnPay.lean ====
module

public import proofs.«01_k».proof.Defs
public import proofs.«01_k».proof.Proof.Gen.Kernel3Ideal.Skeleton
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Kernel3Ideal.Ffn

open Cert.Kernel3Ideal Cert.Kernel3Ideal.Gen

/-- The gate's activation. -/
def sil (x : EReal) : EReal := x * Ideal.div 1 (1 + Ideal.exp (-x))

/-- The three-tap convolution of a slab of 256 columns. -/
def cv (cw : Vec Ideal S3x256 .f32) (a b d : Vec Ideal S1x512x256 .f32) (cb : Vec Ideal S1x256 .f32) (r : Fin 512) (q : Fin 256) : EReal :=
  cw (ix2 0 q) * a (ix3 0 r q) + cw (ix2 1 q) * b (ix3 0 r q) + cw (ix2 2 q) * d (ix3 0 r q) + cb (ix2 0 q)

/-- The slab's activation: the first half gates the second. -/
def gl (cw : Vec Ideal S3x256 .f32) (a b d : Vec Ideal S1x512x256 .f32) (cb : Vec Ideal S1x256 .f32) (r : Fin 512) (n : Fin 128) : EReal :=
  sil (cv cw a b d cb r ⟨n.val, by omega⟩) * cv cw a b d cb r ⟨128 + n.val, by omega⟩

/-- One is one. -/
theorem one_bits : (Ideal.ofBits .f32 0x3F800000#32 : EReal) = 1 := by
  simp [Ideal.ofBits, Ideal.ieee, -EReal.coe_mul]; norm_num

variable (cw : Vec Ideal S3x256 .f32) (a b d : Vec Ideal S1x512x256 .f32) (cb : Vec Ideal S1x256 .f32)

/-- The first slab's activation. -/
theorem pay10_eq (r : Fin 512) (n : Fin 128) : k0_pay10 (k0_pay8 cw) (k0_pay9 cw a b) d cb (ix2 r n) = gl cw a b d cb r n := by
  unfold gl sil cv
  pointwise [k0_pay10, k0_pay8, k0_pay9]
  simp only [one_bits, zero_sub]

/-- The second slab's. -/
theorem pay15_eq (r : Fin 512) (n : Fin 128) : k0_pay15 (k0_pay12 cw) (k0_pay13 cw a) (k0_pay14 cw) b d cb (ix2 r n) = gl cw a b d cb r n := by
  unfold gl sil cv
  pointwise [k0_pay15, k0_pay12, k0_pay13, k0_pay14]
  simp only [one_bits, zero_sub]

/-- The third slab's. -/
theorem pay20_eq (r : Fin 512) (n : Fin 128) : k0_pay20 (k0_pay17 cw) (k0_pay18 a) (k0_pay19 cw) b d cb (ix2 r n) = gl cw a b d cb r n := by
  unfold gl sil cv
  pointwise [k0_pay20, k0_pay17, k0_pay18, k0_pay19]
  simp only [one_bits, zero_sub]

/-- The accumulator after the point. -/
theorem pay24_eq (A0 A1 A2 : Vec Ideal S512x128 .bf16) (X : Vec Ideal S512x2048 .f32) (w0 w1 : Vec Ideal S1x256x2048 .bf16) (r : Fin 512) (j : Fin 2048) :
    k0_pay24 A0 A1 A2 (k0_pay21 cw) (k0_pay22 cw a) (k0_pay23 cw b) d cb X w0 w1 (ix2 r j)
      = X (ix2 r j) + (∑ n : Fin 128, A0 (ix2 r n) * w0 (ix3 0 ⟨n.val, by omega⟩ j) + ∑ n : Fin 128, A1 (ix2 r n) * w0 (ix3 0 ⟨128 + n.val, by omega⟩ j))
        + (∑ n : Fin 128, A2 (ix2 r n) * w1 (ix3 0 ⟨n.val, by omega⟩ j) + ∑ n : Fin 128, gl cw a b d cb r n * w1 (ix3 0 ⟨128 + n.val, by omega⟩ j)) := by
  unfold gl sil cv
  pointwise [k0_pay24, k0_pay21, k0_pay22, k0_pay23]
  simp only [zero_sub]

/-- A row of the left operand against a column of the gate and up weights. -/
theorem pay6_eq (L : Vec Ideal S528x2048 .bf16) (w : Vec Ideal S1x2048x256 .bf16) (r : Fin 528) (q : Fin 256) :
    k0_pay6 L w (ix3 0 r q) = ∑ k : Fin 2048, L (ix2 r k) * w (ix3 0 k q) := by
  pointwise [k0_pay6]
/-- The same for the second slab. -/
theorem pay7_eq (L : Vec Ideal S528x2048 .bf16) (w : Vec Ideal S1x2048x256 .bf16) (r : Fin 528) (q : Fin 256) :
    k0_pay7 L w (ix3 0 r q) = ∑ k : Fin 2048, L (ix2 r k) * w (ix3 0 k q) := by
  pointwise [k0_pay7]
/-- The same for the third slab. -/
theorem pay11_eq (L : Vec Ideal S528x2048 .bf16) (w : Vec Ideal S1x2048x256 .bf16) (r : Fin 528) (q : Fin 256) :
    k0_pay11 L w (ix3 0 r q) = ∑ k : Fin 2048, L (ix2 r k) * w (ix3 0 k q) := by
  pointwise [k0_pay11]
/-- The same for the last slab. -/
theorem pay16_eq (L : Vec Ideal S528x2048 .bf16) (w : Vec Ideal S1x2048x256 .bf16) (r : Fin 528) (q : Fin 256) :
    k0_pay16 L w (ix3 0 r q) = ∑ k : Fin 2048, L (ix2 r k) * w (ix3 0 k q) := by
  pointwise [k0_pay16]

/-- A row's scale: the inverse root of its mean square. -/
def rs (f : Fin 2048 → EReal) : EReal := Ideal.rsqrt (Ideal.div (∑ k : Fin 2048, f k * f k) (Ideal.ofBits .f32 0x45000000#32) + Ideal.ofBits .f32 0x358637BD#32)

/-- The residual result of a row. -/
theorem pay1_eq (Y H : Vec Ideal S512x2048 .f32) (g : Vec Ideal S1x2048 .f32) (r : Fin 512) (j : Fin 2048) :
    k0_pay1 Y H g (ix2 r j) = H (ix2 r j) + Y (ix2 r j) * rs (fun k => Y (ix2 r k)) * g (ix2 0 j) := by
  unfold rs
  pointwise [k0_pay1]

/-- The normalised result of a row. -/
theorem pay2_eq (Y H : Vec Ideal S512x2048 .f32) (g g' : Vec Ideal S1x2048 .f32) (r : Fin 512) (j : Fin 2048) :
    k0_pay2 Y H g g' (ix2 r j) = k0_pay1 Y H g (ix2 r j) * rs (fun k => k0_pay1 Y H g (ix2 r k)) * g' (ix2 0 j) := by
  unfold rs
  pointwise [k0_pay2]

end Cert.Kernel3Ideal.Ffn
end
-- ==== Proof.FfnStep.lean ====
module

public import proofs.«01_k».proof.Defs
public import proofs.«01_k».proof.Proof.Gen.Kernel3Ideal.Frame
public import proofs.«01_k».proof.Proof.FfnPay
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.Kernel3Ideal.Ffn

open Cert.Kernel3Ideal Cert.Kernel3Ideal.Gen

variable (m : (ℓ : Loc nD τ sig) → Buf (Elt Ideal) ℓ)

/-- A load of 512 rows of the slab just stored. -/
theorem slab_read (s o : ℕ) (ho : o ≤ 16) (hs : s < 4) (hi : ∀ a, (![s, 0, 0] : Fin 3 → ℕ) a + ![1, 528, 256] a ≤ S4x528x256.size a)
    (hi' : ∀ a, (![s, o, 0] : Fin 3 → ℕ) a + ![1, 512, 256] a ≤ S4x528x256.size a)
    (w : Vec Ideal S1x528x256 .f32) (L : List (View.Piece (Elt Ideal) S4x528x256 .f32)) (r : Fin 512) (q : Fin 256) :
    (View.whole cc0_scratch1).readCov (⟨Rect.unit (s := S4x528x256) ![s, 0, 0] ![1, 528, 256] hi, w⟩ :: L)
      (Rect.unit (s := S4x528x256) ![s, o, 0] ![1, 512, 256] hi').toLoadRect (ix3 0 r q) = w (ix3 0 ⟨r.val + o, by omega⟩ q) := by
  rw [View.readCov_eq_canon']
  show View.canon _ ((Rect.unit (s := S4x528x256) ![s, o, 0] ![1, 512, 256] hi').toLoadRect.idx (ix3 0 r q)) = _
  have e : (Rect.unit (s := S4x528x256) ![s, o, 0] ![1, 512, 256] hi').toLoadRect.idx (ix3 0 r q)
      = (Rect.unit (s := S4x528x256) ![s, 0, 0] ![1, 528, 256] hi).emb (ix3 (0 : Fin 1) (⟨r.val + o, by omega⟩ : Fin 528) q) := by
    funext a; apply Fin.ext
    match a with
    | ⟨0, _⟩ => rfl
    | ⟨1, _⟩ => show o + 1 * r.val = 0 + 1 * (r.val + o); omega
    | ⟨2, _⟩ => rfl
  rw [e]
  exact View.canon_cons_emb _ _ _ _

/-- A gate or up value: a row of the left operand against one column of the weight block. -/
def uu (L : Vec Ideal S528x2048 .bf16) (w : Vec Ideal S1x2048x1024 .bf16) (r : Fin 528) (q : Fin 1024) : EReal :=
  ∑ k : Fin 2048, L (ix2 r k) * w (ix3 0 k q)

/-- The convolved value of row `r` and column `q` of the block. -/
def cc (L : Vec Ideal S528x2048 .bf16) (w : Vec Ideal S1x2048x1024 .bf16) (cw : Vec Ideal S3x1024 .f32) (cb : Vec Ideal S1x1024 .f32)
    (r : Fin 512) (q : Fin 1024) : EReal :=
  cw (ix2 0 q) * uu L w ⟨r.val + 14, by omega⟩ q + cw (ix2 1 q) * uu L w ⟨r.val + 15, by omega⟩ q
    + cw (ix2 2 q) * uu L w ⟨r.val + 16, by omega⟩ q + cb (ix2 0 q)

/-- The activation of lane `n` of slab `s`. -/
def aa (L : Vec Ideal S528x2048 .bf16) (w : Vec Ideal S1x2048x1024 .bf16) (cw : Vec Ideal S3x1024 .f32) (cb : Vec Ideal S1x1024 .f32)
    (r : Fin 512) (s : Fin 4) (n : Fin 128) : EReal :=
  sil (cc L w cw cb r ⟨256 * s.val + n.val, by omega⟩) * cc L w cw cb r ⟨256 * s.val + (128 + n.val), by omega⟩

/-- What one grid point adds to the accumulator. -/
def ct (L : Vec Ideal S528x2048 .bf16) (w : Vec Ideal S1x2048x1024 .bf16) (cw : Vec Ideal S3x1024 .f32) (cb : Vec Ideal S1x1024 .f32)
    (wd : Vec Ideal S1x512x2048 .bf16) (r : Fin 512) (j : Fin 2048) : EReal :=
  ∑ s : Fin 4, ∑ n : Fin 128, aa L w cw cb r s n * wd (ix3 0 ⟨256 * (s.val / 2) + (128 * (s.val % 2) + n.val), by omega⟩ j)

/-- The slabs stored up to slab 0, latest first. -/
def pc0 (L : Vec Ideal S528x2048 .bf16) (w : Vec Ideal S1x2048x1024 .bf16) : List (View.Piece (Elt Ideal) S4x528x256 .f32) :=
    [⟨Rect.unit (s := S4x528x256) ![0, 0, 0] ![1, 528, 256] inb_S4x528x256_S1x528x256_0_0_0, k0_pay6 L (View.ld w (Rect.unit (s := S1x2048x1024) ![0, 0, 0] ![1, 2048, 256] inb_S1x2048x1024_S1x2048x256_0_0_0))⟩]

/-- The slabs stored up to slab 1, latest first. -/
def pc1 (L : Vec Ideal S528x2048 .bf16) (w : Vec Ideal S1x2048x1024 .bf16) : List (View.Piece (Elt Ideal) S4x528x256 .f32) :=
    [⟨Rect.unit (s := S4x528x256) ![1, 0, 0] ![1, 528, 256] inb_S4x528x256_S1x528x256_1_0_0, k0_pay7 L (View.ld w (Rect.unit (s := S1x2048x1024) ![0, 0, 256] ![1, 2048, 256] inb_S1x2048x1024_S1x2048x256_0_0_256))⟩,
     ⟨Rect.unit (s := S4x528x256) ![0, 0, 0] ![1, 528, 256] inb_S4x528x256_S1x528x256_0_0_0, k0_pay6 L (View.ld w (Rect.unit (s := S1x2048x1024) ![0, 0, 0] ![1, 2048, 256] inb_S1x2048x1024_S1x2048x256_0_0_0))⟩]

/-- The slabs stored up to slab 2, latest first. -/
def pc2 (L : Vec Ideal S528x2048 .bf16) (w : Vec Ideal S1x2048x1024 .bf16) : List (View.Piece (Elt Ideal) S4x528x256 .f32) :=
    [⟨Rect.unit (s := S4x528x256) ![2, 0, 0] ![1, 528, 256] inb_S4x528x256_S1x528x256_2_0_0, k0_pay11 L (View.ld w (Rect.unit (s := S1x2048x1024) ![0, 0, 512] ![1, 2048, 256] inb_S1x2048x1024_S1x2048x256_0_0_512))⟩,
     ⟨Rect.unit (s := S4x528x256) ![1, 0, 0] ![1, 528, 256] inb_S4x528x256_S1x528x256_1_0_0, k0_pay7 L (View.ld w (Rect.unit (s := S1x2048x1024) ![0, 0, 256] ![1, 2048, 256] inb_S1x2048x1024_S1x2048x256_0_0_256))⟩,
     ⟨Rect.unit (s := S4x528x256) ![0, 0, 0] ![1, 528, 256] inb_S4x528x256_S1x528x256_0_0_0, k0_pay6 L (View.ld w (Rect.unit (s := S1x2048x1024) ![0, 0, 0] ![1, 2048, 256] inb_S1x2048x1024_S1x2048x256_0_0_0))⟩]

/-- The slabs stored up to slab 3, latest first. -/
def pc3 (L : Vec Ideal S528x2048 .bf16) (w : Vec Ideal S1x2048x1024 .bf16) : List (View.Piece (Elt Ideal) S4x528x256 .f32) :=
    [⟨Rect.unit (s := S4x528x256) ![3, 0, 0] ![1, 528, 256] inb_S4x528x256_S1x528x256_3_0_0, k0_pay16 L (View.ld w (Rect.unit (s := S1x2048x1024) ![0, 0, 768] ![1, 2048, 256] inb_S1x2048x1024_S1x2048x256_0_0_768))⟩,
     ⟨Rect.unit (s := S4x528x256) ![2, 0, 0] ![1, 528, 256] inb_S4x528x256_S1x528x256_2_0_0, k0_pay11 L (View.ld w (Rect.unit (s := S1x2048x1024) ![0, 0, 512] ![1, 2048, 256] inb_S1x2048x1024_S1x2048x256_0_0_512))⟩,
     ⟨Rect.unit (s := S4x528x256) ![1, 0, 0] ![1, 528, 256] inb_S4x528x256_S1x528x256_1_0_0, k0_pay7 L (View.ld w (Rect.unit (s := S1x2048x1024) ![0, 0, 256] ![1, 2048, 256] inb_S1x2048x1024_S1x2048x256_0_0_256))⟩,
     ⟨Rect.unit (s := S4x528x256) ![0, 0, 0] ![1, 528, 256] inb_S4x528x256_S1x528x256_0_0_0, k0_pay6 L (View.ld w (Rect.unit (s := S1x2048x1024) ![0, 0, 0] ![1, 2048, 256] inb_S1x2048x1024_S1x2048x256_0_0_0))⟩]

/-- The accumulator after a point, from the left operand `L` and the accumulator `X` before it. -/
def acc (L : Vec Ideal S528x2048 .bf16) (w : Vec Ideal S1x2048x1024 .bf16) (cw : Vec Ideal S3x1024 .f32) (cb : Vec Ideal S1x1024 .f32)
    (wd : Vec Ideal S1x512x2048 .bf16) (X : Vec Ideal S512x2048 .f32) : Vec Ideal S512x2048 .f32 :=
  k0_pay24
    (k0_pay10 (k0_pay8 (View.ld cw (Rect.unit (s := S3x1024) ![0, 0] ![3, 256] inb_S3x1024_S3x256_0_0))) (k0_pay9 (View.ld cw (Rect.unit (s := S3x1024) ![0, 0] ![3, 256] inb_S3x1024_S3x256_0_0)) ((View.whole cc0_scratch1).readCov (pc0 L w) (Rect.unit (s := S4x528x256) ![0, 14, 0] ![1, 512, 256] inb_S4x528x256_S1x512x256_0_14_0).toLoadRect) ((View.whole cc0_scratch1).readCov (pc0 L w) (Rect.unit (s := S4x528x256) ![0, 15, 0] ![1, 512, 256] inb_S4x528x256_S1x512x256_0_15_0).toLoadRect)) ((View.whole cc0_scratch1).readCov (pc0 L w) (Rect.unit (s := S4x528x256) ![0, 16, 0] ![1, 512, 256] inb_S4x528x256_S1x512x256_0_16_0).toLoadRect) (View.ld cb (Rect.unit (s := S1x1024) ![0, 0] ![1, 256] inb_S1x1024_S1x256_0_0)))
    (k0_pay15 (k0_pay12 (View.ld cw (Rect.unit (s := S3x1024) ![0, 256] ![3, 256] inb_S3x1024_S3x256_0_256))) (k0_pay13 (View.ld cw (Rect.unit (s := S3x1024) ![0, 256] ![3, 256] inb_S3x1024_S3x256_0_256)) ((View.whole cc0_scratch1).readCov (pc1 L w) (Rect.unit (s := S4x528x256) ![1, 14, 0] ![1, 512, 256] inb_S4x528x256_S1x512x256_1_14_0).toLoadRect)) (k0_pay14 (View.ld cw (Rect.unit (s := S3x1024) ![0, 256] ![3, 256] inb_S3x1024_S3x256_0_256))) ((View.whole cc0_scratch1).readCov (pc1 L w) (Rect.unit (s := S4x528x256) ![1, 15, 0] ![1, 512, 256] inb_S4x528x256_S1x512x256_1_15_0).toLoadRect) ((View.whole cc0_scratch1).readCov (pc1 L w) (Rect.unit (s := S4x528x256) ![1, 16, 0] ![1, 512, 256] inb_S4x528x256_S1x512x256_1_16_0).toLoadRect) (View.ld cb (Rect.unit (s := S1x1024) ![0, 256] ![1, 256] inb_S1x1024_S1x256_0_256)))
    (k0_pay20 (k0_pay17 (View.ld cw (Rect.unit (s := S3x1024) ![0, 512] ![3, 256] inb_S3x1024_S3x256_0_512))) (k0_pay18 ((View.whole cc0_scratch1).readCov (pc2 L w) (Rect.unit (s := S4x528x256) ![2, 14, 0] ![1, 512, 256] inb_S4x528x256_S1x512x256_2_14_0).toLoadRect)) (k0_pay19 (View.ld cw (Rect.unit (s := S3x1024) ![0, 512] ![3, 256] inb_S3x1024_S3x256_0_512))) ((View.whole cc0_scratch1).readCov (pc2 L w) (Rect.unit (s := S4x528x256) ![2, 15, 0] ![1, 512, 256] inb_S4x528x256_S1x512x256_2_15_0).toLoadRect) ((View.whole cc0_scratch1).readCov (pc2 L w) (Rect.unit (s := S4x528x256) ![2, 16, 0] ![1, 512, 256] inb_S4x528x256_S1x512x256_2_16_0).toLoadRect) (View.ld cb (Rect.unit (s := S1x1024) ![0, 512] ![1, 256] inb_S1x1024_S1x256_0_512)))
    (k0_pay21 (View.ld cw (Rect.unit (s := S3x1024) ![0, 768] ![3, 256] inb_S3x1024_S3x256_0_768))) (k0_pay22 (View.ld cw (Rect.unit (s := S3x1024) ![0, 768] ![3, 256] inb_S3x1024_S3x256_0_768)) ((View.whole cc0_scratch1).readCov (pc3 L w) (Rect.unit (s := S4x528x256) ![3, 14, 0] ![1, 512, 256] inb_S4x528x256_S1x512x256_3_14_0).toLoadRect)) (k0_pay23 (View.ld cw (Rect.unit (s := S3x1024) ![0, 768] ![3, 256] inb_S3x1024_S3x256_0_768)) ((View.whole cc0_scratch1).readCov (pc3 L w) (Rect.unit (s := S4x528x256) ![3, 15, 0] ![1, 512, 256] inb_S4x528x256_S1x512x256_3_15_0).toLoadRect)) ((View.whole cc0_scratch1).readCov (pc3 L w) (Rect.unit (s := S4x528x256) ![3, 16, 0] ![1, 512, 256] inb_S4x528x256_S1x512x256_3_16_0).toLoadRect) (View.ld cb (Rect.unit (s := S1x1024) ![0, 768] ![1, 256] inb_S1x1024_S1x256_0_768)) X
    (View.ld wd (Rect.unit (s := S1x512x2048) ![0, 0, 0] ![1, 256, 2048] inb_S1x512x2048_S1x256x2048_0_0_0)) (View.ld wd (Rect.unit (s := S1x512x2048) ![0, 256, 0] ![1, 256, 2048] inb_S1x512x2048_S1x256x2048_0_256_0))

set_option maxHeartbeats 4000000 in
/-- A point adds its contribution. -/
theorem acc_eq (L : Vec Ideal S528x2048 .bf16) (w : Vec Ideal S1x2048x1024 .bf16) (cw : Vec Ideal S3x1024 .f32) (cb : Vec Ideal S1x1024 .f32)
    (wd : Vec Ideal S1x512x2048 .bf16) (X : Vec Ideal S512x2048 .f32) (r : Fin 512) (j : Fin 2048) :
    acc L w cw cb wd X (ix2 r j) = X (ix2 r j) + ct L w cw cb wd r j := by
  unfold acc pc0 pc1 pc2 pc3
  rw [pay24_eq]
  simp only [pay10_eq, pay15_eq, pay20_eq]
  unfold gl cv
  simp only [slab_read 0 14 (by decide) (by decide) inb_S4x528x256_S1x528x256_0_0_0 inb_S4x528x256_S1x512x256_0_14_0
    , slab_read 0 15 (by decide) (by decide) inb_S4x528x256_S1x528x256_0_0_0 inb_S4x528x256_S1x512x256_0_15_0
    , slab_read 0 16 (by decide) (by decide) inb_S4x528x256_S1x528x256_0_0_0 inb_S4x528x256_S1x512x256_0_16_0
    , slab_read 1 14 (by decide) (by decide) inb_S4x528x256_S1x528x256_1_0_0 inb_S4x528x256_S1x512x256_1_14_0
    , slab_read 1 15 (by decide) (by decide) inb_S4x528x256_S1x528x256_1_0_0 inb_S4x528x256_S1x512x256_1_15_0
    , slab_read 1 16 (by decide) (by decide) inb_S4x528x256_S1x528x256_1_0_0 inb_S4x528x256_S1x512x256_1_16_0
    , slab_read 2 14 (by decide) (by decide) inb_S4x528x256_S1x528x256_2_0_0 inb_S4x528x256_S1x512x256_2_14_0
    , slab_read 2 15 (by decide) (by decide) inb_S4x528x256_S1x528x256_2_0_0 inb_S4x528x256_S1x512x256_2_15_0
    , slab_read 2 16 (by decide) (by decide) inb_S4x528x256_S1x528x256_2_0_0 inb_S4x528x256_S1x512x256_2_16_0
    , slab_read 3 14 (by decide) (by decide) inb_S4x528x256_S1x528x256_3_0_0 inb_S4x528x256_S1x512x256_3_14_0
    , slab_read 3 15 (by decide) (by decide) inb_S4x528x256_S1x528x256_3_0_0 inb_S4x528x256_S1x512x256_3_15_0
    , slab_read 3 16 (by decide) (by decide) inb_S4x528x256_S1x528x256_3_0_0 inb_S4x528x256_S1x512x256_3_16_0
    , pay6_eq, pay7_eq, pay11_eq, pay16_eq]
  unfold ct aa cc uu
  simp only [Fin.sum_univ_four]
  pointwise
  simp only [add_assoc]

set_option maxHeartbeats 4000000 in
/-- The accumulator after a middle point. -/
theorem accB (c : Dev nD) (t : Fin cfg0.N) (h0 : ¬t.val % 11 = 0) (h1 : ¬t.val % 11 = 10) :
    (outsAt0 m c t.val t.isLt).2.2.2 = acc (outsAt0 m c (t.val - 1) (by omega)).2.2.1 (iblk m c 2 t) (iblk m c 3 t) (iblk m c 4 t) (iblk m c 5 t) (outsAt0 m c (t.val - 1) (by omega)).2.2.2 := by
  rw [outsAt0_B m c t h0 h1]
  dsimp only
  frame_open
  simp (disch := decide) only [↓ View.readCov_skip, ↓ View.readCov_cons_toLoadRect, ↓ View.readCov_fill]
  frame_out
  simp only [read_unread_whole]
  rfl

/-- The left operand is kept. -/
theorem lhsB (c : Dev nD) (t : Fin cfg0.N) (h0 : ¬t.val % 11 = 0) (h1 : ¬t.val % 11 = 10) :
    (outsAt0 m c t.val t.isLt).2.2.1 = (outsAt0 m c (t.val - 1) (by omega)).2.2.1 := by
  rw [outsAt0_B m c t h0 h1]
  rfl

set_option maxHeartbeats 4000000 in
/-- The accumulator after a last point. -/
theorem accC (c : Dev nD) (t : Fin cfg0.N) (h0 : ¬t.val % 11 = 0) (h1 : t.val % 11 = 10) :
    (outsAt0 m c t.val t.isLt).2.2.2 = acc (outsAt0 m c (t.val - 1) (by omega)).2.2.1 (iblk m c 2 t) (iblk m c 3 t) (iblk m c 4 t) (iblk m c 5 t) (outsAt0 m c (t.val - 1) (by omega)).2.2.2 := by
  rw [outsAt0_C m c t h0 h1]
  dsimp only
  frame_open
  simp (disch := decide) only [↓ View.readCov_skip, ↓ View.readCov_cons_toLoadRect, ↓ View.readCov_fill]
  frame_out
  simp only [read_unread_whole]
  rfl

/-- The left operand is kept. -/
theorem lhsC (c : Dev nD) (t : Fin cfg0.N) (h0 : ¬t.val % 11 = 0) (h1 : t.val % 11 = 10) :
    (outsAt0 m c t.val t.isLt).2.2.1 = (outsAt0 m c (t.val - 1) (by omega)).2.2.1 := by
  rw [outsAt0_C m c t h0 h1]
  rfl

/-- The left operand stored at a block's first point: sixteen rows before the block, then the block. -/
def lhs0 (c : Dev nD) (t : Fin cfg0.N) : Vec Ideal S528x2048 .bf16 :=
  View.canon [⟨Rect.unit (s := S528x2048) ![16, 0] ![512, 2048] inb_S528x2048_S512x2048_16_0, k0_pay4 (iblk m c 0 t)⟩,
    ⟨Rect.unit (s := S528x2048) ![0, 0] ![16, 2048] inb_S528x2048_S16x2048_0_0, k0_pay3 (grid0.coords t) (iblk m c 1 t)⟩]

/-- It is what the block's first point leaves. -/
theorem lhsA (c : Dev nD) (t : Fin cfg0.N) (h0 : t.val % 11 = 0) (h1 : ¬t.val % 11 = 10) : (outsAt0 m c t.val t.isLt).2.2.1 = lhs0 m c t := by
  rw [outsAt0_A m c t h0 h1]
  dsimp only
  frame_open
  simp (disch := decide) only [↓ View.readCov_skip, ↓ View.readCov_cons_toLoadRect, ↓ View.readCov_fill]
  frame_out

/-- A load of the whole of the left operand. -/
theorem lhs_read (P : List (View.Piece (Elt Ideal) S528x2048 .bf16)) :
    (View.whole cc0_scratch0).readCov P (Rect.unit (s := S528x2048) ![0, 0] ![528, 2048] inb_S528x2048_S528x2048_0_0).toLoadRect = View.canon P := by
  rw [View.readCov_eq_canon']
  funext y
  show View.canon P _ = _
  congr 1
  funext a; apply Fin.ext
  match a with
  | ⟨0, _⟩ => exact (Nat.zero_add _).trans (Nat.one_mul _)
  | ⟨1, _⟩ => exact (Nat.zero_add _).trans (Nat.one_mul _)

set_option maxHeartbeats 4000000 in
/-- The accumulator after a block's first point. -/
theorem accA (c : Dev nD) (t : Fin cfg0.N) (h0 : t.val % 11 = 0) (h1 : ¬t.val % 11 = 10) :
    (outsAt0 m c t.val t.isLt).2.2.2 = acc (lhs0 m c t) (iblk m c 2 t) (iblk m c 3 t) (iblk m c 4 t) (iblk m c 5 t) (k0_pay5 (F := Ideal)) := by
  rw [outsAt0_A m c t h0 h1]
  dsimp only
  frame_open
  simp (disch := decide) only [↓ View.readCov_skip, ↓ View.readCov_cons_toLoadRect, ↓ View.readCov_fill]
  frame_out
  simp only [lhs_read]
  rfl

set_option maxHeartbeats 4000000 in
/-- The residual result at a block's last point. -/
theorem out9 (c : Dev nD) (t : Fin cfg0.N) (h0 : ¬t.val % 11 = 0) (h1 : t.val % 11 = 10) :
    (outsAt0 m c t.val t.isLt).1 = k0_pay1 (outsAt0 m c t.val t.isLt).2.2.2 (iblk m c 6 t) (iblk m c 7 t) := by
  rw [accC m c t h0 h1]
  rw [outsAt0_C m c t h0 h1]
  dsimp only
  frame_open
  simp (disch := decide) only [↓ View.readCov_skip, ↓ View.readCov_cons_toLoadRect, ↓ View.readCov_fill]
  frame_out
  simp only [read_unread_whole]
  rfl

set_option maxHeartbeats 4000000 in
/-- The normalised result at a block's last point. -/
theorem out10 (c : Dev nD) (t : Fin cfg0.N) (h0 : ¬t.val % 11 = 0) (h1 : t.val % 11 = 10) :
    (outsAt0 m c t.val t.isLt).2.1 = k0_pay2 (outsAt0 m c t.val t.isLt).2.2.2 (iblk m c 6 t) (iblk m c 7 t) (iblk m c 8 t) := by
  rw [accC m c t h0 h1]
  rw [outsAt0_C m c t h0 h1]
  dsimp only
  frame_open
  simp (disch := decide) only [↓ View.readCov_skip, ↓ View.readCov_cons_toLoadRect, ↓ View.readCov_fill]
  frame_out
  simp only [read_unread_whole]
  rfl

end Cert.Kernel3Ideal.Ffn
end
-- ==== Proof.FfnHost.lean ====
module

public import proofs.«01_k».proof.Defs
public import proofs.«01_k».proof.Proof.Gen.Kernel3Ideal.Frame
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Kernel3Ideal.Ffn

open Cert.Kernel3Ideal Cert.Kernel3Ideal.Gen

variable (m : (ℓ : Loc nD τ sig) → Buf (Elt Ideal) ℓ)

/-- The argument an interleaved column comes from. -/
def col (q : ℕ) : ℕ := q / 128 % 2 * 5632 + q / 256 * 128 + q % 128

/-- It is a column. -/
theorem col_lt (q : Fin 11264) : col q.val < 11264 := by unfold col; omega

/-- Rows of a batch of sequences laid end to end. -/
theorem rows_at {e : EltTy} (x : Vec Ideal S2x4096x2048 e) (r : Fin 8192) (k : Fin 2048) :
    shapeCast S8192x2048 x shapeCasts_S2x4096x2048_S8192x2048 (ix2 r k) = x (ix3 ⟨r.val / 4096, by omega⟩ ⟨r.val % 4096, by omega⟩ k) := by
  refine shapeCast_apply _ _ _ _ ?_
  rw [Shape.rowMajor_val_three, Shape.rowMajor_val_two]
  show (r.val / 4096 * 4096 + r.val % 4096) * 2048 + k.val = r.val * 2048 + k.val
  omega

/-- The interleaved columns of the two layers' weights. -/
theorem inter_at (x : Vec Ideal S2x2048x11264 .f32) (l : Fin 2) (k : Fin 2048) (q : Fin 11264) :
    (truncf (F := Ideal) .bf16 (shapeCast S2x2048x11264 (transpose S2x2048x44x2x128 [0, 1, 3, 2, 4]
      (shapeCast S2x2048x2x44x128 x shapeCasts_S2x2048x11264_S2x2048x2x44x128)
      transposes_S2x2048x2x44x128_S2x2048x44x2x128_0_1_3_2_4) shapeCasts_S2x2048x44x2x128_S2x2048x11264) bitsLt_bf16_f32 : FVec Ideal S2x2048x11264 .bf16) (ix3 l k q)
      = x (ix3 l k ⟨col q.val, col_lt q⟩) := by
  unfold col
  pointwise

/-- The interleaved gate and up weights. -/
theorem v3_at (c : Dev nD) (l : Fin 2) (k : Fin 2048) (q : Fin 11264) : (V m c main_v3 : Vec Ideal S2x2048x11264 .bf16) (ix3 l k q)
    = (m ((c : Thread nD τ).loc main_arg2) : Vec Ideal S2x2048x11264 .f32) (ix3 l k ⟨col q.val, col_lt q⟩) := by
  have h : V m c main_v3 = (truncf (F := Ideal) .bf16 (shapeCast S2x2048x11264 (transpose S2x2048x44x2x128 [0, 1, 3, 2, 4]
      (shapeCast S2x2048x2x44x128 (m ((c : Thread nD τ).loc main_arg2) : Vec Ideal S2x2048x11264 .f32) shapeCasts_S2x2048x11264_S2x2048x2x44x128)
      transposes_S2x2048x2x44x128_S2x2048x44x2x128_0_1_3_2_4) shapeCasts_S2x2048x44x2x128_S2x2048x11264) bitsLt_bf16_f32 : FVec Ideal S2x2048x11264 .bf16) := by
    show StableHlo.after hostOps0 _ _ = _
    after_results_simp <;> rfl
  exact (congrFun h _).trans (inter_at _ l k q)

/-- The normalised input's rows. -/
theorem v4_at (c : Dev nD) (r : Fin 8192) (k : Fin 2048) : (V m c main_v4 : Vec Ideal S8192x2048 .bf16) (ix2 r k)
    = (m ((c : Thread nD τ).loc main_arg0) : Vec Ideal S2x4096x2048 .bf16) (ix3 ⟨r.val / 4096, by omega⟩ ⟨r.val % 4096, by omega⟩ k) := by
  have h : (V m c main_v4 : Vec Ideal S8192x2048 .bf16) = shapeCast S8192x2048 (m ((c : Thread nD τ).loc main_arg0) : Vec Ideal S2x4096x2048 .bf16) shapeCasts_S2x4096x2048_S8192x2048 := by
    show StableHlo.after hostOps0 _ _ = _
    after_results_simp <;> rfl
  exact (congrFun h _).trans (rows_at _ r k)

/-- The interleaved taps. -/
theorem v9_at (c : Dev nD) (j : Fin 3) (q : Fin 11264) : (V m c main_v9 : Vec Ideal S3x11264 .f32) (ix2 j q)
    = (m ((c : Thread nD τ).loc main_arg3) : Vec Ideal S2x3x11264 .f32) (ix3 0 j ⟨col q.val, col_lt q⟩) := by
  have h : (V m c main_v9 : Vec Ideal S3x11264 .f32) = shapeCast S3x11264 (transpose S3x44x2x128 [0, 2, 1, 3]
      (shapeCast S3x2x44x128 (shapeCast S3x11264 (extractStridedSlice S1x3x11264 ![0, 0, 0] (m ((c : Thread nD τ).loc main_arg3) : Vec Ideal S2x3x11264 .f32)
        slices_S2x3x11264_S1x3x11264_0_0_0) shapeCasts_S1x3x11264_S3x11264) shapeCasts_S3x11264_S3x2x44x128)
      transposes_S3x2x44x128_S3x44x2x128_0_2_1_3) shapeCasts_S3x44x2x128_S3x11264 := by
    show StableHlo.after hostOps0 _ _ = _
    after_results_simp <;> rfl
  rw [h]
  unfold col
  pointwise

/-- The interleaved bias. -/
theorem v15_at (c : Dev nD) (q : Fin 11264) : (V m c main_v15 : Vec Ideal S1x11264 .f32) (ix2 0 q)
    = (m ((c : Thread nD τ).loc main_arg4) : Vec Ideal S2x11264 .f32) (ix2 0 ⟨col q.val, col_lt q⟩) := by
  have h : (V m c main_v15 : Vec Ideal S1x11264 .f32) = shapeCast S1x11264 (transpose S1x44x2x128 [0, 2, 1, 3]
      (shapeCast S1x2x44x128 (shapeCast S1x11264 (shapeCast S11264 (extractStridedSlice S1x11264 ![0, 0] (m ((c : Thread nD τ).loc main_arg4) : Vec Ideal S2x11264 .f32)
        slices_S2x11264_S1x11264_0_0) shapeCasts_S1x11264_S11264) shapeCasts_S11264_S1x11264) shapeCasts_S1x11264_S1x2x44x128)
      transposes_S1x2x44x128_S1x44x2x128_0_2_1_3) shapeCasts_S1x44x2x128_S1x11264 := by
    show StableHlo.after hostOps0 _ _ = _
    after_results_simp <;> rfl
  rw [h]
  unfold col
  pointwise

/-- The down weights. -/
theorem v16_eq (c : Dev nD) : V m c main_v16 = (truncf (F := Ideal) .bf16 (m ((c : Thread nD τ).loc main_arg5) : FVec Ideal S2x5632x2048 .f32) bitsLt_bf16_f32 : FVec Ideal S2x5632x2048 .bf16) := by
  show StableHlo.after hostOps0 _ _ = _
  after_results_simp <;> rfl

/-- The residual's rows. -/
theorem v17_at (c : Dev nD) (r : Fin 8192) (k : Fin 2048) : (V m c main_v17 : Vec Ideal S8192x2048 .f32) (ix2 r k)
    = (m ((c : Thread nD τ).loc main_arg1) : Vec Ideal S2x4096x2048 .f32) (ix3 ⟨r.val / 4096, by omega⟩ ⟨r.val % 4096, by omega⟩ k) := by
  have h : (V m c main_v17 : Vec Ideal S8192x2048 .f32) = shapeCast S8192x2048 (m ((c : Thread nD τ).loc main_arg1) : Vec Ideal S2x4096x2048 .f32) shapeCasts_S2x4096x2048_S8192x2048 := by
    show StableHlo.after hostOps0 _ _ = _
    after_results_simp <;> rfl
  exact (congrFun h _).trans (rows_at _ r k)

/-- The first gain. -/
theorem v20_at (c : Dev nD) (k : Fin 2048) : (V m c main_v20 : Vec Ideal S1x2048 .f32) (ix2 0 k)
    = (m ((c : Thread nD τ).loc main_arg6) : Vec Ideal S2x2048 .f32) (ix2 0 k) := by
  have h : (V m c main_v20 : Vec Ideal S1x2048 .f32) = shapeCast S1x2048 (shapeCast S2048 (extractStridedSlice S1x2048 ![0, 0] (m ((c : Thread nD τ).loc main_arg6) : Vec Ideal S2x2048 .f32)
        slices_S2x2048_S1x2048_0_0) shapeCasts_S1x2048_S2048) shapeCasts_S2048_S1x2048 := by
    show StableHlo.after hostOps0 _ _ = _
    after_results_simp <;> rfl
  rw [h]
  pointwise

/-- The second gain. -/
theorem v23_at (c : Dev nD) (k : Fin 2048) : (V m c main_v23 : Vec Ideal S1x2048 .f32) (ix2 0 k)
    = (m ((c : Thread nD τ).loc main_arg7) : Vec Ideal S2x2048 .f32) (ix2 0 k) := by
  have h : (V m c main_v23 : Vec Ideal S1x2048 .f32) = shapeCast S1x2048 (shapeCast S2048 (extractStridedSlice S1x2048 ![0, 0] (m ((c : Thread nD τ).loc main_arg7) : Vec Ideal S2x2048 .f32)
        slices_S2x2048_S1x2048_0_0) shapeCasts_S1x2048_S2048) shapeCasts_S2048_S1x2048 := by
    show StableHlo.after hostOps0 _ _ = _
    after_results_simp <;> rfl
  rw [h]
  pointwise

end Cert.Kernel3Ideal.Ffn

end
-- ==== Proof.FfnGeo.lean ====
module

public import proofs.«01_k».proof.Defs
public import proofs.«01_k».proof.Proof.Gen.Kernel3Ideal.Frame
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Kernel3Ideal.Ffn

open Cert.Kernel3Ideal Cert.Kernel3Ideal.Gen

variable (m : (ℓ : Loc nD τ sig) → Buf (Elt Ideal) ℓ)

/-- The block each window stages at a point. -/
theorem idx_0 : ∀ t : Fin cfg0.N, win0_0.index t = ![t.val / 11, 0] := by decide +kernel
theorem idx_1 : ∀ t : Fin cfg0.N, win0_1.index t = ![t.val / 11 * 32 - 1, 0] := by decide +kernel
theorem idx_2 : ∀ t : Fin cfg0.N, win0_2.index t = ![0, 0, t.val % 11] := by decide +kernel
theorem idx_3 : ∀ t : Fin cfg0.N, win0_3.index t = ![0, t.val % 11] := by decide +kernel
theorem idx_4 : ∀ t : Fin cfg0.N, win0_4.index t = ![0, t.val % 11] := by decide +kernel
theorem idx_5 : ∀ t : Fin cfg0.N, win0_5.index t = ![0, t.val % 11, 0] := by decide +kernel
theorem idx_6 : ∀ t : Fin cfg0.N, win0_6.index t = ![t.val / 11, 0] := by decide +kernel
theorem idx_7 : ∀ t : Fin cfg0.N, win0_7.index t = ![0, 0] := by decide +kernel
theorem idx_8 : ∀ t : Fin cfg0.N, win0_8.index t = ![0, 0] := by decide +kernel
theorem idx_9 : ∀ t : Fin cfg0.N, win0_9.index t = ![t.val / 11, 0] := by decide +kernel
theorem idx_10 : ∀ t : Fin cfg0.N, win0_10.index t = ![t.val / 11, 0] := by decide +kernel

theorem lt_N (t : Fin cfg0.N) : t.val < 176 := t.isLt

theorem b0_at (c : Dev nD) (t : Fin cfg0.N) (r : Fin 512) (k : Fin 2048) : (iblk m c 0 t : Vec Ideal S512x2048 .bf16) (ix2 r k)
    = (V m c main_v4 : Vec Ideal S8192x2048 .bf16) (ix2 ⟨t.val / 11 * 512 + r.val, by have := lt_N t; omega⟩ k) := by
  blk_point [iblk, idx_0 t]
theorem b1_at (c : Dev nD) (t : Fin cfg0.N) (r : Fin 16) (k : Fin 2048) : (iblk m c 1 t : Vec Ideal S16x2048 .bf16) (ix2 r k)
    = (V m c main_v4 : Vec Ideal S8192x2048 .bf16) (ix2 ⟨(t.val / 11 * 32 - 1) * 16 + r.val, by have := lt_N t; omega⟩ k) := by
  blk_point [iblk, idx_1 t]
theorem b2_at (c : Dev nD) (t : Fin cfg0.N) (k : Fin 2048) (q : Fin 1024) : (iblk m c 2 t : Vec Ideal S1x2048x1024 .bf16) (ix3 0 k q)
    = (V m c main_v3 : Vec Ideal S2x2048x11264 .bf16) (ix3 0 k ⟨t.val % 11 * 1024 + q.val, by omega⟩) := by
  blk_point [iblk, idx_2 t]
theorem b3_at (c : Dev nD) (t : Fin cfg0.N) (j : Fin 3) (q : Fin 1024) : (iblk m c 3 t : Vec Ideal S3x1024 .f32) (ix2 j q)
    = (V m c main_v9 : Vec Ideal S3x11264 .f32) (ix2 j ⟨t.val % 11 * 1024 + q.val, by omega⟩) := by
  blk_point [iblk, idx_3 t]
theorem b4_at (c : Dev nD) (t : Fin cfg0.N) (q : Fin 1024) : (iblk m c 4 t : Vec Ideal S1x1024 .f32) (ix2 0 q)
    = (V m c main_v15 : Vec Ideal S1x11264 .f32) (ix2 0 ⟨t.val % 11 * 1024 + q.val, by omega⟩) := by
  blk_point [iblk, idx_4 t]
theorem b5_at (c : Dev nD) (t : Fin cfg0.N) (n : Fin 512) (j : Fin 2048) : (iblk m c 5 t : Vec Ideal S1x512x2048 .bf16) (ix3 0 n j)
    = (V m c main_v16 : Vec Ideal S2x5632x2048 .bf16) (ix3 0 ⟨t.val % 11 * 512 + n.val, by omega⟩ j) := by
  blk_point [iblk, idx_5 t]
theorem b6_at (c : Dev nD) (t : Fin cfg0.N) (r : Fin 512) (k : Fin 2048) : (iblk m c 6 t : Vec Ideal S512x2048 .f32) (ix2 r k)
    = (V m c main_v17 : Vec Ideal S8192x2048 .f32) (ix2 ⟨t.val / 11 * 512 + r.val, by have := lt_N t; omega⟩ k) := by
  blk_point [iblk, idx_6 t]
theorem b7_at (c : Dev nD) (t : Fin cfg0.N) (k : Fin 2048) : (iblk m c 7 t : Vec Ideal S1x2048 .f32) (ix2 0 k)
    = (V m c main_v20 : Vec Ideal S1x2048 .f32) (ix2 0 k) := by
  blk_point [iblk, idx_7 t]
theorem b8_at (c : Dev nD) (t : Fin cfg0.N) (k : Fin 2048) : (iblk m c 8 t : Vec Ideal S1x2048 .f32) (ix2 0 k)
    = (V m c main_v23 : Vec Ideal S1x2048 .f32) (ix2 0 k) := by
  blk_point [iblk, idx_8 t]

end Cert.Kernel3Ideal.Ffn

end
-- ==== Proof.FfnFold.lean ====
module

public import proofs.«01_k».proof.Defs
public import proofs.«01_k».proof.Proof.FfnStep
public import proofs.«01_k».proof.Proof.FfnHost
public import proofs.«01_k».proof.Proof.FfnGeo

@[expose] public section

set_option maxRecDepth 16384

noncomputable section

open Idealize.ShloMosaic Idealize.ShloMosaic.TcCoe Idealize.SL.Sem

namespace Cert.Kernel3Ideal.Ffn

open Cert.Kernel3Ideal Cert.Kernel3Ideal.Gen

section Math

variable (x0 : Vec Ideal S2x4096x2048 .bf16) (x2 : Vec Ideal S2x2048x11264 .f32) (x3 : Vec Ideal S2x3x11264 .f32)
  (x4 : Vec Ideal S2x11264 .f32) (x5 : Vec Ideal S2x5632x2048 .f32)

/-- A row of the input. -/
def hr (r : Fin 8192) (k : Fin 2048) : EReal := x0 (ix3 ⟨r.val / 4096, by omega⟩ ⟨r.val % 4096, by omega⟩ k)

/-- A gate or up value. -/
def uq (r : Fin 8192) (q : Fin 11264) : EReal := ∑ k : Fin 2048, hr x0 r k * x2 (ix3 0 k q)

/-- The value `d` rows earlier in the sequence, zero before its start. -/
def up (d : ℕ) (r : Fin 8192) (q : Fin 11264) : EReal := if d ≤ r.val % 4096 then uq x0 x2 ⟨r.val - d, by omega⟩ q else 0

/-- The convolved value. -/
def cvv (r : Fin 8192) (q : Fin 11264) : EReal :=
  x3 (ix3 0 0 q) * up x0 x2 2 r q + x3 (ix3 0 1 q) * up x0 x2 1 r q + x3 (ix3 0 2 q) * up x0 x2 0 r q + x4 (ix2 0 q)

/-- The activation. -/
def act (r : Fin 8192) (n : Fin 5632) : EReal :=
  sil (cvv x0 x2 x3 x4 r ⟨n.val, by omega⟩) * cvv x0 x2 x3 x4 r ⟨5632 + n.val, by omega⟩

/-- One summand of the down projection. -/
def sm (r : Fin 8192) (j : Fin 2048) (n : ℕ) : EReal := if h : n < 5632 then act x0 x2 x3 x4 r ⟨n, h⟩ * x5 (ix3 0 ⟨n, h⟩ j) else 0

/-- The down projection. -/
def ffv (r : Fin 8192) (j : Fin 2048) : EReal := ∑ n : Fin 5632, act x0 x2 x3 x4 r n * x5 (ix3 0 n j)

/-- A sum over blocks is the whole sum. -/
theorem sum_blocks (A B : ℕ) (g : ℕ → EReal) : ∑ a ∈ Finset.range A, ∑ b ∈ Finset.range B, g (a * B + b) = ∑ k ∈ Finset.range (A * B), g k := by
  induction A with
  | zero => simp
  | succ A ih => rw [Finset.sum_range_succ, ih, Nat.succ_mul, Finset.sum_range_add]

/-- The blocks of the down projection. -/
theorem ffv_eq (r : Fin 8192) (j : Fin 2048) :
    ∑ f ∈ Finset.range 11, ∑ s : Fin 4, ∑ n : Fin 128, sm x0 x2 x3 x4 x5 r j (f * 512 + (s.val * 128 + n.val)) = ffv x0 x2 x3 x4 x5 r j := by
  have e : ∀ f, ∑ s : Fin 4, ∑ n : Fin 128, sm x0 x2 x3 x4 x5 r j (f * 512 + (s.val * 128 + n.val)) = ∑ b ∈ Finset.range 512, sm x0 x2 x3 x4 x5 r j (f * 512 + b) := by
    intro f
    rw [← sum_blocks 4 128 (fun b => sm x0 x2 x3 x4 x5 r j (f * 512 + b)), Finset.sum_range]
    refine Finset.sum_congr rfl fun s _ => ?_
    rw [Finset.sum_range]
  simp only [e]
  rw [sum_blocks 11 512, Finset.sum_range]
  refine Finset.sum_congr rfl fun n _ => ?_
  unfold sm
  rw [dif_pos n.isLt]

end Math

variable (m : (ℓ : Loc nD τ sig) → Buf (Elt Ideal) ℓ)

/-- The word that says whether a block begins inside a sequence. -/
def inside (n : ℕ) : BitVec 1 :=
  let arg0 : BitVec 32 := BitVec.ofNat 32 n
  let v185 : BitVec 32 := Scalar.muli arg0 512#32
  let v186 : BitVec 1 := Scalar.cmpi .eq 4096#32 0#32
  let v187 : BitVec 32 := Scalar.select v186 1#32 4096#32
  let v188 : BitVec 32 := Scalar.remsi v185 v187
  let v189 : BitVec 1 := Scalar.cmpi .ne v188 0#32
  let v190 : BitVec 1 := Scalar.cmpi .slt v188 0#32
  let v191 : BitVec 1 := Scalar.cmpi .slt v187 0#32
  let v192 : BitVec 1 := Scalar.xori v190 v191
  let v193 : BitVec 1 := Scalar.andi v192 v189
  let v194 : BitVec 32 := Scalar.addi v188 v187
  let v195 : BitVec 32 := Scalar.select v193 v194 v188
  Scalar.cmpi .ne v195 0#32

/-- It is one exactly off the sequences' starts. -/
theorem inside_eq : ∀ n : Fin 16, inside n.val = if n.val % 8 = 0 then 0#1 else 1#1 := by decide +kernel

/-- The block a point belongs to. -/
theorem coord_eq : ∀ t : Fin cfg0.N, ((grid0.coords t) 0).val = t.val / 11 := by decide +kernel

/-- The sixteen rows before a block, or zeros. -/
theorem pay3_eq (t : Fin cfg0.N) (v : Vec Ideal S16x2048 .bf16) (a : Fin 16) (k : Fin 2048) :
    k0_pay3 (grid0.coords t) v (ix2 a k) = if t.val / 11 % 8 = 0 then 0 else v (ix2 a k) := by
  have h : k0_pay3 (F := Ideal) (grid0.coords t) v = shapeCast S16x2048 (Scalar.select (inside ((grid0.coords t) 0).val)
      (shapeCast S16x2048 v shapeCasts_S16x2048_S16x2048) (broadcast S16x2048 (Scalar.ofBits (F := Ideal) .bf16 0x0000#16))) shapeCasts_S16x2048_S16x2048 := rfl
  have ht := lt_N t
  rw [h, coord_eq, inside_eq ⟨t.val / 11, by omega⟩]
  simp only []
  split_ifs with h0
  · pointwise
  · pointwise

/-- The block's own rows. -/
theorem pay4_eq (v : Vec Ideal S512x2048 .bf16) : k0_pay4 v = v := by
  unfold k0_pay4
  simp only [shapeCast_self]

variable (c : Dev nD)

/-- The arguments. -/
abbrev a0 : Vec Ideal S2x4096x2048 .bf16 := m ((c : Thread nD τ).loc main_arg0)
abbrev a1 : Vec Ideal S2x4096x2048 .f32 := m ((c : Thread nD τ).loc main_arg1)
abbrev a2 : Vec Ideal S2x2048x11264 .f32 := m ((c : Thread nD τ).loc main_arg2)
abbrev a3 : Vec Ideal S2x3x11264 .f32 := m ((c : Thread nD τ).loc main_arg3)
abbrev a4 : Vec Ideal S2x11264 .f32 := m ((c : Thread nD τ).loc main_arg4)
abbrev a5 : Vec Ideal S2x5632x2048 .f32 := m ((c : Thread nD τ).loc main_arg5)
abbrev a6 : Vec Ideal S2x2048 .f32 := m ((c : Thread nD τ).loc main_arg6)
abbrev a7 : Vec Ideal S2x2048 .f32 := m ((c : Thread nD τ).loc main_arg7)

/-- The row of the whole that row `r` of a point's block is. -/
def row (t : Fin cfg0.N) (r : Fin 512) : Fin 8192 := ⟨t.val / 11 * 512 + r.val, by have := lt_N t; omega⟩

/-- The left operand `d` rows above row `r` of the block. -/
theorem lhs0_tap (t : Fin cfg0.N) (d : ℕ) (hd : d ≤ 2) (r : Fin 512) (k : Fin 2048) (p : Fin 528) (hp : p.val + d = r.val + 16) :
    lhs0 m c t (ix2 p k) = if d ≤ (row t r).val % 4096 then hr (a0 m c) ⟨(row t r).val - d, by omega⟩ k else 0 := by
  have ht := lt_N t
  have hrow : (row t r).val = t.val / 11 * 512 + r.val := rfl
  unfold lhs0
  by_cases h16 : 16 ≤ p.val
  · have e : (ix2 p k : S528x2048.Idx) = (Rect.unit (s := S528x2048) ![16, 0] ![512, 2048] inb_S528x2048_S512x2048_16_0).emb (ix2 (⟨p.val - 16, by omega⟩ : Fin 512) k) := by
      funext a; apply Fin.ext
      match a with
      | ⟨0, _⟩ => show p.val = 16 + 1 * (p.val - 16); omega
      | ⟨1, _⟩ => show k.val = 0 + 1 * k.val; omega
    rw [if_pos (by omega), e]
    refine (View.canon_cons_emb _ _ _ _).trans ((congrFun (pay4_eq _) _).trans ?_)
    refine (b0_at m c t _ k).trans ((v4_at m c _ k).trans ?_)
    exact congrArg (fun z : Fin 8192 => hr (a0 m c) z k) (Fin.ext (by show t.val / 11 * 512 + (p.val - 16) = (row t r).val - d; omega))
  · have hn : (ix2 p k : S528x2048.Idx) ∉ (Rect.unit (s := S528x2048) ![16, 0] ![512, 2048] inb_S528x2048_S512x2048_16_0).set := by
      rw [Rect.mem_set_unit]
      intro h
      exact h16 (h 0).1
    rw [View.canon_cons_of_not_mem (⟨Rect.unit (s := S528x2048) ![16, 0] ![512, 2048] inb_S528x2048_S512x2048_16_0, k0_pay4 (iblk m c 0 t)⟩ :
      View.Piece (Elt Ideal) S528x2048 .bf16) _ hn]
    have e : (ix2 p k : S528x2048.Idx) = (Rect.unit (s := S528x2048) ![0, 0] ![16, 2048] inb_S528x2048_S16x2048_0_0).emb (ix2 (⟨p.val, by omega⟩ : Fin 16) k) := by
      funext a; apply Fin.ext
      match a with
      | ⟨0, _⟩ => show p.val = 0 + 1 * p.val; omega
      | ⟨1, _⟩ => show k.val = 0 + 1 * k.val; omega
    rw [e, View.canon_cons_emb, pay3_eq]
    by_cases h8 : t.val / 11 % 8 = 0
    · rw [if_pos h8, if_neg (by omega)]
    · rw [if_neg h8, if_pos (by omega)]
      refine (b1_at m c t _ k).trans ((v4_at m c _ k).trans ?_)
      exact congrArg (fun z : Fin 8192 => hr (a0 m c) z k) (Fin.ext (by show (t.val / 11 * 32 - 1) * 16 + p.val = (row t r).val - d; omega))

/-- A gate or up value of a point is the whole's. -/
theorem uu_eq (t u : Fin cfg0.N) (hu : u.val / 11 = t.val / 11) (d : ℕ) (hd : d ≤ 2) (r : Fin 512) (p : Fin 528) (hp : p.val + d = r.val + 16)
    (q : Fin 1024) (q' : Fin 11264) (hq : q'.val = col (t.val % 11 * 1024 + q.val)) :
    uu (lhs0 m c u) (iblk m c 2 t) p q = up (a0 m c) (a2 m c) d (row t r) q' := by
  have hrow : row u r = row t r := Fin.ext (by show u.val / 11 * 512 + _ = t.val / 11 * 512 + _; rw [hu])
  unfold uu up uq
  simp only [lhs0_tap m c u d hd r _ p hp, hrow]
  split_ifs with h
  · refine Finset.sum_congr rfl fun k _ => ?_
    congr 1
    refine (b2_at m c t k q).trans ((v3_at m c 0 k _).trans ?_)
    congr 2
    exact Fin.ext hq.symm
  · exact Finset.sum_eq_zero fun k _ => zero_mul _

/-- The convolved value of a point is the whole's. -/
theorem cc_eq (t u : Fin cfg0.N) (hu : u.val / 11 = t.val / 11) (r : Fin 512) (q : Fin 1024) (q' : Fin 11264) (hq : q'.val = col (t.val % 11 * 1024 + q.val)) :
    cc (lhs0 m c u) (iblk m c 2 t) (iblk m c 3 t) (iblk m c 4 t) r q = cvv (a0 m c) (a2 m c) (a3 m c) (a4 m c) (row t r) q' := by
  have e3 : ∀ j : Fin 3, (iblk m c 3 t : Vec Ideal S3x1024 .f32) (ix2 j q) = a3 m c (ix3 0 j q') := fun j =>
    (b3_at m c t j q).trans ((v9_at m c j _).trans (congrArg (fun z => a3 m c (ix3 0 j z)) (Fin.ext hq.symm)))
  have e4 : (iblk m c 4 t : Vec Ideal S1x1024 .f32) (ix2 0 q) = a4 m c (ix2 0 q') :=
    (b4_at m c t q).trans ((v15_at m c _).trans (congrArg (fun z => a4 m c (ix2 0 z)) (Fin.ext hq.symm)))
  unfold cc cvv
  rw [uu_eq m c t u hu 2 (by omega) r ⟨r.val + 14, by omega⟩ rfl q q' hq, uu_eq m c t u hu 1 (by omega) r ⟨r.val + 15, by omega⟩ rfl q q' hq,
    uu_eq m c t u hu 0 (by omega) r ⟨r.val + 16, by omega⟩ rfl q q' hq, e4]
  exact congrArg₂ (· + ·) (congrArg₂ (· + ·) (congrArg₂ (· + ·) (congrArg (· * _) (e3 0)) (congrArg (· * _) (e3 1))) (congrArg (· * _) (e3 2))) rfl

/-- What a point adds. -/
theorem ct_eq (t u : Fin cfg0.N) (hu : u.val / 11 = t.val / 11) (r : Fin 512) (j : Fin 2048) :
    ct (lhs0 m c u) (iblk m c 2 t) (iblk m c 3 t) (iblk m c 4 t) (iblk m c 5 t) r j
      = ∑ s : Fin 4, ∑ n : Fin 128, sm (a0 m c) (a2 m c) (a3 m c) (a4 m c) (a5 m c) (row t r) j (t.val % 11 * 512 + (s.val * 128 + n.val)) := by
  unfold ct
  refine Finset.sum_congr rfl fun s _ => Finset.sum_congr rfl fun n _ => ?_
  have hs := s.isLt
  have hn := n.isLt
  have hlt : t.val % 11 * 512 + (s.val * 128 + n.val) < 5632 := by omega
  unfold sm aa act
  rw [dif_pos hlt]
  rw [cc_eq m c t u hu r ⟨256 * s.val + n.val, by omega⟩ ⟨t.val % 11 * 512 + (s.val * 128 + n.val), by omega⟩ (by unfold col; simp only; omega),
    cc_eq m c t u hu r ⟨256 * s.val + (128 + n.val), by omega⟩ ⟨5632 + (t.val % 11 * 512 + (s.val * 128 + n.val)), by omega⟩ (by unfold col; simp only; omega)]
  congr 1
  refine (b5_at m c t _ j).trans ((congrFun (v16_eq m c) _).trans ?_)
  show a5 m c _ = a5 m c _
  congr 2
  apply Fin.ext
  simp only
  omega

/-- A block's first point. -/
def fst (t : Fin cfg0.N) : Fin cfg0.N := ⟨t.val / 11 * 11, lt_of_le_of_lt (Nat.div_mul_le_self _ _) t.isLt⟩

/-- The left operand of a point is the one its block's first point stored. -/
theorem lhs_eq (t : Fin cfg0.N) : (outsAt0 m c t.val t.isLt).2.2.1 = lhs0 m c (fst t) := by
  have H : ∀ (n : ℕ) (hn : n < cfg0.N), (outsAt0 m c n hn).2.2.1 = lhs0 m c (fst ⟨n, hn⟩) := by
    intro n
    induction n with
    | zero =>
      intro hn
      have e : (⟨0, hn⟩ : Fin cfg0.N) = fst ⟨0, hn⟩ := Fin.ext (by show 0 = 0 / 11 * 11; rfl)
      rw [← e]
      exact lhsA m c ⟨0, hn⟩ rfl (by show ¬ 0 % 11 = 10; decide)
    | succ n ih =>
      intro hn
      by_cases h0 : (n + 1) % 11 = 0
      · have e : (⟨n + 1, hn⟩ : Fin cfg0.N) = fst ⟨n + 1, hn⟩ := Fin.ext (by show n + 1 = (n + 1) / 11 * 11; omega)
        rw [← e]
        exact lhsA m c ⟨n + 1, hn⟩ h0 (by show ¬ (n + 1) % 11 = 10; omega)
      · have e : fst ⟨n + 1, hn⟩ = fst ⟨n, by omega⟩ := Fin.ext (by show (n + 1) / 11 * 11 = n / 11 * 11; omega)
        rw [e, ← ih (by omega)]
        by_cases h1 : (n + 1) % 11 = 10
        · have := lhsC m c ⟨n + 1, hn⟩ h0 h1
          simpa only [Nat.add_sub_cancel] using this
        · have := lhsB m c ⟨n + 1, hn⟩ h0 h1
          simpa only [Nat.add_sub_cancel] using this
  exact H t.val t.isLt

/-- The accumulator's start. -/
theorem pay5_eq (i : S512x2048.Idx) : k0_pay5 (F := Ideal) i = 0 := by
  unfold k0_pay5
  simp only [shapeCast_self]
  show Ideal.ofBits .f32 0x00000000#32 = 0
  simp [Ideal.ofBits, Ideal.ieee]

/-- The accumulator after a block's last point is the down projection. -/
theorem acc_final (t : Fin cfg0.N) (ht : t.val % 11 = 10) (r : Fin 512) (j : Fin 2048) :
    (outsAt0 m c t.val t.isLt).2.2.2 (ix2 r j) = ffv (a0 m c) (a2 m c) (a3 m c) (a4 m c) (a5 m c) (row t r) j := by
  have key := Pipeline.eq_sum_of_reset_step_apply_divmod (N := cfg0.N) (ι := Unit) (M := EReal) (fun n h _ => (outsAt0 m c n h).2.2.2 (ix2 r j)) 11 (fun _ => 0)
    (fun i f _ => if h : i < 16 then ∑ s : Fin 4, ∑ n : Fin 128, sm (a0 m c) (a2 m c) (a3 m c) (a4 m c) (a5 m c) ⟨i * 512 + r.val, by omega⟩ j (f * 512 + (s.val * 128 + n.val)) else 0)
    (fun t h0 _ => by
      have hN := lt_N t
      rw [dif_pos (by omega), accA m c t h0 (by omega), acc_eq, pay5_eq, ct_eq m c t t rfl]
      rfl)
    (fun t h0 _ => by
      have hN := lt_N t
      have hf : (fst ⟨t.val - 1, by omega⟩).val / 11 = t.val / 11 := by show (t.val - 1) / 11 * 11 / 11 = _; omega
      rw [dif_pos (by omega)]
      by_cases h1 : t.val % 11 = 10
      · rw [accC m c t h0 h1, acc_eq, lhs_eq m c ⟨t.val - 1, by omega⟩, ct_eq m c t _ hf]
        rfl
      · rw [accB m c t h0 h1, acc_eq, lhs_eq m c ⟨t.val - 1, by omega⟩, ct_eq m c t _ hf]
        rfl)
    t ()
  have hN := lt_N t
  refine key.trans ?_
  rw [ht, zero_add]
  simp only [dif_pos (show t.val / 11 < 16 by omega)]
  exact ffv_eq _ _ _ _ _ _ _

end Cert.Kernel3Ideal.Ffn

end
-- ==== Proof.FfnEnd.lean ====
module

public import proofs.«01_k».proof.Defs
public import proofs.«01_k».proof.Proof.FfnFold
public import proofs.«01_k».proof.Proof.Gen.Kernel3Ideal.Value

@[expose] public section

set_option maxRecDepth 16384

noncomputable section

open Idealize.ShloMosaic Idealize.ShloMosaic.TcCoe Idealize.SL.Sem

namespace Cert.Kernel3Ideal.Ffn

open Cert.Kernel3Ideal Cert.Kernel3Ideal.Gen

section Math

variable (x0 : Vec Ideal S2x4096x2048 .bf16) (x1 : Vec Ideal S2x4096x2048 .f32) (x2 : Vec Ideal S2x2048x11264 .f32) (x3 : Vec Ideal S2x3x11264 .f32)
  (x4 : Vec Ideal S2x11264 .f32) (x5 : Vec Ideal S2x5632x2048 .f32) (x6 x7 : Vec Ideal S2x2048 .f32)

/-- The residual result. -/
def res (r : Fin 8192) (j : Fin 2048) : EReal :=
  x1 (ix3 ⟨r.val / 4096, by omega⟩ ⟨r.val % 4096, by omega⟩ j)
    + ffv x0 x2 x3 x4 x5 r j * rs (fun k => ffv x0 x2 x3 x4 x5 r k) * x6 (ix2 0 j)

/-- The normalised result. -/
def nrm (r : Fin 8192) (j : Fin 2048) : EReal :=
  res x0 x1 x2 x3 x4 x5 x6 r j * rs (fun k => res x0 x1 x2 x3 x4 x5 x6 r k) * x7 (ix2 0 j)

end Math

variable (m : (ℓ : Loc nD τ sig) → Buf (Elt Ideal) ℓ) (c : Dev nD)

/-- The residual result, as an array. -/
def H9 : Vec Ideal S8192x2048 .f32 := fun i => res (a0 m c) (a1 m c) (a2 m c) (a3 m c) (a4 m c) (a5 m c) (a6 m c) (i 0) (i 1)
/-- The normalised result, as an array. -/
def H10 : Vec Ideal S8192x2048 .bf16 := fun i => nrm (a0 m c) (a1 m c) (a2 m c) (a3 m c) (a4 m c) (a5 m c) (a6 m c) (a7 m c) (i 0) (i 1)

/-- The residual result of a block's last point. -/
theorem blk9 (t : Fin cfg0.N) (ht : t.val % 11 = 10) (r : Fin 512) (j : Fin 2048) :
    k0_pay1 (outsAt0 m c t.val t.isLt).2.2.2 (iblk m c 6 t) (iblk m c 7 t) (ix2 r j)
      = res (a0 m c) (a1 m c) (a2 m c) (a3 m c) (a4 m c) (a5 m c) (a6 m c) (row t r) j := by
  rw [pay1_eq]
  unfold res
  simp only [acc_final m c t ht]
  exact congrArg₂ (· + ·) ((b6_at m c t r j).trans (v17_at m c _ j)) (congrArg _ ((b7_at m c t j).trans (v20_at m c j)))

/-- The normalised result of a block's last point. -/
theorem blk10 (t : Fin cfg0.N) (ht : t.val % 11 = 10) (r : Fin 512) (j : Fin 2048) :
    k0_pay2 (outsAt0 m c t.val t.isLt).2.2.2 (iblk m c 6 t) (iblk m c 7 t) (iblk m c 8 t) (ix2 r j)
      = nrm (a0 m c) (a1 m c) (a2 m c) (a3 m c) (a4 m c) (a5 m c) (a6 m c) (a7 m c) (row t r) j := by
  rw [pay2_eq]
  unfold nrm
  simp only [blk9 m c t ht]
  exact congrArg _ ((b8_at m c t j).trans (v23_at m c j))

/-- The first result's array after the run. -/
theorem final9 : (dats m 0 c).arrAt 9 cfg0.N = H9 m c := by
  refine (dats m 0 c).arrAt_eq_of_covers 9 _ (by decide +kernel) fun t hf y => ?_
  have ht : t.val % 11 = 10 := (flush0_9 t).mp hf
  blk_simp
  rw [after0_9, out9 m c t (by omega) ht]
  idx_vars y
  refine (blk9 m c t ht y0 y1).trans ?_
  have h0 : win0_9.index t 0 = t.val / 11 := congrFun (idx_9 t) 0
  have h1 : win0_9.index t 1 = 0 := congrFun (idx_9 t) 1
  have e0 : (((View.whole main_v24_0).slice (win0_9.rect t)).emb (ix2 y0 y1)) 0 = row t y0 :=
    Fin.ext (by show win0_9.index t 0 * 512 + 1 * y0.val = t.val / 11 * 512 + y0.val; rw [h0]; omega)
  have e1 : (((View.whole main_v24_0).slice (win0_9.rect t)).emb (ix2 y0 y1)) 1 = y1 :=
    Fin.ext (by show win0_9.index t 1 * 2048 + 1 * y1.val = y1.val; rw [h1]; omega)
  exact (congrArg₂ (res (a0 m c) (a1 m c) (a2 m c) (a3 m c) (a4 m c) (a5 m c) (a6 m c)) e0 e1).symm

/-- The second result's array after the run. -/
theorem final10 : (dats m 0 c).arrAt 10 cfg0.N = H10 m c := by
  refine (dats m 0 c).arrAt_eq_of_covers 10 _ (by decide +kernel) fun t hf y => ?_
  have ht : t.val % 11 = 10 := (flush0_10 t).mp hf
  blk_simp
  rw [after0_10, out10 m c t (by omega) ht]
  idx_vars y
  refine (blk10 m c t ht y0 y1).trans ?_
  have h0 : win0_10.index t 0 = t.val / 11 := congrFun (idx_10 t) 0
  have h1 : win0_10.index t 1 = 0 := congrFun (idx_10 t) 1
  have e0 : (((View.whole main_v24_1).slice (win0_10.rect t)).emb (ix2 y0 y1)) 0 = row t y0 :=
    Fin.ext (by show win0_10.index t 0 * 512 + 1 * y0.val = t.val / 11 * 512 + y0.val; rw [h0]; omega)
  have e1 : (((View.whole main_v24_1).slice (win0_10.rect t)).emb (ix2 y0 y1)) 1 = y1 :=
    Fin.ext (by show win0_10.index t 1 * 2048 + 1 * y1.val = y1.val; rw [h1]; omega)
  exact (congrArg₂ (nrm (a0 m c) (a1 m c) (a2 m c) (a3 m c) (a4 m c) (a5 m c) (a6 m c) (a7 m c)) e0 e1).symm

end Cert.Kernel3Ideal.Ffn

end
-- ==== Proof.FfnRef.lean ====
module

public import proofs.«01_k».proof.Defs
public import proofs.«01_k».proof.Proof.FfnEnd
public import proofs.«01_k».proof.Proof.Gen.Reference3Ideal.Read

@[expose] public section

set_option maxRecDepth 16384

noncomputable section

open Idealize.ShloMosaic Idealize.ShloMosaic.TcCoe Idealize.SL.Sem

namespace Cert.Kernel3Ideal.Ffn

open Cert.Kernel3Ideal Cert.Kernel3Ideal.Gen
open Cert.Reference3Ideal.Read

variable (x0 : Vec Ideal S2x4096x2048 .bf16) (x1 : Vec Ideal S2x4096x2048 .f32) (x2 : Vec Ideal S2x2048x11264 .f32) (x3 : Vec Ideal S2x3x11264 .f32)
  (x4 : Vec Ideal S2x11264 .f32) (x5 : Vec Ideal S2x5632x2048 .f32) (x6 x7 : Vec Ideal S2x2048 .f32)

/-- The row of a place in a sequence. -/
def rw' (b : Fin 2) (s : Fin 4096) : Fin 8192 := ⟨b.val * 4096 + s.val, by omega⟩

/-- The input at a row. -/
theorem hr_eq (b : Fin 2) (s : Fin 4096) (k : Fin 2048) : hr x0 (rw' b s) k = x0 (ix3 b s k) := by
  unfold hr rw'
  congr 2 <;> (apply Fin.ext; simp only; omega)

/-- The reference's gate and up values. -/
theorem ref3 (b : Fin 2) (s : Fin 4096) (q : Fin 11264) : val_main_v3 (F := Ideal) x0 x2 (ix3 b s q) = uq x0 x2 (rw' b s) q := by
  unfold uq
  simp only [hr_eq]
  pointwise [val_main_v3, val_main_v0, val_main_v2, val_main_v1]

/-- The values with no shift. -/
theorem up_zero (b : Fin 2) (s : Fin 4096) (q : Fin 11264) : up x0 x2 0 (rw' b s) q = uq x0 x2 (rw' b s) q := by
  unfold up
  rw [if_pos (Nat.zero_le _)]
  rfl

/-- The padded values. -/
theorem ref4 (b : Fin 2) (d : ℕ) (hd : d ≤ 2) (s : Fin 4096) (p : Fin 4098) (hp : p.val + d = s.val + 2) (q : Fin 11264) :
    val_main_v4 (F := Ideal) x0 x2 (ix3 b p q) = up x0 x2 d (rw' b s) q := by
  have hm : (rw' b s).val % 4096 = s.val := by show (b.val * 4096 + s.val) % 4096 = _; omega
  unfold up
  rw [hm]
  pointwise [val_main_v4, val_main_cst]
  by_cases h : d ≤ s.val
  · rw [dif_pos (by omega), if_pos h, ref3]
    congr 1
    apply Fin.ext
    show b.val * 4096 + (p.val - 2) = b.val * 4096 + s.val - d
    omega
  · rw [dif_neg (by omega), if_neg h]

/-- The convolved values. -/
theorem ref21 (b : Fin 2) (s : Fin 4096) (q : Fin 11264) : val_main_v21 (F := Ideal) x0 x2 x3 x4 (ix3 b s q) = cvv x0 x2 x3 x4 (rw' b s) q := by
  unfold cvv
  rw [← ref4 x0 x2 b 2 (by omega) s ⟨s.val, by omega⟩ rfl q, ← ref4 x0 x2 b 1 (by omega) s ⟨1 + s.val, by omega⟩ (by simp only; omega) q,
    up_zero, ← ref3]
  pointwise [val_main_v21, val_main_v20, val_main_v19, val_main_v18, val_main_v17, val_main_v16, val_main_v15, val_main_v14, val_main_v13, val_main_v12,
    val_main_v11, val_main_v10, val_main_v9, val_main_v8, val_main_v7, val_main_v6, val_main_v5]

/-- The gate written as one quotient. -/
theorem sil_eq (x : EReal) : sil x = Ideal.div x (1 + Ideal.exp (-x)) := by
  have h0 : (0 : EReal) ≤ Ideal.exp (-x) := by
    generalize -x = y
    induction y using EReal.rec with
    | bot => exact le_refl _
    | top => exact le_top
    | coe r => exact EReal.coe_nonneg.mpr (Real.exp_pos r).le
  have hy : (1 + Ideal.exp (-x) : EReal) ≠ 0 := by
    have h1 : (1 : EReal) ≤ 1 + Ideal.exp (-x) := le_add_of_nonneg_right h0
    exact fun h => absurd (h ▸ h1) (by norm_num)
  unfold sil Ideal.div
  rw [if_neg hy, if_neg hy, one_mul]

/-- The activations. -/
theorem ref29 (b : Fin 2) (s : Fin 4096) (n : Fin 5632) : val_main_v29 (F := Ideal) x0 x2 x3 x4 (ix3 b s n) = act x0 x2 x3 x4 (rw' b s) n := by
  unfold act
  rw [sil_eq]
  simp only [← ref21]
  pointwise [val_main_v29, val_main_v28, val_main_v27, val_main_v26, val_main_v25, val_main_v24, val_main_v23, val_main_v22, val_main_cst_0]

/-- The down projection. -/
theorem ref32 (b : Fin 2) (s : Fin 4096) (j : Fin 2048) : val_main_v32 (F := Ideal) x0 x2 x3 x4 x5 (ix3 b s j) = ffv x0 x2 x3 x4 x5 (rw' b s) j := by
  unfold ffv
  simp only [← ref29]
  pointwise [val_main_v32, val_main_v31, val_main_v30]

/-- The residual result. -/
theorem ref48 (b : Fin 2) (s : Fin 4096) (j : Fin 2048) :
    val_main_v48 (F := Ideal) x0 x1 x2 x3 x4 x5 x6 (ix3 b s j) = res x0 x1 x2 x3 x4 x5 x6 (rw' b s) j := by
  have h1 : x1 (ix3 ⟨(rw' b s).val / 4096, by omega⟩ ⟨(rw' b s).val % 4096, by omega⟩ j) = x1 (ix3 b s j) := by
    unfold rw'
    congr 2 <;> (apply Fin.ext; simp only; omega)
  unfold res rs
  rw [h1]
  simp only [← ref32]
  pointwise [val_main_v48, val_main_v47, val_main_v46, val_main_v45, val_main_v44, val_main_v43, val_main_v42, val_main_v41, val_main_v40, val_main_cst_3,
    val_main_v39, val_main_v38, val_main_cst_2, val_main_v37, val_main_v36, val_main_cst_1, val_main_v35, val_main_v34, val_main_v33]

/-- The normalised result. -/
theorem ref64 (b : Fin 2) (s : Fin 4096) (j : Fin 2048) :
    val_main_v64 (F := Ideal) x0 x1 x2 x3 x4 x5 x6 x7 (ix3 b s j) = nrm x0 x1 x2 x3 x4 x5 x6 x7 (rw' b s) j := by
  unfold nrm rs
  simp only [← ref48]
  pointwise [val_main_v64, val_main_v63, val_main_v62, val_main_v61, val_main_v60, val_main_v59, val_main_v58, val_main_v57, val_main_cst_6,
    val_main_v56, val_main_v55, val_main_cst_5, val_main_v54, val_main_v53, val_main_cst_4, val_main_v52, val_main_v51, val_main_v50]

/-- A row's place. -/
theorem rw_eq (r : Fin 8192) : rw' ⟨r.val / 4096, by omega⟩ ⟨r.val % 4096, by omega⟩ = r := by
  apply Fin.ext
  show r.val / 4096 * 4096 + r.val % 4096 = r.val
  omega

/-- The first result. -/
theorem ref49 : val_main_v49 (F := Ideal) x0 x1 x2 x3 x4 x5 x6 = (fun i => res x0 x1 x2 x3 x4 x5 x6 (i 0) (i 1) : Vec Ideal S8192x2048 .f32) := by
  funext i
  rw [eq_ix2 i]
  unfold val_main_v49
  refine (rows_at _ (i 0) (i 1)).trans ((ref48 x0 x1 x2 x3 x4 x5 x6 _ _ _).trans ?_)
  exact congrArg (fun t => res x0 x1 x2 x3 x4 x5 x6 t (i 1)) (rw_eq (i 0))

/-- The second result. -/
theorem ref66 : val_main_v66 (F := Ideal) x0 x1 x2 x3 x4 x5 x6 x7 = (fun i => nrm x0 x1 x2 x3 x4 x5 x6 x7 (i 0) (i 1) : Vec Ideal S8192x2048 .bf16) := by
  funext i
  rw [eq_ix2 i]
  unfold val_main_v66 val_main_v65
  refine (rows_at _ (i 0) (i 1)).trans ((ref64 x0 x1 x2 x3 x4 x5 x6 x7 _ _ _).trans ?_)
  exact congrArg (fun t => nrm x0 x1 x2 x3 x4 x5 x6 x7 t (i 1)) (rw_eq (i 0))

end Cert.Kernel3Ideal.Ffn

end
-- ==== Proof.OutRun.lean ====
module

public import proofs.«01_k».proof.Defs
public import proofs.«01_k».proof.Proof.Gen.Kernel4Ideal.Frame
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

open Idealize.ShloMosaic.Tactic Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode

namespace Cert.Kernel4Ideal.Out

open Cert.Kernel4Ideal Cert.Kernel4Ideal.Gen

variable {F : FTy → Type} [FloatOps F]
local notation "𝕄" => MT nD τ sig Unit (Elt F) ℕ (UR sig nD τ) ℕ

variable (m : (ℓ : Loc nD τ sig) → Buf (Elt F) ℓ) (ρ : Dev nD → PrngReg)

/-- The launch ends with the results at the last boundary's contents and the arguments unchanged. -/
theorem launch : θ_run defs (onTc (τ := τ) (main (F := F))) ⟨m, fun _ => 0, ρ⟩ (fun r => ∀ c : Dev nD,
      r.2.mem ((c.tc : Thread nD τ).loc main_v10_0) = W4 m ρ c (Proc.devRef .tc main_v10_0)
      ∧ r.2.mem ((c.tc : Thread nD τ).loc main_v10_1) = W4 m ρ c (Proc.devRef .tc main_v10_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => (fun c =>
      ⟨h c _ (mem_uc main_v10_0 (by decide)), h c _ (mem_uc main_v10_1 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩))

end Cert.Kernel4Ideal.Out

end
-- ==== Proof.OutReg.lean ====
module

public import proofs.«01_k».proof.Defs
public import proofs.«01_k».proof.Proof.FfnPay
public import proofs.«01_k».proof.Proof.Gen.Kernel4Ideal.Frame
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Kernel4Ideal.Out

open Cert.Kernel4Ideal Cert.Kernel4Ideal.Gen
open Cert.Kernel3Ideal.Ffn (rs)

variable (V : (c : Dev nD) → (b : Ref sig .tc) → Buf (Elt Ideal) ((c : Thread nD τ).loc b))

/-- The weights, their values unchanged by the cast. -/
def cw (X : Vec Ideal S2x2048x2048 .f32) : Vec Ideal S2x2048x2048 .bf16 := fun i => X i

section Math

variable (A B : Vec Ideal S8192x1024 .bf16) (W : Vec Ideal S2x2048x2048 .bf16) (H : Vec Ideal S8192x2048 .f32) (g g' : Vec Ideal S1x2048 .f32)

/-- The two halves' products with the two halves of the first layer's matrix, added. -/
def yv (r : Fin 8192) (j : Fin 2048) : EReal :=
  (∑ k : Fin 1024, A (ix2 r k) * W (ix3 0 ⟨k.val, by omega⟩ j)) + ∑ k : Fin 1024, B (ix2 r k) * W (ix3 0 ⟨1024 + k.val, by omega⟩ j)

/-- The residual result. -/
def rv (r : Fin 8192) (j : Fin 2048) : EReal := H (ix2 r j) + yv A B W r j * rs (yv A B W r) * g (ix2 0 j)

/-- The normalised result. -/
def nv (r : Fin 8192) (j : Fin 2048) : EReal := rv A B W H g r j * rs (rv A B W H g r) * g' (ix2 0 j)

/-- The residual result, as an array. -/
def rA : Vec Ideal S8192x2048 .f32 := fun i => rv A B W H g (i 0) (i 1)
/-- The normalised result, as an array. -/
def nA : Vec Ideal S8192x2048 .bf16 := fun i => nv A B W H g g' (i 0) (i 1)

end Math

/-- The cast's blocks. -/
theorem idx0_0 : ∀ t : Fin grid0.N, win0_0.index t = ![t.val / 2, t.val % 2, 0] := by decide +kernel
/-- The cast's blocks. -/
theorem idx0_1 : ∀ t : Fin grid0.N, win0_1.index t = ![t.val / 2, t.val % 2, 0] := by decide +kernel
/-- The rows of the first half. -/
theorem idx1_0 : ∀ t : Fin grid1.N, win1_0.index t = ![t.val, 0] := by decide +kernel
/-- The rows of the second half. -/
theorem idx1_1 : ∀ t : Fin grid1.N, win1_1.index t = ![t.val, 0] := by decide +kernel
/-- The matrix's first half. -/
theorem idx1_2 : ∀ t : Fin grid1.N, win1_2.index t = ![0, 0, 0] := by decide +kernel
/-- The matrix's second half. -/
theorem idx1_3 : ∀ t : Fin grid1.N, win1_3.index t = ![0, 1, 0] := by decide +kernel
/-- The residual's rows. -/
theorem idx1_4 : ∀ t : Fin grid1.N, win1_4.index t = ![t.val, 0] := by decide +kernel
/-- The gains are one block. -/
theorem idx1_5 : ∀ t : Fin grid1.N, win1_5.index t = ![0, 0] := by decide +kernel
/-- The gains are one block. -/
theorem idx1_6 : ∀ t : Fin grid1.N, win1_6.index t = ![0, 0] := by decide +kernel
/-- The first result's rows. -/
theorem idx1_7 : ∀ t : Fin grid1.N, win1_7.index t = ![t.val, 0] := by decide +kernel
/-- The second result's rows. -/
theorem idx1_8 : ∀ t : Fin grid1.N, win1_8.index t = ![t.val, 0] := by decide +kernel

/-- After the cast the weights. -/
theorem final0 (c : Dev nD) : (dat0 V c).arrAt 1 cfg0.N = cw (V c main_arg3) := by
  refine (dat0 V c).arrAt_eq_of_covers 1 _ (by decide +kernel) fun t hf y => ?_
  blk_simp
  rw [after0_1]
  frame_out
  idx_vars y
  pointwise [k0_pay1, cw]
  blk_point [iblk0, idx0_0 t, idx0_1 t]

/-- After the run the residual result. -/
theorem final7 (c : Dev nD) : (dat1 V c).arrAt 7 cfg1.N = rA (V c main_v0) (V c main_v1) (V c main_v2) (V c main_v3) (V c main_v6) := by
  refine (dat1 V c).arrAt_eq_of_covers 7 _ (by decide +kernel) fun t hf y => ?_
  blk_simp
  rw [after1_7]
  frame_out
  idx_vars y
  pointwise [k1_pay2, rA, rv, yv, rs]
  blk_point [iblk1, idx1_0 t, idx1_1 t, idx1_2 t, idx1_3 t, idx1_4 t, idx1_5 t, idx1_7 t]

/-- After the run the normalised result. -/
theorem final8 (c : Dev nD) : (dat1 V c).arrAt 8 cfg1.N
    = nA (V c main_v0) (V c main_v1) (V c main_v2) (V c main_v3) (V c main_v6) (V c main_v9) := by
  refine (dat1 V c).arrAt_eq_of_covers 8 _ (by decide +kernel) fun t hf y => ?_
  blk_simp
  rw [after1_8]
  frame_out
  idx_vars y
  pointwise [k1_pay1, k1_pay2, k1_pay3, k1_pay4, nA, nv, rv, yv, rs]
  blk_point [iblk1, idx1_0 t, idx1_1 t, idx1_2 t, idx1_3 t, idx1_4 t, idx1_5 t, idx1_6 t, idx1_8 t]

end Cert.Kernel4Ideal.Out

end
-- ==== Proof.OutVal.lean ====
module

public import proofs.«01_k».proof.Defs
public import proofs.«01_k».proof.Proof.OutReg
public import proofs.«01_k».proof.Proof.FfnHost
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Kernel4Ideal.Out

open Cert.Kernel4Ideal Cert.Kernel4Ideal.Gen

variable (m : (ℓ : Loc nD τ sig) → Buf (Elt Ideal) ℓ) (ρ : Dev nD → PrngReg)

/-- The first half's rows. -/
theorem v0_eq (c : Dev nD) : W1 m ρ c (Proc.devRef .tc main_v0)
    = shapeCast S8192x1024 (m ((c : Thread nD τ).loc main_arg0) : Vec Ideal S2x4096x1024 .bf16) shapeCasts_S2x4096x1024_S8192x1024 := by
  have h : W0 m ρ c (Proc.devRef .tc main_arg0) = m ((c : Thread nD τ).loc main_arg0) := rfl
  rw [← h]
  show StableHlo.after hostOps0 (W0 m ρ c) _ = _
  after_results_simp <;> rfl

/-- The second half's rows. -/
theorem v1_eq (c : Dev nD) : W1 m ρ c (Proc.devRef .tc main_v1)
    = shapeCast S8192x1024 (m ((c : Thread nD τ).loc main_arg1) : Vec Ideal S2x4096x1024 .bf16) shapeCasts_S2x4096x1024_S8192x1024 := by
  have h : W0 m ρ c (Proc.devRef .tc main_arg1) = m ((c : Thread nD τ).loc main_arg1) := rfl
  rw [← h]
  show StableHlo.after hostOps0 (W0 m ρ c) _ = _
  after_results_simp <;> rfl

/-- The residual's rows. -/
theorem v3_eq (c : Dev nD) : W3 m ρ c (Proc.devRef .tc main_v3)
    = shapeCast S8192x2048 (m ((c : Thread nD τ).loc main_arg2) : Vec Ideal S2x4096x2048 .f32) shapeCasts_S2x4096x2048_S8192x2048 := by
  have h : W2 m ρ c (Proc.devRef .tc main_arg2) = m ((c : Thread nD τ).loc main_arg2) := W2_args m ρ c main_arg2 (by decide)
  rw [← h]
  show StableHlo.after hostOps1 (W2 m ρ c) _ = _
  after_results_simp <;> rfl

/-- The first gain. -/
theorem v6_eq (c : Dev nD) : W3 m ρ c (Proc.devRef .tc main_v6)
    = shapeCast S1x2048 (shapeCast S2048 (extractStridedSlice S1x2048 ![0, 0] (m ((c : Thread nD τ).loc main_arg4) : Vec Ideal S2x2048 .f32) slices_S2x2048_S1x2048_0_0) shapeCasts_S1x2048_S2048) shapeCasts_S2048_S1x2048 := by
  have h : W2 m ρ c (Proc.devRef .tc main_arg4) = m ((c : Thread nD τ).loc main_arg4) := W2_args m ρ c main_arg4 (by decide)
  rw [← h]
  show StableHlo.after hostOps1 (W2 m ρ c) _ = _
  after_results_simp <;> rfl

/-- The second gain. -/
theorem v9_eq (c : Dev nD) : W3 m ρ c (Proc.devRef .tc main_v9)
    = shapeCast S1x2048 (shapeCast S2048 (extractStridedSlice S1x2048 ![0, 0] (m ((c : Thread nD τ).loc main_arg5) : Vec Ideal S2x2048 .f32) slices_S2x2048_S1x2048_0_0) shapeCasts_S1x2048_S2048) shapeCasts_S2048_S1x2048 := by
  have h : W2 m ρ c (Proc.devRef .tc main_arg5) = m ((c : Thread nD τ).loc main_arg5) := W2_args m ρ c main_arg5 (by decide)
  rw [← h]
  show StableHlo.after hostOps1 (W2 m ρ c) _ = _
  after_results_simp <;> rfl

/-- The weights the product meets. -/
theorem v2_eq (c : Dev nD) : W3 m ρ c (Proc.devRef .tc main_v2) = cw (m ((c : Thread nD τ).loc main_arg3)) :=
  (W3_of m ρ c main_v2 (by decide)).trans <| (W2_arr m ρ c 1).trans <| (final0 (V1 m ρ) c).trans (congrArg cw (W1_args m ρ c main_arg3 (by decide)))

/-- A row's first place. -/
theorem rowsA_at (x : Vec Ideal S2x4096x1024 .bf16) (b : Fin 2) (s : Fin 4096) (k : Fin 1024) :
    shapeCast S8192x1024 x shapeCasts_S2x4096x1024_S8192x1024 (ix2 ⟨b.val * 4096 + s.val, by omega⟩ k) = x (ix3 b s k) := by
  refine shapeCast_apply _ _ _ _ ?_
  rw [Shape.rowMajor_val_three, Shape.rowMajor_val_two]
  show (b.val * 4096 + s.val) * 1024 + k.val = (b.val * 4096 + s.val) * 1024 + k.val
  rfl

/-- The residual result, at the end. -/
theorem v10_0_eq (c : Dev nD) : W4 m ρ c (Proc.devRef .tc main_v10_0)
    = rA (W3 m ρ c (Proc.devRef .tc main_v0)) (W3 m ρ c (Proc.devRef .tc main_v1)) (W3 m ρ c (Proc.devRef .tc main_v2)) (W3 m ρ c (Proc.devRef .tc main_v3))
        (W3 m ρ c (Proc.devRef .tc main_v6)) :=
  (W4_arr m ρ c 7).trans (final7 (V3 m ρ) c)

/-- The normalised result, at the end. -/
theorem v10_1_eq (c : Dev nD) : W4 m ρ c (Proc.devRef .tc main_v10_1)
    = nA (W3 m ρ c (Proc.devRef .tc main_v0)) (W3 m ρ c (Proc.devRef .tc main_v1)) (W3 m ρ c (Proc.devRef .tc main_v2)) (W3 m ρ c (Proc.devRef .tc main_v3))
        (W3 m ρ c (Proc.devRef .tc main_v6)) (W3 m ρ c (Proc.devRef .tc main_v9)) :=
  (W4_arr m ρ c 8).trans (final8 (V3 m ρ) c)

/-- The first half's rows stay. -/
theorem v0_eq' (c : Dev nD) : W3 m ρ c (Proc.devRef .tc main_v0) = W1 m ρ c (Proc.devRef .tc main_v0) :=
  (W3_of m ρ c main_v0 (by decide)).trans (W2_of m ρ c main_v0 (by decide))
/-- The second half's rows stay. -/
theorem v1_eq' (c : Dev nD) : W3 m ρ c (Proc.devRef .tc main_v1) = W1 m ρ c (Proc.devRef .tc main_v1) :=
  (W3_of m ρ c main_v1 (by decide)).trans (W2_of m ρ c main_v1 (by decide))

end Cert.Kernel4Ideal.Out

end
-- ==== Proof.OutClaim.lean ====
module

public import proofs.«01_k».proof.Defs
public import proofs.«01_k».proof.Proof.OutVal
public import proofs.«01_k».proof.Proof.FfnRef
public import proofs.«01_k».proof.Proof.Gen.Reference4Ideal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Kernel4Ideal.Out

open Cert.Kernel4Ideal Cert.Kernel4Ideal.Gen
open Cert.Reference4Ideal.Read
open Cert.Kernel3Ideal.Ffn (rs rw' rw_eq rows_at)

variable (x0 x1 : Vec Ideal S2x4096x1024 .bf16) (x2 : Vec Ideal S2x4096x2048 .f32) (x3 : Vec Ideal S2x2048x2048 .f32) (x4 x5 : Vec Ideal S2x2048 .f32)

/-- The first half, as rows. -/
def rowsA : Vec Ideal S8192x1024 .bf16 := shapeCast S8192x1024 x0 shapeCasts_S2x4096x1024_S8192x1024
/-- A whole array, as rows. -/
def rowsH : Vec Ideal S8192x2048 .f32 := shapeCast S8192x2048 x2 shapeCasts_S2x4096x2048_S8192x2048
/-- The first layer's gain. -/
def gain : Vec Ideal S1x2048 .f32 :=
  shapeCast S1x2048 (shapeCast S2048 (extractStridedSlice S1x2048 ![0, 0] x4 slices_S2x2048_S1x2048_0_0) shapeCasts_S1x2048_S2048) shapeCasts_S2048_S1x2048

/-- A gain's entry. -/
theorem gain_at (j : Fin 2048) : gain x4 (ix2 0 j) = x4 (ix2 0 j) := by
  pointwise [gain]

/-- A row's entry. -/
theorem rowsH_at (b : Fin 2) (s : Fin 4096) (j : Fin 2048) : rowsH x2 (ix2 (rw' b s) j) = x2 (ix3 b s j) := by
  refine (rows_at x2 _ _).trans ?_
  unfold rw'
  congr 2 <;> (apply Fin.ext; simp only; omega)

/-- A half row's entry. -/
theorem rowsA_at' (b : Fin 2) (s : Fin 4096) (k : Fin 1024) : rowsA x0 (ix2 (rw' b s) k) = x0 (ix3 b s k) := rowsA_at x0 b s k

/-- The concatenated row's product is the two halves' products' sum. -/
theorem ref4 (b : Fin 2) (s : Fin 4096) (j : Fin 2048) :
    val_main_v4 (F := Ideal) x0 x1 x3 (ix3 b s j) = yv (rowsA x0) (rowsA x1) (cw x3) (rw' b s) j := by
  have h : val_main_v4 (F := Ideal) x0 x1 x3 (ix3 b s j)
      = ∑ k : Fin (1024 + 1024), (if h : k.val < 1024 then x0 (ix3 b s ⟨k.val, h⟩) else x1 (ix3 b s ⟨k.val - 1024, by omega⟩)) * x3 (ix3 0 ⟨k.val, by omega⟩ j) := by
    pointwise [val_main_v4, val_main_v3, val_main_v2, val_main_v1, val_main_v0]
  rw [h, Fin.sum_univ_add]
  unfold yv cw
  simp only [rowsA_at']
  refine congrArg₂ (· + ·) (Finset.sum_congr rfl fun k _ => ?_) (Finset.sum_congr rfl fun k _ => ?_)
  · rw [dif_pos (by simp)]
    rfl
  · rw [dif_neg (by simp)]
    refine congrArg₂ (· * ·) (congrArg x1 ?_) rfl
    refine congrArg (ix3 b s) (Fin.ext ?_)
    simp

/-- The residual result. -/
theorem ref20 (b : Fin 2) (s : Fin 4096) (j : Fin 2048) :
    val_main_v20 (F := Ideal) x0 x1 x2 x3 x4 (ix3 b s j) = rv (rowsA x0) (rowsA x1) (cw x3) (rowsH x2) (gain x4) (rw' b s) j := by
  unfold rv rs
  rw [rowsH_at, gain_at]
  simp only [← ref4]
  pointwise [val_main_v20, val_main_v19, val_main_v18, val_main_v17, val_main_v16, val_main_v15, val_main_v14, val_main_v13, val_main_v12, val_main_v11, val_main_v10, val_main_v9, val_main_v8, val_main_v7, val_main_v6, val_main_v5, val_main_cst, val_main_cst_0, val_main_cst_1]

/-- The normalised result. -/
theorem ref36 (b : Fin 2) (s : Fin 4096) (j : Fin 2048) :
    val_main_v36 (F := Ideal) x0 x1 x2 x3 x4 x5 (ix3 b s j) = nv (rowsA x0) (rowsA x1) (cw x3) (rowsH x2) (gain x4) (gain x5) (rw' b s) j := by
  unfold nv rs
  rw [gain_at]
  simp only [← ref20]
  pointwise [val_main_v36, val_main_v35, val_main_v34, val_main_v33, val_main_v32, val_main_v31, val_main_v30, val_main_v29, val_main_v28, val_main_v27, val_main_v26, val_main_v25, val_main_v24, val_main_v23, val_main_v22, val_main_cst_2, val_main_cst_3, val_main_cst_4]

/-- The first result. -/
theorem ref21 : val_main_v21 (F := Ideal) x0 x1 x2 x3 x4 = rA (rowsA x0) (rowsA x1) (cw x3) (rowsH x2) (gain x4) := by
  funext i
  rw [eq_ix2 i]
  unfold val_main_v21
  refine (rows_at _ (i 0) (i 1)).trans ((ref20 x0 x1 x2 x3 x4 _ _ _).trans ?_)
  exact congrArg (fun t => rv (rowsA x0) (rowsA x1) (cw x3) (rowsH x2) (gain x4) t (i 1)) (rw_eq (i 0))

/-- The second result. -/
theorem ref38 : val_main_v38 (F := Ideal) x0 x1 x2 x3 x4 x5 = nA (rowsA x0) (rowsA x1) (cw x3) (rowsH x2) (gain x4) (gain x5) := by
  funext i
  rw [eq_ix2 i]
  unfold val_main_v38 val_main_v37
  refine (rows_at _ (i 0) (i 1)).trans ((ref36 x0 x1 x2 x3 x4 x5 _ _ _).trans ?_)
  exact congrArg (fun t => nv (rowsA x0) (rowsA x1) (cw x3) (rowsH x2) (gain x4) (gain x5) t (i 1)) (rw_eq (i 0))

section Memory

variable (m : (ℓ : Loc nD τ sig) → Buf (Elt Ideal) ℓ) (ρ : Dev nD → PrngReg)

/-- The first result, of the arguments. -/
theorem first (c : Dev nD) : W4 m ρ c (Proc.devRef .tc main_v10_0) = rA (rowsA (m ((c : Thread nD τ).loc main_arg0))) (rowsA (m ((c : Thread nD τ).loc main_arg1)))
    (cw (m ((c : Thread nD τ).loc main_arg3))) (rowsH (m ((c : Thread nD τ).loc main_arg2))) (gain (m ((c : Thread nD τ).loc main_arg4))) := by
  rw [v10_0_eq, v0_eq', v1_eq', v0_eq, v1_eq, v2_eq, v3_eq, v6_eq]
  rfl

/-- The second result, of the arguments. -/
theorem second (c : Dev nD) : W4 m ρ c (Proc.devRef .tc main_v10_1) = nA (rowsA (m ((c : Thread nD τ).loc main_arg0))) (rowsA (m ((c : Thread nD τ).loc main_arg1)))
    (cw (m ((c : Thread nD τ).loc main_arg3))) (rowsH (m ((c : Thread nD τ).loc main_arg2))) (gain (m ((c : Thread nD τ).loc main_arg4)))
    (gain (m ((c : Thread nD τ).loc main_arg5))) := by
  rw [v10_1_eq, v0_eq', v1_eq', v0_eq, v1_eq, v2_eq, v3_eq, v6_eq, v9_eq]
  rfl

end Memory

end Cert.Kernel4Ideal.Out

end
-- ==== Proof.PleRun.lean ====
module

public import proofs.«01_k».proof.Defs
public import proofs.«01_k».proof.Proof.Gen.Kernel5Ideal.Frame
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

open Idealize.ShloMosaic.Tactic Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode

namespace Cert.Kernel5Ideal.Ple

open Cert.Kernel5Ideal Cert.Kernel5Ideal.Gen

variable {F : FTy → Type} [FloatOps F]
local notation "𝕄" => MT nD τ sig Unit (Elt F) ℕ (UR sig nD τ) ℕ

variable (m : (ℓ : Loc nD τ sig) → Buf (Elt F) ℓ) (ρ : Dev nD → PrngReg)

/-- The launch ends with the results at the last boundary's contents and the arguments unchanged. -/
theorem launch : θ_run defs (onTc (τ := τ) (main (F := F))) ⟨m, fun _ => 0, ρ⟩ (fun r => ∀ c : Dev nD,
      r.2.mem ((c.tc : Thread nD τ).loc main_v13_0) = W4 m ρ c (Proc.devRef .tc main_v13_0)
      ∧ r.2.mem ((c.tc : Thread nD τ).loc main_v13_1) = W4 m ρ c (Proc.devRef .tc main_v13_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => (fun c =>
      ⟨h c _ (mem_uc main_v13_0 (by decide)), h c _ (mem_uc main_v13_1 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩))

end Cert.Kernel5Ideal.Ple

end
-- ==== Proof.PleReg.lean ====
module

public import proofs.«01_k».proof.Defs
public import proofs.«01_k».proof.Proof.FfnPay
public import proofs.«01_k».proof.Proof.Gen.Kernel5Ideal.Frame
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Kernel5Ideal.Ple

open Cert.Kernel5Ideal Cert.Kernel5Ideal.Gen
open Cert.Kernel3Ideal.Ffn (rs one_bits)

variable (V : (c : Dev nD) → (b : Ref sig .tc) → Buf (Elt Ideal) ((c : Thread nD τ).loc b))

/-- The gate's weights, their values unchanged by the cast. -/
def cg (X : Vec Ideal S2x2048x2048 .f32) : Vec Ideal S2x2048x2048 .bf16 := fun i => X i
/-- The projection's weights, their values unchanged by the cast. -/
def cp (X : Vec Ideal S2x256x2048 .f32) : Vec Ideal S2x256x2048 .bf16 := fun i => X i

/-- The logistic function. -/
def sg (x : EReal) : EReal := Ideal.div 1 (1 + Ideal.exp (0 - x))

section Math

variable (P : Vec Ideal S8192x256 .f32) (N : Vec Ideal S8192x2048 .bf16) (Wp : Vec Ideal S2x256x2048 .bf16) (Wg : Vec Ideal S2x2048x2048 .bf16)
  (H : Vec Ideal S8192x2048 .f32) (g g' : Vec Ideal S1x2048 .f32)

/-- The gated embedding. -/
def yv (r : Fin 8192) (j : Fin 2048) : EReal :=
  (∑ k : Fin 256, P (ix2 r k) * Wp (ix3 0 k j)) * sg (∑ k : Fin 2048, N (ix2 r k) * Wg (ix3 0 k j))

/-- The residual result. -/
def rv (r : Fin 8192) (j : Fin 2048) : EReal := H (ix2 r j) + yv P N Wp Wg r j * rs (yv P N Wp Wg r) * g (ix2 0 j)

/-- The normalised result. -/
def nv (r : Fin 8192) (j : Fin 2048) : EReal := rv P N Wp Wg H g r j * rs (rv P N Wp Wg H g r) * g' (ix2 0 j)

/-- The residual result, as an array. -/
def rA : Vec Ideal S8192x2048 .f32 := fun i => rv P N Wp Wg H g (i 0) (i 1)
/-- The normalised result, as an array. -/
def nA : Vec Ideal S8192x2048 .bf16 := fun i => nv P N Wp Wg H g g' (i 0) (i 1)

end Math

/-- The gate cast's blocks. -/
theorem idx0_0 : ∀ t : Fin grid0.N, win0_0.index t = ![t.val / 2, t.val % 2, 0] := by decide +kernel
/-- The gate cast's blocks. -/
theorem idx0_1 : ∀ t : Fin grid0.N, win0_1.index t = ![t.val / 2, t.val % 2, 0] := by decide +kernel
/-- The projection cast's blocks. -/
theorem idx1_0 : ∀ t : Fin grid1.N, win1_0.index t = ![t.val, 0, 0] := by decide +kernel
/-- The projection cast's blocks. -/
theorem idx1_1 : ∀ t : Fin grid1.N, win1_1.index t = ![t.val, 0, 0] := by decide +kernel
/-- The embedding's rows. -/
theorem idx2_0 : ∀ t : Fin grid2.N, win2_0.index t = ![t.val, 0] := by decide +kernel
/-- The normalised rows. -/
theorem idx2_1 : ∀ t : Fin grid2.N, win2_1.index t = ![t.val, 0] := by decide +kernel
/-- The projection's matrix. -/
theorem idx2_2 : ∀ t : Fin grid2.N, win2_2.index t = ![0, 0, 0] := by decide +kernel
/-- The gate's matrix. -/
theorem idx2_3 : ∀ t : Fin grid2.N, win2_3.index t = ![0, 0, 0] := by decide +kernel
/-- The residual's rows. -/
theorem idx2_4 : ∀ t : Fin grid2.N, win2_4.index t = ![t.val, 0] := by decide +kernel
/-- The gains are one block. -/
theorem idx2_5 : ∀ t : Fin grid2.N, win2_5.index t = ![0, 0] := by decide +kernel
/-- The gains are one block. -/
theorem idx2_6 : ∀ t : Fin grid2.N, win2_6.index t = ![0, 0] := by decide +kernel
/-- The first result's rows. -/
theorem idx2_7 : ∀ t : Fin grid2.N, win2_7.index t = ![t.val, 0] := by decide +kernel
/-- The second result's rows. -/
theorem idx2_8 : ∀ t : Fin grid2.N, win2_8.index t = ![t.val, 0] := by decide +kernel

/-- After the cast the gate's weights. -/
theorem final0_1 (c : Dev nD) : (dat0 V c).arrAt 1 cfg0.N
    = cg (V c main_arg3) := by
  refine (dat0 V c).arrAt_eq_of_covers 1 _ (by decide +kernel) fun t hf y => ?_
  blk_simp
  rw [after0_1]
  frame_out
  idx_vars y
  pointwise [k0_pay1, cg]
  blk_point [iblk0, idx0_0 t, idx0_1 t]

/-- After the cast the projection's weights. -/
theorem final1_1 (c : Dev nD) : (dat1 V c).arrAt 1 cfg1.N
    = cp (V c main_arg4) := by
  refine (dat1 V c).arrAt_eq_of_covers 1 _ (by decide +kernel) fun t hf y => ?_
  blk_simp
  rw [after1_1]
  frame_out
  idx_vars y
  pointwise [k1_pay1, cp]
  blk_point [iblk1, idx1_0 t, idx1_1 t]

/-- After the run the residual result. -/
theorem final2_7 (c : Dev nD) : (dat2 V c).arrAt 7 cfg2.N
    = rA (V c main_v4) (V c main_v5) (V c main_v1) (V c main_v0) (V c main_v6) (V c main_v9) := by
  refine (dat2 V c).arrAt_eq_of_covers 7 _ (by decide +kernel) fun t hf y => ?_
  blk_simp
  rw [after2_7]
  frame_out
  idx_vars y
  pointwise [k2_pay2, rA, rv, yv, rs, sg]
  blk_point [iblk2, idx2_0 t, idx2_1 t, idx2_2 t, idx2_3 t, idx2_4 t, idx2_5 t, idx2_7 t]

/-- The residual result's block, a point's. -/
theorem row (c : Dev nD) (t : Fin cfg2.N) (r : Fin 512) (y1 : Fin 2048) (j : Fin 2048) :
    k2_pay3 (F := Ideal) (iblk2 V c 0 t) (iblk2 V c 1 t) (iblk2 V c 2 t) (iblk2 V c 3 t) (iblk2 V c 4 t) (iblk2 V c 5 t) (iblk2 V c 6 t) (ix2 r j) = rv (V c main_v4) (V c main_v5) (V c main_v1) (V c main_v0) (V c main_v6) (V c main_v9) (((View.whole main_v13_1).slice (win2_8.rect t)).emb (ix2 r y1) 0) j := by
  pointwise [k2_pay3, k2_pay2, rv, yv, rs, sg]
  blk_point [iblk2, idx2_0 t, idx2_1 t, idx2_2 t, idx2_3 t, idx2_4 t, idx2_5 t, idx2_8 t]

/-- A normalised block. -/
theorem pay1_at (A : FVec Ideal S512x2048 .f32) (g : Vec Ideal S1x2048 .f32) (r : Fin 512) (j : Fin 2048) :
    k2_pay1 A g (ix2 r j) = A (ix2 r j) * rs (fun k => A (ix2 r k)) * g (ix2 0 j) := by
  pointwise [k2_pay1, rs]

/-- After the run the normalised result. -/
theorem final2_8 (c : Dev nD) : (dat2 V c).arrAt 8 cfg2.N
    = nA (V c main_v4) (V c main_v5) (V c main_v1) (V c main_v0) (V c main_v6) (V c main_v9) (V c main_v12) := by
  refine (dat2 V c).arrAt_eq_of_covers 8 _ (by decide +kernel) fun t hf y => ?_
  blk_simp
  rw [after2_8]
  frame_out
  idx_vars y
  have e1 : (((View.whole main_v13_1).slice (win2_8.rect t)).emb (ix2 y0 y1) 1 : Fin 2048) = y1 := Fin.ext (by blk_simp [idx2_8 t])
  show _ = rv (V c main_v4) (V c main_v5) (V c main_v1) (V c main_v0) (V c main_v6) (V c main_v9) (((View.whole main_v13_1).slice (win2_8.rect t)).emb (ix2 y0 y1) 0) (((View.whole main_v13_1).slice (win2_8.rect t)).emb (ix2 y0 y1) 1) * rs (rv (V c main_v4) (V c main_v5) (V c main_v1) (V c main_v0) (V c main_v6) (V c main_v9) (((View.whole main_v13_1).slice (win2_8.rect t)).emb (ix2 y0 y1) 0))
    * (V c main_v12 : Vec Ideal S1x2048 .f32) (ix2 0 (((View.whole main_v13_1).slice (win2_8.rect t)).emb (ix2 y0 y1) 1))
  rw [e1]
  refine (pay1_at _ _ y0 y1).trans ?_
  refine congrArg₂ (· * ·) (congrArg₂ (fun a f => a * rs f) (row V c t y0 y1 y1) (funext fun k => row V c t y0 y1 k)) ?_
  blk_point [iblk2, idx2_6 t]

end Cert.Kernel5Ideal.Ple

end
-- ==== Proof.PleClaim.lean ====
module

public import proofs.«01_k».proof.Defs
public import proofs.«01_k».proof.Proof.PleReg
public import proofs.«01_k».proof.Proof.FfnRef
public import proofs.«01_k».proof.Proof.Gen.Reference5Ideal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Kernel5Ideal.Ple

open Cert.Kernel5Ideal Cert.Kernel5Ideal.Gen
open Cert.Reference5Ideal.Read
open Cert.Kernel3Ideal.Ffn (rs rw' rw_eq rows_at one_bits)

section Arrays

variable (x0 : Vec Ideal S2x2x4096x256 .f32) (x1 : Vec Ideal S2x4096x2048 .bf16) (x2 : Vec Ideal S2x4096x2048 .f32) (x3 : Vec Ideal S2x2048x2048 .f32)
  (x4 : Vec Ideal S2x256x2048 .f32) (x5 x6 : Vec Ideal S2x2048 .f32)

/-- The first layer's embeddings, as rows. -/
def rowsP : Vec Ideal S8192x256 .f32 := shapeCast S8192x256 (shapeCast S2x4096x256
  (extractStridedSlice S1x2x4096x256 ![0, 0, 0, 0] x0 slices_S2x2x4096x256_S1x2x4096x256_0_0_0_0) shapeCasts_S1x2x4096x256_S2x4096x256) shapeCasts_S2x4096x256_S8192x256
/-- The normalised input, as rows. -/
def rowsN : Vec Ideal S8192x2048 .bf16 := shapeCast S8192x2048 x1 shapeCasts_S2x4096x2048_S8192x2048
/-- The residual, as rows. -/
def rowsH : Vec Ideal S8192x2048 .f32 := shapeCast S8192x2048 x2 shapeCasts_S2x4096x2048_S8192x2048
/-- The first layer's gain. -/
def gain0 : Vec Ideal S1x2048 .f32 :=
  shapeCast S1x2048 (shapeCast S2048 (extractStridedSlice S1x2048 ![0, 0] x5 slices_S2x2048_S1x2048_0_0) shapeCasts_S1x2048_S2048) shapeCasts_S2048_S1x2048
/-- The next layer's gain. -/
def gain1 : Vec Ideal S1x2048 .f32 :=
  shapeCast S1x2048 (shapeCast S2048 (extractStridedSlice S1x2048 ![1, 0] x6 slices_S2x2048_S1x2048_1_0) shapeCasts_S1x2048_S2048) shapeCasts_S2048_S1x2048

/-- A gain's entry. -/
theorem gain0_at (j : Fin 2048) : gain0 x5 (ix2 0 j) = x5 (ix2 0 j) := by
  pointwise [gain0]
/-- A gain's entry. -/
theorem gain1_at (j : Fin 2048) : gain1 x6 (ix2 0 j) = x6 (ix2 1 j) := by
  pointwise [gain1]

/-- A row's entry. -/
theorem rowsH_at (b : Fin 2) (s : Fin 4096) (j : Fin 2048) : rowsH x2 (ix2 (rw' b s) j) = x2 (ix3 b s j) := by
  refine (rows_at x2 _ _).trans ?_
  unfold rw'
  congr 2 <;> (apply Fin.ext; simp only; omega)
/-- A row's entry. -/
theorem rowsN_at (b : Fin 2) (s : Fin 4096) (j : Fin 2048) : rowsN x1 (ix2 (rw' b s) j) = x1 (ix3 b s j) := by
  refine (rows_at x1 _ _).trans ?_
  unfold rw'
  congr 2 <;> (apply Fin.ext; simp only; omega)
/-- An embedding row's entry. -/
theorem rowsP_at (b : Fin 2) (s : Fin 4096) (k : Fin 256) : rowsP x0 (ix2 (rw' b s) k) = x0 (ix4 0 b s k) := by
  refine (shapeCast_apply _ _ _ (ix3 b s k) ?_).trans ?_
  · rw [Shape.rowMajor_val_three, Shape.rowMajor_val_two]
    show (b.val * 4096 + s.val) * 256 + k.val = (b.val * 4096 + s.val) * 256 + k.val
    rfl
  · pointwise

/-- The gated embedding. -/
theorem ref15 (b : Fin 2) (s : Fin 4096) (j : Fin 2048) :
    val_main_v15 (F := Ideal) x0 x1 x3 x4 (ix3 b s j) = yv (rowsP x0) (rowsN x1) (cp x4) (cg x3) (rw' b s) j := by
  unfold yv sg cp cg
  simp only [rowsP_at, rowsN_at, zero_sub]
  pointwise [val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0]

/-- The residual result. -/
theorem ref31 (b : Fin 2) (s : Fin 4096) (j : Fin 2048) :
    val_main_v31 (F := Ideal) x0 x1 x2 x3 x4 x5 (ix3 b s j) = rv (rowsP x0) (rowsN x1) (cp x4) (cg x3) (rowsH x2) (gain0 x5) (rw' b s) j := by
  unfold rv rs
  rw [rowsH_at, gain0_at]
  simp only [← ref15]
  pointwise [val_main_v31, val_main_v30, val_main_v29, val_main_v28, val_main_v27, val_main_v26, val_main_v25, val_main_v24, val_main_v23, val_main_v22, val_main_v21, val_main_v20, val_main_v19, val_main_v18, val_main_v17, val_main_v16, val_main_cst_1, val_main_cst_2, val_main_cst_3]

/-- The normalised result. -/
theorem ref47 (b : Fin 2) (s : Fin 4096) (j : Fin 2048) :
    val_main_v47 (F := Ideal) x0 x1 x2 x3 x4 x5 x6 (ix3 b s j) = nv (rowsP x0) (rowsN x1) (cp x4) (cg x3) (rowsH x2) (gain0 x5) (gain1 x6) (rw' b s) j := by
  unfold nv rs
  rw [gain1_at]
  simp only [← ref31]
  pointwise [val_main_v47, val_main_v46, val_main_v45, val_main_v44, val_main_v43, val_main_v42, val_main_v41, val_main_v40, val_main_v39, val_main_v38, val_main_v37, val_main_v36, val_main_v35, val_main_v34, val_main_v33, val_main_cst_4, val_main_cst_5, val_main_cst_6]

/-- The first result. -/
theorem ref32 : val_main_v32 (F := Ideal) x0 x1 x2 x3 x4 x5 = rA (rowsP x0) (rowsN x1) (cp x4) (cg x3) (rowsH x2) (gain0 x5) := by
  funext i
  rw [eq_ix2 i]
  unfold val_main_v32
  refine (rows_at _ (i 0) (i 1)).trans ((ref31 x0 x1 x2 x3 x4 x5 _ _ _).trans ?_)
  exact congrArg (fun t => rv (rowsP x0) (rowsN x1) (cp x4) (cg x3) (rowsH x2) (gain0 x5) t (i 1)) (rw_eq (i 0))

/-- The second result. -/
theorem ref49 : val_main_v49 (F := Ideal) x0 x1 x2 x3 x4 x5 x6 = nA (rowsP x0) (rowsN x1) (cp x4) (cg x3) (rowsH x2) (gain0 x5) (gain1 x6) := by
  funext i
  rw [eq_ix2 i]
  unfold val_main_v49 val_main_v48
  refine (rows_at _ (i 0) (i 1)).trans ((ref47 x0 x1 x2 x3 x4 x5 x6 _ _ _).trans ?_)
  exact congrArg (fun t => nv (rowsP x0) (rowsN x1) (cp x4) (cg x3) (rowsH x2) (gain0 x5) (gain1 x6) t (i 1)) (rw_eq (i 0))

end Arrays

section Memory

variable (m : (ℓ : Loc nD τ sig) → Buf (Elt Ideal) ℓ) (ρ : Dev nD → PrngReg)

/-- The embedding's rows. -/
theorem v4_eq (c : Dev nD) : W3 m ρ c (Proc.devRef .tc main_v4) = rowsP (m ((c : Thread nD τ).loc main_arg0)) := by
  have h : W2 m ρ c (Proc.devRef .tc main_arg0) = m ((c : Thread nD τ).loc main_arg0) := W2_args m ρ c main_arg0 (by decide)
  rw [← h]
  show StableHlo.after hostOps2 (W2 m ρ c) _ = _
  after_results_simp <;> rfl

/-- The normalised input's rows. -/
theorem v5_eq (c : Dev nD) : W3 m ρ c (Proc.devRef .tc main_v5) = rowsN (m ((c : Thread nD τ).loc main_arg1)) := by
  have h : W2 m ρ c (Proc.devRef .tc main_arg1) = m ((c : Thread nD τ).loc main_arg1) := W2_args m ρ c main_arg1 (by decide)
  rw [← h]
  show StableHlo.after hostOps2 (W2 m ρ c) _ = _
  after_results_simp <;> rfl

/-- The residual's rows. -/
theorem v6_eq (c : Dev nD) : W3 m ρ c (Proc.devRef .tc main_v6) = rowsH (m ((c : Thread nD τ).loc main_arg2)) := by
  have h : W2 m ρ c (Proc.devRef .tc main_arg2) = m ((c : Thread nD τ).loc main_arg2) := W2_args m ρ c main_arg2 (by decide)
  rw [← h]
  show StableHlo.after hostOps2 (W2 m ρ c) _ = _
  after_results_simp <;> rfl

/-- The first gain. -/
theorem v9_eq (c : Dev nD) : W3 m ρ c (Proc.devRef .tc main_v9) = gain0 (m ((c : Thread nD τ).loc main_arg5)) := by
  have h : W2 m ρ c (Proc.devRef .tc main_arg5) = m ((c : Thread nD τ).loc main_arg5) := W2_args m ρ c main_arg5 (by decide)
  rw [← h]
  show StableHlo.after hostOps2 (W2 m ρ c) _ = _
  after_results_simp <;> rfl

/-- The second gain. -/
theorem v12_eq (c : Dev nD) : W3 m ρ c (Proc.devRef .tc main_v12) = gain1 (m ((c : Thread nD τ).loc main_arg6)) := by
  have h : W2 m ρ c (Proc.devRef .tc main_arg6) = m ((c : Thread nD τ).loc main_arg6) := W2_args m ρ c main_arg6 (by decide)
  rw [← h]
  show StableHlo.after hostOps2 (W2 m ρ c) _ = _
  after_results_simp <;> rfl

/-- The gate's weights the product meets. -/
theorem v0_eq (c : Dev nD) : W3 m ρ c (Proc.devRef .tc main_v0) = cg (m ((c : Thread nD τ).loc main_arg3)) :=
  (W3_of m ρ c main_v0 (by decide)).trans <| (W2_of m ρ c main_v0 (by decide)).trans <| (W1_arr m ρ c 1).trans (final0_1 (V0 m ρ) c)
/-- The projection's weights the product meets. -/
theorem v1_eq (c : Dev nD) : W3 m ρ c (Proc.devRef .tc main_v1) = cp (m ((c : Thread nD τ).loc main_arg4)) :=
  (W3_of m ρ c main_v1 (by decide)).trans <| (W2_arr m ρ c 1).trans <| (final1_1 (V1 m ρ) c).trans (congrArg cp (W1_args m ρ c main_arg4 (by decide)))

/-- The first result, of the arguments. -/
theorem first (c : Dev nD) : W4 m ρ c (Proc.devRef .tc main_v13_0) = rA (rowsP (m ((c : Thread nD τ).loc main_arg0))) (rowsN (m ((c : Thread nD τ).loc main_arg1))) (cp (m ((c : Thread nD τ).loc main_arg4)))
      (cg (m ((c : Thread nD τ).loc main_arg3))) (rowsH (m ((c : Thread nD τ).loc main_arg2))) (gain0 (m ((c : Thread nD τ).loc main_arg5))) := by
  refine (W4_arr m ρ c 7).trans ((final2_7 (V3 m ρ) c).trans ?_)
  rw [← v0_eq m ρ c, ← v1_eq m ρ c, ← v4_eq m ρ c, ← v5_eq m ρ c, ← v6_eq m ρ c, ← v9_eq m ρ c]

/-- The second result, of the arguments. -/
theorem second (c : Dev nD) : W4 m ρ c (Proc.devRef .tc main_v13_1) = nA (rowsP (m ((c : Thread nD τ).loc main_arg0))) (rowsN (m ((c : Thread nD τ).loc main_arg1))) (cp (m ((c : Thread nD τ).loc main_arg4)))
      (cg (m ((c : Thread nD τ).loc main_arg3))) (rowsH (m ((c : Thread nD τ).loc main_arg2))) (gain0 (m ((c : Thread nD τ).loc main_arg5)))
      (gain1 (m ((c : Thread nD τ).loc main_arg6))) := by
  refine (W4_arr m ρ c 8).trans ((final2_8 (V3 m ρ) c).trans ?_)
  rw [← v0_eq m ρ c, ← v1_eq m ρ c, ← v4_eq m ρ c, ← v5_eq m ρ c, ← v6_eq m ρ c, ← v9_eq m ρ c, ← v12_eq m ρ c]

end Memory

end Cert.Kernel5Ideal.Ple

end
-- ==== Proof.PrepRun.lean ====
module

public import proofs.«01_k».proof.Defs
public import proofs.«01_k».proof.Proof.Gen.Kernel6Ideal.Frame
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

open Idealize.ShloMosaic.Tactic Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode

namespace Cert.Kernel6Ideal.Prep

open Cert.Kernel6Ideal Cert.Kernel6Ideal.Gen

variable {F : FTy → Type} [FloatOps F]
local notation "𝕄" => MT nD τ sig Unit (Elt F) ℕ (UR sig nD τ) ℕ

variable (m : (ℓ : Loc nD τ sig) → Buf (Elt F) ℓ) (ρ : Dev nD → PrngReg)

/-- The launch ends with the results at the last boundary's contents and the arguments unchanged. -/
theorem launch : θ_run defs (onTc (τ := τ) (main (F := F))) ⟨m, fun _ => 0, ρ⟩ (fun r => ∀ c : Dev nD,
      r.2.mem ((c.tc : Thread nD τ).loc main_v0) = W2 m ρ c (Proc.devRef .tc main_v0)
      ∧ r.2.mem ((c.tc : Thread nD τ).loc main_v1) = W2 m ρ c (Proc.devRef .tc main_v1)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz => (fun c =>
      ⟨h c _ (mem_uc main_v0 (by decide)), h c _ (mem_uc main_v1 (by decide)),
       (h c _ (mem_uc main_arg0 (by decide))).trans (W2_main_arg0 m ρ c),
       (h c _ (mem_uc main_arg1 (by decide))).trans (W2_main_arg1 m ρ c)⟩))

end Cert.Kernel6Ideal.Prep

end
-- ==== Proof.PrepReg.lean ====
module

public import proofs.«01_k».proof.Defs
public import proofs.«01_k».proof.Proof.Gen.Kernel6Ideal.Frame
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Kernel6Ideal.Prep

open Cert.Kernel6Ideal Cert.Kernel6Ideal.Gen

variable (V : (c : Dev nD) → (b : Ref sig .tc) → Buf (Elt Ideal) ((c : Thread nD τ).loc b))

/-- The column an interleaved column comes from. -/
def col (q : ℕ) : ℕ := q / 128 % 2 * 5632 + q / 256 * 128 + q % 128

/-- It is a column. -/
theorem col_lt (q : Fin 11264) : col q.val < 11264 := by unfold col; omega

/-- The gate and up weights, interleaved. -/
def wU (X : Vec Ideal S2x2048x11264 .f32) : Vec Ideal S2x2048x11264 .bf16 := fun i => X (ix3 (i 0) (i 1) ⟨col (i 2).val, col_lt (i 2)⟩)
/-- The down weights, their values unchanged by the cast. -/
def wD (X : Vec Ideal S2x5632x2048 .f32) : Vec Ideal S2x5632x2048 .bf16 := fun i => X i

/-- The gate's columns. -/
theorem idx0_0 : ∀ t : Fin grid0.N, win0_0.index t = ![t.val / 22, 0, t.val % 22] := by decide +kernel
/-- The up columns. -/
theorem idx0_1 : ∀ t : Fin grid0.N, win0_1.index t = ![t.val / 22, 0, 22 + t.val % 22] := by decide +kernel
/-- The interleaved columns. -/
theorem idx0_2 : ∀ t : Fin grid0.N, win0_2.index t = ![t.val / 22, 0, t.val % 22] := by decide +kernel
/-- The down weights' blocks. -/
theorem idx1_0 : ∀ t : Fin grid1.N, win1_0.index t = ![t.val / 11, t.val % 11, 0] := by decide +kernel
/-- The down weights' blocks. -/
theorem idx1_1 : ∀ t : Fin grid1.N, win1_1.index t = ![t.val / 11, t.val % 11, 0] := by decide +kernel

/-- A point's interleaved block. -/
theorem point (c : Dev nD) (t : Fin cfg0.N) (y : S1x2048x512.Idx) (j : S2x2048x11264.Idx) (hj0 : (j 0 : ℕ) = t.val / 22) (hj1 : (j 1 : ℕ) = y 1)
    (hj2 : (j 2 : ℕ) = t.val % 22 * 512 + y 2) : out0_2 (iblk0 V c 0 t) (iblk0 V c 1 t) y = wU (V c main_arg0) j := by
  have ht : t.val < 44 := lt_of_lt_of_eq t.isLt N_0
  canon_tiles x h
  all_goals (open_payloads; unfold wU col; pointwise; blk_point [iblk0, idx0_0 t, idx0_1 t])

/-- After the run the interleaved weights. -/
theorem final0 (c : Dev nD) : (dat0 V c).arrAt 2 cfg0.N = wU (V c main_arg0) := by
  refine (dat0 V c).arrAt_eq_of_covers 2 _ (by decide +kernel) fun t hf y => ?_
  blk_simp
  rw [after0_2]
  refine point V c t y _ ?_ ?_ ?_
  all_goals (blk_simp [idx0_2 t] <;> try omega)

/-- After the run the down weights. -/
theorem final1 (c : Dev nD) : (dat1 V c).arrAt 1 cfg1.N = wD (V c main_arg1) := by
  refine (dat1 V c).arrAt_eq_of_covers 1 _ (by decide +kernel) fun t hf y => ?_
  blk_simp
  rw [after1_1]
  frame_out
  idx_vars y
  pointwise [k1_pay1, wD]
  blk_point [iblk1, idx1_0 t, idx1_1 t]

end Cert.Kernel6Ideal.Prep

end
-- ==== Proof.PrepClaim.lean ====
module

public import proofs.«01_k».proof.Defs
public import proofs.«01_k».proof.Proof.PrepReg
public import proofs.«01_k».proof.Proof.Gen.Reference6Ideal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Kernel6Ideal.Prep

open Cert.Kernel6Ideal Cert.Kernel6Ideal.Gen
open Cert.Reference6Ideal.Read

variable (m : (ℓ : Loc nD τ sig) → Buf (Elt Ideal) ℓ) (ρ : Dev nD → PrngReg)

/-- The interleaved weights, at the end. -/
theorem first (c : Dev nD) : W2 m ρ c (Proc.devRef .tc main_v0) = wU (m ((c : Thread nD τ).loc main_arg0)) :=
  (W2_of m ρ c main_v0 (by decide)).trans <| (W1_arr m ρ c 2).trans (final0 (V0 m ρ) c)

/-- The down weights, at the end. -/
theorem second (c : Dev nD) : W2 m ρ c (Proc.devRef .tc main_v1) = wD (m ((c : Thread nD τ).loc main_arg1)) :=
  (W2_arr m ρ c 1).trans <| (final1 (V1 m ρ) c).trans (congrArg wD (W1_args m ρ c main_arg1 (by decide)))

/-- The gate's group. -/
theorem ref6_0 (x : Vec Ideal S2x2048x11264 .f32) (l : Fin 2) (k : Fin 2048) (a : Fin 44) (b : Fin 128) :
    val_main_v6 (F := Ideal) x (ix5 l k a 0 b) = x (ix3 l k ⟨a.val * 128 + b.val, by omega⟩) := by
  pointwise [val_main_v6, val_main_v5, val_main_v4, val_main_v3, val_main_v2, val_main_v1, val_main_v0]

/-- The up group. -/
theorem ref6_1 (x : Vec Ideal S2x2048x11264 .f32) (l : Fin 2) (k : Fin 2048) (a : Fin 44) (b : Fin 128) :
    val_main_v6 (F := Ideal) x (ix5 l k a 1 b) = x (ix3 l k ⟨5632 + (a.val * 128 + b.val), by omega⟩) := by
  pointwise [val_main_v6, val_main_v5, val_main_v4, val_main_v3, val_main_v2, val_main_v1, val_main_v0]

/-- The groups laid side by side. -/
theorem flat_at (y : Vec Ideal Cert.Reference6Ideal.S2x2048x44x2x128 .f32) (l : Fin 2) (k : Fin 2048) (a : Fin 44) (p : Fin 2) (b : Fin 128) (q : Fin 11264)
    (hq : q.val = (a.val * 2 + p.val) * 128 + b.val) :
    shapeCast S2x2048x11264 y (by decide) (ix3 l k q) = y (ix5 l k a p b) := by
  refine shapeCast_apply _ _ _ _ ?_
  rw [Shape.rowMajor_val_three, Shape.rowMajor_val_five]
  show (((l.val * 2048 + k.val) * 44 + a.val) * 2 + p.val) * 128 + b.val = (l.val * 2048 + k.val) * 11264 + q.val
  omega

/-- A cast of an array changes no entry. -/
theorem cast_at (y : Vec Ideal S2x2048x11264 .f32) (i : S2x2048x11264.Idx) : (truncf (F := Ideal) .bf16 y bitsLt_bf16_f32 : FVec Ideal S2x2048x11264 .bf16) i = y i := rfl

/-- A gate's column. -/
theorem col_0 (q : Fin 11264) (h2 : q.val / 128 % 2 = 0) : q.val / 256 * 128 + q.val % 128 = col q.val := by
  unfold col
  omega
/-- An up column. -/
theorem col_1 (q : Fin 11264) (h2 : q.val / 128 % 2 = 1) : 5632 + (q.val / 256 * 128 + q.val % 128) = col q.val := by
  unfold col
  omega

/-- The reference's interleaved weights, at an entry. -/
theorem ref7_at (x : Vec Ideal S2x2048x11264 .f32) (l : Fin 2) (k : Fin 2048) (q : Fin 11264) :
    val_main_v7 (F := Ideal) x (ix3 l k q) = x (ix3 l k ⟨col q.val, col_lt q⟩) := by
  unfold val_main_v7
  rcases (show q.val / 128 % 2 = 0 ∨ q.val / 128 % 2 = 1 by omega) with h2 | h2
  · refine (flat_at _ l k ⟨q.val / 256, by omega⟩ 0 ⟨q.val % 128, by omega⟩ q (by show q.val = (q.val / 256 * 2 + 0) * 128 + q.val % 128; omega)).trans ?_
    refine (ref6_0 x l k _ _).trans ?_
    exact congrArg (fun t => x (ix3 l k t)) (Fin.ext (col_0 q h2))
  · refine (flat_at _ l k ⟨q.val / 256, by omega⟩ 1 ⟨q.val % 128, by omega⟩ q (by show q.val = (q.val / 256 * 2 + 1) * 128 + q.val % 128; omega)).trans ?_
    refine (ref6_1 x l k _ _).trans ?_
    exact congrArg (fun t => x (ix3 l k t)) (Fin.ext (col_1 q h2))

/-- The reference's interleaved weights. -/
theorem ref8 (x : Vec Ideal S2x2048x11264 .f32) : val_main_v8 (F := Ideal) x = wU x := by
  funext i
  rw [eq_ix3 i]
  unfold val_main_v8
  rw [cast_at]
  exact ref7_at x (i 0) (i 1) (i 2)

end Cert.Kernel6Ideal.Prep

end
-- ==== Proof.FfmPay.lean ====
module

public import proofs.«01_k».proof.Defs
public import proofs.«01_k».proof.Proof.Gen.Kernel7Ideal.Skeleton
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Kernel7Ideal.Ffn

open Cert.Kernel7Ideal Cert.Kernel7Ideal.Gen

/-- The gate's activation. -/
def sil (x : EReal) : EReal := x * Ideal.div 1 (1 + Ideal.exp (-x))

/-- The three-tap convolution of a slab of 256 columns. -/
def cv (cw : Vec Ideal S3x256 .f32) (a b d : Vec Ideal S1x512x256 .f32) (cb : Vec Ideal S1x256 .f32) (r : Fin 512) (q : Fin 256) : EReal :=
  cw (ix2 0 q) * a (ix3 0 r q) + cw (ix2 1 q) * b (ix3 0 r q) + cw (ix2 2 q) * d (ix3 0 r q) + cb (ix2 0 q)

/-- The slab's activation: the first half gates the second. -/
def gl (cw : Vec Ideal S3x256 .f32) (a b d : Vec Ideal S1x512x256 .f32) (cb : Vec Ideal S1x256 .f32) (r : Fin 512) (n : Fin 128) : EReal :=
  sil (cv cw a b d cb r ⟨n.val, by omega⟩) * cv cw a b d cb r ⟨128 + n.val, by omega⟩

/-- One is one. -/
theorem one_bits : (Ideal.ofBits .f32 0x3F800000#32 : EReal) = 1 := by
  simp [Ideal.ofBits, Ideal.ieee, -EReal.coe_mul]; norm_num

variable (cw : Vec Ideal S3x256 .f32) (a b d : Vec Ideal S1x512x256 .f32) (cb : Vec Ideal S1x256 .f32)

/-- The first slab's activation. -/
theorem pay10_eq (r : Fin 512) (n : Fin 128) : k0_pay10 (k0_pay8 cw) (k0_pay9 cw a b) d cb (ix2 r n) = gl cw a b d cb r n := by
  unfold gl sil cv
  pointwise [k0_pay10, k0_pay8, k0_pay9]
  simp only [one_bits, zero_sub]

/-- The second slab's. -/
theorem pay15_eq (r : Fin 512) (n : Fin 128) : k0_pay15 (k0_pay12 cw) (k0_pay13 cw a) (k0_pay14 cw) b d cb (ix2 r n) = gl cw a b d cb r n := by
  unfold gl sil cv
  pointwise [k0_pay15, k0_pay12, k0_pay13, k0_pay14]
  simp only [one_bits, zero_sub]

/-- The third slab's. -/
theorem pay20_eq (r : Fin 512) (n : Fin 128) : k0_pay20 (k0_pay17 cw) (k0_pay18 a) (k0_pay19 cw) b d cb (ix2 r n) = gl cw a b d cb r n := by
  unfold gl sil cv
  pointwise [k0_pay20, k0_pay17, k0_pay18, k0_pay19]
  simp only [one_bits, zero_sub]

/-- The accumulator after the point. -/
theorem pay24_eq (A0 A1 A2 : Vec Ideal S512x128 .bf16) (X : Vec Ideal S512x2048 .f32) (w0 w1 : Vec Ideal S1x256x2048 .bf16) (r : Fin 512) (j : Fin 2048) :
    k0_pay24 A0 A1 A2 (k0_pay21 cw) (k0_pay22 cw a) (k0_pay23 cw b) d cb X w0 w1 (ix2 r j)
      = X (ix2 r j) + (∑ n : Fin 128, A0 (ix2 r n) * w0 (ix3 0 ⟨n.val, by omega⟩ j) + ∑ n : Fin 128, A1 (ix2 r n) * w0 (ix3 0 ⟨128 + n.val, by omega⟩ j))
        + (∑ n : Fin 128, A2 (ix2 r n) * w1 (ix3 0 ⟨n.val, by omega⟩ j) + ∑ n : Fin 128, gl cw a b d cb r n * w1 (ix3 0 ⟨128 + n.val, by omega⟩ j)) := by
  unfold gl sil cv
  pointwise [k0_pay24, k0_pay21, k0_pay22, k0_pay23]
  simp only [zero_sub]

/-- A row of the left operand against a column of the gate and up weights. -/
theorem pay6_eq (L : Vec Ideal S528x2048 .bf16) (w : Vec Ideal S1x2048x256 .bf16) (r : Fin 528) (q : Fin 256) :
    k0_pay6 L w (ix3 0 r q) = ∑ k : Fin 2048, L (ix2 r k) * w (ix3 0 k q) := by
  pointwise [k0_pay6]
/-- The same for the second slab. -/
theorem pay7_eq (L : Vec Ideal S528x2048 .bf16) (w : Vec Ideal S1x2048x256 .bf16) (r : Fin 528) (q : Fin 256) :
    k0_pay7 L w (ix3 0 r q) = ∑ k : Fin 2048, L (ix2 r k) * w (ix3 0 k q) := by
  pointwise [k0_pay7]
/-- The same for the third slab. -/
theorem pay11_eq (L : Vec Ideal S528x2048 .bf16) (w : Vec Ideal S1x2048x256 .bf16) (r : Fin 528) (q : Fin 256) :
    k0_pay11 L w (ix3 0 r q) = ∑ k : Fin 2048, L (ix2 r k) * w (ix3 0 k q) := by
  pointwise [k0_pay11]
/-- The same for the last slab. -/
theorem pay16_eq (L : Vec Ideal S528x2048 .bf16) (w : Vec Ideal S1x2048x256 .bf16) (r : Fin 528) (q : Fin 256) :
    k0_pay16 L w (ix3 0 r q) = ∑ k : Fin 2048, L (ix2 r k) * w (ix3 0 k q) := by
  pointwise [k0_pay16]

/-- A row's scale: the inverse root of its mean square. -/
def rs (f : Fin 2048 → EReal) : EReal := Ideal.rsqrt (Ideal.div (∑ k : Fin 2048, f k * f k) (Ideal.ofBits .f32 0x45000000#32) + Ideal.ofBits .f32 0x358637BD#32)

/-- The residual result of a row. -/
theorem pay1_eq (Y H : Vec Ideal S512x2048 .f32) (g : Vec Ideal S1x2048 .f32) (r : Fin 512) (j : Fin 2048) :
    k0_pay1 Y H g (ix2 r j) = H (ix2 r j) + Y (ix2 r j) * rs (fun k => Y (ix2 r k)) * g (ix2 0 j) := by
  unfold rs
  pointwise [k0_pay1]

/-- The normalised result of a row. -/
theorem pay2_eq (Y H : Vec Ideal S512x2048 .f32) (g g' : Vec Ideal S1x2048 .f32) (r : Fin 512) (j : Fin 2048) :
    k0_pay2 Y H g g' (ix2 r j) = k0_pay1 Y H g (ix2 r j) * rs (fun k => k0_pay1 Y H g (ix2 r k)) * g' (ix2 0 j) := by
  unfold rs
  pointwise [k0_pay2]

end Cert.Kernel7Ideal.Ffn
end
-- ==== Proof.FfmStep.lean ====
module

public import proofs.«01_k».proof.Defs
public import proofs.«01_k».proof.Proof.Gen.Kernel7Ideal.Frame
public import proofs.«01_k».proof.Proof.FfmPay
public import Idealize.ShloMosaic.Lib.Pointwise
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem

namespace Cert.Kernel7Ideal.Ffn

open Cert.Kernel7Ideal Cert.Kernel7Ideal.Gen

variable (m : (ℓ : Loc nD τ sig) → Buf (Elt Ideal) ℓ)

/-- A load of 512 rows of the slab just stored. -/
theorem slab_read (s o : ℕ) (ho : o ≤ 16) (hs : s < 4) (hi : ∀ a, (![s, 0, 0] : Fin 3 → ℕ) a + ![1, 528, 256] a ≤ S4x528x256.size a)
    (hi' : ∀ a, (![s, o, 0] : Fin 3 → ℕ) a + ![1, 512, 256] a ≤ S4x528x256.size a)
    (w : Vec Ideal S1x528x256 .f32) (L : List (View.Piece (Elt Ideal) S4x528x256 .f32)) (r : Fin 512) (q : Fin 256) :
    (View.whole cc0_scratch1).readCov (⟨Rect.unit (s := S4x528x256) ![s, 0, 0] ![1, 528, 256] hi, w⟩ :: L)
      (Rect.unit (s := S4x528x256) ![s, o, 0] ![1, 512, 256] hi').toLoadRect (ix3 0 r q) = w (ix3 0 ⟨r.val + o, by omega⟩ q) := by
  rw [View.readCov_eq_canon']
  show View.canon _ ((Rect.unit (s := S4x528x256) ![s, o, 0] ![1, 512, 256] hi').toLoadRect.idx (ix3 0 r q)) = _
  have e : (Rect.unit (s := S4x528x256) ![s, o, 0] ![1, 512, 256] hi').toLoadRect.idx (ix3 0 r q)
      = (Rect.unit (s := S4x528x256) ![s, 0, 0] ![1, 528, 256] hi).emb (ix3 (0 : Fin 1) (⟨r.val + o, by omega⟩ : Fin 528) q) := by
    funext a; apply Fin.ext
    match a with
    | ⟨0, _⟩ => rfl
    | ⟨1, _⟩ => show o + 1 * r.val = 0 + 1 * (r.val + o); omega
    | ⟨2, _⟩ => rfl
  rw [e]
  exact View.canon_cons_emb _ _ _ _

/-- A gate or up value: a row of the left operand against one column of the weight block. -/
def uu (L : Vec Ideal S528x2048 .bf16) (w : Vec Ideal S1x2048x1024 .bf16) (r : Fin 528) (q : Fin 1024) : EReal :=
  ∑ k : Fin 2048, L (ix2 r k) * w (ix3 0 k q)

/-- The convolved value of row `r` and column `q` of the block. -/
def cc (L : Vec Ideal S528x2048 .bf16) (w : Vec Ideal S1x2048x1024 .bf16) (cw : Vec Ideal S3x1024 .f32) (cb : Vec Ideal S1x1024 .f32)
    (r : Fin 512) (q : Fin 1024) : EReal :=
  cw (ix2 0 q) * uu L w ⟨r.val + 14, by omega⟩ q + cw (ix2 1 q) * uu L w ⟨r.val + 15, by omega⟩ q
    + cw (ix2 2 q) * uu L w ⟨r.val + 16, by omega⟩ q + cb (ix2 0 q)

/-- The activation of lane `n` of slab `s`. -/
def aa (L : Vec Ideal S528x2048 .bf16) (w : Vec Ideal S1x2048x1024 .bf16) (cw : Vec Ideal S3x1024 .f32) (cb : Vec Ideal S1x1024 .f32)
    (r : Fin 512) (s : Fin 4) (n : Fin 128) : EReal :=
  sil (cc L w cw cb r ⟨256 * s.val + n.val, by omega⟩) * cc L w cw cb r ⟨256 * s.val + (128 + n.val), by omega⟩

/-- What one grid point adds to the accumulator. -/
def ct (L : Vec Ideal S528x2048 .bf16) (w : Vec Ideal S1x2048x1024 .bf16) (cw : Vec Ideal S3x1024 .f32) (cb : Vec Ideal S1x1024 .f32)
    (wd : Vec Ideal S1x512x2048 .bf16) (r : Fin 512) (j : Fin 2048) : EReal :=
  ∑ s : Fin 4, ∑ n : Fin 128, aa L w cw cb r s n * wd (ix3 0 ⟨256 * (s.val / 2) + (128 * (s.val % 2) + n.val), by omega⟩ j)

/-- The slabs stored up to slab 0, latest first. -/
def pc0 (L : Vec Ideal S528x2048 .bf16) (w : Vec Ideal S1x2048x1024 .bf16) : List (View.Piece (Elt Ideal) S4x528x256 .f32) :=
    [⟨Rect.unit (s := S4x528x256) ![0, 0, 0] ![1, 528, 256] inb_S4x528x256_S1x528x256_0_0_0, k0_pay6 L (View.ld w (Rect.unit (s := S1x2048x1024) ![0, 0, 0] ![1, 2048, 256] inb_S1x2048x1024_S1x2048x256_0_0_0))⟩]

/-- The slabs stored up to slab 1, latest first. -/
def pc1 (L : Vec Ideal S528x2048 .bf16) (w : Vec Ideal S1x2048x1024 .bf16) : List (View.Piece (Elt Ideal) S4x528x256 .f32) :=
    [⟨Rect.unit (s := S4x528x256) ![1, 0, 0] ![1, 528, 256] inb_S4x528x256_S1x528x256_1_0_0, k0_pay7 L (View.ld w (Rect.unit (s := S1x2048x1024) ![0, 0, 256] ![1, 2048, 256] inb_S1x2048x1024_S1x2048x256_0_0_256))⟩,
     ⟨Rect.unit (s := S4x528x256) ![0, 0, 0] ![1, 528, 256] inb_S4x528x256_S1x528x256_0_0_0, k0_pay6 L (View.ld w (Rect.unit (s := S1x2048x1024) ![0, 0, 0] ![1, 2048, 256] inb_S1x2048x1024_S1x2048x256_0_0_0))⟩]

/-- The slabs stored up to slab 2, latest first. -/
def pc2 (L : Vec Ideal S528x2048 .bf16) (w : Vec Ideal S1x2048x1024 .bf16) : List (View.Piece (Elt Ideal) S4x528x256 .f32) :=
    [⟨Rect.unit (s := S4x528x256) ![2, 0, 0] ![1, 528, 256] inb_S4x528x256_S1x528x256_2_0_0, k0_pay11 L (View.ld w (Rect.unit (s := S1x2048x1024) ![0, 0, 512] ![1, 2048, 256] inb_S1x2048x1024_S1x2048x256_0_0_512))⟩,
     ⟨Rect.unit (s := S4x528x256) ![1, 0, 0] ![1, 528, 256] inb_S4x528x256_S1x528x256_1_0_0, k0_pay7 L (View.ld w (Rect.unit (s := S1x2048x1024) ![0, 0, 256] ![1, 2048, 256] inb_S1x2048x1024_S1x2048x256_0_0_256))⟩,
     ⟨Rect.unit (s := S4x528x256) ![0, 0, 0] ![1, 528, 256] inb_S4x528x256_S1x528x256_0_0_0, k0_pay6 L (View.ld w (Rect.unit (s := S1x2048x1024) ![0, 0, 0] ![1, 2048, 256] inb_S1x2048x1024_S1x2048x256_0_0_0))⟩]

/-- The slabs stored up to slab 3, latest first. -/
def pc3 (L : Vec Ideal S528x2048 .bf16) (w : Vec Ideal S1x2048x1024 .bf16) : List (View.Piece (Elt Ideal) S4x528x256 .f32) :=
    [⟨Rect.unit (s := S4x528x256) ![3, 0, 0] ![1, 528, 256] inb_S4x528x256_S1x528x256_3_0_0, k0_pay16 L (View.ld w (Rect.unit (s := S1x2048x1024) ![0, 0, 768] ![1, 2048, 256] inb_S1x2048x1024_S1x2048x256_0_0_768))⟩,
     ⟨Rect.unit (s := S4x528x256) ![2, 0, 0] ![1, 528, 256] inb_S4x528x256_S1x528x256_2_0_0, k0_pay11 L (View.ld w (Rect.unit (s := S1x2048x1024) ![0, 0, 512] ![1, 2048, 256] inb_S1x2048x1024_S1x2048x256_0_0_512))⟩,
     ⟨Rect.unit (s := S4x528x256) ![1, 0, 0] ![1, 528, 256] inb_S4x528x256_S1x528x256_1_0_0, k0_pay7 L (View.ld w (Rect.unit (s := S1x2048x1024) ![0, 0, 256] ![1, 2048, 256] inb_S1x2048x1024_S1x2048x256_0_0_256))⟩,
     ⟨Rect.unit (s := S4x528x256) ![0, 0, 0] ![1, 528, 256] inb_S4x528x256_S1x528x256_0_0_0, k0_pay6 L (View.ld w (Rect.unit (s := S1x2048x1024) ![0, 0, 0] ![1, 2048, 256] inb_S1x2048x1024_S1x2048x256_0_0_0))⟩]

/-- The accumulator after a point, from the left operand `L` and the accumulator `X` before it. -/
def acc (L : Vec Ideal S528x2048 .bf16) (w : Vec Ideal S1x2048x1024 .bf16) (cw : Vec Ideal S3x1024 .f32) (cb : Vec Ideal S1x1024 .f32)
    (wd : Vec Ideal S1x512x2048 .bf16) (X : Vec Ideal S512x2048 .f32) : Vec Ideal S512x2048 .f32 :=
  k0_pay24
    (k0_pay10 (k0_pay8 (View.ld cw (Rect.unit (s := S3x1024) ![0, 0] ![3, 256] inb_S3x1024_S3x256_0_0))) (k0_pay9 (View.ld cw (Rect.unit (s := S3x1024) ![0, 0] ![3, 256] inb_S3x1024_S3x256_0_0)) ((View.whole cc0_scratch1).readCov (pc0 L w) (Rect.unit (s := S4x528x256) ![0, 14, 0] ![1, 512, 256] inb_S4x528x256_S1x512x256_0_14_0).toLoadRect) ((View.whole cc0_scratch1).readCov (pc0 L w) (Rect.unit (s := S4x528x256) ![0, 15, 0] ![1, 512, 256] inb_S4x528x256_S1x512x256_0_15_0).toLoadRect)) ((View.whole cc0_scratch1).readCov (pc0 L w) (Rect.unit (s := S4x528x256) ![0, 16, 0] ![1, 512, 256] inb_S4x528x256_S1x512x256_0_16_0).toLoadRect) (View.ld cb (Rect.unit (s := S1x1024) ![0, 0] ![1, 256] inb_S1x1024_S1x256_0_0)))
    (k0_pay15 (k0_pay12 (View.ld cw (Rect.unit (s := S3x1024) ![0, 256] ![3, 256] inb_S3x1024_S3x256_0_256))) (k0_pay13 (View.ld cw (Rect.unit (s := S3x1024) ![0, 256] ![3, 256] inb_S3x1024_S3x256_0_256)) ((View.whole cc0_scratch1).readCov (pc1 L w) (Rect.unit (s := S4x528x256) ![1, 14, 0] ![1, 512, 256] inb_S4x528x256_S1x512x256_1_14_0).toLoadRect)) (k0_pay14 (View.ld cw (Rect.unit (s := S3x1024) ![0, 256] ![3, 256] inb_S3x1024_S3x256_0_256))) ((View.whole cc0_scratch1).readCov (pc1 L w) (Rect.unit (s := S4x528x256) ![1, 15, 0] ![1, 512, 256] inb_S4x528x256_S1x512x256_1_15_0).toLoadRect) ((View.whole cc0_scratch1).readCov (pc1 L w) (Rect.unit (s := S4x528x256) ![1, 16, 0] ![1, 512, 256] inb_S4x528x256_S1x512x256_1_16_0).toLoadRect) (View.ld cb (Rect.unit (s := S1x1024) ![0, 256] ![1, 256] inb_S1x1024_S1x256_0_256)))
    (k0_pay20 (k0_pay17 (View.ld cw (Rect.unit (s := S3x1024) ![0, 512] ![3, 256] inb_S3x1024_S3x256_0_512))) (k0_pay18 ((View.whole cc0_scratch1).readCov (pc2 L w) (Rect.unit (s := S4x528x256) ![2, 14, 0] ![1, 512, 256] inb_S4x528x256_S1x512x256_2_14_0).toLoadRect)) (k0_pay19 (View.ld cw (Rect.unit (s := S3x1024) ![0, 512] ![3, 256] inb_S3x1024_S3x256_0_512))) ((View.whole cc0_scratch1).readCov (pc2 L w) (Rect.unit (s := S4x528x256) ![2, 15, 0] ![1, 512, 256] inb_S4x528x256_S1x512x256_2_15_0).toLoadRect) ((View.whole cc0_scratch1).readCov (pc2 L w) (Rect.unit (s := S4x528x256) ![2, 16, 0] ![1, 512, 256] inb_S4x528x256_S1x512x256_2_16_0).toLoadRect) (View.ld cb (Rect.unit (s := S1x1024) ![0, 512] ![1, 256] inb_S1x1024_S1x256_0_512)))
    (k0_pay21 (View.ld cw (Rect.unit (s := S3x1024) ![0, 768] ![3, 256] inb_S3x1024_S3x256_0_768))) (k0_pay22 (View.ld cw (Rect.unit (s := S3x1024) ![0, 768] ![3, 256] inb_S3x1024_S3x256_0_768)) ((View.whole cc0_scratch1).readCov (pc3 L w) (Rect.unit (s := S4x528x256) ![3, 14, 0] ![1, 512, 256] inb_S4x528x256_S1x512x256_3_14_0).toLoadRect)) (k0_pay23 (View.ld cw (Rect.unit (s := S3x1024) ![0, 768] ![3, 256] inb_S3x1024_S3x256_0_768)) ((View.whole cc0_scratch1).readCov (pc3 L w) (Rect.unit (s := S4x528x256) ![3, 15, 0] ![1, 512, 256] inb_S4x528x256_S1x512x256_3_15_0).toLoadRect)) ((View.whole cc0_scratch1).readCov (pc3 L w) (Rect.unit (s := S4x528x256) ![3, 16, 0] ![1, 512, 256] inb_S4x528x256_S1x512x256_3_16_0).toLoadRect) (View.ld cb (Rect.unit (s := S1x1024) ![0, 768] ![1, 256] inb_S1x1024_S1x256_0_768)) X
    (View.ld wd (Rect.unit (s := S1x512x2048) ![0, 0, 0] ![1, 256, 2048] inb_S1x512x2048_S1x256x2048_0_0_0)) (View.ld wd (Rect.unit (s := S1x512x2048) ![0, 256, 0] ![1, 256, 2048] inb_S1x512x2048_S1x256x2048_0_256_0))

set_option maxHeartbeats 4000000 in
/-- A point adds its contribution. -/
theorem acc_eq (L : Vec Ideal S528x2048 .bf16) (w : Vec Ideal S1x2048x1024 .bf16) (cw : Vec Ideal S3x1024 .f32) (cb : Vec Ideal S1x1024 .f32)
    (wd : Vec Ideal S1x512x2048 .bf16) (X : Vec Ideal S512x2048 .f32) (r : Fin 512) (j : Fin 2048) :
    acc L w cw cb wd X (ix2 r j) = X (ix2 r j) + ct L w cw cb wd r j := by
  unfold acc pc0 pc1 pc2 pc3
  rw [pay24_eq]
  simp only [pay10_eq, pay15_eq, pay20_eq]
  unfold gl cv
  simp only [slab_read 0 14 (by decide) (by decide) inb_S4x528x256_S1x528x256_0_0_0 inb_S4x528x256_S1x512x256_0_14_0
    , slab_read 0 15 (by decide) (by decide) inb_S4x528x256_S1x528x256_0_0_0 inb_S4x528x256_S1x512x256_0_15_0
    , slab_read 0 16 (by decide) (by decide) inb_S4x528x256_S1x528x256_0_0_0 inb_S4x528x256_S1x512x256_0_16_0
    , slab_read 1 14 (by decide) (by decide) inb_S4x528x256_S1x528x256_1_0_0 inb_S4x528x256_S1x512x256_1_14_0
    , slab_read 1 15 (by decide) (by decide) inb_S4x528x256_S1x528x256_1_0_0 inb_S4x528x256_S1x512x256_1_15_0
    , slab_read 1 16 (by decide) (by decide) inb_S4x528x256_S1x528x256_1_0_0 inb_S4x528x256_S1x512x256_1_16_0
    , slab_read 2 14 (by decide) (by decide) inb_S4x528x256_S1x528x256_2_0_0 inb_S4x528x256_S1x512x256_2_14_0
    , slab_read 2 15 (by decide) (by decide) inb_S4x528x256_S1x528x256_2_0_0 inb_S4x528x256_S1x512x256_2_15_0
    , slab_read 2 16 (by decide) (by decide) inb_S4x528x256_S1x528x256_2_0_0 inb_S4x528x256_S1x512x256_2_16_0
    , slab_read 3 14 (by decide) (by decide) inb_S4x528x256_S1x528x256_3_0_0 inb_S4x528x256_S1x512x256_3_14_0
    , slab_read 3 15 (by decide) (by decide) inb_S4x528x256_S1x528x256_3_0_0 inb_S4x528x256_S1x512x256_3_15_0
    , slab_read 3 16 (by decide) (by decide) inb_S4x528x256_S1x528x256_3_0_0 inb_S4x528x256_S1x512x256_3_16_0
    , pay6_eq, pay7_eq, pay11_eq, pay16_eq]
  unfold ct aa cc uu
  simp only [Fin.sum_univ_four]
  pointwise
  simp only [add_assoc]

set_option maxHeartbeats 4000000 in
/-- The accumulator after a middle point. -/
theorem accB (c : Dev nD) (t : Fin cfg0.N) (h0 : ¬t.val % 11 = 0) (h1 : ¬t.val % 11 = 10) :
    (outsAt0 m c t.val t.isLt).2.2.2 = acc (outsAt0 m c (t.val - 1) (by omega)).2.2.1 (iblk m c 2 t) (iblk m c 3 t) (iblk m c 4 t) (iblk m c 5 t) (outsAt0 m c (t.val - 1) (by omega)).2.2.2 := by
  rw [outsAt0_B m c t h0 h1]
  dsimp only
  frame_open
  simp (disch := decide) only [↓ View.readCov_skip, ↓ View.readCov_cons_toLoadRect, ↓ View.readCov_fill]
  frame_out
  simp only [read_unread_whole]
  rfl

/-- The left operand is kept. -/
theorem lhsB (c : Dev nD) (t : Fin cfg0.N) (h0 : ¬t.val % 11 = 0) (h1 : ¬t.val % 11 = 10) :
    (outsAt0 m c t.val t.isLt).2.2.1 = (outsAt0 m c (t.val - 1) (by omega)).2.2.1 := by
  rw [outsAt0_B m c t h0 h1]
  rfl

set_option maxHeartbeats 4000000 in
/-- The accumulator after a last point. -/
theorem accC (c : Dev nD) (t : Fin cfg0.N) (h0 : ¬t.val % 11 = 0) (h1 : t.val % 11 = 10) :
    (outsAt0 m c t.val t.isLt).2.2.2 = acc (outsAt0 m c (t.val - 1) (by omega)).2.2.1 (iblk m c 2 t) (iblk m c 3 t) (iblk m c 4 t) (iblk m c 5 t) (outsAt0 m c (t.val - 1) (by omega)).2.2.2 := by
  rw [outsAt0_C m c t h0 h1]
  dsimp only
  frame_open
  simp (disch := decide) only [↓ View.readCov_skip, ↓ View.readCov_cons_toLoadRect, ↓ View.readCov_fill]
  frame_out
  simp only [read_unread_whole]
  rfl

/-- The left operand is kept. -/
theorem lhsC (c : Dev nD) (t : Fin cfg0.N) (h0 : ¬t.val % 11 = 0) (h1 : t.val % 11 = 10) :
    (outsAt0 m c t.val t.isLt).2.2.1 = (outsAt0 m c (t.val - 1) (by omega)).2.2.1 := by
  rw [outsAt0_C m c t h0 h1]
  rfl

/-- The left operand stored at a block's first point: sixteen rows before the block, then the block. -/
def lhs0 (c : Dev nD) (t : Fin cfg0.N) : Vec Ideal S528x2048 .bf16 :=
  View.canon [⟨Rect.unit (s := S528x2048) ![16, 0] ![512, 2048] inb_S528x2048_S512x2048_16_0, k0_pay4 (iblk m c 0 t)⟩,
    ⟨Rect.unit (s := S528x2048) ![0, 0] ![16, 2048] inb_S528x2048_S16x2048_0_0, k0_pay3 (grid0.coords t) (iblk m c 1 t)⟩]

/-- It is what the block's first point leaves. -/
theorem lhsA (c : Dev nD) (t : Fin cfg0.N) (h0 : t.val % 11 = 0) (h1 : ¬t.val % 11 = 10) : (outsAt0 m c t.val t.isLt).2.2.1 = lhs0 m c t := by
  rw [outsAt0_A m c t h0 h1]
  dsimp only
  frame_open
  simp (disch := decide) only [↓ View.readCov_skip, ↓ View.readCov_cons_toLoadRect, ↓ View.readCov_fill]
  frame_out

/-- A load of the whole of the left operand. -/
theorem lhs_read (P : List (View.Piece (Elt Ideal) S528x2048 .bf16)) :
    (View.whole cc0_scratch0).readCov P (Rect.unit (s := S528x2048) ![0, 0] ![528, 2048] inb_S528x2048_S528x2048_0_0).toLoadRect = View.canon P := by
  rw [View.readCov_eq_canon']
  funext y
  show View.canon P _ = _
  congr 1
  funext a; apply Fin.ext
  match a with
  | ⟨0, _⟩ => exact (Nat.zero_add _).trans (Nat.one_mul _)
  | ⟨1, _⟩ => exact (Nat.zero_add _).trans (Nat.one_mul _)

set_option maxHeartbeats 4000000 in
/-- The accumulator after a block's first point. -/
theorem accA (c : Dev nD) (t : Fin cfg0.N) (h0 : t.val % 11 = 0) (h1 : ¬t.val % 11 = 10) :
    (outsAt0 m c t.val t.isLt).2.2.2 = acc (lhs0 m c t) (iblk m c 2 t) (iblk m c 3 t) (iblk m c 4 t) (iblk m c 5 t) (k0_pay5 (F := Ideal)) := by
  rw [outsAt0_A m c t h0 h1]
  dsimp only
  frame_open
  simp (disch := decide) only [↓ View.readCov_skip, ↓ View.readCov_cons_toLoadRect, ↓ View.readCov_fill]
  frame_out
  simp only [lhs_read]
  rfl

set_option maxHeartbeats 4000000 in
/-- The residual result at a block's last point. -/
theorem out9 (c : Dev nD) (t : Fin cfg0.N) (h0 : ¬t.val % 11 = 0) (h1 : t.val % 11 = 10) :
    (outsAt0 m c t.val t.isLt).1 = k0_pay1 (outsAt0 m c t.val t.isLt).2.2.2 (iblk m c 6 t) (iblk m c 7 t) := by
  rw [accC m c t h0 h1]
  rw [outsAt0_C m c t h0 h1]
  dsimp only
  frame_open
  simp (disch := decide) only [↓ View.readCov_skip, ↓ View.readCov_cons_toLoadRect, ↓ View.readCov_fill]
  frame_out
  simp only [read_unread_whole]
  rfl

set_option maxHeartbeats 4000000 in
/-- The normalised result at a block's last point. -/
theorem out10 (c : Dev nD) (t : Fin cfg0.N) (h0 : ¬t.val % 11 = 0) (h1 : t.val % 11 = 10) :
    (outsAt0 m c t.val t.isLt).2.1 = k0_pay2 (outsAt0 m c t.val t.isLt).2.2.2 (iblk m c 6 t) (iblk m c 7 t) (iblk m c 8 t) := by
  rw [accC m c t h0 h1]
  rw [outsAt0_C m c t h0 h1]
  dsimp only
  frame_open
  simp (disch := decide) only [↓ View.readCov_skip, ↓ View.readCov_cons_toLoadRect, ↓ View.readCov_fill]
  frame_out
  simp only [read_unread_whole]
  rfl

end Cert.Kernel7Ideal.Ffn
end
-- ==== Proof.FfmHost.lean ====
module

public import proofs.«01_k».proof.Defs
public import proofs.«01_k».proof.Proof.Gen.Kernel7Ideal.Frame
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Kernel7Ideal.Ffn

open Cert.Kernel7Ideal Cert.Kernel7Ideal.Gen

variable (m : (ℓ : Loc nD τ sig) → Buf (Elt Ideal) ℓ)

/-- The argument an interleaved column comes from. -/
def col (q : ℕ) : ℕ := q / 128 % 2 * 5632 + q / 256 * 128 + q % 128

/-- It is a column. -/
theorem col_lt (q : Fin 11264) : col q.val < 11264 := by unfold col; omega

/-- Rows of a batch of sequences laid end to end. -/
theorem rows_at {e : EltTy} (x : Vec Ideal S2x4096x2048 e) (r : Fin 8192) (k : Fin 2048) :
    shapeCast S8192x2048 x shapeCasts_S2x4096x2048_S8192x2048 (ix2 r k) = x (ix3 ⟨r.val / 4096, by omega⟩ ⟨r.val % 4096, by omega⟩ k) := by
  refine shapeCast_apply _ _ _ _ ?_
  rw [Shape.rowMajor_val_three, Shape.rowMajor_val_two]
  show (r.val / 4096 * 4096 + r.val % 4096) * 2048 + k.val = r.val * 2048 + k.val
  omega

/-- The interleaved columns of the two layers' weights. -/
theorem inter_at (x : Vec Ideal S2x2048x11264 .f32) (l : Fin 2) (k : Fin 2048) (q : Fin 11264) :
    (truncf (F := Ideal) .bf16 (shapeCast S2x2048x11264 (transpose S2x2048x44x2x128 [0, 1, 3, 2, 4]
      (shapeCast S2x2048x2x44x128 x shapeCasts_S2x2048x11264_S2x2048x2x44x128)
      transposes_S2x2048x2x44x128_S2x2048x44x2x128_0_1_3_2_4) shapeCasts_S2x2048x44x2x128_S2x2048x11264) bitsLt_bf16_f32 : FVec Ideal S2x2048x11264 .bf16) (ix3 l k q)
      = x (ix3 l k ⟨col q.val, col_lt q⟩) := by
  unfold col
  pointwise

/-- The interleaved gate and up weights. -/
theorem v3_at (c : Dev nD) (l : Fin 2) (k : Fin 2048) (q : Fin 11264) : (V m c main_v3 : Vec Ideal S2x2048x11264 .bf16) (ix3 l k q)
    = (m ((c : Thread nD τ).loc main_arg2) : Vec Ideal S2x2048x11264 .f32) (ix3 l k ⟨col q.val, col_lt q⟩) := by
  have h : V m c main_v3 = (truncf (F := Ideal) .bf16 (shapeCast S2x2048x11264 (transpose S2x2048x44x2x128 [0, 1, 3, 2, 4]
      (shapeCast S2x2048x2x44x128 (m ((c : Thread nD τ).loc main_arg2) : Vec Ideal S2x2048x11264 .f32) shapeCasts_S2x2048x11264_S2x2048x2x44x128)
      transposes_S2x2048x2x44x128_S2x2048x44x2x128_0_1_3_2_4) shapeCasts_S2x2048x44x2x128_S2x2048x11264) bitsLt_bf16_f32 : FVec Ideal S2x2048x11264 .bf16) := by
    show StableHlo.after hostOps0 _ _ = _
    after_results_simp <;> rfl
  exact (congrFun h _).trans (inter_at _ l k q)

/-- The normalised input's rows. -/
theorem v4_at (c : Dev nD) (r : Fin 8192) (k : Fin 2048) : (V m c main_v4 : Vec Ideal S8192x2048 .bf16) (ix2 r k)
    = (m ((c : Thread nD τ).loc main_arg0) : Vec Ideal S2x4096x2048 .bf16) (ix3 ⟨r.val / 4096, by omega⟩ ⟨r.val % 4096, by omega⟩ k) := by
  have h : (V m c main_v4 : Vec Ideal S8192x2048 .bf16) = shapeCast S8192x2048 (m ((c : Thread nD τ).loc main_arg0) : Vec Ideal S2x4096x2048 .bf16) shapeCasts_S2x4096x2048_S8192x2048 := by
    show StableHlo.after hostOps0 _ _ = _
    after_results_simp <;> rfl
  exact (congrFun h _).trans (rows_at _ r k)

/-- The interleaved taps. -/
theorem v9_at (c : Dev nD) (j : Fin 3) (q : Fin 11264) : (V m c main_v9 : Vec Ideal S3x11264 .f32) (ix2 j q)
    = (m ((c : Thread nD τ).loc main_arg3) : Vec Ideal S2x3x11264 .f32) (ix3 1 j ⟨col q.val, col_lt q⟩) := by
  have h : (V m c main_v9 : Vec Ideal S3x11264 .f32) = shapeCast S3x11264 (transpose S3x44x2x128 [0, 2, 1, 3]
      (shapeCast S3x2x44x128 (shapeCast S3x11264 (extractStridedSlice S1x3x11264 ![1, 0, 0] (m ((c : Thread nD τ).loc main_arg3) : Vec Ideal S2x3x11264 .f32)
        slices_S2x3x11264_S1x3x11264_1_0_0) shapeCasts_S1x3x11264_S3x11264) shapeCasts_S3x11264_S3x2x44x128)
      transposes_S3x2x44x128_S3x44x2x128_0_2_1_3) shapeCasts_S3x44x2x128_S3x11264 := by
    show StableHlo.after hostOps0 _ _ = _
    after_results_simp <;> rfl
  rw [h]
  unfold col
  pointwise

/-- The interleaved bias. -/
theorem v15_at (c : Dev nD) (q : Fin 11264) : (V m c main_v15 : Vec Ideal S1x11264 .f32) (ix2 0 q)
    = (m ((c : Thread nD τ).loc main_arg4) : Vec Ideal S2x11264 .f32) (ix2 1 ⟨col q.val, col_lt q⟩) := by
  have h : (V m c main_v15 : Vec Ideal S1x11264 .f32) = shapeCast S1x11264 (transpose S1x44x2x128 [0, 2, 1, 3]
      (shapeCast S1x2x44x128 (shapeCast S1x11264 (shapeCast S11264 (extractStridedSlice S1x11264 ![1, 0] (m ((c : Thread nD τ).loc main_arg4) : Vec Ideal S2x11264 .f32)
        slices_S2x11264_S1x11264_1_0) shapeCasts_S1x11264_S11264) shapeCasts_S11264_S1x11264) shapeCasts_S1x11264_S1x2x44x128)
      transposes_S1x2x44x128_S1x44x2x128_0_2_1_3) shapeCasts_S1x44x2x128_S1x11264 := by
    show StableHlo.after hostOps0 _ _ = _
    after_results_simp <;> rfl
  rw [h]
  unfold col
  pointwise

/-- The down weights. -/
theorem v16_eq (c : Dev nD) : V m c main_v16 = (truncf (F := Ideal) .bf16 (m ((c : Thread nD τ).loc main_arg5) : FVec Ideal S2x5632x2048 .f32) bitsLt_bf16_f32 : FVec Ideal S2x5632x2048 .bf16) := by
  show StableHlo.after hostOps0 _ _ = _
  after_results_simp <;> rfl

/-- The residual's rows. -/
theorem v17_at (c : Dev nD) (r : Fin 8192) (k : Fin 2048) : (V m c main_v17 : Vec Ideal S8192x2048 .f32) (ix2 r k)
    = (m ((c : Thread nD τ).loc main_arg1) : Vec Ideal S2x4096x2048 .f32) (ix3 ⟨r.val / 4096, by omega⟩ ⟨r.val % 4096, by omega⟩ k) := by
  have h : (V m c main_v17 : Vec Ideal S8192x2048 .f32) = shapeCast S8192x2048 (m ((c : Thread nD τ).loc main_arg1) : Vec Ideal S2x4096x2048 .f32) shapeCasts_S2x4096x2048_S8192x2048 := by
    show StableHlo.after hostOps0 _ _ = _
    after_results_simp <;> rfl
  exact (congrFun h _).trans (rows_at _ r k)

/-- The first gain. -/
theorem v20_at (c : Dev nD) (k : Fin 2048) : (V m c main_v20 : Vec Ideal S1x2048 .f32) (ix2 0 k)
    = (m ((c : Thread nD τ).loc main_arg6) : Vec Ideal S2x2048 .f32) (ix2 1 k) := by
  have h : (V m c main_v20 : Vec Ideal S1x2048 .f32) = shapeCast S1x2048 (shapeCast S2048 (extractStridedSlice S1x2048 ![1, 0] (m ((c : Thread nD τ).loc main_arg6) : Vec Ideal S2x2048 .f32)
        slices_S2x2048_S1x2048_1_0) shapeCasts_S1x2048_S2048) shapeCasts_S2048_S1x2048 := by
    show StableHlo.after hostOps0 _ _ = _
    after_results_simp <;> rfl
  rw [h]
  pointwise

/-- The second gain. -/
theorem v23_at (c : Dev nD) (k : Fin 2048) : (V m c main_v23 : Vec Ideal S1x2048 .f32) (ix2 0 k)
    = (m ((c : Thread nD τ).loc main_arg7) : Vec Ideal S2x2048 .f32) (ix2 1 k) := by
  have h : (V m c main_v23 : Vec Ideal S1x2048 .f32) = shapeCast S1x2048 (shapeCast S2048 (extractStridedSlice S1x2048 ![1, 0] (m ((c : Thread nD τ).loc main_arg7) : Vec Ideal S2x2048 .f32)
        slices_S2x2048_S1x2048_1_0) shapeCasts_S1x2048_S2048) shapeCasts_S2048_S1x2048 := by
    show StableHlo.after hostOps0 _ _ = _
    after_results_simp <;> rfl
  rw [h]
  pointwise

end Cert.Kernel7Ideal.Ffn

end
-- ==== Proof.FfmGeo.lean ====
module

public import proofs.«01_k».proof.Defs
public import proofs.«01_k».proof.Proof.Gen.Kernel7Ideal.Frame
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Kernel7Ideal.Ffn

open Cert.Kernel7Ideal Cert.Kernel7Ideal.Gen

variable (m : (ℓ : Loc nD τ sig) → Buf (Elt Ideal) ℓ)

/-- The block each window stages at a point. -/
theorem idx_0 : ∀ t : Fin cfg0.N, win0_0.index t = ![t.val / 11, 0] := by decide +kernel
theorem idx_1 : ∀ t : Fin cfg0.N, win0_1.index t = ![t.val / 11 * 32 - 1, 0] := by decide +kernel
theorem idx_2 : ∀ t : Fin cfg0.N, win0_2.index t = ![1, 0, t.val % 11] := by decide +kernel
theorem idx_3 : ∀ t : Fin cfg0.N, win0_3.index t = ![0, t.val % 11] := by decide +kernel
theorem idx_4 : ∀ t : Fin cfg0.N, win0_4.index t = ![0, t.val % 11] := by decide +kernel
theorem idx_5 : ∀ t : Fin cfg0.N, win0_5.index t = ![1, t.val % 11, 0] := by decide +kernel
theorem idx_6 : ∀ t : Fin cfg0.N, win0_6.index t = ![t.val / 11, 0] := by decide +kernel
theorem idx_7 : ∀ t : Fin cfg0.N, win0_7.index t = ![0, 0] := by decide +kernel
theorem idx_8 : ∀ t : Fin cfg0.N, win0_8.index t = ![0, 0] := by decide +kernel
theorem idx_9 : ∀ t : Fin cfg0.N, win0_9.index t = ![t.val / 11, 0] := by decide +kernel
theorem idx_10 : ∀ t : Fin cfg0.N, win0_10.index t = ![t.val / 11, 0] := by decide +kernel

theorem lt_N (t : Fin cfg0.N) : t.val < 176 := t.isLt

theorem b0_at (c : Dev nD) (t : Fin cfg0.N) (r : Fin 512) (k : Fin 2048) : (iblk m c 0 t : Vec Ideal S512x2048 .bf16) (ix2 r k)
    = (V m c main_v4 : Vec Ideal S8192x2048 .bf16) (ix2 ⟨t.val / 11 * 512 + r.val, by have := lt_N t; omega⟩ k) := by
  blk_point [iblk, idx_0 t]
theorem b1_at (c : Dev nD) (t : Fin cfg0.N) (r : Fin 16) (k : Fin 2048) : (iblk m c 1 t : Vec Ideal S16x2048 .bf16) (ix2 r k)
    = (V m c main_v4 : Vec Ideal S8192x2048 .bf16) (ix2 ⟨(t.val / 11 * 32 - 1) * 16 + r.val, by have := lt_N t; omega⟩ k) := by
  blk_point [iblk, idx_1 t]
theorem b2_at (c : Dev nD) (t : Fin cfg0.N) (k : Fin 2048) (q : Fin 1024) : (iblk m c 2 t : Vec Ideal S1x2048x1024 .bf16) (ix3 0 k q)
    = (V m c main_v3 : Vec Ideal S2x2048x11264 .bf16) (ix3 1 k ⟨t.val % 11 * 1024 + q.val, by omega⟩) := by
  blk_point [iblk, idx_2 t]
theorem b3_at (c : Dev nD) (t : Fin cfg0.N) (j : Fin 3) (q : Fin 1024) : (iblk m c 3 t : Vec Ideal S3x1024 .f32) (ix2 j q)
    = (V m c main_v9 : Vec Ideal S3x11264 .f32) (ix2 j ⟨t.val % 11 * 1024 + q.val, by omega⟩) := by
  blk_point [iblk, idx_3 t]
theorem b4_at (c : Dev nD) (t : Fin cfg0.N) (q : Fin 1024) : (iblk m c 4 t : Vec Ideal S1x1024 .f32) (ix2 0 q)
    = (V m c main_v15 : Vec Ideal S1x11264 .f32) (ix2 0 ⟨t.val % 11 * 1024 + q.val, by omega⟩) := by
  blk_point [iblk, idx_4 t]
theorem b5_at (c : Dev nD) (t : Fin cfg0.N) (n : Fin 512) (j : Fin 2048) : (iblk m c 5 t : Vec Ideal S1x512x2048 .bf16) (ix3 0 n j)
    = (V m c main_v16 : Vec Ideal S2x5632x2048 .bf16) (ix3 1 ⟨t.val % 11 * 512 + n.val, by omega⟩ j) := by
  blk_point [iblk, idx_5 t]
theorem b6_at (c : Dev nD) (t : Fin cfg0.N) (r : Fin 512) (k : Fin 2048) : (iblk m c 6 t : Vec Ideal S512x2048 .f32) (ix2 r k)
    = (V m c main_v17 : Vec Ideal S8192x2048 .f32) (ix2 ⟨t.val / 11 * 512 + r.val, by have := lt_N t; omega⟩ k) := by
  blk_point [iblk, idx_6 t]
theorem b7_at (c : Dev nD) (t : Fin cfg0.N) (k : Fin 2048) : (iblk m c 7 t : Vec Ideal S1x2048 .f32) (ix2 0 k)
    = (V m c main_v20 : Vec Ideal S1x2048 .f32) (ix2 0 k) := by
  blk_point [iblk, idx_7 t]
theorem b8_at (c : Dev nD) (t : Fin cfg0.N) (k : Fin 2048) : (iblk m c 8 t : Vec Ideal S1x2048 .f32) (ix2 0 k)
    = (V m c main_v23 : Vec Ideal S1x2048 .f32) (ix2 0 k) := by
  blk_point [iblk, idx_8 t]

end Cert.Kernel7Ideal.Ffn

end
-- ==== Proof.FfmFold.lean ====
module

public import proofs.«01_k».proof.Defs
public import proofs.«01_k».proof.Proof.FfmStep
public import proofs.«01_k».proof.Proof.FfmHost
public import proofs.«01_k».proof.Proof.FfmGeo

@[expose] public section

set_option maxRecDepth 16384

noncomputable section

open Idealize.ShloMosaic Idealize.ShloMosaic.TcCoe Idealize.SL.Sem

namespace Cert.Kernel7Ideal.Ffn

open Cert.Kernel7Ideal Cert.Kernel7Ideal.Gen

section Math

variable (x0 : Vec Ideal S2x4096x2048 .bf16) (x2 : Vec Ideal S2x2048x11264 .f32) (x3 : Vec Ideal S2x3x11264 .f32)
  (x4 : Vec Ideal S2x11264 .f32) (x5 : Vec Ideal S2x5632x2048 .f32)

/-- A row of the input. -/
def hr (r : Fin 8192) (k : Fin 2048) : EReal := x0 (ix3 ⟨r.val / 4096, by omega⟩ ⟨r.val % 4096, by omega⟩ k)

/-- A gate or up value. -/
def uq (r : Fin 8192) (q : Fin 11264) : EReal := ∑ k : Fin 2048, hr x0 r k * x2 (ix3 1 k q)

/-- The value `d` rows earlier in the sequence, zero before its start. -/
def up (d : ℕ) (r : Fin 8192) (q : Fin 11264) : EReal := if d ≤ r.val % 4096 then uq x0 x2 ⟨r.val - d, by omega⟩ q else 0

/-- The convolved value. -/
def cvv (r : Fin 8192) (q : Fin 11264) : EReal :=
  x3 (ix3 1 0 q) * up x0 x2 2 r q + x3 (ix3 1 1 q) * up x0 x2 1 r q + x3 (ix3 1 2 q) * up x0 x2 0 r q + x4 (ix2 1 q)

/-- The activation. -/
def act (r : Fin 8192) (n : Fin 5632) : EReal :=
  sil (cvv x0 x2 x3 x4 r ⟨n.val, by omega⟩) * cvv x0 x2 x3 x4 r ⟨5632 + n.val, by omega⟩

/-- One summand of the down projection. -/
def sm (r : Fin 8192) (j : Fin 2048) (n : ℕ) : EReal := if h : n < 5632 then act x0 x2 x3 x4 r ⟨n, h⟩ * x5 (ix3 1 ⟨n, h⟩ j) else 0

/-- The down projection. -/
def ffv (r : Fin 8192) (j : Fin 2048) : EReal := ∑ n : Fin 5632, act x0 x2 x3 x4 r n * x5 (ix3 1 n j)

/-- A sum over blocks is the whole sum. -/
theorem sum_blocks (A B : ℕ) (g : ℕ → EReal) : ∑ a ∈ Finset.range A, ∑ b ∈ Finset.range B, g (a * B + b) = ∑ k ∈ Finset.range (A * B), g k := by
  induction A with
  | zero => simp
  | succ A ih => rw [Finset.sum_range_succ, ih, Nat.succ_mul, Finset.sum_range_add]

/-- The blocks of the down projection. -/
theorem ffv_eq (r : Fin 8192) (j : Fin 2048) :
    ∑ f ∈ Finset.range 11, ∑ s : Fin 4, ∑ n : Fin 128, sm x0 x2 x3 x4 x5 r j (f * 512 + (s.val * 128 + n.val)) = ffv x0 x2 x3 x4 x5 r j := by
  have e : ∀ f, ∑ s : Fin 4, ∑ n : Fin 128, sm x0 x2 x3 x4 x5 r j (f * 512 + (s.val * 128 + n.val)) = ∑ b ∈ Finset.range 512, sm x0 x2 x3 x4 x5 r j (f * 512 + b) := by
    intro f
    rw [← sum_blocks 4 128 (fun b => sm x0 x2 x3 x4 x5 r j (f * 512 + b)), Finset.sum_range]
    refine Finset.sum_congr rfl fun s _ => ?_
    rw [Finset.sum_range]
  simp only [e]
  rw [sum_blocks 11 512, Finset.sum_range]
  refine Finset.sum_congr rfl fun n _ => ?_
  unfold sm
  rw [dif_pos n.isLt]

end Math

variable (m : (ℓ : Loc nD τ sig) → Buf (Elt Ideal) ℓ)

/-- The word that says whether a block begins inside a sequence. -/
def inside (n : ℕ) : BitVec 1 :=
  let arg0 : BitVec 32 := BitVec.ofNat 32 n
  let v185 : BitVec 32 := Scalar.muli arg0 512#32
  let v186 : BitVec 1 := Scalar.cmpi .eq 4096#32 0#32
  let v187 : BitVec 32 := Scalar.select v186 1#32 4096#32
  let v188 : BitVec 32 := Scalar.remsi v185 v187
  let v189 : BitVec 1 := Scalar.cmpi .ne v188 0#32
  let v190 : BitVec 1 := Scalar.cmpi .slt v188 0#32
  let v191 : BitVec 1 := Scalar.cmpi .slt v187 0#32
  let v192 : BitVec 1 := Scalar.xori v190 v191
  let v193 : BitVec 1 := Scalar.andi v192 v189
  let v194 : BitVec 32 := Scalar.addi v188 v187
  let v195 : BitVec 32 := Scalar.select v193 v194 v188
  Scalar.cmpi .ne v195 0#32

/-- It is one exactly off the sequences' starts. -/
theorem inside_eq : ∀ n : Fin 16, inside n.val = if n.val % 8 = 0 then 0#1 else 1#1 := by decide +kernel

/-- The block a point belongs to. -/
theorem coord_eq : ∀ t : Fin cfg0.N, ((grid0.coords t) 0).val = t.val / 11 := by decide +kernel

/-- The sixteen rows before a block, or zeros. -/
theorem pay3_eq (t : Fin cfg0.N) (v : Vec Ideal S16x2048 .bf16) (a : Fin 16) (k : Fin 2048) :
    k0_pay3 (grid0.coords t) v (ix2 a k) = if t.val / 11 % 8 = 0 then 0 else v (ix2 a k) := by
  have h : k0_pay3 (F := Ideal) (grid0.coords t) v = shapeCast S16x2048 (Scalar.select (inside ((grid0.coords t) 0).val)
      (shapeCast S16x2048 v shapeCasts_S16x2048_S16x2048) (broadcast S16x2048 (Scalar.ofBits (F := Ideal) .bf16 0x0000#16))) shapeCasts_S16x2048_S16x2048 := rfl
  have ht := lt_N t
  rw [h, coord_eq, inside_eq ⟨t.val / 11, by omega⟩]
  simp only []
  split_ifs with h0
  · pointwise
  · pointwise

/-- The block's own rows. -/
theorem pay4_eq (v : Vec Ideal S512x2048 .bf16) : k0_pay4 v = v := by
  unfold k0_pay4
  simp only [shapeCast_self]

variable (c : Dev nD)

/-- The arguments. -/
abbrev a0 : Vec Ideal S2x4096x2048 .bf16 := m ((c : Thread nD τ).loc main_arg0)
abbrev a1 : Vec Ideal S2x4096x2048 .f32 := m ((c : Thread nD τ).loc main_arg1)
abbrev a2 : Vec Ideal S2x2048x11264 .f32 := m ((c : Thread nD τ).loc main_arg2)
abbrev a3 : Vec Ideal S2x3x11264 .f32 := m ((c : Thread nD τ).loc main_arg3)
abbrev a4 : Vec Ideal S2x11264 .f32 := m ((c : Thread nD τ).loc main_arg4)
abbrev a5 : Vec Ideal S2x5632x2048 .f32 := m ((c : Thread nD τ).loc main_arg5)
abbrev a6 : Vec Ideal S2x2048 .f32 := m ((c : Thread nD τ).loc main_arg6)
abbrev a7 : Vec Ideal S2x2048 .f32 := m ((c : Thread nD τ).loc main_arg7)

/-- The row of the whole that row `r` of a point's block is. -/
def row (t : Fin cfg0.N) (r : Fin 512) : Fin 8192 := ⟨t.val / 11 * 512 + r.val, by have := lt_N t; omega⟩

/-- The left operand `d` rows above row `r` of the block. -/
theorem lhs0_tap (t : Fin cfg0.N) (d : ℕ) (hd : d ≤ 2) (r : Fin 512) (k : Fin 2048) (p : Fin 528) (hp : p.val + d = r.val + 16) :
    lhs0 m c t (ix2 p k) = if d ≤ (row t r).val % 4096 then hr (a0 m c) ⟨(row t r).val - d, by omega⟩ k else 0 := by
  have ht := lt_N t
  have hrow : (row t r).val = t.val / 11 * 512 + r.val := rfl
  unfold lhs0
  by_cases h16 : 16 ≤ p.val
  · have e : (ix2 p k : S528x2048.Idx) = (Rect.unit (s := S528x2048) ![16, 0] ![512, 2048] inb_S528x2048_S512x2048_16_0).emb (ix2 (⟨p.val - 16, by omega⟩ : Fin 512) k) := by
      funext a; apply Fin.ext
      match a with
      | ⟨0, _⟩ => show p.val = 16 + 1 * (p.val - 16); omega
      | ⟨1, _⟩ => show k.val = 0 + 1 * k.val; omega
    rw [if_pos (by omega), e]
    refine (View.canon_cons_emb _ _ _ _).trans ((congrFun (pay4_eq _) _).trans ?_)
    refine (b0_at m c t _ k).trans ((v4_at m c _ k).trans ?_)
    exact congrArg (fun z : Fin 8192 => hr (a0 m c) z k) (Fin.ext (by show t.val / 11 * 512 + (p.val - 16) = (row t r).val - d; omega))
  · have hn : (ix2 p k : S528x2048.Idx) ∉ (Rect.unit (s := S528x2048) ![16, 0] ![512, 2048] inb_S528x2048_S512x2048_16_0).set := by
      rw [Rect.mem_set_unit]
      intro h
      exact h16 (h 0).1
    rw [View.canon_cons_of_not_mem (⟨Rect.unit (s := S528x2048) ![16, 0] ![512, 2048] inb_S528x2048_S512x2048_16_0, k0_pay4 (iblk m c 0 t)⟩ :
      View.Piece (Elt Ideal) S528x2048 .bf16) _ hn]
    have e : (ix2 p k : S528x2048.Idx) = (Rect.unit (s := S528x2048) ![0, 0] ![16, 2048] inb_S528x2048_S16x2048_0_0).emb (ix2 (⟨p.val, by omega⟩ : Fin 16) k) := by
      funext a; apply Fin.ext
      match a with
      | ⟨0, _⟩ => show p.val = 0 + 1 * p.val; omega
      | ⟨1, _⟩ => show k.val = 0 + 1 * k.val; omega
    rw [e, View.canon_cons_emb, pay3_eq]
    by_cases h8 : t.val / 11 % 8 = 0
    · rw [if_pos h8, if_neg (by omega)]
    · rw [if_neg h8, if_pos (by omega)]
      refine (b1_at m c t _ k).trans ((v4_at m c _ k).trans ?_)
      exact congrArg (fun z : Fin 8192 => hr (a0 m c) z k) (Fin.ext (by show (t.val / 11 * 32 - 1) * 16 + p.val = (row t r).val - d; omega))

/-- A gate or up value of a point is the whole's. -/
theorem uu_eq (t u : Fin cfg0.N) (hu : u.val / 11 = t.val / 11) (d : ℕ) (hd : d ≤ 2) (r : Fin 512) (p : Fin 528) (hp : p.val + d = r.val + 16)
    (q : Fin 1024) (q' : Fin 11264) (hq : q'.val = col (t.val % 11 * 1024 + q.val)) :
    uu (lhs0 m c u) (iblk m c 2 t) p q = up (a0 m c) (a2 m c) d (row t r) q' := by
  have hrow : row u r = row t r := Fin.ext (by show u.val / 11 * 512 + _ = t.val / 11 * 512 + _; rw [hu])
  unfold uu up uq
  simp only [lhs0_tap m c u d hd r _ p hp, hrow]
  split_ifs with h
  · refine Finset.sum_congr rfl fun k _ => ?_
    congr 1
    refine (b2_at m c t k q).trans ((v3_at m c 1 k _).trans ?_)
    congr 2
    exact Fin.ext hq.symm
  · exact Finset.sum_eq_zero fun k _ => zero_mul _

/-- The convolved value of a point is the whole's. -/
theorem cc_eq (t u : Fin cfg0.N) (hu : u.val / 11 = t.val / 11) (r : Fin 512) (q : Fin 1024) (q' : Fin 11264) (hq : q'.val = col (t.val % 11 * 1024 + q.val)) :
    cc (lhs0 m c u) (iblk m c 2 t) (iblk m c 3 t) (iblk m c 4 t) r q = cvv (a0 m c) (a2 m c) (a3 m c) (a4 m c) (row t r) q' := by
  have e3 : ∀ j : Fin 3, (iblk m c 3 t : Vec Ideal S3x1024 .f32) (ix2 j q) = a3 m c (ix3 1 j q') := fun j =>
    (b3_at m c t j q).trans ((v9_at m c j _).trans (congrArg (fun z => a3 m c (ix3 1 j z)) (Fin.ext hq.symm)))
  have e4 : (iblk m c 4 t : Vec Ideal S1x1024 .f32) (ix2 0 q) = a4 m c (ix2 1 q') :=
    (b4_at m c t q).trans ((v15_at m c _).trans (congrArg (fun z => a4 m c (ix2 1 z)) (Fin.ext hq.symm)))
  unfold cc cvv
  rw [uu_eq m c t u hu 2 (by omega) r ⟨r.val + 14, by omega⟩ rfl q q' hq, uu_eq m c t u hu 1 (by omega) r ⟨r.val + 15, by omega⟩ rfl q q' hq,
    uu_eq m c t u hu 0 (by omega) r ⟨r.val + 16, by omega⟩ rfl q q' hq, e4]
  exact congrArg₂ (· + ·) (congrArg₂ (· + ·) (congrArg₂ (· + ·) (congrArg (· * _) (e3 0)) (congrArg (· * _) (e3 1))) (congrArg (· * _) (e3 2))) rfl

/-- What a point adds. -/
theorem ct_eq (t u : Fin cfg0.N) (hu : u.val / 11 = t.val / 11) (r : Fin 512) (j : Fin 2048) :
    ct (lhs0 m c u) (iblk m c 2 t) (iblk m c 3 t) (iblk m c 4 t) (iblk m c 5 t) r j
      = ∑ s : Fin 4, ∑ n : Fin 128, sm (a0 m c) (a2 m c) (a3 m c) (a4 m c) (a5 m c) (row t r) j (t.val % 11 * 512 + (s.val * 128 + n.val)) := by
  unfold ct
  refine Finset.sum_congr rfl fun s _ => Finset.sum_congr rfl fun n _ => ?_
  have hs := s.isLt
  have hn := n.isLt
  have hlt : t.val % 11 * 512 + (s.val * 128 + n.val) < 5632 := by omega
  unfold sm aa act
  rw [dif_pos hlt]
  rw [cc_eq m c t u hu r ⟨256 * s.val + n.val, by omega⟩ ⟨t.val % 11 * 512 + (s.val * 128 + n.val), by omega⟩ (by unfold col; simp only; omega),
    cc_eq m c t u hu r ⟨256 * s.val + (128 + n.val), by omega⟩ ⟨5632 + (t.val % 11 * 512 + (s.val * 128 + n.val)), by omega⟩ (by unfold col; simp only; omega)]
  congr 1
  refine (b5_at m c t _ j).trans ((congrFun (v16_eq m c) _).trans ?_)
  show a5 m c _ = a5 m c _
  congr 2
  apply Fin.ext
  simp only
  omega

/-- A block's first point. -/
def fst (t : Fin cfg0.N) : Fin cfg0.N := ⟨t.val / 11 * 11, lt_of_le_of_lt (Nat.div_mul_le_self _ _) t.isLt⟩

/-- The left operand of a point is the one its block's first point stored. -/
theorem lhs_eq (t : Fin cfg0.N) : (outsAt0 m c t.val t.isLt).2.2.1 = lhs0 m c (fst t) := by
  have H : ∀ (n : ℕ) (hn : n < cfg0.N), (outsAt0 m c n hn).2.2.1 = lhs0 m c (fst ⟨n, hn⟩) := by
    intro n
    induction n with
    | zero =>
      intro hn
      have e : (⟨0, hn⟩ : Fin cfg0.N) = fst ⟨0, hn⟩ := Fin.ext (by show 0 = 0 / 11 * 11; rfl)
      rw [← e]
      exact lhsA m c ⟨0, hn⟩ rfl (by show ¬ 0 % 11 = 10; decide)
    | succ n ih =>
      intro hn
      by_cases h0 : (n + 1) % 11 = 0
      · have e : (⟨n + 1, hn⟩ : Fin cfg0.N) = fst ⟨n + 1, hn⟩ := Fin.ext (by show n + 1 = (n + 1) / 11 * 11; omega)
        rw [← e]
        exact lhsA m c ⟨n + 1, hn⟩ h0 (by show ¬ (n + 1) % 11 = 10; omega)
      · have e : fst ⟨n + 1, hn⟩ = fst ⟨n, by omega⟩ := Fin.ext (by show (n + 1) / 11 * 11 = n / 11 * 11; omega)
        rw [e, ← ih (by omega)]
        by_cases h1 : (n + 1) % 11 = 10
        · have := lhsC m c ⟨n + 1, hn⟩ h0 h1
          simpa only [Nat.add_sub_cancel] using this
        · have := lhsB m c ⟨n + 1, hn⟩ h0 h1
          simpa only [Nat.add_sub_cancel] using this
  exact H t.val t.isLt

/-- The accumulator's start. -/
theorem pay5_eq (i : S512x2048.Idx) : k0_pay5 (F := Ideal) i = 0 := by
  unfold k0_pay5
  simp only [shapeCast_self]
  show Ideal.ofBits .f32 0x00000000#32 = 0
  simp [Ideal.ofBits, Ideal.ieee]

/-- The accumulator after a block's last point is the down projection. -/
theorem acc_final (t : Fin cfg0.N) (ht : t.val % 11 = 10) (r : Fin 512) (j : Fin 2048) :
    (outsAt0 m c t.val t.isLt).2.2.2 (ix2 r j) = ffv (a0 m c) (a2 m c) (a3 m c) (a4 m c) (a5 m c) (row t r) j := by
  have key := Pipeline.eq_sum_of_reset_step_apply_divmod (N := cfg0.N) (ι := Unit) (M := EReal) (fun n h _ => (outsAt0 m c n h).2.2.2 (ix2 r j)) 11 (fun _ => 0)
    (fun i f _ => if h : i < 16 then ∑ s : Fin 4, ∑ n : Fin 128, sm (a0 m c) (a2 m c) (a3 m c) (a4 m c) (a5 m c) ⟨i * 512 + r.val, by omega⟩ j (f * 512 + (s.val * 128 + n.val)) else 0)
    (fun t h0 _ => by
      have hN := lt_N t
      rw [dif_pos (by omega), accA m c t h0 (by omega), acc_eq, pay5_eq, ct_eq m c t t rfl]
      rfl)
    (fun t h0 _ => by
      have hN := lt_N t
      have hf : (fst ⟨t.val - 1, by omega⟩).val / 11 = t.val / 11 := by show (t.val - 1) / 11 * 11 / 11 = _; omega
      rw [dif_pos (by omega)]
      by_cases h1 : t.val % 11 = 10
      · rw [accC m c t h0 h1, acc_eq, lhs_eq m c ⟨t.val - 1, by omega⟩, ct_eq m c t _ hf]
        rfl
      · rw [accB m c t h0 h1, acc_eq, lhs_eq m c ⟨t.val - 1, by omega⟩, ct_eq m c t _ hf]
        rfl)
    t ()
  have hN := lt_N t
  refine key.trans ?_
  rw [ht, zero_add]
  simp only [dif_pos (show t.val / 11 < 16 by omega)]
  exact ffv_eq _ _ _ _ _ _ _

end Cert.Kernel7Ideal.Ffn

end
-- ==== Proof.FfmEnd.lean ====
module

public import proofs.«01_k».proof.Defs
public import proofs.«01_k».proof.Proof.FfmFold
public import proofs.«01_k».proof.Proof.Gen.Kernel7Ideal.Value

@[expose] public section

set_option maxRecDepth 16384

noncomputable section

open Idealize.ShloMosaic Idealize.ShloMosaic.TcCoe Idealize.SL.Sem

namespace Cert.Kernel7Ideal.Ffn

open Cert.Kernel7Ideal Cert.Kernel7Ideal.Gen

section Math

variable (x0 : Vec Ideal S2x4096x2048 .bf16) (x1 : Vec Ideal S2x4096x2048 .f32) (x2 : Vec Ideal S2x2048x11264 .f32) (x3 : Vec Ideal S2x3x11264 .f32)
  (x4 : Vec Ideal S2x11264 .f32) (x5 : Vec Ideal S2x5632x2048 .f32) (x6 x7 : Vec Ideal S2x2048 .f32)

/-- The residual result. -/
def res (r : Fin 8192) (j : Fin 2048) : EReal :=
  x1 (ix3 ⟨r.val / 4096, by omega⟩ ⟨r.val % 4096, by omega⟩ j)
    + ffv x0 x2 x3 x4 x5 r j * rs (fun k => ffv x0 x2 x3 x4 x5 r k) * x6 (ix2 1 j)

/-- The normalised result. -/
def nrm (r : Fin 8192) (j : Fin 2048) : EReal :=
  res x0 x1 x2 x3 x4 x5 x6 r j * rs (fun k => res x0 x1 x2 x3 x4 x5 x6 r k) * x7 (ix2 1 j)

end Math

variable (m : (ℓ : Loc nD τ sig) → Buf (Elt Ideal) ℓ) (c : Dev nD)

/-- The residual result, as an array. -/
def H9 : Vec Ideal S8192x2048 .f32 := fun i => res (a0 m c) (a1 m c) (a2 m c) (a3 m c) (a4 m c) (a5 m c) (a6 m c) (i 0) (i 1)
/-- The normalised result, as an array. -/
def H10 : Vec Ideal S8192x2048 .bf16 := fun i => nrm (a0 m c) (a1 m c) (a2 m c) (a3 m c) (a4 m c) (a5 m c) (a6 m c) (a7 m c) (i 0) (i 1)

/-- The residual result of a block's last point. -/
theorem blk9 (t : Fin cfg0.N) (ht : t.val % 11 = 10) (r : Fin 512) (j : Fin 2048) :
    k0_pay1 (outsAt0 m c t.val t.isLt).2.2.2 (iblk m c 6 t) (iblk m c 7 t) (ix2 r j)
      = res (a0 m c) (a1 m c) (a2 m c) (a3 m c) (a4 m c) (a5 m c) (a6 m c) (row t r) j := by
  rw [pay1_eq]
  unfold res
  simp only [acc_final m c t ht]
  exact congrArg₂ (· + ·) ((b6_at m c t r j).trans (v17_at m c _ j)) (congrArg _ ((b7_at m c t j).trans (v20_at m c j)))

/-- The normalised result of a block's last point. -/
theorem blk10 (t : Fin cfg0.N) (ht : t.val % 11 = 10) (r : Fin 512) (j : Fin 2048) :
    k0_pay2 (outsAt0 m c t.val t.isLt).2.2.2 (iblk m c 6 t) (iblk m c 7 t) (iblk m c 8 t) (ix2 r j)
      = nrm (a0 m c) (a1 m c) (a2 m c) (a3 m c) (a4 m c) (a5 m c) (a6 m c) (a7 m c) (row t r) j := by
  rw [pay2_eq]
  unfold nrm
  simp only [blk9 m c t ht]
  exact congrArg _ ((b8_at m c t j).trans (v23_at m c j))

/-- The first result's array after the run. -/
theorem final9 : (dats m 0 c).arrAt 9 cfg0.N = H9 m c := by
  refine (dats m 0 c).arrAt_eq_of_covers 9 _ (by decide +kernel) fun t hf y => ?_
  have ht : t.val % 11 = 10 := (flush0_9 t).mp hf
  blk_simp
  rw [after0_9, out9 m c t (by omega) ht]
  idx_vars y
  refine (blk9 m c t ht y0 y1).trans ?_
  have h0 : win0_9.index t 0 = t.val / 11 := congrFun (idx_9 t) 0
  have h1 : win0_9.index t 1 = 0 := congrFun (idx_9 t) 1
  have e0 : (((View.whole main_v24_0).slice (win0_9.rect t)).emb (ix2 y0 y1)) 0 = row t y0 :=
    Fin.ext (by show win0_9.index t 0 * 512 + 1 * y0.val = t.val / 11 * 512 + y0.val; rw [h0]; omega)
  have e1 : (((View.whole main_v24_0).slice (win0_9.rect t)).emb (ix2 y0 y1)) 1 = y1 :=
    Fin.ext (by show win0_9.index t 1 * 2048 + 1 * y1.val = y1.val; rw [h1]; omega)
  exact (congrArg₂ (res (a0 m c) (a1 m c) (a2 m c) (a3 m c) (a4 m c) (a5 m c) (a6 m c)) e0 e1).symm

/-- The second result's array after the run. -/
theorem final10 : (dats m 0 c).arrAt 10 cfg0.N = H10 m c := by
  refine (dats m 0 c).arrAt_eq_of_covers 10 _ (by decide +kernel) fun t hf y => ?_
  have ht : t.val % 11 = 10 := (flush0_10 t).mp hf
  blk_simp
  rw [after0_10, out10 m c t (by omega) ht]
  idx_vars y
  refine (blk10 m c t ht y0 y1).trans ?_
  have h0 : win0_10.index t 0 = t.val / 11 := congrFun (idx_10 t) 0
  have h1 : win0_10.index t 1 = 0 := congrFun (idx_10 t) 1
  have e0 : (((View.whole main_v24_1).slice (win0_10.rect t)).emb (ix2 y0 y1)) 0 = row t y0 :=
    Fin.ext (by show win0_10.index t 0 * 512 + 1 * y0.val = t.val / 11 * 512 + y0.val; rw [h0]; omega)
  have e1 : (((View.whole main_v24_1).slice (win0_10.rect t)).emb (ix2 y0 y1)) 1 = y1 :=
    Fin.ext (by show win0_10.index t 1 * 2048 + 1 * y1.val = y1.val; rw [h1]; omega)
  exact (congrArg₂ (nrm (a0 m c) (a1 m c) (a2 m c) (a3 m c) (a4 m c) (a5 m c) (a6 m c) (a7 m c)) e0 e1).symm

end Cert.Kernel7Ideal.Ffn

end
-- ==== Proof.FfmRef.lean ====
module

public import proofs.«01_k».proof.Defs
public import proofs.«01_k».proof.Proof.FfmEnd
public import proofs.«01_k».proof.Proof.Gen.Reference7Ideal.Read

@[expose] public section

set_option maxRecDepth 16384

noncomputable section

open Idealize.ShloMosaic Idealize.ShloMosaic.TcCoe Idealize.SL.Sem

namespace Cert.Kernel7Ideal.Ffn

open Cert.Kernel7Ideal Cert.Kernel7Ideal.Gen
open Cert.Reference7Ideal.Read

variable (x0 : Vec Ideal S2x4096x2048 .bf16) (x1 : Vec Ideal S2x4096x2048 .f32) (x2 : Vec Ideal S2x2048x11264 .f32) (x3 : Vec Ideal S2x3x11264 .f32)
  (x4 : Vec Ideal S2x11264 .f32) (x5 : Vec Ideal S2x5632x2048 .f32) (x6 x7 : Vec Ideal S2x2048 .f32)

/-- The row of a place in a sequence. -/
def rw' (b : Fin 2) (s : Fin 4096) : Fin 8192 := ⟨b.val * 4096 + s.val, by omega⟩

/-- The input at a row. -/
theorem hr_eq (b : Fin 2) (s : Fin 4096) (k : Fin 2048) : hr x0 (rw' b s) k = x0 (ix3 b s k) := by
  unfold hr rw'
  congr 2 <;> (apply Fin.ext; simp only; omega)

/-- The reference's gate and up values. -/
theorem ref3 (b : Fin 2) (s : Fin 4096) (q : Fin 11264) : val_main_v3 (F := Ideal) x0 x2 (ix3 b s q) = uq x0 x2 (rw' b s) q := by
  unfold uq
  simp only [hr_eq]
  pointwise [val_main_v3, val_main_v0, val_main_v2, val_main_v1]

/-- The values with no shift. -/
theorem up_zero (b : Fin 2) (s : Fin 4096) (q : Fin 11264) : up x0 x2 0 (rw' b s) q = uq x0 x2 (rw' b s) q := by
  unfold up
  rw [if_pos (Nat.zero_le _)]
  rfl

/-- The padded values. -/
theorem ref4 (b : Fin 2) (d : ℕ) (hd : d ≤ 2) (s : Fin 4096) (p : Fin 4098) (hp : p.val + d = s.val + 2) (q : Fin 11264) :
    val_main_v4 (F := Ideal) x0 x2 (ix3 b p q) = up x0 x2 d (rw' b s) q := by
  have hm : (rw' b s).val % 4096 = s.val := by show (b.val * 4096 + s.val) % 4096 = _; omega
  unfold up
  rw [hm]
  pointwise [val_main_v4, val_main_cst]
  by_cases h : d ≤ s.val
  · rw [dif_pos (by omega), if_pos h, ref3]
    congr 1
    apply Fin.ext
    show b.val * 4096 + (p.val - 2) = b.val * 4096 + s.val - d
    omega
  · rw [dif_neg (by omega), if_neg h]

/-- The convolved values. -/
theorem ref21 (b : Fin 2) (s : Fin 4096) (q : Fin 11264) : val_main_v21 (F := Ideal) x0 x2 x3 x4 (ix3 b s q) = cvv x0 x2 x3 x4 (rw' b s) q := by
  unfold cvv
  rw [← ref4 x0 x2 b 2 (by omega) s ⟨s.val, by omega⟩ rfl q, ← ref4 x0 x2 b 1 (by omega) s ⟨1 + s.val, by omega⟩ (by simp only; omega) q,
    up_zero, ← ref3]
  pointwise [val_main_v21, val_main_v20, val_main_v19, val_main_v18, val_main_v17, val_main_v16, val_main_v15, val_main_v14, val_main_v13, val_main_v12,
    val_main_v11, val_main_v10, val_main_v9, val_main_v8, val_main_v7, val_main_v6, val_main_v5]

/-- The gate written as one quotient. -/
theorem sil_eq (x : EReal) : sil x = Ideal.div x (1 + Ideal.exp (-x)) := by
  have h0 : (0 : EReal) ≤ Ideal.exp (-x) := by
    generalize -x = y
    induction y using EReal.rec with
    | bot => exact le_refl _
    | top => exact le_top
    | coe r => exact EReal.coe_nonneg.mpr (Real.exp_pos r).le
  have hy : (1 + Ideal.exp (-x) : EReal) ≠ 0 := by
    have h1 : (1 : EReal) ≤ 1 + Ideal.exp (-x) := le_add_of_nonneg_right h0
    exact fun h => absurd (h ▸ h1) (by norm_num)
  unfold sil Ideal.div
  rw [if_neg hy, if_neg hy, one_mul]

/-- The activations. -/
theorem ref29 (b : Fin 2) (s : Fin 4096) (n : Fin 5632) : val_main_v29 (F := Ideal) x0 x2 x3 x4 (ix3 b s n) = act x0 x2 x3 x4 (rw' b s) n := by
  unfold act
  rw [sil_eq]
  simp only [← ref21]
  pointwise [val_main_v29, val_main_v28, val_main_v27, val_main_v26, val_main_v25, val_main_v24, val_main_v23, val_main_v22, val_main_cst_0]

/-- The down projection. -/
theorem ref32 (b : Fin 2) (s : Fin 4096) (j : Fin 2048) : val_main_v32 (F := Ideal) x0 x2 x3 x4 x5 (ix3 b s j) = ffv x0 x2 x3 x4 x5 (rw' b s) j := by
  unfold ffv
  simp only [← ref29]
  pointwise [val_main_v32, val_main_v31, val_main_v30]

/-- The residual result. -/
theorem ref48 (b : Fin 2) (s : Fin 4096) (j : Fin 2048) :
    val_main_v48 (F := Ideal) x0 x1 x2 x3 x4 x5 x6 (ix3 b s j) = res x0 x1 x2 x3 x4 x5 x6 (rw' b s) j := by
  have h1 : x1 (ix3 ⟨(rw' b s).val / 4096, by omega⟩ ⟨(rw' b s).val % 4096, by omega⟩ j) = x1 (ix3 b s j) := by
    unfold rw'
    congr 2 <;> (apply Fin.ext; simp only; omega)
  unfold res rs
  rw [h1]
  simp only [← ref32]
  pointwise [val_main_v48, val_main_v47, val_main_v46, val_main_v45, val_main_v44, val_main_v43, val_main_v42, val_main_v41, val_main_v40, val_main_cst_3,
    val_main_v39, val_main_v38, val_main_cst_2, val_main_v37, val_main_v36, val_main_cst_1, val_main_v35, val_main_v34, val_main_v33]

/-- The normalised result. -/
theorem ref64 (b : Fin 2) (s : Fin 4096) (j : Fin 2048) :
    val_main_v64 (F := Ideal) x0 x1 x2 x3 x4 x5 x6 x7 (ix3 b s j) = nrm x0 x1 x2 x3 x4 x5 x6 x7 (rw' b s) j := by
  unfold nrm rs
  simp only [← ref48]
  pointwise [val_main_v64, val_main_v63, val_main_v62, val_main_v61, val_main_v60, val_main_v59, val_main_v58, val_main_v57, val_main_cst_6,
    val_main_v56, val_main_v55, val_main_cst_5, val_main_v54, val_main_v53, val_main_cst_4, val_main_v52, val_main_v51, val_main_v50]

/-- A row's place. -/
theorem rw_eq (r : Fin 8192) : rw' ⟨r.val / 4096, by omega⟩ ⟨r.val % 4096, by omega⟩ = r := by
  apply Fin.ext
  show r.val / 4096 * 4096 + r.val % 4096 = r.val
  omega

/-- The first result. -/
theorem ref49 : val_main_v49 (F := Ideal) x0 x1 x2 x3 x4 x5 x6 = (fun i => res x0 x1 x2 x3 x4 x5 x6 (i 0) (i 1) : Vec Ideal S8192x2048 .f32) := by
  funext i
  rw [eq_ix2 i]
  unfold val_main_v49
  refine (rows_at _ (i 0) (i 1)).trans ((ref48 x0 x1 x2 x3 x4 x5 x6 _ _ _).trans ?_)
  exact congrArg (fun t => res x0 x1 x2 x3 x4 x5 x6 t (i 1)) (rw_eq (i 0))

/-- The second result. -/
theorem ref66 : val_main_v66 (F := Ideal) x0 x1 x2 x3 x4 x5 x6 x7 = (fun i => nrm x0 x1 x2 x3 x4 x5 x6 x7 (i 0) (i 1) : Vec Ideal S8192x2048 .bf16) := by
  funext i
  rw [eq_ix2 i]
  unfold val_main_v66 val_main_v65
  refine (rows_at _ (i 0) (i 1)).trans ((ref64 x0 x1 x2 x3 x4 x5 x6 x7 _ _ _).trans ?_)
  exact congrArg (fun t => nrm x0 x1 x2 x3 x4 x5 x6 x7 t (i 1)) (rw_eq (i 0))

end Cert.Kernel7Ideal.Ffn

end
-- ==== Proof.InnRun.lean ====
module

public import proofs.«01_k».proof.Defs
public import proofs.«01_k».proof.Proof.Gen.Kernel8Ideal.Frame
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

open Idealize.ShloMosaic.Tactic Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode

namespace Cert.Kernel8Ideal.InProj

open Cert.Kernel8Ideal Cert.Kernel8Ideal.Gen

variable {F : FTy → Type} [FloatOps F] [Named F]
local notation "𝕄" => MT nD τ sig Unit (Elt F) ℕ (UR sig nD τ) ℕ

variable (m : (ℓ : Loc nD τ sig) → Buf (Elt F) ℓ) (ρ : Dev nD → PrngReg)

/-- The launch ends with the results at the last boundary's contents and the arguments unchanged. -/
theorem launch : θ_run defs (onTc (τ := τ) (main (F := F))) ⟨m, fun _ => 0, ρ⟩ (fun r => ∀ c : Dev nD,
      r.2.mem ((c.tc : Thread nD τ).loc main_v4) = W6 m ρ c (Proc.devRef .tc main_v4)
      ∧ r.2.mem ((c.tc : Thread nD τ).loc main_v5) = W6 m ρ c (Proc.devRef .tc main_v5)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => (fun c =>
      ⟨h c _ (mem_uc main_v4 (by decide)), h c _ (mem_uc main_v5 (by decide)),
       (h c _ (mem_uc main_arg0 (by decide))).trans (W6_main_arg0 m ρ c),
       (h c _ (mem_uc main_arg1 (by decide))).trans (W6_main_arg1 m ρ c)⟩))

end Cert.Kernel8Ideal.InProj

end
-- ==== Proof.InnReg.lean ====
module

public import proofs.«01_k».proof.Defs
public import proofs.«01_k».proof.Proof.Gen.Kernel8Ideal.Frame
public import proofs.«01_k».proof.Proof.Regroup
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Kernel8Ideal.InProj

open Cert.Kernel8Ideal Cert.Kernel8Ideal.Gen
open Cert.KernelIdeal.InProj (skip skip_add)

variable (V : (c : Dev nD) → (b : Ref sig .tc) → Buf (Elt Ideal) ((c : Thread nD τ).loc b))

/-- The regrouped matrix: the sections' rows one after the other, the first 1024 scaled. -/
def wA (X : Vec Ideal S2x7176x2048 .f32) : Vec Ideal S2x6144x2048 .bf16 := fun i =>
  X (ix3 (i 0) ⟨(i 1).val + skip (i 1).val, by
      have h : (i 1).val < 6144 := (i 1).isLt
      show _ < 7176
      unfold skip; split_ifs <;> omega⟩ (i 2))
    * (if (i 1).val < 1024 then (Named.named (F := Ideal) (φ := .f32) κ "q_scale" 0x3E0293EE#32 : EReal) else (1 : EReal))

/-- The block geometry of the regrouping, checked at its twelve points. -/
theorem geo0 : ∀ t : Fin grid0.N, win0_0.index t 0 = win0_1.index t 0
    ∧ win0_0.index t 1 = win0_1.index t 1 * 1024 + skip (win0_1.index t 1 * 1024)
    ∧ win0_0.index t 2 = 0 ∧ win0_1.index t 2 = 0 ∧ win0_1.index t 1 < 6
    ∧ (grid0.coords t 1).val = win0_1.index t 1 := by decide +kernel

/-- What one point stores, at an index. -/
theorem pay0_apply (i : grid0.Coords) (v : Vec Ideal S1x1024x2048 .f32) (a : Fin 1) (b : Fin 1024) (k : Fin 2048) :
    k0_pay1 i v (ix3 a b k) = v (ix3 0 b k) * (if (i 1).val = 0 then (Named.named (F := Ideal) (φ := .f32) κ "q_scale" 0x3E0293EE#32 : EReal) else (1 : EReal)) := by
  pointwise [k0_pay1]
  congr 1
  generalize hn : (i 1).val = n
  have hlt : n < 6 := hn ▸ (i 1).isLt
  interval_cases n <;> rfl

/-- An element-indexed block read at an index is the array read at the block's offset and that index. -/
theorem blk0_apply (c : Dev nD) (t : Fin grid0.N) (b : Fin 1024) (k : Fin 2048) (i : S2x7176x2048.Idx)
    (h0 : (i 0).val = win0_0.index t 0) (h1 : (i 1).val = win0_0.index t 1 + b.val) (h2 : (i 2).val = win0_0.index t 2 + k.val) :
    iblk0 V c 0 t (ix3 0 b k) = V c main_v0 i := by
  unfold iblk0
  show V c main_v0 (((View.whole main_v0).slice (win0_0.rect t)).emb _) = _
  congr 1
  funext a
  apply Fin.ext
  match a with
  | ⟨0, _⟩ => refine Eq.trans ?_ h0.symm; show win0_0.index t 0 + 1 * 0 = _; omega
  | ⟨1, _⟩ => refine Eq.trans ?_ h1.symm; show win0_0.index t 1 + 1 * b.val = _; omega
  | ⟨2, _⟩ => refine Eq.trans ?_ h2.symm; show win0_0.index t 2 + 1 * k.val = _; omega

/-- After the regrouping's run its result array is the regrouped matrix. -/
theorem final0 (c : Dev nD) : (dat0 V c).arrAt 1 cfg0.N = wA (V c main_v0) := by
  refine (dat0 V c).arrAt_eq_of_covers 1 _ (by decide +kernel) fun t hf y => ?_
  blk_simp
  rw [after0_1]
  frame_out
  idx_vars y
  obtain ⟨g0, g1, g2, g3, g4, g5⟩ := geo0 t
  have e0 : ((((View.whole main_v1).slice (win0_1.rect t)).emb (ix3 y0 y1 y2) : S2x6144x2048.Idx) 0).val = win0_1.index t 0 := by
    blk_simp
  have e1 : ((((View.whole main_v1).slice (win0_1.rect t)).emb (ix3 y0 y1 y2) : S2x6144x2048.Idx) 1).val = win0_1.index t 1 * 1024 + y1.val := by
    blk_simp
  have e2 : ((((View.whole main_v1).slice (win0_1.rect t)).emb (ix3 y0 y1 y2) : S2x6144x2048.Idx) 2).val = y2.val := by
    blk_simp; omega
  generalize (((View.whole main_v1).slice (win0_1.rect t)).emb (ix3 y0 y1 y2) : S2x6144x2048.Idx) = j at e0 e1 e2 ⊢
  rw [pay0_apply, g5, wA]
  have hs := skip_add _ g4 y1.val y1.isLt
  have hy := y1.isLt
  congr 1
  · refine blk0_apply V c t y1 y2 _ ?_ ?_ ?_
    · show (j 0).val = _; omega
    · show (j 1).val + skip (j 1).val = _; rw [e1, hs]; omega
    · show (j 2).val = _; omega
  · rw [e1]
    by_cases h : win0_1.index t 1 = 0
    · rw [if_pos h, if_pos (by omega)]
    · rw [if_neg h, if_neg (by omega)]

end Cert.Kernel8Ideal.InProj

end
-- ==== Proof.InnGates.lean ====
module

public import proofs.«01_k».proof.Defs
public import proofs.«01_k».proof.Proof.Gen.Kernel8Ideal.Frame
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Kernel8Ideal.InProj

open Cert.Kernel8Ideal Cert.Kernel8Ideal.Gen

variable (V : (c : Dev nD) → (b : Ref sig .tc) → Buf (Elt Ideal) ((c : Thread nD τ).loc b))

/-- The gate matrix: the second gate section's 1024 rows, the eight forget-gate rows, then zero rows. -/
def wF (X : Vec Ideal S2x7176x2048 .f32) : Vec Ideal S2x1152x2048 .bf16 := fun i =>
  if h : (i 1).val < 1024 then X (ix3 (i 0) ⟨4104 + (i 1).val, by show _ < 7176; omega⟩ (i 2))
  else if h2 : (i 1).val < 1032 then X (ix3 (i 0) ⟨2048 + (i 1).val, by show _ < 7176; omega⟩ (i 2)) else 0

/-- The block geometry, checked at the two points. -/
theorem geo1 : ∀ t : Fin grid1.N, win1_0.index t = ![t.val, 4104, 0] ∧ win1_1.index t = ![t.val, 3072, 0]
    ∧ win1_2.index t = ![t.val, 0, 0] := by decide +kernel

/-- The first store's payload, at an index. -/
theorem pay1_apply (v : Vec Ideal S1x1024x2048 .f32) (a : Fin 1) (b : Fin 1024) (k : Fin 2048) :
    k1_pay1 v (ix3 a b k) = v (ix3 0 b k) := by
  pointwise [k1_pay1]

/-- The second store's payload, at an index: the eight rows, then zeros. -/
theorem pay2_apply (v : Vec Ideal S1x8x2048 .f32) (a : Fin 1) (b : Fin 128) (k : Fin 2048) :
    k1_pay2 v (ix3 a b k) = if h : b.val < 8 then v (ix3 0 ⟨b.val, h⟩ k) else 0 := by
  pointwise [k1_pay2]

/-- The gate section's block read at an index. -/
theorem blk10_apply (c : Dev nD) (t : Fin grid1.N) (b : Fin 1024) (k : Fin 2048) (i : S2x7176x2048.Idx)
    (h0 : (i 0).val = t.val) (h1 : (i 1).val = 4104 + b.val) (h2 : (i 2).val = k.val) :
    iblk1 V c 0 t (ix3 0 b k) = V c main_v0 i := by
  have g := (geo1 t).1
  unfold iblk1
  show V c main_v0 (((View.whole main_v0).slice (win1_0.rect t)).emb _) = _
  congr 1
  funext a
  apply Fin.ext
  match a with
  | ⟨0, _⟩ => refine Eq.trans ?_ h0.symm; show win1_0.index t 0 + 1 * 0 = _; rw [g]; show t.val + 1 * 0 = _; omega
  | ⟨1, _⟩ => refine Eq.trans ?_ h1.symm; show win1_0.index t 1 + 1 * b.val = _; rw [g]; show 4104 + 1 * b.val = _; omega
  | ⟨2, _⟩ => refine Eq.trans ?_ h2.symm; show win1_0.index t 2 + 1 * k.val = _; rw [g]; show 0 + 1 * k.val = _; omega

/-- The forget gates' block read at an index. -/
theorem blk11_apply (c : Dev nD) (t : Fin grid1.N) (b : Fin 8) (k : Fin 2048) (i : S2x7176x2048.Idx)
    (h0 : (i 0).val = t.val) (h1 : (i 1).val = 3072 + b.val) (h2 : (i 2).val = k.val) :
    iblk1 V c 1 t (ix3 0 b k) = V c main_v0 i := by
  have g := (geo1 t).2.1
  unfold iblk1
  show V c main_v0 (((View.whole main_v0).slice (win1_1.rect t)).emb _) = _
  congr 1
  funext a
  apply Fin.ext
  match a with
  | ⟨0, _⟩ => refine Eq.trans ?_ h0.symm; show win1_1.index t 0 + 1 * 0 = _; rw [g]; show t.val + 1 * 0 = _; omega
  | ⟨1, _⟩ => refine Eq.trans ?_ h1.symm; show win1_1.index t 1 + 1 * b.val = _; rw [g]; show 3072 + 1 * b.val = _; omega
  | ⟨2, _⟩ => refine Eq.trans ?_ h2.symm; show win1_1.index t 2 + 1 * k.val = _; rw [g]; show 0 + 1 * k.val = _; omega

/-- After the run the gate matrix. -/
theorem final1 (c : Dev nD) : (dat1 V c).arrAt 2 cfg1.N = wF (V c main_v0) := by
  refine (dat1 V c).arrAt_eq_of_covers 2 _ (by decide +kernel) fun t hf y => ?_
  blk_simp
  rw [after1_2]
  unfold outsAt1
  frame_out
  idx_vars y
  have e0 : ((((View.whole main_v2).slice (win1_2.rect t)).emb (ix3 y0 y1 y2) : S2x1152x2048.Idx) 0).val = t.val := by
    blk_simp [(geo1 t).2.2]
  have e1 : ((((View.whole main_v2).slice (win1_2.rect t)).emb (ix3 y0 y1 y2) : S2x1152x2048.Idx) 1).val = y1.val := by
    blk_simp [(geo1 t).2.2]
  have e2 : ((((View.whole main_v2).slice (win1_2.rect t)).emb (ix3 y0 y1 y2) : S2x1152x2048.Idx) 2).val = y2.val := by
    blk_simp [(geo1 t).2.2]
  generalize (((View.whole main_v2).slice (win1_2.rect t)).emb (ix3 y0 y1 y2) : S2x1152x2048.Idx) = j at e0 e1 e2 ⊢
  have hy := y1.isLt
  rw [wF]
  by_cases h : y1.val < 1024
  · rw [dif_pos (by omega), View.canon_cons_of_not_mem]
    · have hw : (ix3 y0 y1 y2 : S1x1152x2048.Idx) = (Rect.unit (s := S1x1152x2048) ![0, 0, 0] ![1, 1024, 2048] inb_S1x1152x2048_S1x1024x2048_0_0_0).emb
          (ix3 y0 ⟨y1.val, h⟩ y2) := by
        funext a; apply Fin.ext
        match a with
        | ⟨0, _⟩ => show y0.val = 0 + 1 * y0.val; omega
        | ⟨1, _⟩ => show y1.val = 0 + 1 * y1.val; omega
        | ⟨2, _⟩ => show y2.val = 0 + 1 * y2.val; omega
      rw [hw, View.canon_cons_emb]
      refine (pay1_apply _ _ _ _).trans (blk10_apply V c t _ _ _ ?_ ?_ ?_)
      · exact e0
      · show 4104 + (j 1).val = 4104 + y1.val; omega
      · exact e2
    · show _ ∉ (Rect.unit (s := S1x1152x2048) ![0, 1024, 0] ![1, 128, 2048] inb_S1x1152x2048_S1x128x2048_0_1024_0).set
      rw [Rect.mem_set_unit]
      intro hh
      have h1 : 1024 ≤ y1.val := (hh 1).1
      omega
  · have hw : (ix3 y0 y1 y2 : S1x1152x2048.Idx) = (Rect.unit (s := S1x1152x2048) ![0, 1024, 0] ![1, 128, 2048] inb_S1x1152x2048_S1x128x2048_0_1024_0).emb
        (ix3 y0 ⟨y1.val - 1024, by show _ < 128; omega⟩ y2) := by
      funext a; apply Fin.ext
      match a with
      | ⟨0, _⟩ => show y0.val = 0 + 1 * y0.val; omega
      | ⟨1, _⟩ => show y1.val = 1024 + 1 * (y1.val - 1024); omega
      | ⟨2, _⟩ => show y2.val = 0 + 1 * y2.val; omega
    rw [dif_neg (by omega), hw, View.canon_cons_emb]
    refine (pay2_apply _ _ _ _).trans ?_
    by_cases h2 : y1.val < 1032
    · rw [dif_pos (by show y1.val - 1024 < 8; omega), dif_pos (by omega)]
      refine blk11_apply V c t _ _ _ ?_ ?_ ?_
      · exact e0
      · show 2048 + (j 1).val = 3072 + (y1.val - 1024); omega
      · exact e2
    · rw [dif_neg (by show ¬ y1.val - 1024 < 8; omega), dif_neg (by omega)]

end Cert.Kernel8Ideal.InProj

end
-- ==== Proof.InnProj.lean ====
module

public import proofs.«01_k».proof.Defs
public import proofs.«01_k».proof.Proof.Gen.Kernel8Ideal.Frame
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Kernel8Ideal.InProj

open Cert.Kernel8Ideal Cert.Kernel8Ideal.Gen

variable (V : (c : Dev nD) → (b : Ref sig .tc) → Buf (Elt Ideal) ((c : Thread nD τ).loc b))

/-- Row `r` of the left matrix against row `j` of the second layer of the right one. -/
def pA (H : Vec Ideal S8192x2048 .bf16) (w : Vec Ideal S2x6144x2048 .bf16) : Vec Ideal S8192x6144 .bf16 := fun i =>
  ∑ k : Fin 2048, H (ix2 (i 0) k) * w (ix3 1 (i 1) k)

/-- The same with the gate matrix. -/
def pF (H : Vec Ideal S8192x2048 .bf16) (w : Vec Ideal S2x1152x2048 .bf16) : Vec Ideal S8192x1152 .f32 := fun i =>
  ∑ k : Fin 2048, H (ix2 (i 0) k) * w (ix3 1 (i 1) k)

/-- The blocks' places: rows of the left matrix, rows of the right one, and the result's. -/
theorem idx2_0 : ∀ t : Fin grid2.N, win2_0.index t = ![t.val / 6, 0] := by decide +kernel
/-- The right matrix's blocks. -/
theorem idx2_1 : ∀ t : Fin grid2.N, win2_1.index t = ![1, t.val % 6, 0] := by decide +kernel
/-- The result's blocks. -/
theorem idx2_2 : ∀ t : Fin grid2.N, win2_2.index t = ![t.val / 6, t.val % 6] := by decide +kernel
/-- The left matrix's blocks. -/
theorem idx3_0 : ∀ t : Fin grid3.N, win3_0.index t = ![t.val, 0] := by decide +kernel
/-- The gate matrix is one block. -/
theorem idx3_1 : ∀ t : Fin grid3.N, win3_1.index t = ![1, 0, 0] := by decide +kernel
/-- The result's blocks. -/
theorem idx3_2 : ∀ t : Fin grid3.N, win3_2.index t = ![t.val, 0] := by decide +kernel

/-- After the run the product. -/
theorem final2 (c : Dev nD) : (dat2 V c).arrAt 2 cfg2.N = pA (V c main_v3) (V c main_v1) := by
  refine (dat2 V c).arrAt_eq_of_covers 2 _ (by decide +kernel) fun t hf y => ?_
  blk_simp
  rw [after2_2]
  frame_out
  idx_vars y
  pointwise [k2_pay1, pA]
  blk_point [iblk2, idx2_0 t, idx2_1 t, idx2_2 t]

/-- After the run the product. -/
theorem final3 (c : Dev nD) : (dat3 V c).arrAt 2 cfg3.N = pF (V c main_v3) (V c main_v2) := by
  refine (dat3 V c).arrAt_eq_of_covers 2 _ (by decide +kernel) fun t hf y => ?_
  blk_simp
  rw [after3_2]
  frame_out
  idx_vars y
  pointwise [k3_pay1, pF]
  blk_point [iblk3, idx3_0 t, idx3_1 t, idx3_2 t]

end Cert.Kernel8Ideal.InProj

end
-- ==== Proof.InnVal.lean ====
module

public import proofs.«01_k».proof.Defs
public import proofs.«01_k».proof.Proof.InnReg
public import proofs.«01_k».proof.Proof.InnGates
public import proofs.«01_k».proof.Proof.InnProj
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Kernel8Ideal.InProj

open Cert.Kernel8Ideal Cert.Kernel8Ideal.Gen

variable (m : (ℓ : Loc nD τ sig) → Buf (Elt Ideal) ℓ) (ρ : Dev nD → PrngReg)

/-- The transposed matrix, as the first launch meets it. -/
theorem v0_eq (c : Dev nD) : W1 m ρ c (Proc.devRef .tc main_v0)
    = transpose S2x7176x2048 [0, 2, 1] (m ((c : Thread nD τ).loc main_arg1) : Vec Ideal S2x2048x7176 .f32) transposes_S2x2048x7176_S2x7176x2048_0_2_1 := by
  show StableHlo.after hostOps0 (W0 m ρ c) _ = _
  after_results_simp <;> rfl

/-- The input's rows. -/
theorem v3_eq (c : Dev nD) : W4 m ρ c (Proc.devRef .tc main_v3)
    = shapeCast S8192x2048 (m ((c : Thread nD τ).loc main_arg0) : Vec Ideal S2x4096x2048 .bf16) shapeCasts_S2x4096x2048_S8192x2048 := by
  have h : W3 m ρ c (Proc.devRef .tc main_arg0) = m ((c : Thread nD τ).loc main_arg0) := W3_args m ρ c main_arg0 (by decide)
  rw [← h]
  show StableHlo.after hostOps2 (W3 m ρ c) _ = _
  after_results_simp <;> rfl

/-- The regrouped matrix, as the projection meets it. -/
theorem v1_eq (c : Dev nD) : W4 m ρ c (Proc.devRef .tc main_v1) = wA (W1 m ρ c (Proc.devRef .tc main_v0)) :=
  (W4_of m ρ c main_v1 (by decide)).trans <| (W3_of m ρ c main_v1 (by decide)).trans <|
    (W2_arr m ρ c 1).trans (final0 (V1 m ρ) c)

/-- The gate matrix, as the projection meets it. -/
theorem v2_eq (c : Dev nD) : W5 m ρ c (Proc.devRef .tc main_v2) = wF (W1 m ρ c (Proc.devRef .tc main_v0)) :=
  (W5_of m ρ c main_v2 (by decide)).trans <| (W4_of m ρ c main_v2 (by decide)).trans <|
    (W3_arr m ρ c 2).trans <| (final1 (V2 m ρ) c).trans (congrArg wF (W2_of m ρ c main_v0 (by decide)))

/-- The first result. -/
theorem v4_eq (c : Dev nD) : W6 m ρ c (Proc.devRef .tc main_v4)
    = pA (W4 m ρ c (Proc.devRef .tc main_v3)) (W4 m ρ c (Proc.devRef .tc main_v1)) :=
  (W6_of m ρ c main_v4 (by decide)).trans <| (W5_arr m ρ c 2).trans (final2 (V4 m ρ) c)

/-- The second result. -/
theorem v5_eq (c : Dev nD) : W6 m ρ c (Proc.devRef .tc main_v5)
    = pF (W4 m ρ c (Proc.devRef .tc main_v3)) (W5 m ρ c (Proc.devRef .tc main_v2)) :=
  (W6_arr m ρ c 2).trans <| (final3 (V5 m ρ) c).trans (congrArg (pF · _) (W5_of m ρ c main_v3 (by decide)))

end Cert.Kernel8Ideal.InProj

end
-- ==== Proof.InnClaim.lean ====
module

public import proofs.«01_k».proof.Defs
public import proofs.«01_k».proof.Proof.Equal
public import proofs.«01_k».proof.Proof.InnVal
public import proofs.«01_k».proof.Proof.Gen.Reference8Ideal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Kernel8Ideal.InProj

open Cert.Kernel8Ideal Cert.Kernel8Ideal.Gen
open Cert.Reference8Ideal.Read (val_main_v4)
open Cert.KernelIdeal.InProj (skip sum_mul_real qs qs_pos div_qs)

variable (x0 : Vec Ideal S2x4096x2048 .bf16) (x1 : Vec Ideal S2x2048x7176 .f32)

/-- The rows of the arguments. -/
def rows : Vec Ideal S8192x2048 .bf16 := shapeCast S8192x2048 x0 shapeCasts_S2x4096x2048_S8192x2048

/-- The transposed matrix. -/
abbrev cols : Vec Ideal S2x7176x2048 .f32 :=
  transpose S2x7176x2048 [0, 2, 1] x1 transposes_S2x2048x7176_S2x7176x2048_0_2_1

/-- The reference's unscaled projection is the sum over the rows and the second layer's columns. -/
theorem proj_eq (r : Fin 8192) (n : Fin 7176) :
    val_main_v4 (F := Ideal) x0 x1 (ix2 r n) = ∑ k : Fin 2048, rows x0 (ix2 r k) * cols x1 (ix3 1 n k) := by
  rw [Cert.Reference8Ideal.Read.val_main_v4_apply, Cert.Reference8Ideal.Read.val_main_v3_apply]
  refine Finset.sum_congr rfl fun k _ => ?_
  have hr := r.isLt
  have hn := n.isLt
  have hL : Cert.Reference8Ideal.Read.lidx_main_v3 (Cert.Reference8Ideal.Read.idx_main_v4 (ix2 r n)) k
      = ix3 (⟨r.val / 4096, by omega⟩ : Fin 2) (⟨r.val % 4096, by omega⟩ : Fin 4096) k := by
    funext a; apply Fin.ext
    match a with
    | ⟨0, _⟩ => show (r.val * 7176 + n.val) / 29392896 = r.val / 4096; omega
    | ⟨1, _⟩ => show (r.val * 7176 + n.val) / 7176 % 4096 = r.val % 4096; omega
    | ⟨2, _⟩ => rfl
  have hR : Cert.Reference8Ideal.Read.ridx_main_v3 (Cert.Reference8Ideal.Read.idx_main_v4 (ix2 r n)) k = ix2 k n := by
    funext a; apply Fin.ext
    match a with
    | ⟨0, _⟩ => rfl
    | ⟨1, _⟩ => show (r.val * 7176 + n.val) % 7176 = n.val; omega
  rw [hL, hR]
  pointwise [rows, cols, Cert.Reference8Ideal.Read.val_main_v0, Cert.Reference8Ideal.Read.val_main_v1, Cert.Reference8Ideal.Read.val_main_v2]

/-- The constant the table names. -/
theorem named_qs : (Named.named (F := Ideal) (φ := .f32) κ "q_scale" 0x3E0293EE#32 : EReal) = (qs : EReal) := rfl

/-- The first result of the reference, at an index. -/
theorem zA_eq (r : Fin 8192) (j : Fin 6144) :
    Cert.Reference8Ideal.Read.val_main_v19 (F := Ideal) x0 x1 (ix2 r j) = pA (rows x0) (wA (cols x1)) (ix2 r j) := by
  pointwise [Cert.Reference8Ideal.Read.val_main_v19, Cert.Reference8Ideal.Read.val_main_v14, Cert.Reference8Ideal.Read.val_main_v13, Cert.Reference8Ideal.Read.val_main_v12, Cert.Reference8Ideal.Read.val_main_v11, Cert.Reference8Ideal.Read.val_main_v10, Cert.Reference8Ideal.Read.val_main_v9, Cert.Reference8Ideal.Read.val_main_v8, Cert.Reference8Ideal.Read.val_main_v7, Cert.Reference8Ideal.Read.val_main_v6, Cert.Reference8Ideal.Read.val_main_v5, Cert.Reference8Ideal.Read.val_main_cst, Cert.Reference8Ideal.Read.val_main_cst_0, pA, wA]
  have hj := j.isLt
  have e : ∀ (n : Fin 7176) (_ : n.val = j.val + skip j.val), val_main_v4 (F := Ideal) x0 x1 (ix2 r n)
      = ∑ k : Fin 2048, rows x0 (ix2 r k) * x1 (ix3 1 k n) := fun n _ => (proj_eq x0 x1 r n).trans (by pointwise [cols])
  have go : ∀ (n : Fin 7176) (hn : n.val = j.val + skip j.val) (h1 : ¬ j.val < 1024) (p : j.val + skip j.val < 7176), val_main_v4 (F := Ideal) x0 x1 (ix2 r n)
      = ∑ k : Fin 2048, rows x0 (ix2 r k) * (x1 (ix3 1 k ⟨j.val + skip j.val, p⟩)
        * if j.val < 1024 then (Named.named (F := Ideal) (φ := .f32) κ "q_scale" 0x3E0293EE#32 : EReal) else (1 : EReal)) := by
    intro n hn h1 p
    rw [e n hn]
    refine Finset.sum_congr rfl fun k _ => ?_
    rw [if_neg h1, mul_one]
    congr 3
    exact Fin.ext hn
  have gp : ∀ (n : Fin 7176) (hn : n.val = j.val + skip j.val) (h1 : j.val < 1024) (p : j.val + skip j.val < 7176), val_main_v4 (F := Ideal) x0 x1 (ix2 r n) * (qs : EReal)
      = ∑ k : Fin 2048, rows x0 (ix2 r k) * (x1 (ix3 1 k ⟨j.val + skip j.val, p⟩)
        * if j.val < 1024 then (Named.named (F := Ideal) (φ := .f32) κ "q_scale" 0x3E0293EE#32 : EReal) else (1 : EReal)) := by
    intro n hn h1 p
    rw [e n hn, ← sum_mul_real _ _ _ qs_pos.le]
    refine Finset.sum_congr rfl fun k _ => ?_
    rw [if_pos h1, named_qs, mul_assoc]
    congr 4
    exact Fin.ext hn
  by_cases h1 : j.val < 1024
  · rw [dif_pos h1]
    exact (div_qs _).trans (gp _ (by unfold skip; simp only; split_ifs <;> omega) h1 _)
  · rw [dif_neg h1]
    by_cases h2 : j.val - 1024 < 2048
    · rw [dif_pos h2]
      exact go _ (by unfold skip; simp only; split_ifs <;> omega) h1 _
    · rw [dif_neg h2]
      by_cases h3 : j.val - 1024 - 2048 < 1024
      · rw [dif_pos h3]
        exact go _ (by unfold skip; simp only; split_ifs <;> omega) h1 _
      · rw [dif_neg h3]
        exact go _ (by unfold skip; simp only; split_ifs <;> omega) h1 _

/-- The second result of the reference, at an index. -/
theorem zF_eq (r : Fin 8192) (j : Fin 1152) :
    Cert.Reference8Ideal.Read.val_main_v18 (F := Ideal) x0 x1 (ix2 r j) = pF (rows x0) (wF (cols x1)) (ix2 r j) := by
  pointwise [Cert.Reference8Ideal.Read.val_main_v18, Cert.Reference8Ideal.Read.val_main_v17, Cert.Reference8Ideal.Read.val_main_v16, Cert.Reference8Ideal.Read.val_main_v15, Cert.Reference8Ideal.Read.val_main_c, Cert.Reference8Ideal.Read.val_main_call0_v0, pF, wF]
  have hj := j.isLt
  have e : ∀ (n : Fin 7176), val_main_v4 (F := Ideal) x0 x1 (ix2 r n)
      = ∑ k : Fin 2048, rows x0 (ix2 r k) * x1 (ix3 1 k n) := fun n => (proj_eq x0 x1 r n).trans (by pointwise [cols])
  by_cases h1 : j.val < 1024
  · simp only [dif_pos h1, dif_pos (show j.val < 1032 by omega)]
    rw [e]
  · by_cases h2 : j.val < 1032
    · simp only [dif_neg h1, dif_pos h2]
      rw [e]
      refine Finset.sum_congr rfl fun k _ => ?_
      congr 3
      exact Fin.ext (by simp only; omega)
    · simp only [dif_neg h1, dif_neg h2, mul_zero, Finset.sum_const_zero]
      show (((0 : Int) : ℝ) : EReal) = 0
      simp

variable (m : (ℓ : Loc nD τ sig) → Buf (Elt Ideal) ℓ) (ρ : Dev nD → PrngReg)

/-- The kernel's first result is the reference's. -/
theorem first (c : Dev nD) : W6 m ρ c (Proc.devRef .tc main_v4)
    = Cert.Reference8Ideal.Read.val_main_v19 (F := Ideal) (m ((c : Thread nD τ).loc main_arg0)) (m ((c : Thread nD τ).loc main_arg1)) := by
  rw [v4_eq, v3_eq, v1_eq, v0_eq]
  exact (funext fun i => by rw [eq_ix2 i]; exact zA_eq _ _ (i 0) (i 1)).symm

/-- The kernel's second result is the reference's. -/
theorem second (c : Dev nD) : W6 m ρ c (Proc.devRef .tc main_v5)
    = Cert.Reference8Ideal.Read.val_main_v18 (F := Ideal) (m ((c : Thread nD τ).loc main_arg0)) (m ((c : Thread nD τ).loc main_arg1)) := by
  rw [v5_eq, v3_eq, v2_eq, v0_eq]
  exact (funext fun i => by rw [eq_ix2 i]; exact zF_eq _ _ (i 0) (i 1)).symm

end Cert.Kernel8Ideal.InProj

end
-- ==== Proof.OuuRun.lean ====
module

public import proofs.«01_k».proof.Defs
public import proofs.«01_k».proof.Proof.Gen.Kernel9Ideal.Frame
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

open Idealize.ShloMosaic.Tactic Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode

namespace Cert.Kernel9Ideal.Out

open Cert.Kernel9Ideal Cert.Kernel9Ideal.Gen

variable {F : FTy → Type} [FloatOps F]
local notation "𝕄" => MT nD τ sig Unit (Elt F) ℕ (UR sig nD τ) ℕ

variable (m : (ℓ : Loc nD τ sig) → Buf (Elt F) ℓ) (ρ : Dev nD → PrngReg)

/-- The launch ends with the results at the last boundary's contents and the arguments unchanged. -/
theorem launch : θ_run defs (onTc (τ := τ) (main (F := F))) ⟨m, fun _ => 0, ρ⟩ (fun r => ∀ c : Dev nD,
      r.2.mem ((c.tc : Thread nD τ).loc main_v10_0) = W4 m ρ c (Proc.devRef .tc main_v10_0)
      ∧ r.2.mem ((c.tc : Thread nD τ).loc main_v10_1) = W4 m ρ c (Proc.devRef .tc main_v10_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => (fun c =>
      ⟨h c _ (mem_uc main_v10_0 (by decide)), h c _ (mem_uc main_v10_1 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩))

end Cert.Kernel9Ideal.Out

end
-- ==== Proof.OuuReg.lean ====
module

public import proofs.«01_k».proof.Defs
public import proofs.«01_k».proof.Proof.FfnPay
public import proofs.«01_k».proof.Proof.Gen.Kernel9Ideal.Frame
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Kernel9Ideal.Out

open Cert.Kernel9Ideal Cert.Kernel9Ideal.Gen
open Cert.Kernel3Ideal.Ffn (rs)

variable (V : (c : Dev nD) → (b : Ref sig .tc) → Buf (Elt Ideal) ((c : Thread nD τ).loc b))

/-- The weights, their values unchanged by the cast. -/
def cw (X : Vec Ideal S2x2048x2048 .f32) : Vec Ideal S2x2048x2048 .bf16 := fun i => X i

section Math

variable (A B : Vec Ideal S8192x1024 .bf16) (W : Vec Ideal S2x2048x2048 .bf16) (H : Vec Ideal S8192x2048 .f32) (g g' : Vec Ideal S1x2048 .f32)

/-- The two halves' products with the two halves of the second layer's matrix, added. -/
def yv (r : Fin 8192) (j : Fin 2048) : EReal :=
  (∑ k : Fin 1024, A (ix2 r k) * W (ix3 1 ⟨k.val, by omega⟩ j)) + ∑ k : Fin 1024, B (ix2 r k) * W (ix3 1 ⟨1024 + k.val, by omega⟩ j)

/-- The residual result. -/
def rv (r : Fin 8192) (j : Fin 2048) : EReal := H (ix2 r j) + yv A B W r j * rs (yv A B W r) * g (ix2 0 j)

/-- The normalised result. -/
def nv (r : Fin 8192) (j : Fin 2048) : EReal := rv A B W H g r j * rs (rv A B W H g r) * g' (ix2 0 j)

/-- The residual result, as an array. -/
def rA : Vec Ideal S8192x2048 .f32 := fun i => rv A B W H g (i 0) (i 1)
/-- The normalised result, as an array. -/
def nA : Vec Ideal S8192x2048 .bf16 := fun i => nv A B W H g g' (i 0) (i 1)

end Math

/-- The cast's blocks. -/
theorem idx0_0 : ∀ t : Fin grid0.N, win0_0.index t = ![t.val / 2, t.val % 2, 0] := by decide +kernel
/-- The cast's blocks. -/
theorem idx0_1 : ∀ t : Fin grid0.N, win0_1.index t = ![t.val / 2, t.val % 2, 0] := by decide +kernel
/-- The rows of the first half. -/
theorem idx1_0 : ∀ t : Fin grid1.N, win1_0.index t = ![t.val, 0] := by decide +kernel
/-- The rows of the second half. -/
theorem idx1_1 : ∀ t : Fin grid1.N, win1_1.index t = ![t.val, 0] := by decide +kernel
/-- The matrix's first half. -/
theorem idx1_2 : ∀ t : Fin grid1.N, win1_2.index t = ![1, 0, 0] := by decide +kernel
/-- The matrix's second half. -/
theorem idx1_3 : ∀ t : Fin grid1.N, win1_3.index t = ![1, 1, 0] := by decide +kernel
/-- The residual's rows. -/
theorem idx1_4 : ∀ t : Fin grid1.N, win1_4.index t = ![t.val, 0] := by decide +kernel
/-- The gains are one block. -/
theorem idx1_5 : ∀ t : Fin grid1.N, win1_5.index t = ![0, 0] := by decide +kernel
/-- The gains are one block. -/
theorem idx1_6 : ∀ t : Fin grid1.N, win1_6.index t = ![0, 0] := by decide +kernel
/-- The first result's rows. -/
theorem idx1_7 : ∀ t : Fin grid1.N, win1_7.index t = ![t.val, 0] := by decide +kernel
/-- The second result's rows. -/
theorem idx1_8 : ∀ t : Fin grid1.N, win1_8.index t = ![t.val, 0] := by decide +kernel

/-- After the cast the weights. -/
theorem final0 (c : Dev nD) : (dat0 V c).arrAt 1 cfg0.N = cw (V c main_arg3) := by
  refine (dat0 V c).arrAt_eq_of_covers 1 _ (by decide +kernel) fun t hf y => ?_
  blk_simp
  rw [after0_1]
  frame_out
  idx_vars y
  pointwise [k0_pay1, cw]
  blk_point [iblk0, idx0_0 t, idx0_1 t]

/-- After the run the residual result. -/
theorem final7 (c : Dev nD) : (dat1 V c).arrAt 7 cfg1.N = rA (V c main_v0) (V c main_v1) (V c main_v2) (V c main_v3) (V c main_v6) := by
  refine (dat1 V c).arrAt_eq_of_covers 7 _ (by decide +kernel) fun t hf y => ?_
  blk_simp
  rw [after1_7]
  frame_out
  idx_vars y
  pointwise [k1_pay2, rA, rv, yv, rs]
  blk_point [iblk1, idx1_0 t, idx1_1 t, idx1_2 t, idx1_3 t, idx1_4 t, idx1_5 t, idx1_7 t]

/-- After the run the normalised result. -/
theorem final8 (c : Dev nD) : (dat1 V c).arrAt 8 cfg1.N
    = nA (V c main_v0) (V c main_v1) (V c main_v2) (V c main_v3) (V c main_v6) (V c main_v9) := by
  refine (dat1 V c).arrAt_eq_of_covers 8 _ (by decide +kernel) fun t hf y => ?_
  blk_simp
  rw [after1_8]
  frame_out
  idx_vars y
  pointwise [k1_pay1, k1_pay2, k1_pay3, k1_pay4, nA, nv, rv, yv, rs]
  blk_point [iblk1, idx1_0 t, idx1_1 t, idx1_2 t, idx1_3 t, idx1_4 t, idx1_5 t, idx1_6 t, idx1_8 t]

end Cert.Kernel9Ideal.Out

end
-- ==== Proof.OuuVal.lean ====
module

public import proofs.«01_k».proof.Defs
public import proofs.«01_k».proof.Proof.OuuReg
public import proofs.«01_k».proof.Proof.FfnHost
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Kernel9Ideal.Out

open Cert.Kernel9Ideal Cert.Kernel9Ideal.Gen

variable (m : (ℓ : Loc nD τ sig) → Buf (Elt Ideal) ℓ) (ρ : Dev nD → PrngReg)

/-- The first half's rows. -/
theorem v0_eq (c : Dev nD) : W1 m ρ c (Proc.devRef .tc main_v0)
    = shapeCast S8192x1024 (m ((c : Thread nD τ).loc main_arg0) : Vec Ideal S2x4096x1024 .bf16) shapeCasts_S2x4096x1024_S8192x1024 := by
  have h : W0 m ρ c (Proc.devRef .tc main_arg0) = m ((c : Thread nD τ).loc main_arg0) := rfl
  rw [← h]
  show StableHlo.after hostOps0 (W0 m ρ c) _ = _
  after_results_simp <;> rfl

/-- The second half's rows. -/
theorem v1_eq (c : Dev nD) : W1 m ρ c (Proc.devRef .tc main_v1)
    = shapeCast S8192x1024 (m ((c : Thread nD τ).loc main_arg1) : Vec Ideal S2x4096x1024 .bf16) shapeCasts_S2x4096x1024_S8192x1024 := by
  have h : W0 m ρ c (Proc.devRef .tc main_arg1) = m ((c : Thread nD τ).loc main_arg1) := rfl
  rw [← h]
  show StableHlo.after hostOps0 (W0 m ρ c) _ = _
  after_results_simp <;> rfl

/-- The residual's rows. -/
theorem v3_eq (c : Dev nD) : W3 m ρ c (Proc.devRef .tc main_v3)
    = shapeCast S8192x2048 (m ((c : Thread nD τ).loc main_arg2) : Vec Ideal S2x4096x2048 .f32) shapeCasts_S2x4096x2048_S8192x2048 := by
  have h : W2 m ρ c (Proc.devRef .tc main_arg2) = m ((c : Thread nD τ).loc main_arg2) := W2_args m ρ c main_arg2 (by decide)
  rw [← h]
  show StableHlo.after hostOps1 (W2 m ρ c) _ = _
  after_results_simp <;> rfl

/-- The first gain. -/
theorem v6_eq (c : Dev nD) : W3 m ρ c (Proc.devRef .tc main_v6)
    = shapeCast S1x2048 (shapeCast S2048 (extractStridedSlice S1x2048 ![1, 0] (m ((c : Thread nD τ).loc main_arg4) : Vec Ideal S2x2048 .f32) slices_S2x2048_S1x2048_1_0) shapeCasts_S1x2048_S2048) shapeCasts_S2048_S1x2048 := by
  have h : W2 m ρ c (Proc.devRef .tc main_arg4) = m ((c : Thread nD τ).loc main_arg4) := W2_args m ρ c main_arg4 (by decide)
  rw [← h]
  show StableHlo.after hostOps1 (W2 m ρ c) _ = _
  after_results_simp <;> rfl

/-- The second gain. -/
theorem v9_eq (c : Dev nD) : W3 m ρ c (Proc.devRef .tc main_v9)
    = shapeCast S1x2048 (shapeCast S2048 (extractStridedSlice S1x2048 ![1, 0] (m ((c : Thread nD τ).loc main_arg5) : Vec Ideal S2x2048 .f32) slices_S2x2048_S1x2048_1_0) shapeCasts_S1x2048_S2048) shapeCasts_S2048_S1x2048 := by
  have h : W2 m ρ c (Proc.devRef .tc main_arg5) = m ((c : Thread nD τ).loc main_arg5) := W2_args m ρ c main_arg5 (by decide)
  rw [← h]
  show StableHlo.after hostOps1 (W2 m ρ c) _ = _
  after_results_simp <;> rfl

/-- The weights the product meets. -/
theorem v2_eq (c : Dev nD) : W3 m ρ c (Proc.devRef .tc main_v2) = cw (m ((c : Thread nD τ).loc main_arg3)) :=
  (W3_of m ρ c main_v2 (by decide)).trans <| (W2_arr m ρ c 1).trans <| (final0 (V1 m ρ) c).trans (congrArg cw (W1_args m ρ c main_arg3 (by decide)))

/-- A row's first place. -/
theorem rowsA_at (x : Vec Ideal S2x4096x1024 .bf16) (b : Fin 2) (s : Fin 4096) (k : Fin 1024) :
    shapeCast S8192x1024 x shapeCasts_S2x4096x1024_S8192x1024 (ix2 ⟨b.val * 4096 + s.val, by omega⟩ k) = x (ix3 b s k) := by
  refine shapeCast_apply _ _ _ _ ?_
  rw [Shape.rowMajor_val_three, Shape.rowMajor_val_two]
  show (b.val * 4096 + s.val) * 1024 + k.val = (b.val * 4096 + s.val) * 1024 + k.val
  rfl

/-- The residual result, at the end. -/
theorem v10_0_eq (c : Dev nD) : W4 m ρ c (Proc.devRef .tc main_v10_0)
    = rA (W3 m ρ c (Proc.devRef .tc main_v0)) (W3 m ρ c (Proc.devRef .tc main_v1)) (W3 m ρ c (Proc.devRef .tc main_v2)) (W3 m ρ c (Proc.devRef .tc main_v3))
        (W3 m ρ c (Proc.devRef .tc main_v6)) :=
  (W4_arr m ρ c 7).trans (final7 (V3 m ρ) c)

/-- The normalised result, at the end. -/
theorem v10_1_eq (c : Dev nD) : W4 m ρ c (Proc.devRef .tc main_v10_1)
    = nA (W3 m ρ c (Proc.devRef .tc main_v0)) (W3 m ρ c (Proc.devRef .tc main_v1)) (W3 m ρ c (Proc.devRef .tc main_v2)) (W3 m ρ c (Proc.devRef .tc main_v3))
        (W3 m ρ c (Proc.devRef .tc main_v6)) (W3 m ρ c (Proc.devRef .tc main_v9)) :=
  (W4_arr m ρ c 8).trans (final8 (V3 m ρ) c)

/-- The first half's rows stay. -/
theorem v0_eq' (c : Dev nD) : W3 m ρ c (Proc.devRef .tc main_v0) = W1 m ρ c (Proc.devRef .tc main_v0) :=
  (W3_of m ρ c main_v0 (by decide)).trans (W2_of m ρ c main_v0 (by decide))
/-- The second half's rows stay. -/
theorem v1_eq' (c : Dev nD) : W3 m ρ c (Proc.devRef .tc main_v1) = W1 m ρ c (Proc.devRef .tc main_v1) :=
  (W3_of m ρ c main_v1 (by decide)).trans (W2_of m ρ c main_v1 (by decide))

end Cert.Kernel9Ideal.Out

end
-- ==== Proof.OuuClaim.lean ====
module

public import proofs.«01_k».proof.Defs
public import proofs.«01_k».proof.Proof.OuuVal
public import proofs.«01_k».proof.Proof.FfnRef
public import proofs.«01_k».proof.Proof.Gen.Reference9Ideal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Kernel9Ideal.Out

open Cert.Kernel9Ideal Cert.Kernel9Ideal.Gen
open Cert.Reference9Ideal.Read
open Cert.Kernel3Ideal.Ffn (rs rw' rw_eq rows_at)

variable (x0 x1 : Vec Ideal S2x4096x1024 .bf16) (x2 : Vec Ideal S2x4096x2048 .f32) (x3 : Vec Ideal S2x2048x2048 .f32) (x4 x5 : Vec Ideal S2x2048 .f32)

/-- The first half, as rows. -/
def rowsA : Vec Ideal S8192x1024 .bf16 := shapeCast S8192x1024 x0 shapeCasts_S2x4096x1024_S8192x1024
/-- A whole array, as rows. -/
def rowsH : Vec Ideal S8192x2048 .f32 := shapeCast S8192x2048 x2 shapeCasts_S2x4096x2048_S8192x2048
/-- The second layer's gain. -/
def gain : Vec Ideal S1x2048 .f32 :=
  shapeCast S1x2048 (shapeCast S2048 (extractStridedSlice S1x2048 ![1, 0] x4 slices_S2x2048_S1x2048_1_0) shapeCasts_S1x2048_S2048) shapeCasts_S2048_S1x2048

/-- A gain's entry. -/
theorem gain_at (j : Fin 2048) : gain x4 (ix2 0 j) = x4 (ix2 1 j) := by
  pointwise [gain]

/-- A row's entry. -/
theorem rowsH_at (b : Fin 2) (s : Fin 4096) (j : Fin 2048) : rowsH x2 (ix2 (rw' b s) j) = x2 (ix3 b s j) := by
  refine (rows_at x2 _ _).trans ?_
  unfold rw'
  congr 2 <;> (apply Fin.ext; simp only; omega)

/-- A half row's entry. -/
theorem rowsA_at' (b : Fin 2) (s : Fin 4096) (k : Fin 1024) : rowsA x0 (ix2 (rw' b s) k) = x0 (ix3 b s k) := rowsA_at x0 b s k

/-- The concatenated row's product is the two halves' products' sum. -/
theorem ref4 (b : Fin 2) (s : Fin 4096) (j : Fin 2048) :
    val_main_v4 (F := Ideal) x0 x1 x3 (ix3 b s j) = yv (rowsA x0) (rowsA x1) (cw x3) (rw' b s) j := by
  have h : val_main_v4 (F := Ideal) x0 x1 x3 (ix3 b s j)
      = ∑ k : Fin (1024 + 1024), (if h : k.val < 1024 then x0 (ix3 b s ⟨k.val, h⟩) else x1 (ix3 b s ⟨k.val - 1024, by omega⟩)) * x3 (ix3 1 ⟨k.val, by omega⟩ j) := by
    pointwise [val_main_v4, val_main_v3, val_main_v2, val_main_v1, val_main_v0]
  rw [h, Fin.sum_univ_add]
  unfold yv cw
  simp only [rowsA_at']
  refine congrArg₂ (· + ·) (Finset.sum_congr rfl fun k _ => ?_) (Finset.sum_congr rfl fun k _ => ?_)
  · rw [dif_pos (by simp)]
    rfl
  · rw [dif_neg (by simp)]
    refine congrArg₂ (· * ·) (congrArg x1 ?_) rfl
    refine congrArg (ix3 b s) (Fin.ext ?_)
    simp

/-- The residual result. -/
theorem ref20 (b : Fin 2) (s : Fin 4096) (j : Fin 2048) :
    val_main_v20 (F := Ideal) x0 x1 x2 x3 x4 (ix3 b s j) = rv (rowsA x0) (rowsA x1) (cw x3) (rowsH x2) (gain x4) (rw' b s) j := by
  unfold rv rs
  rw [rowsH_at, gain_at]
  simp only [← ref4]
  pointwise [val_main_v20, val_main_v19, val_main_v18, val_main_v17, val_main_v16, val_main_v15, val_main_v14, val_main_v13, val_main_v12, val_main_v11, val_main_v10, val_main_v9, val_main_v8, val_main_v7, val_main_v6, val_main_v5, val_main_cst, val_main_cst_0, val_main_cst_1]

/-- The normalised result. -/
theorem ref36 (b : Fin 2) (s : Fin 4096) (j : Fin 2048) :
    val_main_v36 (F := Ideal) x0 x1 x2 x3 x4 x5 (ix3 b s j) = nv (rowsA x0) (rowsA x1) (cw x3) (rowsH x2) (gain x4) (gain x5) (rw' b s) j := by
  unfold nv rs
  rw [gain_at]
  simp only [← ref20]
  pointwise [val_main_v36, val_main_v35, val_main_v34, val_main_v33, val_main_v32, val_main_v31, val_main_v30, val_main_v29, val_main_v28, val_main_v27, val_main_v26, val_main_v25, val_main_v24, val_main_v23, val_main_v22, val_main_cst_2, val_main_cst_3, val_main_cst_4]

/-- The first result. -/
theorem ref21 : val_main_v21 (F := Ideal) x0 x1 x2 x3 x4 = rA (rowsA x0) (rowsA x1) (cw x3) (rowsH x2) (gain x4) := by
  funext i
  rw [eq_ix2 i]
  unfold val_main_v21
  refine (rows_at _ (i 0) (i 1)).trans ((ref20 x0 x1 x2 x3 x4 _ _ _).trans ?_)
  exact congrArg (fun t => rv (rowsA x0) (rowsA x1) (cw x3) (rowsH x2) (gain x4) t (i 1)) (rw_eq (i 0))

/-- The second result. -/
theorem ref38 : val_main_v38 (F := Ideal) x0 x1 x2 x3 x4 x5 = nA (rowsA x0) (rowsA x1) (cw x3) (rowsH x2) (gain x4) (gain x5) := by
  funext i
  rw [eq_ix2 i]
  unfold val_main_v38 val_main_v37
  refine (rows_at _ (i 0) (i 1)).trans ((ref36 x0 x1 x2 x3 x4 x5 _ _ _).trans ?_)
  exact congrArg (fun t => nv (rowsA x0) (rowsA x1) (cw x3) (rowsH x2) (gain x4) (gain x5) t (i 1)) (rw_eq (i 0))

section Memory

variable (m : (ℓ : Loc nD τ sig) → Buf (Elt Ideal) ℓ) (ρ : Dev nD → PrngReg)

/-- The first result, of the arguments. -/
theorem first (c : Dev nD) : W4 m ρ c (Proc.devRef .tc main_v10_0) = rA (rowsA (m ((c : Thread nD τ).loc main_arg0))) (rowsA (m ((c : Thread nD τ).loc main_arg1)))
    (cw (m ((c : Thread nD τ).loc main_arg3))) (rowsH (m ((c : Thread nD τ).loc main_arg2))) (gain (m ((c : Thread nD τ).loc main_arg4))) := by
  rw [v10_0_eq, v0_eq', v1_eq', v0_eq, v1_eq, v2_eq, v3_eq, v6_eq]
  rfl

/-- The second result, of the arguments. -/
theorem second (c : Dev nD) : W4 m ρ c (Proc.devRef .tc main_v10_1) = nA (rowsA (m ((c : Thread nD τ).loc main_arg0))) (rowsA (m ((c : Thread nD τ).loc main_arg1)))
    (cw (m ((c : Thread nD τ).loc main_arg3))) (rowsH (m ((c : Thread nD τ).loc main_arg2))) (gain (m ((c : Thread nD τ).loc main_arg4)))
    (gain (m ((c : Thread nD τ).loc main_arg5))) := by
  rw [v10_1_eq, v0_eq', v1_eq', v0_eq, v1_eq, v2_eq, v3_eq, v6_eq, v9_eq]
  rfl

end Memory

end Cert.Kernel9Ideal.Out

end
-- ==== Proof.PllRun.lean ====
module

public import proofs.«01_k».proof.Defs
public import proofs.«01_k».proof.Proof.Gen.Kernel10Ideal.Frame
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

open Idealize.ShloMosaic.Tactic Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode

namespace Cert.Kernel10Ideal.Ple

open Cert.Kernel10Ideal Cert.Kernel10Ideal.Gen

variable {F : FTy → Type} [FloatOps F]
local notation "𝕄" => MT nD τ sig Unit (Elt F) ℕ (UR sig nD τ) ℕ

variable (m : (ℓ : Loc nD τ sig) → Buf (Elt F) ℓ) (ρ : Dev nD → PrngReg)

/-- The launch ends with the results at the last boundary's contents and the arguments unchanged. -/
theorem launch : θ_run defs (onTc (τ := τ) (main (F := F))) ⟨m, fun _ => 0, ρ⟩ (fun r => ∀ c : Dev nD,
      r.2.mem ((c.tc : Thread nD τ).loc main_v13_0) = W4 m ρ c (Proc.devRef .tc main_v13_0)
      ∧ r.2.mem ((c.tc : Thread nD τ).loc main_v13_1) = W4 m ρ c (Proc.devRef .tc main_v13_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => (fun c =>
      ⟨h c _ (mem_uc main_v13_0 (by decide)), h c _ (mem_uc main_v13_1 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c)⟩))

end Cert.Kernel10Ideal.Ple

end
-- ==== Proof.PllReg.lean ====
module

public import proofs.«01_k».proof.Defs
public import proofs.«01_k».proof.Proof.FfnPay
public import proofs.«01_k».proof.Proof.Gen.Kernel10Ideal.Frame
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Kernel10Ideal.Ple

open Cert.Kernel10Ideal Cert.Kernel10Ideal.Gen
open Cert.Kernel3Ideal.Ffn (rs one_bits)

variable (V : (c : Dev nD) → (b : Ref sig .tc) → Buf (Elt Ideal) ((c : Thread nD τ).loc b))

/-- The gate's weights, their values unchanged by the cast. -/
def cg (X : Vec Ideal S2x2048x2048 .f32) : Vec Ideal S2x2048x2048 .bf16 := fun i => X i
/-- The projection's weights, their values unchanged by the cast. -/
def cp (X : Vec Ideal S2x256x2048 .f32) : Vec Ideal S2x256x2048 .bf16 := fun i => X i

/-- The logistic function. -/
def sg (x : EReal) : EReal := Ideal.div 1 (1 + Ideal.exp (0 - x))

section Math

variable (P : Vec Ideal S8192x256 .f32) (N : Vec Ideal S8192x2048 .bf16) (Wp : Vec Ideal S2x256x2048 .bf16) (Wg : Vec Ideal S2x2048x2048 .bf16)
  (H : Vec Ideal S8192x2048 .f32) (g g' : Vec Ideal S1x2048 .f32)

/-- The gated embedding. -/
def yv (r : Fin 8192) (j : Fin 2048) : EReal :=
  (∑ k : Fin 256, P (ix2 r k) * Wp (ix3 1 k j)) * sg (∑ k : Fin 2048, N (ix2 r k) * Wg (ix3 1 k j))

/-- The residual result. -/
def rv (r : Fin 8192) (j : Fin 2048) : EReal := H (ix2 r j) + yv P N Wp Wg r j * rs (yv P N Wp Wg r) * g (ix2 0 j)

/-- The normalised result. -/
def nv (r : Fin 8192) (j : Fin 2048) : EReal := rv P N Wp Wg H g r j * rs (rv P N Wp Wg H g r) * g' (ix2 0 j)

/-- The residual result, as an array. -/
def rA : Vec Ideal S8192x2048 .f32 := fun i => rv P N Wp Wg H g (i 0) (i 1)
/-- The normalised result, as an array. -/
def nA : Vec Ideal S8192x2048 .bf16 := fun i => nv P N Wp Wg H g g' (i 0) (i 1)

end Math

/-- The gate cast's blocks. -/
theorem idx0_0 : ∀ t : Fin grid0.N, win0_0.index t = ![t.val / 2, t.val % 2, 0] := by decide +kernel
/-- The gate cast's blocks. -/
theorem idx0_1 : ∀ t : Fin grid0.N, win0_1.index t = ![t.val / 2, t.val % 2, 0] := by decide +kernel
/-- The projection cast's blocks. -/
theorem idx1_0 : ∀ t : Fin grid1.N, win1_0.index t = ![t.val, 0, 0] := by decide +kernel
/-- The projection cast's blocks. -/
theorem idx1_1 : ∀ t : Fin grid1.N, win1_1.index t = ![t.val, 0, 0] := by decide +kernel
/-- The embedding's rows. -/
theorem idx2_0 : ∀ t : Fin grid2.N, win2_0.index t = ![t.val, 0] := by decide +kernel
/-- The normalised rows. -/
theorem idx2_1 : ∀ t : Fin grid2.N, win2_1.index t = ![t.val, 0] := by decide +kernel
/-- The projection's matrix. -/
theorem idx2_2 : ∀ t : Fin grid2.N, win2_2.index t = ![1, 0, 0] := by decide +kernel
/-- The gate's matrix. -/
theorem idx2_3 : ∀ t : Fin grid2.N, win2_3.index t = ![1, 0, 0] := by decide +kernel
/-- The residual's rows. -/
theorem idx2_4 : ∀ t : Fin grid2.N, win2_4.index t = ![t.val, 0] := by decide +kernel
/-- The gains are one block. -/
theorem idx2_5 : ∀ t : Fin grid2.N, win2_5.index t = ![0, 0] := by decide +kernel
/-- The gains are one block. -/
theorem idx2_6 : ∀ t : Fin grid2.N, win2_6.index t = ![0, 0] := by decide +kernel
/-- The first result's rows. -/
theorem idx2_7 : ∀ t : Fin grid2.N, win2_7.index t = ![t.val, 0] := by decide +kernel
/-- The second result's rows. -/
theorem idx2_8 : ∀ t : Fin grid2.N, win2_8.index t = ![t.val, 0] := by decide +kernel

/-- After the cast the gate's weights. -/
theorem final0_1 (c : Dev nD) : (dat0 V c).arrAt 1 cfg0.N
    = cg (V c main_arg3) := by
  refine (dat0 V c).arrAt_eq_of_covers 1 _ (by decide +kernel) fun t hf y => ?_
  blk_simp
  rw [after0_1]
  frame_out
  idx_vars y
  pointwise [k0_pay1, cg]
  blk_point [iblk0, idx0_0 t, idx0_1 t]

/-- After the cast the projection's weights. -/
theorem final1_1 (c : Dev nD) : (dat1 V c).arrAt 1 cfg1.N
    = cp (V c main_arg4) := by
  refine (dat1 V c).arrAt_eq_of_covers 1 _ (by decide +kernel) fun t hf y => ?_
  blk_simp
  rw [after1_1]
  frame_out
  idx_vars y
  pointwise [k1_pay1, cp]
  blk_point [iblk1, idx1_0 t, idx1_1 t]

/-- After the run the residual result. -/
theorem final2_7 (c : Dev nD) : (dat2 V c).arrAt 7 cfg2.N
    = rA (V c main_v4) (V c main_v5) (V c main_v1) (V c main_v0) (V c main_v6) (V c main_v9) := by
  refine (dat2 V c).arrAt_eq_of_covers 7 _ (by decide +kernel) fun t hf y => ?_
  blk_simp
  rw [after2_7]
  frame_out
  idx_vars y
  pointwise [k2_pay2, rA, rv, yv, rs, sg]
  blk_point [iblk2, idx2_0 t, idx2_1 t, idx2_2 t, idx2_3 t, idx2_4 t, idx2_5 t, idx2_7 t]

/-- The residual result's block, a point's. -/
theorem row (c : Dev nD) (t : Fin cfg2.N) (r : Fin 512) (y1 : Fin 2048) (j : Fin 2048) :
    k2_pay3 (F := Ideal) (iblk2 V c 0 t) (iblk2 V c 1 t) (iblk2 V c 2 t) (iblk2 V c 3 t) (iblk2 V c 4 t) (iblk2 V c 5 t) (iblk2 V c 6 t) (ix2 r j) = rv (V c main_v4) (V c main_v5) (V c main_v1) (V c main_v0) (V c main_v6) (V c main_v9) (((View.whole main_v13_1).slice (win2_8.rect t)).emb (ix2 r y1) 0) j := by
  pointwise [k2_pay3, k2_pay2, rv, yv, rs, sg]
  blk_point [iblk2, idx2_0 t, idx2_1 t, idx2_2 t, idx2_3 t, idx2_4 t, idx2_5 t, idx2_8 t]

/-- A normalised block. -/
theorem pay1_at (A : FVec Ideal S512x2048 .f32) (g : Vec Ideal S1x2048 .f32) (r : Fin 512) (j : Fin 2048) :
    k2_pay1 A g (ix2 r j) = A (ix2 r j) * rs (fun k => A (ix2 r k)) * g (ix2 0 j) := by
  pointwise [k2_pay1, rs]

/-- After the run the normalised result. -/
theorem final2_8 (c : Dev nD) : (dat2 V c).arrAt 8 cfg2.N
    = nA (V c main_v4) (V c main_v5) (V c main_v1) (V c main_v0) (V c main_v6) (V c main_v9) (V c main_v12) := by
  refine (dat2 V c).arrAt_eq_of_covers 8 _ (by decide +kernel) fun t hf y => ?_
  blk_simp
  rw [after2_8]
  frame_out
  idx_vars y
  have e1 : (((View.whole main_v13_1).slice (win2_8.rect t)).emb (ix2 y0 y1) 1 : Fin 2048) = y1 := Fin.ext (by blk_simp [idx2_8 t])
  show _ = rv (V c main_v4) (V c main_v5) (V c main_v1) (V c main_v0) (V c main_v6) (V c main_v9) (((View.whole main_v13_1).slice (win2_8.rect t)).emb (ix2 y0 y1) 0) (((View.whole main_v13_1).slice (win2_8.rect t)).emb (ix2 y0 y1) 1) * rs (rv (V c main_v4) (V c main_v5) (V c main_v1) (V c main_v0) (V c main_v6) (V c main_v9) (((View.whole main_v13_1).slice (win2_8.rect t)).emb (ix2 y0 y1) 0))
    * (V c main_v12 : Vec Ideal S1x2048 .f32) (ix2 0 (((View.whole main_v13_1).slice (win2_8.rect t)).emb (ix2 y0 y1) 1))
  rw [e1]
  refine (pay1_at _ _ y0 y1).trans ?_
  refine congrArg₂ (· * ·) (congrArg₂ (fun a f => a * rs f) (row V c t y0 y1 y1) (funext fun k => row V c t y0 y1 k)) ?_
  blk_point [iblk2, idx2_6 t]

end Cert.Kernel10Ideal.Ple

end
-- ==== Proof.PllClaim.lean ====
module

public import proofs.«01_k».proof.Defs
public import proofs.«01_k».proof.Proof.PllReg
public import proofs.«01_k».proof.Proof.FfnRef
public import proofs.«01_k».proof.Proof.Gen.Reference10Ideal.Read
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Kernel10Ideal.Ple

open Cert.Kernel10Ideal Cert.Kernel10Ideal.Gen
open Cert.Reference10Ideal.Read
open Cert.Kernel3Ideal.Ffn (rs rw' rw_eq rows_at one_bits)

section Arrays

variable (x0 : Vec Ideal S2x2x4096x256 .f32) (x1 : Vec Ideal S2x4096x2048 .bf16) (x2 : Vec Ideal S2x4096x2048 .f32) (x3 : Vec Ideal S2x2048x2048 .f32)
  (x4 : Vec Ideal S2x256x2048 .f32) (x5 x6 : Vec Ideal S2x2048 .f32)

/-- The second layer's embeddings, as rows. -/
def rowsP : Vec Ideal S8192x256 .f32 := shapeCast S8192x256 (shapeCast S2x4096x256
  (extractStridedSlice S1x2x4096x256 ![1, 0, 0, 0] x0 slices_S2x2x4096x256_S1x2x4096x256_1_0_0_0) shapeCasts_S1x2x4096x256_S2x4096x256) shapeCasts_S2x4096x256_S8192x256
/-- The normalised input, as rows. -/
def rowsN : Vec Ideal S8192x2048 .bf16 := shapeCast S8192x2048 x1 shapeCasts_S2x4096x2048_S8192x2048
/-- The residual, as rows. -/
def rowsH : Vec Ideal S8192x2048 .f32 := shapeCast S8192x2048 x2 shapeCasts_S2x4096x2048_S8192x2048
/-- The second layer's gain. -/
def gain0 : Vec Ideal S1x2048 .f32 :=
  shapeCast S1x2048 (shapeCast S2048 (extractStridedSlice S1x2048 ![1, 0] x5 slices_S2x2048_S1x2048_1_0) shapeCasts_S1x2048_S2048) shapeCasts_S2048_S1x2048
/-- The closing gain. -/
def gain1 : Vec Ideal S1x2048 .f32 :=
  shapeCast S1x2048 (shapeCast S2048 (extractStridedSlice S1x2048 ![0, 0] x6 slices_S2x2048_S1x2048_0_0) shapeCasts_S1x2048_S2048) shapeCasts_S2048_S1x2048

/-- A gain's entry. -/
theorem gain0_at (j : Fin 2048) : gain0 x5 (ix2 0 j) = x5 (ix2 1 j) := by
  pointwise [gain0]
/-- A gain's entry. -/
theorem gain1_at (j : Fin 2048) : gain1 x6 (ix2 0 j) = x6 (ix2 0 j) := by
  pointwise [gain1]

/-- A row's entry. -/
theorem rowsH_at (b : Fin 2) (s : Fin 4096) (j : Fin 2048) : rowsH x2 (ix2 (rw' b s) j) = x2 (ix3 b s j) := by
  refine (rows_at x2 _ _).trans ?_
  unfold rw'
  congr 2 <;> (apply Fin.ext; simp only; omega)
/-- A row's entry. -/
theorem rowsN_at (b : Fin 2) (s : Fin 4096) (j : Fin 2048) : rowsN x1 (ix2 (rw' b s) j) = x1 (ix3 b s j) := by
  refine (rows_at x1 _ _).trans ?_
  unfold rw'
  congr 2 <;> (apply Fin.ext; simp only; omega)
/-- An embedding row's entry. -/
theorem rowsP_at (b : Fin 2) (s : Fin 4096) (k : Fin 256) : rowsP x0 (ix2 (rw' b s) k) = x0 (ix4 1 b s k) := by
  refine (shapeCast_apply _ _ _ (ix3 b s k) ?_).trans ?_
  · rw [Shape.rowMajor_val_three, Shape.rowMajor_val_two]
    show (b.val * 4096 + s.val) * 256 + k.val = (b.val * 4096 + s.val) * 256 + k.val
    rfl
  · pointwise

/-- The gated embedding. -/
theorem ref15 (b : Fin 2) (s : Fin 4096) (j : Fin 2048) :
    val_main_v15 (F := Ideal) x0 x1 x3 x4 (ix3 b s j) = yv (rowsP x0) (rowsN x1) (cp x4) (cg x3) (rw' b s) j := by
  unfold yv sg cp cg
  simp only [rowsP_at, rowsN_at, zero_sub]
  pointwise [val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0]

/-- The residual result. -/
theorem ref31 (b : Fin 2) (s : Fin 4096) (j : Fin 2048) :
    val_main_v31 (F := Ideal) x0 x1 x2 x3 x4 x5 (ix3 b s j) = rv (rowsP x0) (rowsN x1) (cp x4) (cg x3) (rowsH x2) (gain0 x5) (rw' b s) j := by
  unfold rv rs
  rw [rowsH_at, gain0_at]
  simp only [← ref15]
  pointwise [val_main_v31, val_main_v30, val_main_v29, val_main_v28, val_main_v27, val_main_v26, val_main_v25, val_main_v24, val_main_v23, val_main_v22, val_main_v21, val_main_v20, val_main_v19, val_main_v18, val_main_v17, val_main_v16, val_main_cst_1, val_main_cst_2, val_main_cst_3]

/-- The normalised result. -/
theorem ref47 (b : Fin 2) (s : Fin 4096) (j : Fin 2048) :
    val_main_v47 (F := Ideal) x0 x1 x2 x3 x4 x5 x6 (ix3 b s j) = nv (rowsP x0) (rowsN x1) (cp x4) (cg x3) (rowsH x2) (gain0 x5) (gain1 x6) (rw' b s) j := by
  unfold nv rs
  rw [gain1_at]
  simp only [← ref31]
  pointwise [val_main_v47, val_main_v46, val_main_v45, val_main_v44, val_main_v43, val_main_v42, val_main_v41, val_main_v40, val_main_v39, val_main_v38, val_main_v37, val_main_v36, val_main_v35, val_main_v34, val_main_v33, val_main_cst_4, val_main_cst_5, val_main_cst_6]

/-- The first result. -/
theorem ref32 : val_main_v32 (F := Ideal) x0 x1 x2 x3 x4 x5 = rA (rowsP x0) (rowsN x1) (cp x4) (cg x3) (rowsH x2) (gain0 x5) := by
  funext i
  rw [eq_ix2 i]
  unfold val_main_v32
  refine (rows_at _ (i 0) (i 1)).trans ((ref31 x0 x1 x2 x3 x4 x5 _ _ _).trans ?_)
  exact congrArg (fun t => rv (rowsP x0) (rowsN x1) (cp x4) (cg x3) (rowsH x2) (gain0 x5) t (i 1)) (rw_eq (i 0))

/-- The second result. -/
theorem ref49 : val_main_v49 (F := Ideal) x0 x1 x2 x3 x4 x5 x6 = nA (rowsP x0) (rowsN x1) (cp x4) (cg x3) (rowsH x2) (gain0 x5) (gain1 x6) := by
  funext i
  rw [eq_ix2 i]
  unfold val_main_v49 val_main_v48
  refine (rows_at _ (i 0) (i 1)).trans ((ref47 x0 x1 x2 x3 x4 x5 x6 _ _ _).trans ?_)
  exact congrArg (fun t => nv (rowsP x0) (rowsN x1) (cp x4) (cg x3) (rowsH x2) (gain0 x5) (gain1 x6) t (i 1)) (rw_eq (i 0))

end Arrays

section Memory

variable (m : (ℓ : Loc nD τ sig) → Buf (Elt Ideal) ℓ) (ρ : Dev nD → PrngReg)

/-- The embedding's rows. -/
theorem v4_eq (c : Dev nD) : W3 m ρ c (Proc.devRef .tc main_v4) = rowsP (m ((c : Thread nD τ).loc main_arg0)) := by
  have h : W2 m ρ c (Proc.devRef .tc main_arg0) = m ((c : Thread nD τ).loc main_arg0) := W2_args m ρ c main_arg0 (by decide)
  rw [← h]
  show StableHlo.after hostOps2 (W2 m ρ c) _ = _
  after_results_simp <;> rfl

/-- The normalised input's rows. -/
theorem v5_eq (c : Dev nD) : W3 m ρ c (Proc.devRef .tc main_v5) = rowsN (m ((c : Thread nD τ).loc main_arg1)) := by
  have h : W2 m ρ c (Proc.devRef .tc main_arg1) = m ((c : Thread nD τ).loc main_arg1) := W2_args m ρ c main_arg1 (by decide)
  rw [← h]
  show StableHlo.after hostOps2 (W2 m ρ c) _ = _
  after_results_simp <;> rfl

/-- The residual's rows. -/
theorem v6_eq (c : Dev nD) : W3 m ρ c (Proc.devRef .tc main_v6) = rowsH (m ((c : Thread nD τ).loc main_arg2)) := by
  have h : W2 m ρ c (Proc.devRef .tc main_arg2) = m ((c : Thread nD τ).loc main_arg2) := W2_args m ρ c main_arg2 (by decide)
  rw [← h]
  show StableHlo.after hostOps2 (W2 m ρ c) _ = _
  after_results_simp <;> rfl

/-- The first gain. -/
theorem v9_eq (c : Dev nD) : W3 m ρ c (Proc.devRef .tc main_v9) = gain0 (m ((c : Thread nD τ).loc main_arg5)) := by
  have h : W2 m ρ c (Proc.devRef .tc main_arg5) = m ((c : Thread nD τ).loc main_arg5) := W2_args m ρ c main_arg5 (by decide)
  rw [← h]
  show StableHlo.after hostOps2 (W2 m ρ c) _ = _
  after_results_simp <;> rfl

/-- The second gain. -/
theorem v12_eq (c : Dev nD) : W3 m ρ c (Proc.devRef .tc main_v12) = gain1 (m ((c : Thread nD τ).loc main_arg6)) := by
  have h : W2 m ρ c (Proc.devRef .tc main_arg6) = m ((c : Thread nD τ).loc main_arg6) := W2_args m ρ c main_arg6 (by decide)
  rw [← h]
  show StableHlo.after hostOps2 (W2 m ρ c) _ = _
  after_results_simp <;> rfl

/-- The gate's weights the product meets. -/
theorem v0_eq (c : Dev nD) : W3 m ρ c (Proc.devRef .tc main_v0) = cg (m ((c : Thread nD τ).loc main_arg3)) :=
  (W3_of m ρ c main_v0 (by decide)).trans <| (W2_of m ρ c main_v0 (by decide)).trans <| (W1_arr m ρ c 1).trans (final0_1 (V0 m ρ) c)
/-- The projection's weights the product meets. -/
theorem v1_eq (c : Dev nD) : W3 m ρ c (Proc.devRef .tc main_v1) = cp (m ((c : Thread nD τ).loc main_arg4)) :=
  (W3_of m ρ c main_v1 (by decide)).trans <| (W2_arr m ρ c 1).trans <| (final1_1 (V1 m ρ) c).trans (congrArg cp (W1_args m ρ c main_arg4 (by decide)))

/-- The first result, of the arguments. -/
theorem first (c : Dev nD) : W4 m ρ c (Proc.devRef .tc main_v13_0) = rA (rowsP (m ((c : Thread nD τ).loc main_arg0))) (rowsN (m ((c : Thread nD τ).loc main_arg1))) (cp (m ((c : Thread nD τ).loc main_arg4)))
      (cg (m ((c : Thread nD τ).loc main_arg3))) (rowsH (m ((c : Thread nD τ).loc main_arg2))) (gain0 (m ((c : Thread nD τ).loc main_arg5))) := by
  refine (W4_arr m ρ c 7).trans ((final2_7 (V3 m ρ) c).trans ?_)
  rw [← v0_eq m ρ c, ← v1_eq m ρ c, ← v4_eq m ρ c, ← v5_eq m ρ c, ← v6_eq m ρ c, ← v9_eq m ρ c]

/-- The second result, of the arguments. -/
theorem second (c : Dev nD) : W4 m ρ c (Proc.devRef .tc main_v13_1) = nA (rowsP (m ((c : Thread nD τ).loc main_arg0))) (rowsN (m ((c : Thread nD τ).loc main_arg1))) (cp (m ((c : Thread nD τ).loc main_arg4)))
      (cg (m ((c : Thread nD τ).loc main_arg3))) (rowsH (m ((c : Thread nD τ).loc main_arg2))) (gain0 (m ((c : Thread nD τ).loc main_arg5)))
      (gain1 (m ((c : Thread nD τ).loc main_arg6))) := by
  refine (W4_arr m ρ c 8).trans ((final2_8 (V3 m ρ) c).trans ?_)
  rw [← v0_eq m ρ c, ← v1_eq m ρ c, ← v4_eq m ρ c, ← v5_eq m ρ c, ← v6_eq m ρ c, ← v9_eq m ρ c, ← v12_eq m ρ c]

end Memory

end Cert.Kernel10Ideal.Ple

end
-- ==== Proof.AttMath.lean ====
module

public import Idealize.ShloMosaic.PureOps.Ideal
public import Idealize.ShloMosaic.Lib.Pointwise
public import Idealize.ShloMosaic.Lib.Pipeline.ValueKit

@[expose] public section

noncomputable section

open Idealize.ShloMosaic

namespace Cert.Kernel2Ideal.Att

/-- A score and its weight: a masked score weighs nothing, a real one two to its power. -/
def IsW (e : EReal) (p : ℝ) : Prop := (e = ⊥ ∧ p = 0) ∨ ∃ x : ℝ, e = (x : EReal) ∧ p = (2 : ℝ) ^ x

/-- The weight taken from any real shift. -/
theorem IsW.shift {e : EReal} {p : ℝ} (h : IsW e p) (M : ℝ) : Ideal.exp2 (e - (M : EReal)) = ((p * (2 : ℝ) ^ (-M) : ℝ) : EReal) := by
  rcases h with ⟨rfl, rfl⟩ | ⟨x, rfl, rfl⟩
  · rw [EReal.bot_sub, Ideal.exp2_bot, zero_mul]; rfl
  · rw [← EReal.coe_sub, Ideal.exp2_coe, ← Real.rpow_add (by norm_num : (0 : ℝ) < 2), ← sub_eq_add_neg]; rfl

/-- A score is below the top. -/
theorem IsW.lt_top {e : EReal} {p : ℝ} (h : IsW e p) : e < ⊤ := by
  rcases h with ⟨rfl, rfl⟩ | ⟨x, rfl, rfl⟩
  · exact bot_lt_top
  · exact EReal.coe_lt_top x

/-- A value strictly between the ends is real. -/
theorem real_of {x : EReal} (h : x < ⊤) (h' : ⊥ < x) : ∃ M : ℝ, x = (M : EReal) :=
  ⟨x.toReal, (EReal.coe_toReal h.ne h'.ne').symm⟩

/-- The running maximum after a block of scores. -/
def nm {n : ℕ} (m : EReal) (e : Fin n → EReal) : EReal := max m ((Finset.univ : Finset (Fin n)).fold max ⊥ e)
/-- The running sum after a block of scores. -/
def nl {n : ℕ} (m l : EReal) (e : Fin n → EReal) : EReal := Ideal.exp2 (m - nm m e) * l + ∑ s, Ideal.exp2 (e s - nm m e)
/-- The running weighted sum after a block of scores. -/
def na {n : ℕ} (m a : EReal) (e v : Fin n → EReal) : EReal := Ideal.exp2 (m - nm m e) * a + ∑ s, Ideal.exp2 (e s - nm m e) * v s

/-- What one row carries after its first `n` keys: nothing yet, or the sums of the weights and of the weighted values, each
    taken from the same real shift. -/
def St (n : ℕ) (p v : ℕ → ℝ) (m l a : EReal) : Prop :=
  (n = 0 ∧ m = ⊥ ∧ l = 0 ∧ a = 0) ∨ ∃ M : ℝ, m = (M : EReal)
    ∧ l = (((∑ s ∈ Finset.range n, p s) * (2 : ℝ) ^ (-M) : ℝ) : EReal)
    ∧ a = (((∑ s ∈ Finset.range n, p s * v s) * (2 : ℝ) ^ (-M) : ℝ) : EReal)

/-- A finite sum of reals, in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A block more. -/
theorem St.step {n B : ℕ} {p v : ℕ → ℝ} {m l a : EReal} (h : St n p v m l a) {e vv : Fin B → EReal}
    (hW : ∀ s : Fin B, IsW (e s) (p (n + s.val))) (hv : ∀ s : Fin B, vv s = (v (n + s.val) : EReal)) (hex : ∃ s, ⊥ < e s) :
    St (n + B) p v (nm m e) (nl m l e) (na m a e vv) := by
  have hm : m < ⊤ := by
    rcases h with ⟨-, rfl, -, -⟩ | ⟨M, rfl, -, -⟩
    · exact bot_lt_top
    · exact EReal.coe_lt_top M
  obtain ⟨N, hN⟩ : ∃ N : ℝ, nm m e = (N : EReal) := by
    refine real_of ?_ ?_
    · exact max_lt hm ((Finset.fold_max_lt _).2 ⟨bot_lt_top, fun s _ => (hW s).lt_top⟩)
    · obtain ⟨s, hs⟩ := hex
      exact lt_max_of_lt_right ((Finset.lt_fold_max _).2 (Or.inr ⟨s, Finset.mem_univ s, hs⟩))
  refine Or.inr ⟨N, hN, ?_, ?_⟩
  · have hb : ∑ s : Fin B, Ideal.exp2 (e s - nm m e) = (((∑ s ∈ Finset.range B, p (n + s)) * (2 : ℝ) ^ (-N) : ℝ) : EReal) := by
      rw [← Fin.sum_univ_eq_sum_range (fun s => p (n + s)) B, Finset.sum_mul, coe_sum]
      exact Finset.sum_congr rfl fun s _ => by rw [hN, (hW s).shift]
    unfold nl
    rw [hb, Finset.sum_range_add, add_mul, EReal.coe_add]
    congr 1
    rcases h with ⟨rfl, rfl, rfl, rfl⟩ | ⟨M, rfl, rfl, rfl⟩
    · simp
    · rw [hN, ← EReal.coe_sub, Ideal.exp2_coe, ← EReal.coe_mul]
      congr 1
      rw [mul_comm, mul_assoc]
      congr 1
      show (2 : ℝ) ^ (-M) * (2 : ℝ) ^ (M - N) = _
      rw [← Real.rpow_add (by norm_num : (0 : ℝ) < 2)]
      congr 1; ring
  · have hb : ∑ s : Fin B, Ideal.exp2 (e s - nm m e) * vv s
        = (((∑ s ∈ Finset.range B, p (n + s) * v (n + s)) * (2 : ℝ) ^ (-N) : ℝ) : EReal) := by
      rw [← Fin.sum_univ_eq_sum_range (fun s => p (n + s) * v (n + s)) B, Finset.sum_mul, coe_sum]
      refine Finset.sum_congr rfl fun s _ => ?_
      rw [hN, (hW s).shift, hv s, ← EReal.coe_mul]
      congr 1; ring
    unfold na
    rw [hb, Finset.sum_range_add, add_mul, EReal.coe_add]
    congr 1
    rcases h with ⟨rfl, rfl, rfl, rfl⟩ | ⟨M, rfl, rfl, rfl⟩
    · simp
    · rw [hN, ← EReal.coe_sub, Ideal.exp2_coe, ← EReal.coe_mul]
      congr 1
      rw [mul_comm, mul_assoc]
      congr 1
      show (2 : ℝ) ^ (-M) * (2 : ℝ) ^ (M - N) = _
      rw [← Real.rpow_add (by norm_num : (0 : ℝ) < 2)]
      congr 1; ring

/-- A quotient of reals. -/
theorem div_coe (x y : ℝ) (h : y ≠ 0) : Ideal.div (x : EReal) (y : EReal) = ((x / y : ℝ) : EReal) := by
  unfold Ideal.div
  rw [if_neg (by exact_mod_cast h), EReal.coe_div]; rfl

/-- The result of a row: the weighted mean of the values. -/
theorem St.div {n : ℕ} {p v : ℕ → ℝ} {m l a : EReal} (h : St n p v m l a) (hp : 0 < ∑ s ∈ Finset.range n, p s) :
    Ideal.div a l = (((∑ s ∈ Finset.range n, p s * v s) / ∑ s ∈ Finset.range n, p s : ℝ) : EReal) := by
  rcases h with ⟨rfl, -, -, -⟩ | ⟨M, -, rfl, rfl⟩
  · simp at hp
  · have h2 : (0 : ℝ) < (2 : ℝ) ^ (-M) := Real.rpow_pos_of_pos (by norm_num) _
    rw [div_coe _ _ (mul_pos hp h2).ne', mul_div_mul_right _ _ h2.ne']

/-- A masked or real score of the reference and its weight. -/
def IsE (e : EReal) (p : ℝ) : Prop := (e = ⊥ ∧ p = 0) ∨ ∃ x : ℝ, e = (x : EReal) ∧ p = Real.exp x

/-- The weight taken from any real shift. -/
theorem IsE.shift {e : EReal} {p : ℝ} (h : IsE e p) (M : ℝ) : Ideal.exp (e - (M : EReal)) = ((p * Real.exp (-M) : ℝ) : EReal) := by
  rcases h with ⟨rfl, rfl⟩ | ⟨x, rfl, rfl⟩
  · rw [EReal.bot_sub, Ideal.exp_bot, zero_mul]; rfl
  · rw [← EReal.coe_sub, Ideal.exp_coe, ← Real.exp_add, ← sub_eq_add_neg]

/-- A score is below the top. -/
theorem IsE.lt_top {e : EReal} {p : ℝ} (h : IsE e p) : e < ⊤ := by
  rcases h with ⟨rfl, rfl⟩ | ⟨x, rfl, rfl⟩
  · exact bot_lt_top
  · exact EReal.coe_lt_top x

/-- The softmax of a row of scores, averaging the values: the weighted mean. -/
theorem softmax {n : ℕ} {p v : ℕ → ℝ} {e vv : Fin n → EReal} (hE : ∀ s : Fin n, IsE (e s) (p s.val))
    (hv : ∀ s : Fin n, vv s = (v s.val : EReal)) (hex : ∃ s, ⊥ < e s) (hp : 0 < ∑ s ∈ Finset.range n, p s) :
    (∑ s, Ideal.div (Ideal.exp (e s - nm ⊥ e)) (∑ s', Ideal.exp (e s' - nm ⊥ e)) * vv s)
      = (((∑ s ∈ Finset.range n, p s * v s) / ∑ s ∈ Finset.range n, p s : ℝ) : EReal) := by
  obtain ⟨N, hN⟩ : ∃ N : ℝ, nm ⊥ e = (N : EReal) := by
    refine real_of ?_ ?_
    · exact max_lt bot_lt_top ((Finset.fold_max_lt _).2 ⟨bot_lt_top, fun s _ => (hE s).lt_top⟩)
    · obtain ⟨s, hs⟩ := hex
      exact lt_max_of_lt_right ((Finset.lt_fold_max _).2 (Or.inr ⟨s, Finset.mem_univ s, hs⟩))
  have hb : ∑ s : Fin n, Ideal.exp (e s - nm ⊥ e) = (((∑ s ∈ Finset.range n, p s) * Real.exp (-N) : ℝ) : EReal) := by
    rw [← Fin.sum_univ_eq_sum_range (fun s => p s) n, Finset.sum_mul, coe_sum]
    exact Finset.sum_congr rfl fun s _ => by rw [hN, (hE s).shift]
  rw [hb, ← Fin.sum_univ_eq_sum_range (fun s => p s * v s) n, Finset.sum_div, coe_sum]
  refine Finset.sum_congr rfl fun s _ => ?_
  rw [hN, (hE s).shift, hv s, div_coe _ _ (mul_pos hp (Real.exp_pos _)).ne', ← EReal.coe_mul]
  congr 1
  rw [mul_div_mul_right _ _ (Real.exp_pos _).ne', div_mul_eq_mul_div]

end Cert.Kernel2Ideal.Att

end
-- ==== Proof.AttPay.lean ====
module

public import proofs.«01_k».proof.Defs
public import proofs.«01_k».proof.Proof.Gen.Kernel2Ideal.Frame
public import proofs.«01_k».proof.Proof.AttMath
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem

namespace Cert.Kernel2Ideal.Att

open Cert.Kernel2Ideal Cert.Kernel2Ideal.Gen

/-- Minus infinity. -/
theorem ninf : Ideal.ofBits .f32 0xFF800000#32 = ⊥ := by simp [Ideal.ofBits, Ideal.ieee]

/-- The mask. -/
theorem mask_eq : (Named.named κ "mask" 0xF149F2CA#32 : Ideal .f32) = ⊥ := by rfl

/-- The causal mask's comparison. -/
theorem sel_mask (r s : Fin 512) (x y : EReal) :
    Scalar.select (α := EReal) (IntOp.cmpi CmpIPredicate.sge (BitVec.ofNat 32 r.val) (BitVec.ofNat 32 s.val)) x y = if s.val ≤ r.val then x else y := by
  have h : IntOp.cmpi CmpIPredicate.sge (BitVec.ofNat 32 r.val) (BitVec.ofNat 32 s.val) = if s.val ≤ r.val then 1#1 else 0#1 := by
    have hr := r.isLt
    have hs := s.isLt
    have e : ∀ n : ℕ, n < 512 → (BitVec.ofNat 32 n).toInt = n := fun n hn => by
      rw [BitVec.toInt_eq_toNat_cond, BitVec.toNat_ofNat, Nat.mod_eq_of_lt (by omega)]
      split <;> omega
    simp only [IntOp.cmpi, BitVec.sle, e _ hr, e _ hs]
    have hd : (decide ((s.val : ℤ) ≤ (r.val : ℤ))) = decide (s.val ≤ r.val) := by simp only [Nat.cast_le]
    rw [hd]
    by_cases hl : s.val ≤ r.val
    · rw [if_pos hl, decide_eq_true hl]; rfl
    · rw [if_neg hl, decide_eq_false hl]; rfl
  rw [h]
  split <;> simp [Scalar.select]

/-- The block's scores: each query against the block's keys, and the decay from the first query of the tile. -/
theorem pay6_eq (v0 : Vec Ideal S1x1024x128 .bf16) (v5 : Vec Ideal S1x1x1x128 .f32) (v166 : Vec Ideal S1x512x128 .bf16) (v170 : Vec Ideal S1x1x1x512 .f32)
    (r : Fin 1024) (s : Fin 512) : k0_pay6 v0 v5 v166 v170 (ix2 r s)
      = (∑ k : Fin 128, v0 (ix3 0 r k) * v166 (ix3 0 s k)) + (v5 (ix4 0 0 0 0) - v170 (ix4 0 0 0 s)) := by
  pointwise [k0_pay6, k0_pay1, k0_pay2]

section Loop

variable (v0 : Vec Ideal S1x1024x128 .bf16) (v5 : Vec Ideal S1x1x1x128 .f32) (m l : Vec Ideal S1024x1 .f32) (a : Vec Ideal S1024x128 .f32)
  (v166 : Vec Ideal S1x512x128 .bf16) (v170 : Vec Ideal S1x1x1x512 .f32) (v194 : Vec Ideal S1x512x128 .bf16) (r : Fin 1024)

/-- The running maximum. -/
theorem pay7_eq : k0_pay7 v0 v5 m v166 v170 (ix2 r 0) = nm (m (ix2 r 0)) (fun s => k0_pay6 v0 v5 v166 v170 (ix2 r s)) := by
  unfold k0_pay7
  generalize k0_pay6 v0 v5 v166 v170 = e
  pointwise [nm]
  rw [ninf]

/-- The running sum. -/
theorem pay10_eq : k0_pay10 v0 v5 m l v166 v170 (ix2 r 0) = nl (m (ix2 r 0)) (l (ix2 r 0)) (fun s => k0_pay6 v0 v5 v166 v170 (ix2 r s)) := by
  unfold nl
  rw [← pay7_eq v0 v5 m v166 v170 r]
  unfold k0_pay10 k0_pay8 k0_pay9
  generalize k0_pay6 v0 v5 v166 v170 = e
  generalize k0_pay7 v0 v5 m v166 v170 = n
  pointwise
  rfl

/-- The running weighted sum. -/
theorem pay11_eq (d : Fin 128) : k0_pay11 v0 v5 m a v166 v170 v194 (ix2 r d)
    = na (m (ix2 r 0)) (a (ix2 r d)) (fun s => k0_pay6 v0 v5 v166 v170 (ix2 r s)) (fun s => v194 (ix3 0 s d)) := by
  unfold na
  rw [← pay7_eq v0 v5 m v166 v170 r]
  unfold k0_pay11 k0_pay8 k0_pay9
  generalize k0_pay6 v0 v5 v166 v170 = e
  generalize k0_pay7 v0 v5 m v166 v170 = n
  pointwise
  rfl

end Loop

section Top

variable (v0 : Vec Ideal S1x1024x128 .bf16) (v5 : Vec Ideal S1x1x1x128 .f32) (m l : Vec Ideal S512x1 .f32) (a : Vec Ideal S512x128 .f32)
  (kb : Vec Ideal S1x512x128 .bf16) (cb : Vec Ideal S1x1x1x512 .f32) (vb : Vec Ideal S1x512x128 .bf16) (r : Fin 512)

/-- The first half's scores of its own block, masked. -/
theorem pay25_eq (s : Fin 512) : k0_pay25 (k0_pay2 v5) (k0_pay24 v0 kb) cb (ix2 r s) = if s.val ≤ r.val then
    (∑ k : Fin 128, v0 (ix3 0 ⟨r.val, by omega⟩ k) * kb (ix3 0 s k)) + (v5 (ix4 0 0 0 0) - cb (ix4 0 0 0 s)) else ⊥ := by
  pointwise [k0_pay25, k0_pay24, k0_pay1, k0_pay2]
  rw [mask_eq]
  exact sel_mask r s _ _

variable (v7 : Vec Ideal S1x1 .f32) (qk : Vec Ideal S512x512 .f32)

/-- The running maximum. -/
theorem pay26_eq : k0_pay26 v7 m qk cb (ix2 r 0) = nm (m (ix2 r 0)) (fun s => k0_pay25 v7 qk cb (ix2 r s)) := by
  unfold k0_pay26
  generalize k0_pay25 v7 qk cb = e
  pointwise [nm]
  rw [ninf]

/-- The running sum. -/
theorem pay29_eq : k0_pay29 v7 m l qk cb (ix2 r 0) = nl (m (ix2 r 0)) (l (ix2 r 0)) (fun s => k0_pay25 v7 qk cb (ix2 r s)) := by
  unfold nl
  rw [← pay26_eq m cb r v7 qk]
  unfold k0_pay29 k0_pay27 k0_pay28
  generalize k0_pay25 v7 qk cb = e
  generalize k0_pay26 v7 m qk cb = n
  pointwise
  rfl

/-- The running weighted sum. -/
theorem pay30_eq (d : Fin 128) : k0_pay30 v7 m a qk cb vb (ix2 r d)
    = na (m (ix2 r 0)) (a (ix2 r d)) (fun s => k0_pay25 v7 qk cb (ix2 r s)) (fun s => vb (ix3 0 s d)) := by
  unfold na
  rw [← pay26_eq m cb r v7 qk]
  unfold k0_pay30 k0_pay27 k0_pay28
  generalize k0_pay25 v7 qk cb = e
  generalize k0_pay26 v7 m qk cb = n
  pointwise
  rfl

/-- The second half's scores of the first half's block. -/
theorem pay32_eq (s : Fin 512) : k0_pay32 (k0_pay2 v5) (k0_pay31 (k0_pay1 v0) kb) cb (ix2 r s) =
    (∑ k : Fin 128, v0 (ix3 0 ⟨512 + r.val, by omega⟩ k) * kb (ix3 0 s k)) + (v5 (ix4 0 0 0 0) - cb (ix4 0 0 0 s)) := by
  pointwise [k0_pay32, k0_pay31, k0_pay1, k0_pay2]

/-- The running maximum. -/
theorem pay33_eq : k0_pay33 v7 m qk cb (ix2 r 0) = nm (m (ix2 r 0)) (fun s => k0_pay32 v7 qk cb (ix2 r s)) := by
  unfold k0_pay33
  generalize k0_pay32 v7 qk cb = e
  pointwise [nm]
  rw [ninf]

/-- The running sum. -/
theorem pay36_eq : k0_pay36 v7 m l qk cb (ix2 r 0) = nl (m (ix2 r 0)) (l (ix2 r 0)) (fun s => k0_pay32 v7 qk cb (ix2 r s)) := by
  unfold nl
  rw [← pay33_eq m cb r v7 qk]
  unfold k0_pay36 k0_pay34 k0_pay35
  generalize k0_pay32 v7 qk cb = e
  generalize k0_pay33 v7 m qk cb = n
  pointwise
  rfl

/-- The running weighted sum. -/
theorem pay37_eq (d : Fin 128) : k0_pay37 v7 m a qk cb vb (ix2 r d)
    = na (m (ix2 r 0)) (a (ix2 r d)) (fun s => k0_pay32 v7 qk cb (ix2 r s)) (fun s => vb (ix3 0 s d)) := by
  unfold na
  rw [← pay33_eq m cb r v7 qk]
  unfold k0_pay37 k0_pay34 k0_pay35
  generalize k0_pay32 v7 qk cb = e
  generalize k0_pay33 v7 m qk cb = n
  pointwise
  rfl

/-- The first half's result. -/
theorem pay40_eq (d : Fin 128) : k0_pay40 (F := Idealize.ShloMosaic.Ideal) l a (ix3 0 r d) = Ideal.div (a (ix2 r d)) (l (ix2 r 0)) := by
  pointwise [k0_pay40]
  try rfl

/-- The second half's scores of its own block, masked. -/
def sB (s : Fin 512) : EReal := if s.val ≤ r.val then
    (∑ k : Fin 128, v0 (ix3 0 ⟨512 + r.val, by omega⟩ k) * kb (ix3 0 s k)) + (v5 (ix4 0 0 0 0) - cb (ix4 0 0 0 s)) else ⊥

/-- The second half's result. -/
theorem pay41_eq (d : Fin 128) : k0_pay41 (k0_pay2 v5) m l a (k0_pay38 (k0_pay1 v0) kb) (k0_pay39 cb) vb (ix3 0 r d)
    = Ideal.div (na (m (ix2 r 0)) (a (ix2 r d)) (sB v0 v5 kb cb r) (fun s => vb (ix3 0 s d))) (nl (m (ix2 r 0)) (l (ix2 r 0)) (sB v0 v5 kb cb r)) := by
  pointwise [k0_pay41, k0_pay38, k0_pay39, k0_pay1, k0_pay2, nl, na, nm, sB]
  rw [mask_eq, ninf]
  have h := sel_mask r
  simp only [h]
  rfl

end Top

end Cert.Kernel2Ideal.Att

end
-- ==== Proof.AttLoop.lean ====
module

public import proofs.«01_k».proof.Proof.AttPay

@[expose] public section

set_option maxRecDepth 16384

noncomputable section

namespace Cert.Kernel2Ideal.Att

open Idealize.ShloMosaic Idealize.ShloMosaic.Tactic
open Cert.Kernel2Ideal Cert.Kernel2Ideal.Gen

/-! Where the launch's loads start, and how often its loops run, at each point. -/

/-- The first loop runs over the blocks of keys before the point's rows. -/
theorem trips1 : ∀ i : grid0.Coords, (k0_t1_loop i).trips = 2 * (i 2).val := by decide +kernel
/-- The second loop does not run. -/
theorem trips2 : ∀ i : grid0.Coords, (k0_t2_loop i).trips = 0 := by decide +kernel
theorem off1 : ∀ i : grid0.Coords, k0_off1 i = ![0, 0, 0, 1024 * (i 2).val] := by decide +kernel
theorem off2 : ∀ (i : grid0.Coords) (k : Fin (k0_t1_loop i).trips), k0_off2 i k = ![0, 512 * k.val, 0] := by decide +kernel
theorem off3 : ∀ (i : grid0.Coords) (k : Fin (k0_t1_loop i).trips), k0_off3 i k = ![0, 0, 0, 512 * k.val] := by decide +kernel
theorem off6 : ∀ i : grid0.Coords, k0_off6 i = ![0, 1024 * (i 2).val, 0] := by decide +kernel
theorem off7 : ∀ i : grid0.Coords, k0_off7 i = ![0, 0, 0, 1024 * (i 2).val] := by decide +kernel
theorem off8 : ∀ i : grid0.Coords, k0_off8 i = ![0, 1024 * (i 2).val + 512, 0] := by decide +kernel
theorem off9 : ∀ i : grid0.Coords, k0_off9 i = ![0, 0, 0, 1024 * (i 2).val + 512] := by decide +kernel

/-- A load of 512 rows out of the keys or the values. -/
theorem ld3 (a : Memref sig .tc .vmem S1x4096x128 .bf16) (ha : a.IsWhole) (x : Vec Ideal S1x4096x128 .bf16) (off : Fin 3 → ℕ) (o : ℕ)
    (ho : o + 512 ≤ 4096) (h : off = ![0, o, 0]) (inb) (s : Fin 512) (k : Fin 128) :
    View.readAt (Elt Ideal) a.view (Rect.unit (s := S1x4096x128) off S1x512x128.size inb).toLoadRect (ha.unread x) (ix3 0 s k) = x (ix3 0 ⟨o + s.val, by omega⟩ k) := by
  subst h
  rw [View.readAt_eq_ld, Memref.IsWhole.read_unread]
  pointwise

/-- A load of 512 entries out of the row of running gates. -/
theorem ld4 (a : Memref sig .tc .vmem S1x1x1x4096 .f32) (ha : a.IsWhole) (x : Vec Ideal S1x1x1x4096 .f32) (off : Fin 4 → ℕ) (o : ℕ)
    (ho : o + 512 ≤ 4096) (h : off = ![0, 0, 0, o]) (inb) (s : Fin 512) :
    View.readAt (Elt Ideal) a.view (Rect.unit (s := S1x1x1x4096) off S1x1x1x512.size inb).toLoadRect (ha.unread x) (ix4 0 0 0 s) = x (ix4 0 0 0 ⟨o + s.val, by omega⟩) := by
  subst h
  rw [View.readAt_eq_ld, Memref.IsWhole.read_unread]
  pointwise

/-- A load of 128 entries out of the row of running gates. -/
theorem ld4' (a : Memref sig .tc .vmem S1x1x1x4096 .f32) (ha : a.IsWhole) (x : Vec Ideal S1x1x1x4096 .f32) (off : Fin 4 → ℕ) (o : ℕ)
    (ho : o + 128 ≤ 4096) (h : off = ![0, 0, 0, o]) (inb) :
    View.readAt (Elt Ideal) a.view (Rect.unit (s := S1x1x1x4096) off S1x1x1x128.size inb).toLoadRect (ha.unread x) (ix4 0 0 0 0) = x (ix4 0 0 0 ⟨o, by omega⟩) := by
  subst h
  rw [View.readAt_eq_ld, Memref.IsWhole.read_unread]
  pointwise

/-- The load of the whole block of queries. -/
theorem ldq (a : Memref sig .tc .vmem S1x1024x128 .bf16) (ha : a.IsWhole) (x : Vec Ideal S1x1024x128 .bf16) (inb) (r : Fin 1024) (k : Fin 128) :
    View.readAt (Elt Ideal) a.view (Rect.unit (s := S1x1024x128) ![0, 0, 0] S1x1024x128.size inb).toLoadRect (ha.unread x) (ix3 0 r k) = x (ix3 0 r k) := by
  rw [View.readAt_eq_ld, Memref.IsWhole.read_unread]
  pointwise

section Run

variable (c : Dev nD) (i : grid0.Coords) (arg3 : Memref sig .tc .vmem S1x1024x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x1x1x4096 .f32) (harg6 : arg6.IsWhole) (arg7 : Memref sig .tc .vmem S1x1024x128 .bf16) (harg7 : arg7.IsWhole)

/-- One trip of the first loop. -/
theorem trip_eq (v0 : Vec Ideal S1x1024x128 .bf16) (v5 : Vec Ideal S1x1x1x128 .f32) (X4 : BufTy.Contents (Elt Ideal) arg4.view.ty) (X5 : BufTy.Contents (Elt Ideal) arg5.view.ty) (X6 : BufTy.Contents (Elt Ideal) arg6.view.ty) (k : Fin (k0_t1_loop i).trips)
    (acc : FVec Ideal S1024x1 .f32 × FVec Ideal S1024x1 .f32 × FVec Ideal S1024x128 .f32) :
    tripR_k0_t1 (F := Ideal) Variants.none c none i arg3 harg3 arg4 harg4 arg5 harg5 arg6 harg6 arg7 harg7 v0 v5 X4 X5 X6 k acc =
      (k0_pay7 v0 v5 acc.1 (View.readAt (Elt Ideal) arg4.view (Rect.unit (s := S1x4096x128) (k0_off2 i k) S1x512x128.size (k0_off2_inb i k)).toLoadRect X4)
        (View.readAt (Elt Ideal) arg6.view (Rect.unit (s := S1x1x1x4096) (k0_off3 i k) S1x1x1x512.size (k0_off3_inb i k)).toLoadRect X6),
      k0_pay10 v0 v5 acc.1 acc.2.1 (View.readAt (Elt Ideal) arg4.view (Rect.unit (s := S1x4096x128) (k0_off2 i k) S1x512x128.size (k0_off2_inb i k)).toLoadRect X4)
        (View.readAt (Elt Ideal) arg6.view (Rect.unit (s := S1x1x1x4096) (k0_off3 i k) S1x1x1x512.size (k0_off3_inb i k)).toLoadRect X6),
      k0_pay11 v0 v5 acc.1 acc.2.2 (View.readAt (Elt Ideal) arg4.view (Rect.unit (s := S1x4096x128) (k0_off2 i k) S1x512x128.size (k0_off2_inb i k)).toLoadRect X4)
        (View.readAt (Elt Ideal) arg6.view (Rect.unit (s := S1x1x1x4096) (k0_off3 i k) S1x1x1x512.size (k0_off3_inb i k)).toLoadRect X6)
        (View.readAt (Elt Ideal) arg5.view (Rect.unit (s := S1x4096x128) (k0_off2 i k) S1x512x128.size (k0_off2_inb i k)).toLoadRect X5)) := by
  unfold tripR_k0_t1 trip_k0_t1
  rfl

variable (x0 : Vec Ideal S1x1024x128 .bf16) (x1 x2 : Vec Ideal S1x4096x128 .bf16) (x3 : Vec Ideal S1x1x1x4096 .f32)

/-- What the first loop carries before trip `k`. -/
def car (k : ℕ) : FVec Ideal S1024x1 .f32 × FVec Ideal S1024x1 .f32 × FVec Ideal S1024x128 .f32 :=
  st_k0_t1 (F := Ideal) Variants.none c none i arg3 harg3 arg4 harg4 arg5 harg5 arg6 harg6 arg7 harg7
    (View.readAt (Elt Ideal) arg3.view (Rect.unit (s := S1x1024x128) ![0, 0, 0] S1x1024x128.size inb_S1x1024x128_S1x1024x128_0_0_0).toLoadRect (harg3.unread x0))
    (View.readAt (Elt Ideal) arg6.view (Rect.unit (s := S1x1x1x4096) (k0_off1 i) S1x1x1x128.size (k0_off1_inb i)).toLoadRect (harg6.unread x3))
    (harg4.unread x1) (harg5.unread x2) (harg6.unread x3) (k0_pay3 (F := Ideal), k0_pay4 (F := Ideal), k0_pay5 (F := Ideal)) k

variable (qf kf vf : ℕ → ℕ → ℝ) (cf : ℕ → ℝ)

/-- The score of row `r` of the block and key `s`, in reals. -/
def xs (u r s : ℕ) : ℝ := (∑ k : Fin 128, qf r k.val * kf s k.val) + (cf u - cf s)
/-- The weight of row `r` of the block and key `s`. -/
def ps (u r s : ℕ) : ℝ := if s ≤ u + r then (2 : ℝ) ^ xs qf kf cf u r s else 0

/-- A score put together of real parts. -/
theorem score (u r s : ℕ) (q k : Fin 128 → EReal) (cu cs : EReal) (hq : ∀ j, q j = (qf r j.val : EReal)) (hk : ∀ j, k j = (kf s j.val : EReal))
    (hu : cu = (cf u : EReal)) (hs : cs = (cf s : EReal)) : (∑ j, q j * k j) + (cu - cs) = (xs qf kf cf u r s : EReal) := by
  unfold xs
  rw [EReal.coe_add, EReal.coe_sub, coe_sum, hu, hs]
  congr 1
  exact Finset.sum_congr rfl fun j _ => by rw [hq, hk, EReal.coe_mul]

variable (hq : ∀ (r : Fin 1024) (k : Fin 128), x0 (ix3 0 r k) = (qf r.val k.val : EReal)) (hk : ∀ (s : Fin 4096) (k : Fin 128), x1 (ix3 0 s k) = (kf s.val k.val : EReal))
  (hv : ∀ (s : Fin 4096) (k : Fin 128), x2 (ix3 0 s k) = (vf s.val k.val : EReal)) (hc : ∀ s : Fin 4096, x3 (ix4 0 0 0 s) = (cf s.val : EReal))

include hq hk hv hc

/-- What the first loop carries, row by row. -/
theorem car_st (k : ℕ) (hkt : k ≤ (k0_t1_loop i).trips) (r : Fin 1024) (d : Fin 128) :
    St (512 * k) (ps qf kf cf (1024 * (i 2).val) r.val) (fun s => vf s d.val)
      ((car c i arg3 harg3 arg4 harg4 arg5 harg5 arg6 harg6 arg7 harg7 x0 x1 x2 x3 k).1 (ix2 r 0))
      ((car c i arg3 harg3 arg4 harg4 arg5 harg5 arg6 harg6 arg7 harg7 x0 x1 x2 x3 k).2.1 (ix2 r 0))
      ((car c i arg3 harg3 arg4 harg4 arg5 harg5 arg6 harg6 arg7 harg7 x0 x1 x2 x3 k).2.2 (ix2 r d)) := by
  have hi : (i 2).val < 4 := (i 2).isLt
  induction k with
  | zero =>
    left
    unfold car
    rw [st_k0_t1_zero]
    refine ⟨rfl, ?_, ?_, ?_⟩
    · pointwise [k0_pay3]
      exact mask_eq
    · pointwise [k0_pay4]
    · pointwise [k0_pay5]
  | succ k ih =>
    have ih := ih (by omega)
    have ht := trips1 i
    have e := st_k0_t1_succ (F := Ideal) Variants.none c none i arg3 harg3 arg4 harg4 arg5 harg5 arg6 harg6 arg7 harg7
      (View.readAt (Elt Ideal) arg3.view (Rect.unit (s := S1x1024x128) ![0, 0, 0] S1x1024x128.size inb_S1x1024x128_S1x1024x128_0_0_0).toLoadRect (harg3.unread x0))
      (View.readAt (Elt Ideal) arg6.view (Rect.unit (s := S1x1x1x4096) (k0_off1 i) S1x1x1x128.size (k0_off1_inb i)).toLoadRect (harg6.unread x3))
      (harg4.unread x1) (harg5.unread x2) (harg6.unread x3) (k0_pay3 (F := Ideal), k0_pay4 (F := Ideal), k0_pay5 (F := Ideal)) ⟨k, hkt⟩
    rw [trip_eq] at e
    unfold car at ih ⊢
    rw [e]
    dsimp only
    rw [pay7_eq, pay10_eq, pay11_eq]
    have hsc : ∀ s : Fin 512, k0_pay6 (View.readAt (Elt Ideal) arg3.view (Rect.unit (s := S1x1024x128) ![0, 0, 0] S1x1024x128.size inb_S1x1024x128_S1x1024x128_0_0_0).toLoadRect (harg3.unread x0))
        (View.readAt (Elt Ideal) arg6.view (Rect.unit (s := S1x1x1x4096) (k0_off1 i) S1x1x1x128.size (k0_off1_inb i)).toLoadRect (harg6.unread x3))
        (View.readAt (Elt Ideal) arg4.view (Rect.unit (s := S1x4096x128) (k0_off2 i ⟨k, hkt⟩) S1x512x128.size (k0_off2_inb i ⟨k, hkt⟩)).toLoadRect (harg4.unread x1))
        (View.readAt (Elt Ideal) arg6.view (Rect.unit (s := S1x1x1x4096) (k0_off3 i ⟨k, hkt⟩) S1x1x1x512.size (k0_off3_inb i ⟨k, hkt⟩)).toLoadRect (harg6.unread x3)) (ix2 r s)
          = (xs qf kf cf (1024 * (i 2).val) r.val (512 * k + s.val) : EReal) := fun s => by
      rw [pay6_eq]
      refine score qf kf cf _ _ _ _ _ _ _ (fun j => ?_) (fun j => ?_) ?_ ?_
      · rw [ldq, hq]
      · rw [ld3 arg4 harg4 x1 _ (512 * k) (by omega) (off2 i _), hk]
      · rw [ld4' arg6 harg6 x3 _ (1024 * (i 2).val) (by omega) (off1 i), hc]
      · rw [ld4 arg6 harg6 x3 _ (512 * k) (by omega) (off3 i _), hc]
    refine St.step ih (fun s => ?_) (fun s => ?_) ⟨⟨0, by norm_num⟩, ?_⟩
    · right
      refine ⟨_, hsc s, ?_⟩
      unfold ps
      rw [if_pos (by omega)]
    · rw [ld3 arg5 harg5 x2 _ (512 * k) (by omega) (off2 i _), hv]
    · rw [hsc]
      exact EReal.bot_lt_coe _

end Run

end Cert.Kernel2Ideal.Att

end
-- ==== Proof.AttOut.lean ====
module

public import proofs.«01_k».proof.Proof.AttLoop

@[expose] public section

set_option maxRecDepth 16384

noncomputable section

namespace Cert.Kernel2Ideal.Att

open Idealize.ShloMosaic Idealize.ShloMosaic.Tactic
open Cert.Kernel2Ideal Cert.Kernel2Ideal.Gen

/-! The halves of what the first loop carries. -/

theorem pay18_eq (x : FVec Ideal S1024x1 .f32) (r : Fin 512) : k0_pay18 x (ix2 r 0) = x (ix2 ⟨r.val, by omega⟩ 0) := by
  pointwise [k0_pay18]
theorem pay19_eq (x : FVec Ideal S1024x1 .f32) (r : Fin 512) : k0_pay19 x (ix2 r 0) = x (ix2 ⟨r.val, by omega⟩ 0) := by
  pointwise [k0_pay19]
theorem pay20_eq (x : FVec Ideal S1024x128 .f32) (r : Fin 512) (d : Fin 128) : k0_pay20 x (ix2 r d) = x (ix2 ⟨r.val, by omega⟩ d) := by
  pointwise [k0_pay20]
theorem pay21_eq (x : FVec Ideal S1024x1 .f32) (r : Fin 512) : k0_pay21 x (ix2 r 0) = x (ix2 ⟨512 + r.val, by omega⟩ 0) := by
  pointwise [k0_pay21]
theorem pay22_eq (x : FVec Ideal S1024x1 .f32) (r : Fin 512) : k0_pay22 x (ix2 r 0) = x (ix2 ⟨512 + r.val, by omega⟩ 0) := by
  pointwise [k0_pay22]
theorem pay23_eq (x : FVec Ideal S1024x128 .f32) (r : Fin 512) (d : Fin 128) : k0_pay23 x (ix2 r d) = x (ix2 ⟨512 + r.val, by omega⟩ d) := by
  pointwise [k0_pay23]

section Halves

variable (v0 : Vec Ideal S1x1024x128 .bf16) (v5 : Vec Ideal S1x1x1x128 .f32) (m l : Vec Ideal S512x1 .f32) (a : Vec Ideal S512x128 .f32)
  (kb kb' : Vec Ideal S1x512x128 .bf16) (cb cb' : Vec Ideal S1x1x1x512 .f32) (vb vb' : Vec Ideal S1x512x128 .bf16) (r : Fin 512) (d : Fin 128)
  (n : ℕ) (p v : ℕ → ℝ) (x x' : Fin 512 → ℝ)

/-- A row of the first half: its own block of keys, up to itself. -/
theorem top_val (hSt : St n p v (m (ix2 r 0)) (l (ix2 r 0)) (a (ix2 r d)))
    (hsc : ∀ s : Fin 512, (∑ k : Fin 128, v0 (ix3 0 ⟨r.val, by omega⟩ k) * kb (ix3 0 s k)) + (v5 (ix4 0 0 0 0) - cb (ix4 0 0 0 s)) = (x s : EReal))
    (hp : ∀ s : Fin 512, p (n + s.val) = if s.val ≤ r.val then (2 : ℝ) ^ x s else 0)
    (hvb : ∀ s : Fin 512, vb (ix3 0 s d) = (v (n + s.val) : EReal)) (hpos : 0 < ∑ s ∈ Finset.range (n + 512), p s) :
    k0_pay40 (k0_pay29 (k0_pay2 v5) m l (k0_pay24 v0 kb) cb) (k0_pay30 (k0_pay2 v5) m a (k0_pay24 v0 kb) cb vb) (ix3 0 r d)
      = (((∑ s ∈ Finset.range (n + 512), p s * v s) / ∑ s ∈ Finset.range (n + 512), p s : ℝ) : EReal) := by
  rw [pay40_eq, pay29_eq, pay30_eq]
  simp only [pay25_eq]
  refine St.div (St.step hSt (fun s => ?_) hvb ⟨⟨0, by norm_num⟩, ?_⟩) hpos
  · by_cases h : s.val ≤ r.val
    · right
      exact ⟨x s, by rw [if_pos h, hsc], by rw [hp, if_pos h]⟩
    · left
      exact ⟨by rw [if_neg h], by rw [hp, if_neg h]⟩
  · rw [if_pos (Nat.zero_le _), hsc]
    exact EReal.bot_lt_coe _

/-- A row of the second half: the first half's block of keys, then its own up to itself. -/
theorem bot_val (hSt : St n p v (m (ix2 r 0)) (l (ix2 r 0)) (a (ix2 r d)))
    (hsc : ∀ s : Fin 512, (∑ k : Fin 128, v0 (ix3 0 ⟨512 + r.val, by omega⟩ k) * kb (ix3 0 s k)) + (v5 (ix4 0 0 0 0) - cb (ix4 0 0 0 s)) = (x s : EReal))
    (hp : ∀ s : Fin 512, p (n + s.val) = (2 : ℝ) ^ x s)
    (hvb : ∀ s : Fin 512, vb (ix3 0 s d) = (v (n + s.val) : EReal))
    (hsc' : ∀ s : Fin 512, (∑ k : Fin 128, v0 (ix3 0 ⟨512 + r.val, by omega⟩ k) * kb' (ix3 0 s k)) + (v5 (ix4 0 0 0 0) - cb' (ix4 0 0 0 s)) = (x' s : EReal))
    (hp' : ∀ s : Fin 512, p (n + 512 + s.val) = if s.val ≤ r.val then (2 : ℝ) ^ x' s else 0)
    (hvb' : ∀ s : Fin 512, vb' (ix3 0 s d) = (v (n + 512 + s.val) : EReal)) (hpos : 0 < ∑ s ∈ Finset.range (n + 512 + 512), p s) :
    k0_pay41 (k0_pay2 v5) (k0_pay33 (k0_pay2 v5) m (k0_pay31 (k0_pay1 v0) kb) cb) (k0_pay36 (k0_pay2 v5) m l (k0_pay31 (k0_pay1 v0) kb) cb)
        (k0_pay37 (k0_pay2 v5) m a (k0_pay31 (k0_pay1 v0) kb) cb vb) (k0_pay38 (k0_pay1 v0) kb') (k0_pay39 cb') vb' (ix3 0 r d)
      = (((∑ s ∈ Finset.range (n + 512 + 512), p s * v s) / ∑ s ∈ Finset.range (n + 512 + 512), p s : ℝ) : EReal) := by
  rw [pay41_eq, pay33_eq, pay36_eq, pay37_eq]
  simp only [pay32_eq]
  refine St.div (St.step (St.step hSt (fun s => ?_) hvb ⟨⟨0, by norm_num⟩, ?_⟩) (fun s => ?_) hvb' ⟨⟨0, by norm_num⟩, ?_⟩) hpos
  · right
    exact ⟨x s, hsc s, hp s⟩
  · rw [hsc]
    exact EReal.bot_lt_coe _
  · unfold sB
    by_cases h : s.val ≤ r.val
    · right
      exact ⟨x' s, by rw [if_pos h, hsc'], by rw [hp', if_pos h]⟩
    · left
      exact ⟨by rw [if_neg h], by rw [hp', if_neg h]⟩
  · unfold sB
    rw [if_pos (Nat.zero_le _), hsc']
    exact EReal.bot_lt_coe _

end Halves

/-- The weighted mean of a row: over the keys up to the row, which are the ones of weight above 0. -/
def wm (p v : ℕ → ℝ) : ℝ := (∑ s ∈ Finset.range 4096, p s * v s) / ∑ s ∈ Finset.range 4096, p s

/-- The mean may be taken over any number of keys past the row. -/
theorem wm_eq (p v : ℕ → ℝ) (n : ℕ) (hn : n ≤ 4096) (h : ∀ s, n ≤ s → p s = 0) :
    (∑ s ∈ Finset.range n, p s * v s) / ∑ s ∈ Finset.range n, p s = wm p v := by
  unfold wm
  have e : ∀ f : ℕ → ℝ, (∀ s, n ≤ s → f s = 0) → ∑ s ∈ Finset.range n, f s = ∑ s ∈ Finset.range 4096, f s := fun f hf =>
    Finset.sum_subset (Finset.range_mono hn) fun s _ hs => hf s (by simpa using hs)
  rw [e p h, e (fun s => p s * v s) fun s hs => by simp [h s hs]]

section Run

variable (c : Dev nD) (i : grid0.Coords) (arg3 : Memref sig .tc .vmem S1x1024x128 .bf16) (harg3 : arg3.IsWhole) (arg4 : Memref sig .tc .vmem S1x4096x128 .bf16) (harg4 : arg4.IsWhole) (arg5 : Memref sig .tc .vmem S1x4096x128 .bf16) (harg5 : arg5.IsWhole) (arg6 : Memref sig .tc .vmem S1x1x1x4096 .f32) (harg6 : arg6.IsWhole) (arg7 : Memref sig .tc .vmem S1x1024x128 .bf16) (harg7 : arg7.IsWhole)
  (x0 : Vec Ideal S1x1024x128 .bf16) (x1 x2 : Vec Ideal S1x4096x128 .bf16) (x3 : Vec Ideal S1x1x1x4096 .f32)

/-- The block of queries, as the launch loads it. -/
abbrev Lq : Vec Ideal S1x1024x128 .bf16 :=
  View.readAt (Elt Ideal) arg3.view (Rect.unit (s := S1x1024x128) ![0, 0, 0] S1x1024x128.size inb_S1x1024x128_S1x1024x128_0_0_0).toLoadRect (harg3.unread x0)
/-- The running gates from the point's first row on. -/
abbrev L5 : Vec Ideal S1x1x1x128 .f32 :=
  View.readAt (Elt Ideal) arg6.view (Rect.unit (s := S1x1x1x4096) (k0_off1 i) S1x1x1x128.size (k0_off1_inb i)).toLoadRect (harg6.unread x3)
/-- The first half's block of keys or values. -/
abbrev L6 (a : Memref sig .tc .vmem S1x4096x128 .bf16) (ha : a.IsWhole) (x : Vec Ideal S1x4096x128 .bf16) : Vec Ideal S1x512x128 .bf16 :=
  View.readAt (Elt Ideal) a.view (Rect.unit (s := S1x4096x128) (k0_off6 i) S1x512x128.size (k0_off6_inb i)).toLoadRect (ha.unread x)
/-- The first half's running gates. -/
abbrev L7 : Vec Ideal S1x1x1x512 .f32 :=
  View.readAt (Elt Ideal) arg6.view (Rect.unit (s := S1x1x1x4096) (k0_off7 i) S1x1x1x512.size (k0_off7_inb i)).toLoadRect (harg6.unread x3)
/-- The second half's block of keys or values. -/
abbrev L8 (a : Memref sig .tc .vmem S1x4096x128 .bf16) (ha : a.IsWhole) (x : Vec Ideal S1x4096x128 .bf16) : Vec Ideal S1x512x128 .bf16 :=
  View.readAt (Elt Ideal) a.view (Rect.unit (s := S1x4096x128) (k0_off8 i) S1x512x128.size (k0_off8_inb i)).toLoadRect (ha.unread x)
/-- The second half's running gates. -/
abbrev L9 : Vec Ideal S1x1x1x512 .f32 :=
  View.readAt (Elt Ideal) arg6.view (Rect.unit (s := S1x1x1x4096) (k0_off9 i) S1x1x1x512.size (k0_off9_inb i)).toLoadRect (harg6.unread x3)
/-- What the loops leave. -/
abbrev C : FVec Ideal S1024x1 .f32 × FVec Ideal S1024x1 .f32 × FVec Ideal S1024x128 .f32 :=
  car c i arg3 harg3 arg4 harg4 arg5 harg5 arg6 harg6 arg7 harg7 x0 x1 x2 x3 (k0_t1_loop i).trips

/-- What the launch stores: the second half, and before it the first. -/
theorem pieces_eq : (kernelRun0_A (F := Ideal) c i arg3 harg3 arg4 harg4 arg5 harg5 arg6 harg6 arg7 harg7 x0 x1 x2 x3).1 =
    [⟨Rect.unit (s := S1x1024x128) ![0, 512, 0] ![1, 512, 128] inb_S1x1024x128_S1x512x128_0_512_0,
      k0_pay41 (k0_pay2 (L5 i arg6 harg6 x3))
        (k0_pay33 (k0_pay2 (L5 i arg6 harg6 x3)) (k0_pay21 (C c i arg3 harg3 arg4 harg4 arg5 harg5 arg6 harg6 arg7 harg7 x0 x1 x2 x3).1) (k0_pay31 (k0_pay1 (Lq arg3 harg3 x0)) (L6 i arg4 harg4 x1)) (L7 i arg6 harg6 x3))
        (k0_pay36 (k0_pay2 (L5 i arg6 harg6 x3)) (k0_pay21 (C c i arg3 harg3 arg4 harg4 arg5 harg5 arg6 harg6 arg7 harg7 x0 x1 x2 x3).1) (k0_pay22 (C c i arg3 harg3 arg4 harg4 arg5 harg5 arg6 harg6 arg7 harg7 x0 x1 x2 x3).2.1) (k0_pay31 (k0_pay1 (Lq arg3 harg3 x0)) (L6 i arg4 harg4 x1)) (L7 i arg6 harg6 x3))
        (k0_pay37 (k0_pay2 (L5 i arg6 harg6 x3)) (k0_pay21 (C c i arg3 harg3 arg4 harg4 arg5 harg5 arg6 harg6 arg7 harg7 x0 x1 x2 x3).1) (k0_pay23 (C c i arg3 harg3 arg4 harg4 arg5 harg5 arg6 harg6 arg7 harg7 x0 x1 x2 x3).2.2) (k0_pay31 (k0_pay1 (Lq arg3 harg3 x0)) (L6 i arg4 harg4 x1)) (L7 i arg6 harg6 x3) (L6 i arg5 harg5 x2))
        (k0_pay38 (k0_pay1 (Lq arg3 harg3 x0)) (L8 i arg4 harg4 x1)) (k0_pay39 (L9 i arg6 harg6 x3)) (L8 i arg5 harg5 x2)⟩,
     ⟨Rect.unit (s := S1x1024x128) ![0, 0, 0] ![1, 512, 128] inb_S1x1024x128_S1x512x128_0_0_0,
      k0_pay40
        (k0_pay29 (k0_pay2 (L5 i arg6 harg6 x3)) (k0_pay18 (C c i arg3 harg3 arg4 harg4 arg5 harg5 arg6 harg6 arg7 harg7 x0 x1 x2 x3).1) (k0_pay19 (C c i arg3 harg3 arg4 harg4 arg5 harg5 arg6 harg6 arg7 harg7 x0 x1 x2 x3).2.1) (k0_pay24 (Lq arg3 harg3 x0) (L6 i arg4 harg4 x1)) (L7 i arg6 harg6 x3))
        (k0_pay30 (k0_pay2 (L5 i arg6 harg6 x3)) (k0_pay18 (C c i arg3 harg3 arg4 harg4 arg5 harg5 arg6 harg6 arg7 harg7 x0 x1 x2 x3).1) (k0_pay20 (C c i arg3 harg3 arg4 harg4 arg5 harg5 arg6 harg6 arg7 harg7 x0 x1 x2 x3).2.2) (k0_pay24 (Lq arg3 harg3 x0) (L6 i arg4 harg4 x1)) (L7 i arg6 harg6 x3) (L6 i arg5 harg5 x2))⟩] := by
  have h2 : Scf.trips (k0_t2_loop i).lb (k0_t2_loop i).ub (k0_t2_loop i).st = 0 := trips2 i
  unfold kernelRun0_A
  dsimp only [kernelRun0_A.sl.v77, kernelRun0_A.sl.v79, kernelRun0_A.sl.v80, kernelRun0_A.sl.v81, kernelRun0_A.sl.v82, kernelRun0_A.sl.v83, kernelRun0_A.sl.v86, kernelRun0_A.sl.v87, kernelRun0_A.sl.v88, kernelRun0_A.sl.v89, kernelRun0_A.sl.v90, kernelRun0_A.sl.v91, kernelRun0_A.sl.v92, kernelRun0_A.sl.v93, kernelRun0_A.sl.v94, kernelRun0_A.sl.v95, kernelRun0_A.sl.v96, kernelRun0_A.sl.v97, kernelRun0_A.sl.v98, kernelRun0_A.sl.v99, kernelRun0_A.sl.v100, kernelRun0_A.sl.v103, kernelRun0_A.sl.v104, kernelRun0_A.sl.v105, kernelRun0_A.sl.v107, kernelRun0_A.sl.v108, kernelRun0_A.sl.v111, kernelRun0_A.sl.v113, kernelRun0_A.sl.v115, kernelRun0_A.sl.v116, kernelRun0_A.sl.v119, kernelRun0_A.sl.cst_34, kernelRun0_A.sl.cst_35, kernelRun0_A.sl.cst_38, kernelRun0_A.sl.cst_46, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12]
  simp only [h2, st_k0_t2_zero]
  refine congrArg₂ List.cons (congrArg (Sigma.mk _) ?_) (congrArg₂ List.cons (congrArg (Sigma.mk _) ?_) rfl)
  · unfold k0_pay41 k0_pay33 k0_pay36 k0_pay37 k0_pay34 k0_pay35 k0_pay33 k0_pay32 k0_pay31 k0_pay38 k0_pay39 k0_pay2 k0_pay1
    unfold C car
    rfl
  · rfl

variable (qf kf vf : ℕ → ℕ → ℝ) (cf : ℕ → ℝ)
variable (hq : ∀ (r : Fin 1024) (k : Fin 128), x0 (ix3 0 r k) = (qf r.val k.val : EReal)) (hk : ∀ (s : Fin 4096) (k : Fin 128), x1 (ix3 0 s k) = (kf s.val k.val : EReal))
  (hv : ∀ (s : Fin 4096) (k : Fin 128), x2 (ix3 0 s k) = (vf s.val k.val : EReal)) (hc : ∀ s : Fin 4096, x3 (ix4 0 0 0 s) = (cf s.val : EReal))

/-- A row's weights have a positive sum, its own being positive. -/
theorem ps_pos (u r n : ℕ) (h : u + r < n) : 0 < ∑ s ∈ Finset.range n, ps qf kf cf u r s := by
  refine Finset.sum_pos' (fun s _ => ?_) ⟨u + r, Finset.mem_range.2 h, ?_⟩
  · unfold ps
    split
    · exact (Real.rpow_pos_of_pos (by norm_num) _).le
    · exact le_rfl
  · unfold ps
    rw [if_pos le_rfl]
    exact Real.rpow_pos_of_pos (by norm_num) _

/-- A row's weights past the row are 0. -/
theorem ps_zero (u r s : ℕ) (h : u + r < s) : ps qf kf cf u r s = 0 := by
  unfold ps
  rw [if_neg (by omega)]

include hq hk hv hc

/-- What a point leaves in its block: every row's weighted mean of the values. -/
theorem out_real (r : Fin 1024) (d : Fin 128) : out0_A_4 (F := Ideal) c i arg3 harg3 arg4 harg4 arg5 harg5 arg6 harg6 arg7 harg7 x0 x1 x2 x3 (ix3 0 r d)
    = ((wm (ps qf kf cf (1024 * (i 2).val) r.val) (fun s => vf s d.val) : ℝ) : EReal) := by
  have hi : (i 2).val < 4 := (i 2).isLt
  have ht := trips1 i
  have hn : 512 * (k0_t1_loop i).trips = 1024 * (i 2).val := by omega
  have hst := car_st c i arg3 harg3 arg4 harg4 arg5 harg5 arg6 harg6 arg7 harg7 x0 x1 x2 x3 qf kf vf cf hq hk hv hc (k0_t1_loop i).trips le_rfl
  rw [hn] at hst
  unfold out0_A_4
  rw [View.read_writes_junk_apply_eq_canon]
  refine View.canon_apply_of_pieces (fun y : S1x1024x128.Idx => ((wm (ps qf kf cf (1024 * (i 2).val) (y 1).val) (fun s => vf s (y 2).val) : ℝ) : EReal)) _ ?_ _
    (cover0_A_4 c i arg3 harg3 arg4 harg4 arg5 harg5 arg6 harg6 arg7 harg7 x0 x1 x2 x3 _)
  rw [pieces_eq]
  intro p hp
  simp only [List.mem_cons, List.not_mem_nil, or_false] at hp
  rcases hp with rfl | rfl
  · intro x
    change S1x512x128.Idx at x
    obtain ⟨r, d, rfl⟩ : ∃ (r : Fin 512) (d : Fin 128), x = ix3 0 r d := ⟨x 1, x 2, by
      idx_vars x
      rw [Subsingleton.elim x0 (0 : Fin 1)]⟩
    refine (bot_val (Lq arg3 harg3 x0) (L5 i arg6 harg6 x3) _ _ _ (L6 i arg4 harg4 x1) (L8 i arg4 harg4 x1) (L7 i arg6 harg6 x3) (L9 i arg6 harg6 x3) (L6 i arg5 harg5 x2) (L8 i arg5 harg5 x2) r d
      (1024 * (i 2).val) (ps qf kf cf (1024 * (i 2).val) (512 + r.val)) (fun s => vf s d.val) (fun s => xs qf kf cf (1024 * (i 2).val) (512 + r.val) (1024 * (i 2).val + s.val))
      (fun s => xs qf kf cf (1024 * (i 2).val) (512 + r.val) (1024 * (i 2).val + 512 + s.val)) ?_ ?_ ?_ ?_ ?_ ?_ ?_ ?_).trans ?_
    · rw [pay21_eq, pay22_eq, pay23_eq]
      exact hst ⟨512 + r.val, by omega⟩ d
    · intro s
      refine score qf kf cf _ _ _ _ _ _ _ (fun j => ?_) (fun j => ?_) ?_ ?_
      · exact (ldq arg3 harg3 x0 _ _ j).trans (hq _ j)
      · exact (ld3 arg4 harg4 x1 _ (1024 * (i 2).val) (by omega) (off6 i) _ _ _).trans (hk _ _)
      · exact (ld4' arg6 harg6 x3 _ (1024 * (i 2).val) (by omega) (off1 i) _).trans (hc _)
      · exact (ld4 arg6 harg6 x3 _ (1024 * (i 2).val) (by omega) (off7 i) _ _).trans (hc _)
    · intro s
      unfold ps
      rw [if_pos (by omega)]
    · intro s
      exact (ld3 arg5 harg5 x2 _ (1024 * (i 2).val) (by omega) (off6 i) _ _ _).trans (hv _ _)
    · intro s
      refine score qf kf cf _ _ _ _ _ _ _ (fun j => ?_) (fun j => ?_) ?_ ?_
      · exact (ldq arg3 harg3 x0 _ _ j).trans (hq _ j)
      · exact (ld3 arg4 harg4 x1 _ (1024 * (i 2).val + 512) (by omega) (off8 i) _ _ _).trans (hk _ _)
      · exact (ld4' arg6 harg6 x3 _ (1024 * (i 2).val) (by omega) (off1 i) _).trans (hc _)
      · exact (ld4 arg6 harg6 x3 _ (1024 * (i 2).val + 512) (by omega) (off9 i) _ _).trans (hc _)
    · intro s
      unfold ps
      exact if_congr (by omega) rfl rfl
    · intro s
      exact (ld3 arg5 harg5 x2 _ (1024 * (i 2).val + 512) (by omega) (off8 i) _ _ _).trans (hv _ _)
    · exact ps_pos qf kf cf _ _ _ (by omega)
    · rw [wm_eq _ _ _ (by omega) fun s hs => ps_zero qf kf cf _ _ _ (by omega)]
      have e1 : (((Rect.unit (s := S1x1024x128) ![0, 512, 0] ![1, 512, 128] inb_S1x1024x128_S1x512x128_0_512_0).emb (ix3 0 r d)) 1).val = 512 + r.val := by
        rw [Rect.emb_apply]; simp
      have e2 : (((Rect.unit (s := S1x1024x128) ![0, 512, 0] ![1, 512, 128] inb_S1x1024x128_S1x512x128_0_512_0).emb (ix3 0 r d)) 2).val = d.val := by
        rw [Rect.emb_apply]; simp
      dsimp only
      rw [e1, e2]
  · intro x
    change S1x512x128.Idx at x
    obtain ⟨r, d, rfl⟩ : ∃ (r : Fin 512) (d : Fin 128), x = ix3 0 r d := ⟨x 1, x 2, by
      idx_vars x
      rw [Subsingleton.elim x0 (0 : Fin 1)]⟩
    refine (top_val (Lq arg3 harg3 x0) (L5 i arg6 harg6 x3) _ _ _ (L6 i arg4 harg4 x1) (L7 i arg6 harg6 x3) (L6 i arg5 harg5 x2) r d
      (1024 * (i 2).val) (ps qf kf cf (1024 * (i 2).val) r.val) (fun s => vf s d.val) (fun s => xs qf kf cf (1024 * (i 2).val) r.val (1024 * (i 2).val + s.val)) ?_ ?_ ?_ ?_ ?_).trans ?_
    · rw [pay18_eq, pay19_eq, pay20_eq]
      exact hst ⟨r.val, by omega⟩ d
    · intro s
      refine score qf kf cf _ _ _ _ _ _ _ (fun j => ?_) (fun j => ?_) ?_ ?_
      · exact (ldq arg3 harg3 x0 _ _ j).trans (hq _ j)
      · exact (ld3 arg4 harg4 x1 _ (1024 * (i 2).val) (by omega) (off6 i) _ _ _).trans (hk _ _)
      · exact (ld4' arg6 harg6 x3 _ (1024 * (i 2).val) (by omega) (off1 i) _).trans (hc _)
      · exact (ld4 arg6 harg6 x3 _ (1024 * (i 2).val) (by omega) (off7 i) _ _).trans (hc _)
    · intro s
      unfold ps
      exact if_congr (by omega) rfl rfl
    · intro s
      exact (ld3 arg5 harg5 x2 _ (1024 * (i 2).val) (by omega) (off6 i) _ _ _).trans (hv _ _)
    · exact ps_pos qf kf cf _ _ _ (by omega)
    · rw [wm_eq _ _ _ (by omega) fun s hs => ps_zero qf kf cf _ _ _ (by omega)]
      have e1 : (((Rect.unit (s := S1x1024x128) ![0, 0, 0] ![1, 512, 128] inb_S1x1024x128_S1x512x128_0_0_0).emb (ix3 0 r d)) 1).val = r.val := by
        rw [Rect.emb_apply]; simp
      have e2 : (((Rect.unit (s := S1x1024x128) ![0, 0, 0] ![1, 512, 128] inb_S1x1024x128_S1x512x128_0_0_0).emb (ix3 0 r d)) 2).val = d.val := by
        rw [Rect.emb_apply]; simp
      dsimp only
      rw [e1, e2]

end Run

end Cert.Kernel2Ideal.Att

end
-- ==== Proof.AttSpec.lean ====
module

public import proofs.«01_k».proof.Proof.AttOut

@[expose] public section

noncomputable section

namespace Cert.Kernel2Ideal.Att

/-- A logit: a query against a key, the running gate between them, in base two. -/
def lg (Z G : ℕ → ℕ → ℕ → ℝ) (b h t s : ℕ) : ℝ :=
  ((∑ k : Fin 128, Z b t (128 * h + k.val) * Z b s (1024 + (128 * h + k.val))) + G b t h - G b s h) * Real.log 2

/-- A key's weight for a query: 0 past the query. -/
def pr (Z G : ℕ → ℕ → ℕ → ℝ) (b h t s : ℕ) : ℝ := if s ≤ t then Real.exp (lg Z G b h t s) else 0

/-- An entry of the attention's result, the projection and the running gates being real. -/
def att (Z G : ℕ → ℕ → ℕ → ℝ) (b t j : ℕ) : ℝ := wm (pr Z G b (j / 128) t) (fun s => Z b s (2048 + j))

/-- A common factor of the weights leaves the mean. -/
theorem wm_scale (p q v : ℕ → ℝ) (c : ℝ) (hc : c ≠ 0) (h : ∀ s, p s = q s * c) : wm p v = wm q v := by
  unfold wm
  have e1 : ∑ s ∈ Finset.range 4096, p s = (∑ s ∈ Finset.range 4096, q s) * c := by
    rw [Finset.sum_mul]
    exact Finset.sum_congr rfl fun s _ => h s
  have e2 : ∑ s ∈ Finset.range 4096, p s * v s = (∑ s ∈ Finset.range 4096, q s * v s) * c := by
    rw [Finset.sum_mul]
    exact Finset.sum_congr rfl fun s _ => by rw [h s]; ring
  rw [e1, e2, mul_div_mul_right _ _ hc]

/-- The kernel's weights are the attention's, times a factor that does not depend on the key. -/
theorem ps_pr (Z G : ℕ → ℕ → ℕ → ℝ) (b h u r s : ℕ) :
    ps (fun r k => Z b (u + r) (128 * h + k)) (fun s k => Z b s (1024 + (128 * h + k))) (fun s => G b s h) u r s
      = pr Z G b h (u + r) s * (2 : ℝ) ^ (G b u h - G b (u + r) h) := by
  unfold ps pr
  by_cases hs : s ≤ u + r
  · rw [if_pos hs, if_pos hs]
    have e : Real.exp (lg Z G b h (u + r) s)
        = (2 : ℝ) ^ ((∑ k : Fin 128, Z b (u + r) (128 * h + k.val) * Z b s (1024 + (128 * h + k.val))) + G b (u + r) h - G b s h) := by
      rw [Real.rpow_def_of_pos (by norm_num), mul_comm (Real.log 2)]
      rfl
    rw [e, ← Real.rpow_add (by norm_num)]
    congr 1
    unfold xs
    ring
  · rw [if_neg hs, if_neg hs, zero_mul]

/-- The kernel's mean is the attention's. -/
theorem wm_att (Z G : ℕ → ℕ → ℕ → ℝ) (b h u r d : ℕ) (hd : d < 128) :
    wm (ps (fun r k => Z b (u + r) (128 * h + k)) (fun s k => Z b s (1024 + (128 * h + k))) (fun s => G b s h) u r)
        (fun s => Z b s (2048 + (128 * h + d))) = att Z G b (u + r) (128 * h + d) := by
  unfold att
  rw [show (128 * h + d) / 128 = h by omega]
  exact wm_scale _ _ _ _ (Real.rpow_pos_of_pos (by norm_num) _).ne' (ps_pr Z G b h u r)

/-- A query's weights have a positive sum, its own being positive. -/
theorem pr_pos (Z G : ℕ → ℕ → ℕ → ℝ) (b h t n : ℕ) (ht : t < n) : 0 < ∑ s ∈ Finset.range n, pr Z G b h t s := by
  refine Finset.sum_pos' (fun s _ => ?_) ⟨t, Finset.mem_range.2 ht, ?_⟩
  · unfold pr
    split
    · exact (Real.exp_pos _).le
    · exact le_rfl
  · unfold pr
    rw [if_pos le_rfl]
    exact Real.exp_pos _

end Cert.Kernel2Ideal.Att

end
-- ==== Proof.AttReg.lean ====
module

public import proofs.«01_k».proof.Proof.AttSpec
public import proofs.«01_k».proof.Proof.Gen.Kernel2Ideal.Value

@[expose] public section

set_option maxRecDepth 16384

noncomputable section

open Idealize.ShloMosaic Idealize.ShloMosaic.TcCoe Idealize.SL.Sem

namespace Cert.Kernel2Ideal.Att

open Cert.Kernel2Ideal Cert.Kernel2Ideal.Gen

/-- The queries' blocks. -/
theorem idx0 : ∀ t : Fin grid0.N, win0_0.index t = ![(grid0.coords t 0).val, (grid0.coords t 2).val, (grid0.coords t 1).val] := by decide +kernel
/-- The keys' blocks. -/
theorem idx1 : ∀ t : Fin grid0.N, win0_1.index t = ![(grid0.coords t 0).val, 0, 8 + (grid0.coords t 1).val] := by decide +kernel
/-- The values' blocks. -/
theorem idx2 : ∀ t : Fin grid0.N, win0_2.index t = ![(grid0.coords t 0).val, 0, 16 + (grid0.coords t 1).val] := by decide +kernel
/-- The running gates' blocks. -/
theorem idx3 : ∀ t : Fin grid0.N, win0_3.index t = ![(grid0.coords t 0).val, (grid0.coords t 1).val, 0, 0] := by decide +kernel
/-- The result's blocks. -/
theorem idx4 : ∀ t : Fin grid0.N, win0_4.index t = ![(grid0.coords t 0).val, (grid0.coords t 2).val, (grid0.coords t 1).val] := by decide +kernel

variable (m : (ℓ : Loc nD τ sig) → Buf (Elt Ideal) ℓ) (c : Dev nD) (Z G : ℕ → ℕ → ℕ → ℝ)
  (h0 : ∀ j : S2x4096x6144.Idx, (m ((c : Thread nD τ).loc main_arg0) : Vec Ideal S2x4096x6144 .bf16) j = ((Z (j 0).val (j 1).val (j 2).val : ℝ) : EReal))
  (h1 : ∀ j : S2x4096x128.Idx, (m ((c : Thread nD τ).loc main_arg1) : Vec Ideal S2x4096x128 .f32) j = ((G (j 0).val (j 1).val (j 2).val : ℝ) : EReal))

/-- Equal places hold equal numbers. -/
theorem z3 {a a' b b' d d' : ℕ} (ha : a = a') (hb : b = b') (hd : d = d') : ((Z a b d : ℝ) : EReal) = ((Z a' b' d' : ℝ) : EReal) := by
  rw [ha, hb, hd]

include h0

/-- A point's queries. -/
theorem q_blk (t : Fin cfg0.N) (r : Fin 1024) (k : Fin 128) : (iblk m c 0 t : Vec Ideal S1x1024x128 .bf16) (ix3 0 r k)
    = ((Z (grid0.coords t 0).val (1024 * (grid0.coords t 2).val + r.val) (128 * (grid0.coords t 1).val + k.val) : ℝ) : EReal) := by
  have g := idx0 t
  unfold iblk
  show V m c main_arg0 (((View.whole main_arg0).slice (win0_0.rect t)).emb _) = _
  rw [V_main_arg0]
  refine (h0 _).trans (z3 Z ?_ ?_ ?_)
  · show win0_0.index t 0 * 1 + 1 * 0 = _; rw [g]; show (grid0.coords t 0).val * 1 + 1 * 0 = _; omega
  · show win0_0.index t 1 * 1024 + 1 * r.val = _; rw [g]; show (grid0.coords t 2).val * 1024 + 1 * r.val = _; omega
  · show win0_0.index t 2 * 128 + 1 * k.val = _; rw [g]; show (grid0.coords t 1).val * 128 + 1 * k.val = _; omega

/-- A point's keys. -/
theorem k_blk (t : Fin cfg0.N) (r : Fin 4096) (k : Fin 128) : (iblk m c 1 t : Vec Ideal S1x4096x128 .bf16) (ix3 0 r k)
    = ((Z (grid0.coords t 0).val r.val (1024 + (128 * (grid0.coords t 1).val + k.val)) : ℝ) : EReal) := by
  have g := idx1 t
  unfold iblk
  show V m c main_arg0 (((View.whole main_arg0).slice (win0_1.rect t)).emb _) = _
  rw [V_main_arg0]
  refine (h0 _).trans (z3 Z ?_ ?_ ?_)
  · show win0_1.index t 0 * 1 + 1 * 0 = _; rw [g]; show (grid0.coords t 0).val * 1 + 1 * 0 = _; omega
  · show win0_1.index t 1 * 4096 + 1 * r.val = _; rw [g]; show 0 * 4096 + 1 * r.val = _; omega
  · show win0_1.index t 2 * 128 + 1 * k.val = _; rw [g]; show (8 + (grid0.coords t 1).val) * 128 + 1 * k.val = _; omega

/-- A point's values. -/
theorem v_blk (t : Fin cfg0.N) (r : Fin 4096) (k : Fin 128) : (iblk m c 2 t : Vec Ideal S1x4096x128 .bf16) (ix3 0 r k)
    = ((Z (grid0.coords t 0).val r.val (2048 + (128 * (grid0.coords t 1).val + k.val)) : ℝ) : EReal) := by
  have g := idx2 t
  unfold iblk
  show V m c main_arg0 (((View.whole main_arg0).slice (win0_2.rect t)).emb _) = _
  rw [V_main_arg0]
  refine (h0 _).trans (z3 Z ?_ ?_ ?_)
  · show win0_2.index t 0 * 1 + 1 * 0 = _; rw [g]; show (grid0.coords t 0).val * 1 + 1 * 0 = _; omega
  · show win0_2.index t 1 * 4096 + 1 * r.val = _; rw [g]; show 0 * 4096 + 1 * r.val = _; omega
  · show win0_2.index t 2 * 128 + 1 * k.val = _; rw [g]; show (16 + (grid0.coords t 1).val) * 128 + 1 * k.val = _; omega

omit h0

/-- The running gates, the positions along the last axis. -/
theorem v2_at (b : Fin 2) (h : Fin 8) (s : Fin 4096) : (V m c main_v2 : Vec Ideal S2x8x1x4096 .f32) (ix4 b h 0 s)
    = (m ((c : Thread nD τ).loc main_arg1) : Vec Ideal S2x4096x128 .f32) (ix3 b s ⟨h.val, by omega⟩) := by
  have e : (V m c main_v2 : Vec Ideal S2x8x1x4096 .f32) = shapeCast S2x8x1x4096 (transpose S2x8x4096 [0, 2, 1]
      (extractStridedSlice S2x4096x8 ![0, 0, 0] (m ((c : Thread nD τ).loc main_arg1) : Vec Ideal S2x4096x128 .f32) slices_S2x4096x128_S2x4096x8_0_0_0)
      transposes_S2x4096x8_S2x8x4096_0_2_1) shapeCasts_S2x8x4096_S2x8x1x4096 := by
    show StableHlo.after hostOps0 _ _ = _
    after_results_simp <;> rfl
  rw [e]
  pointwise

include h1

/-- A point's running gates. -/
theorem c_blk (t : Fin cfg0.N) (s : Fin 4096) : (iblk m c 3 t : Vec Ideal S1x1x1x4096 .f32) (ix4 0 0 0 s)
    = ((G (grid0.coords t 0).val s.val (grid0.coords t 1).val : ℝ) : EReal) := by
  have g := idx3 t
  unfold iblk
  show V m c main_v2 (((View.whole main_v2).slice (win0_3.rect t)).emb _) = _
  have e : (((View.whole main_v2).slice (win0_3.rect t)).emb (ix4 0 0 0 s) : S2x8x1x4096.Idx) = ix4 (grid0.coords t 0) (grid0.coords t 1) 0 s := by
    funext a
    apply Fin.ext
    match a with
    | ⟨0, _⟩ => show win0_3.index t 0 * 1 + 1 * 0 = _; rw [g]; show (grid0.coords t 0).val * 1 + 1 * 0 = (grid0.coords t 0).val; omega
    | ⟨1, _⟩ => show win0_3.index t 1 * 1 + 1 * 0 = _; rw [g]; show (grid0.coords t 1).val * 1 + 1 * 0 = (grid0.coords t 1).val; omega
    | ⟨2, _⟩ => show win0_3.index t 2 * 1 + 1 * 0 = _; rw [g]; rfl
    | ⟨3, _⟩ => show win0_3.index t 3 * 4096 + 1 * s.val = _; rw [g]; show 0 * 4096 + 1 * s.val = s.val; omega
  exact (congrArg (V m c main_v2 : Vec Ideal S2x8x1x4096 .f32) e).trans ((v2_at m c _ _ s).trans (h1 _))

include h0

/-- After the run the attention's result. -/
theorem final4 : (dats m 0 c).arrAt 4 cfg0.N = fun j : S2x4096x1024.Idx => ((att Z G (j 0).val (j 1).val (j 2).val : ℝ) : EReal) := by
  refine (dats m 0 c).arrAt_eq_of_covers 4 _ (by decide +kernel) fun t hf y => ?_
  blk_simp
  rw [after0_4]
  unfold outsAt0
  change S1x1024x128.Idx at y
  obtain ⟨r, d, rfl⟩ : ∃ (r : Fin 1024) (d : Fin 128), y = ix3 0 r d := ⟨y 1, y 2, by
    idx_vars y
    rw [Subsingleton.elim y0 (0 : Fin 1)]⟩
  have g := idx4 t
  refine (out_real c (grid0.coords t) _ _ _ _ _ _ _ _ _ _ (iblk m c 0 t) (iblk m c 1 t) (iblk m c 2 t) (iblk m c 3 t)
    (fun r k => Z (grid0.coords t 0).val (1024 * (grid0.coords t 2).val + r) (128 * (grid0.coords t 1).val + k))
    (fun s k => Z (grid0.coords t 0).val s (1024 + (128 * (grid0.coords t 1).val + k)))
    (fun s k => Z (grid0.coords t 0).val s (2048 + (128 * (grid0.coords t 1).val + k))) (fun s => G (grid0.coords t 0).val s (grid0.coords t 1).val)
    (q_blk m c Z h0 t) (k_blk m c Z h0 t) (v_blk m c Z h0 t) (c_blk m c G h1 t) r d).trans ?_
  rw [wm_att Z G _ _ _ _ _ d.isLt]
  have g0 : win0_4.index t 0 = (grid0.coords t 0).val := congrFun g 0
  have g1 : win0_4.index t 1 = (grid0.coords t 2).val := congrFun g 1
  have g2 : win0_4.index t 2 = (grid0.coords t 1).val := congrFun g 2
  refine z3 (att Z G) ?_ ?_ ?_
  · exact g0.symm
  · rw [g1]; show _ = (grid0.coords t 2).val * 1024 + r.val; omega
  · rw [g2]; show _ = (grid0.coords t 1).val * 128 + d.val; omega

end Cert.Kernel2Ideal.Att

end
-- ==== Proof.AttRef.lean ====
module

public import proofs.«01_k».proof.Proof.AttSpec
public import proofs.«01_k».proof.Proof.Gen.Reference2Ideal.Read

@[expose] public section

noncomputable section

namespace Cert.Reference2Ideal.Att

open Cert.Reference2Ideal Cert.Reference2Ideal.Gen Cert.Reference2Ideal.Read Cert.Kernel2Ideal.Att
open Idealize.ShloMosaic Idealize.ShloMosaic.TcCoe

/-- Equal places hold equal numbers. -/
theorem z3 (Z : ℕ → ℕ → ℕ → ℝ) {a a' b b' d d' : ℕ} (ha : a = a') (hb : b = b') (hd : d = d') : ((Z a b d : ℝ) : EReal) = ((Z a' b' d' : ℝ) : EReal) := by
  rw [ha, hb, hd]

/-- The comparison of two positions. -/
theorem cmp_pos (a b : ℕ) (ha : a < 4096) (hb : b < 4096) :
    IntOp.cmpi CmpIPredicate.sge (BitVec.ofNat 32 a) (BitVec.ofNat 32 b) = if b ≤ a then 1#1 else 0#1 := by
  have e : ∀ n : ℕ, n < 4096 → (BitVec.ofNat 32 n).toInt = n := fun n hn => by
    rw [BitVec.toInt_eq_toNat_cond, BitVec.toNat_ofNat, Nat.mod_eq_of_lt (by omega)]
    split <;> omega
  simp only [IntOp.cmpi, BitVec.sle, e _ ha, e _ hb]
  have hd : (decide ((b : ℤ) ≤ (a : ℤ))) = decide (b ≤ a) := by simp only [Nat.cast_le]
  rw [hd]
  by_cases hl : b ≤ a
  · rw [if_pos hl, decide_eq_true hl]; rfl
  · rw [if_neg hl, decide_eq_false hl]; rfl

/-- The logarithm of two. -/
theorem log_two : (FloatOps.hostUnary .log (FloatOps.ofBits .f32 0x40000000#32 : Ideal .f32) : Ideal .f32) = ((Real.log 2 : ℝ) : EReal) := by
  show Ideal.log (Ideal.ofBits .f32 0x40000000#32) = _
  have h2 : Ideal.ofBits FTy.f32 0x40000000#32 = ((2 : ℝ) : EReal) := by simp [Ideal.ofBits, Ideal.ieee, -EReal.coe_mul]; norm_num
  rw [h2, Ideal.log_coe, if_neg (by norm_num)]

variable (x0 : (⟨S2x4096x6144, .bf16⟩ : BufTy).Contents (Elt Ideal)) (x1 : (⟨S2x4096x128, .f32⟩ : BufTy).Contents (Elt Ideal)) (Z G : ℕ → ℕ → ℕ → ℝ)
  (h0 : ∀ j : S2x4096x6144.Idx, x0 j = ((Z (j 0).val (j 1).val (j 2).val : ℝ) : EReal))
  (h1 : ∀ j : S2x4096x128.Idx, x1 j = ((G (j 0).val (j 1).val (j 2).val : ℝ) : EReal))

include h0

/-- A query's entry. -/
theorem q_at (i : S2x8x4096x128.Idx) : val_main_v3 (F := Ideal) x0 i = ((Z (i 0).val (i 2).val (128 * (i 1).val + (i 3).val) : ℝ) : EReal) := by
  have b0 : (i 0).val < 2 := (i 0).isLt
  have b1 : (i 1).val < 8 := (i 1).isLt
  have b2 : (i 2).val < 4096 := (i 2).isLt
  have b3 : (i 3).val < 128 := (i 3).isLt
  rw [val_main_v3_apply, val_main_v2_apply, val_main_v1_apply, val_main_v0_apply]
  refine (h0 _).trans (z3 Z ?_ ?_ ?_)
  · show ((((i 0).val * 4096 + (i 2).val) * 8 + (i 1).val) * 128 + (i 3).val) / 4194304 = (i 0).val; omega
  · show ((((i 0).val * 4096 + (i 2).val) * 8 + (i 1).val) * 128 + (i 3).val) / 1024 % 4096 = (i 2).val; omega
  · show ((((i 0).val * 4096 + (i 2).val) * 8 + (i 1).val) * 128 + (i 3).val) % 1024 = 128 * (i 1).val + (i 3).val; omega

/-- A key's entry. -/
theorem k_at (i : S2x8x4096x128.Idx) : val_main_v6 (F := Ideal) x0 i = ((Z (i 0).val (i 2).val (1024 + (128 * (i 1).val + (i 3).val)) : ℝ) : EReal) := by
  have b0 : (i 0).val < 2 := (i 0).isLt
  have b1 : (i 1).val < 8 := (i 1).isLt
  have b2 : (i 2).val < 4096 := (i 2).isLt
  have b3 : (i 3).val < 128 := (i 3).isLt
  rw [val_main_v6_apply, val_main_v5_apply, val_main_v4_apply, val_main_v0_apply]
  refine (h0 _).trans (z3 Z ?_ ?_ ?_)
  · show ((((i 0).val * 4096 + (i 2).val) * 8 + (i 1).val) * 128 + (i 3).val) / 4194304 = (i 0).val; omega
  · show ((((i 0).val * 4096 + (i 2).val) * 8 + (i 1).val) * 128 + (i 3).val) / 1024 % 4096 = (i 2).val; omega
  · show 1024 + ((((i 0).val * 4096 + (i 2).val) * 8 + (i 1).val) * 128 + (i 3).val) % 1024 = 1024 + (128 * (i 1).val + (i 3).val); omega

/-- A value's entry. -/
theorem v_at (i : S2x8x4096x128.Idx) : val_main_v9 (F := Ideal) x0 i = ((Z (i 0).val (i 2).val (2048 + (128 * (i 1).val + (i 3).val)) : ℝ) : EReal) := by
  have b0 : (i 0).val < 2 := (i 0).isLt
  have b1 : (i 1).val < 8 := (i 1).isLt
  have b2 : (i 2).val < 4096 := (i 2).isLt
  have b3 : (i 3).val < 128 := (i 3).isLt
  rw [val_main_v9_apply, val_main_v8_apply, val_main_v7_apply, val_main_v0_apply]
  refine (h0 _).trans (z3 Z ?_ ?_ ?_)
  · show ((((i 0).val * 4096 + (i 2).val) * 8 + (i 1).val) * 128 + (i 3).val) / 4194304 = (i 0).val; omega
  · show ((((i 0).val * 4096 + (i 2).val) * 8 + (i 1).val) * 128 + (i 3).val) / 1024 % 4096 = (i 2).val; omega
  · show 2048 + ((((i 0).val * 4096 + (i 2).val) * 8 + (i 1).val) * 128 + (i 3).val) % 1024 = 2048 + (128 * (i 1).val + (i 3).val); omega

omit h0
include h1

/-- A running gate. -/
theorem c_at (i : S2x8x4096.Idx) : val_main_v11 (F := Ideal) x1 i = ((G (i 0).val (i 2).val (i 1).val : ℝ) : EReal) := by
  rw [val_main_v11_apply, val_main_v10_apply]
  exact h1 _

include h0

/-- A logit. -/
theorem lg_at (i : S2x8x4096x4096.Idx) : val_main_v21 (F := Ideal) x0 x1 i = ((lg Z G (i 0).val (i 1).val (i 2).val (i 3).val : ℝ) : EReal) := by
  rw [val_main_v21_apply, val_main_v18_apply, val_main_v15_apply, val_main_v12_apply, val_main_v14_apply, val_main_v13_apply, val_main_v17_apply,
    val_main_v16_apply, val_main_v20_apply, val_main_v19_apply, val_main_cst_apply, log_two, c_at x1 G h1, c_at x1 G h1]
  simp only [q_at x0 Z h0, k_at x0 Z h0]
  unfold lg
  rw [EReal.coe_mul, EReal.coe_sub, EReal.coe_add, coe_sum]
  simp only [EReal.coe_mul]
  rfl

/-- A masked logit and its weight. -/
theorem e_at (i : S2x8x4096x4096.Idx) : IsE (val_main_v29 (F := Ideal) x0 x1 i) (pr Z G (i 0).val (i 1).val (i 2).val (i 3).val)
    ∧ ((i 3).val ≤ (i 2).val → ⊥ < (val_main_v29 (F := Ideal) x0 x1 i : EReal)) := by
  have b2 : (i 2).val < 4096 := (i 2).isLt
  have b3 : (i 3).val < 4096 := (i 3).isLt
  have e : (val_main_v29 (F := Ideal) x0 x1 i : EReal) = if (i 3).val ≤ (i 2).val then ((lg Z G (i 0).val (i 1).val (i 2).val (i 3).val : ℝ) : EReal) else ⊥ := by
    rw [val_main_v29_apply, lg_at x0 x1 Z G h0 h1, val_main_call0_v1_apply, val_main_v28_apply, val_main_v26_apply, val_main_v23_apply, val_main_v22_apply,
      val_main_v27_apply, val_main_v25_apply, val_main_v24_apply]
    have hc := cmp_pos (i 2).val (i 3).val b2 b3
    have hn : val_main_call0_v2 (F := Ideal) i = (⊥ : EReal) := by
      rw [val_main_call0_v2_apply, val_main_call0_v0_apply, val_main_cst_0_apply]
      exact ninf
    rw [hn]
    refine (congrArg (fun w => Scalar.select (α := EReal) w _ ⊥) hc).trans ?_
    split <;> simp [Scalar.select]
  rw [e]
  unfold pr
  by_cases hs : (i 3).val ≤ (i 2).val
  · rw [if_pos hs, if_pos hs]
    exact ⟨Or.inr ⟨_, rfl, rfl⟩, fun _ => EReal.bot_lt_coe _⟩
  · rw [if_neg hs, if_neg hs]
    exact ⟨Or.inl ⟨rfl, rfl⟩, fun h => absurd h hs⟩

omit h0 h1

/-- A query's greatest masked logit. -/
theorem max_at (i : S2x8x4096.Idx) : val_main_v32 (F := Ideal) x0 x1 i = nm ⊥ (fun s : Fin 4096 => (val_main_v29 (F := Ideal) x0 x1 (idx_main_v37 i s) : EReal)) := by
  rw [val_main_v32_apply, val_main_v31_apply, val_main_cst_2_apply]
  unfold val_main_v30 nm
  generalize val_main_v29 (F := Ideal) x0 x1 = y
  refine congrArg₂ max ninf ?_
  idx_vars i
  pointwise [val_main_cst_1]
  rw [ninf]
  refine congrArg (fun f => Finset.fold max ⊥ f Finset.univ) (funext fun s => congrArg y (funext fun a => ?_))
  match a with
  | ⟨0, _⟩ => rfl
  | ⟨1, _⟩ => rfl
  | ⟨2, _⟩ => rfl
  | ⟨3, _⟩ => rfl

include h0 h1

/-- An entry of the reference's result. -/
theorem ref_real (i : S2x4096x1024.Idx) : val_main_v44 (F := Ideal) x0 x1 i = ((att Z G (i 0).val (i 1).val (i 2).val : ℝ) : EReal) := by
  have b0 : (i 0).val < 2 := (i 0).isLt
  have b1 : (i 1).val < 4096 := (i 1).isLt
  have b2 : (i 2).val < 1024 := (i 2).isLt
  rw [val_main_v44_apply, val_main_v43_apply, val_main_v42_apply]
  show val_main_v41 (F := Ideal) x0 x1 _ = _
  generalize hj : idx_main_v42 (idx_main_v43 i) = j
  have j0 : (j 0).val = (i 0).val := by
    rw [← hj]; show (((i 0).val * 4096 + (i 1).val) * 1024 + (i 2).val) / 4194304 = (i 0).val; omega
  have j1 : (j 1).val = (i 2).val / 128 := by
    rw [← hj]; show (((i 0).val * 4096 + (i 1).val) * 1024 + (i 2).val) / 128 % 8 = (i 2).val / 128; omega
  have j2 : (j 2).val = (i 1).val := by
    rw [← hj]; show (((i 0).val * 4096 + (i 1).val) * 1024 + (i 2).val) / 1024 % 4096 = (i 1).val; omega
  have j3 : (j 3).val = (i 2).val % 128 := by
    rw [← hj]; show (((i 0).val * 4096 + (i 1).val) * 1024 + (i 2).val) % 128 = (i 2).val % 128; omega
  rw [val_main_v41_apply]
  simp only [val_main_v40_apply, val_main_v39_apply, val_main_v38_apply, val_main_v37_apply, val_main_cst_3_apply, val_main_v36_apply, val_main_v35_apply,
    val_main_v34_apply, val_main_v33_apply, max_at x0 x1]
  have hz : (FloatOps.ofBits .f32 0x00000000#32 : Ideal .f32) = (0 : EReal) := by
    show Ideal.ofBits .f32 0x00000000#32 = 0
    simp [Ideal.ofBits, Ideal.ieee]
  rw [hz]
  have key := softmax (n := 4096) (p := pr Z G (j 0).val (j 1).val (j 2).val) (v := fun s => Z (j 0).val s (2048 + (128 * (j 1).val + (j 3).val)))
    (e := fun s => (val_main_v29 (F := Ideal) x0 x1 (lidx_main_v41 j s) : EReal)) (vv := fun s => (val_main_v9 (F := Ideal) x0 (ridx_main_v41 j s) : EReal))
    (fun s => (e_at x0 x1 Z G h0 h1 _).1) (fun s => v_at x0 Z h0 _) ⟨⟨(j 2).val, (j 2).isLt⟩, (e_at x0 x1 Z G h0 h1 _).2 le_rfl⟩
    (pr_pos Z G _ _ _ _ (j 2).isLt)
  have fin : (∑ s ∈ Finset.range 4096, pr Z G (j 0).val (j 1).val (j 2).val s * Z (j 0).val s (2048 + (128 * (j 1).val + (j 3).val)))
      / ∑ s ∈ Finset.range 4096, pr Z G (j 0).val (j 1).val (j 2).val s = att Z G (i 0).val (i 1).val (i 2).val := by
    rw [j0, j1, j2, j3, show 128 * ((i 2).val / 128) + (i 2).val % 128 = (i 2).val by omega]
    rfl
  rw [← fin, ← key]
  refine Finset.sum_congr rfl fun s _ => ?_
  simp only [zero_add]
  rfl

end Cert.Reference2Ideal.Att

end
-- ==== Proof.AttClaim.lean ====
module

public import proofs.«01_k».proof.Defs
public import proofs.«01_k».proof.Proof.AttReg
public import proofs.«01_k».proof.Proof.AttRef
public import Idealize.ShloMosaic.Lib.ReduceAll

@[expose] public section

set_option maxRecDepth 16384

noncomputable section

open Idealize.ShloMosaic Idealize.ShloMosaic.TcCoe Idealize.SL.Sem

namespace Cert.Kernel2Ideal.Att

/-- The shape relations the precondition's operations take. -/
theorem finite_facts : Cert.Pre_finite2.Facts :=
  ⟨by decide, by decide, by decide, by decide, by decide⟩

/-- A number of absolute value below infinity is real. -/
theorem real_of_abs (a w : EReal) (hw : w = ⊤) (h : Ideal.cmp .olt (max a (-a)) w = 1#1) : a = ((a.toReal : ℝ) : EReal) := by
  have hl : max a (-a) < ⊤ := by
    by_contra hn
    rw [hw] at h
    simp [Ideal.cmp, hn] at h
  obtain ⟨h1, h2⟩ := max_lt_iff.1 hl
  refine (EReal.coe_toReal h1.ne fun hb => ?_).symm
  rw [hb, EReal.neg_bot] at h2
  exact lt_irrefl _ h2

/-- Infinity, in the short format. -/
theorem inf16 : Ideal.ofBits .bf16 0x7F80#16 = ⊤ := by simp [Ideal.ofBits, Ideal.ieee]
/-- Infinity. -/
theorem inf32 : Ideal.ofBits .f32 0x7F800000#32 = ⊤ := by simp [Ideal.ofBits, Ideal.ieee]

/-- Under the precondition every argument's entry is real. -/
theorem reals [Cert.Pre_finite2.Facts] (x0 : FVec Ideal Cert.Pre_finite2.S2x4096x6144 .bf16) (x1 : FVec Ideal Cert.Pre_finite2.S2x4096x128 .f32)
    (h : Cert.Pre_finite2.fn (F := Ideal) x0 x1 = fun _ => 1#1) :
    (∀ j, (x0 j : EReal) = (((x0 j : EReal).toReal : ℝ) : EReal)) ∧ (∀ j, (x1 j : EReal) = (((x1 j : EReal).toReal : ℝ) : EReal)) := by
  have h' := congrFun h ix0
  unfold Cert.Pre_finite2.fn at h'
  dsimp only at h'
  obtain ⟨ha, hb⟩ := IntOp.andi_eq_one.1 h'
  exact ⟨fun j => real_of_abs _ _ inf16 (Host.reduce_andi_all _ _ _ _ _ ha j), fun j => real_of_abs _ _ inf32 (Host.reduce_andi_all _ _ _ _ _ hb j)⟩

/-- A real array of three axes by its places. -/
def place {n0 n1 n2 : ℕ} (x : (⟨3, ![n0, n1, n2]⟩ : Shape).Idx → EReal) (a b d : ℕ) : ℝ :=
  if h : a < n0 ∧ b < n1 ∧ d < n2 then (x (ix3 ⟨a, h.1⟩ ⟨b, h.2.1⟩ ⟨d, h.2.2⟩)).toReal else 0

/-- An entry is at its place. -/
theorem place_at {n0 n1 n2 : ℕ} (x : (⟨3, ![n0, n1, n2]⟩ : Shape).Idx → EReal) (hx : ∀ j, x j = (((x j).toReal : ℝ) : EReal))
    (j : (⟨3, ![n0, n1, n2]⟩ : Shape).Idx) : x j = ((place x (j 0).val (j 1).val (j 2).val : ℝ) : EReal) := by
  have e : place x (j 0).val (j 1).val (j 2).val = (x j).toReal := by
    unfold place
    rw [dif_pos ⟨(j 0).isLt, (j 1).isLt, (j 2).isLt⟩]
    congr 2
    funext a
    match a with
    | ⟨0, _⟩ => rfl
    | ⟨1, _⟩ => rfl
    | ⟨2, _⟩ => rfl
  rw [e]
  exact hx j

/-- The value claim: on real arguments the launch's result is the reference's. -/
theorem alg2 : @Cert.algebraic_Kernel2Ideal_Reference2Ideal_pre_finite2 Cert.Kernel2Ideal.Gen.facts Cert.Reference2Ideal.Gen.facts finite_facts :=
  fun m ρ m' ρ' hp ha => ⟨_, Cert.Kernel2Ideal.Value.run_blocks m ρ,
    (θ_run _ _ _).mono (fun r h c => by
      obtain ⟨h0, h1⟩ := ha c
      obtain ⟨ra, rest⟩ := h c
      refine ⟨?_, rest⟩
      have hr := @reals finite_facts _ _ (hp c)
      have e0 := place_at _ hr.1
      have e1 := place_at _ hr.2
      rw [ra, Cert.Reference2Ideal.Read.val_main_v44_eq, h0, h1]
      refine Eq.trans ?_ (final4 m c _ _ e0 e1).symm
      exact funext fun j => Cert.Reference2Ideal.Att.ref_real _ _ _ _ e0 e1 j) (Cert.Reference2Ideal.Value.run m' ρ')⟩

end Cert.Kernel2Ideal.Att

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Run
public import proofs.«01_k».proof.Proof.Values
public import proofs.«01_k».proof.Proof.Equal
public import proofs.«01_k».proof.Proof.Gen.Kernel3
public import proofs.«01_k».proof.Proof.Gen.Kernel3.Frame
public import proofs.«01_k».proof.Proof.Gen.Kernel3.Value
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.FfnEnd
public import proofs.«01_k».proof.Proof.FfnRef
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.OutRun
public import proofs.«01_k».proof.Proof.OutClaim
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.PleRun
public import proofs.«01_k».proof.Proof.PleClaim
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.PrepRun
public import proofs.«01_k».proof.Proof.PrepClaim
public import proofs.«01_k».proof.Proof.Gen.Kernel7
public import proofs.«01_k».proof.Proof.Gen.Kernel7.Frame
public import proofs.«01_k».proof.Proof.Gen.Kernel7.Value
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.FfmEnd
public import proofs.«01_k».proof.Proof.FfmRef
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Reference8Ideal.Read
public import proofs.«01_k».proof.Proof.InnRun
public import proofs.«01_k».proof.Proof.InnClaim
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Reference9Ideal.Read
public import proofs.«01_k».proof.Proof.OuuRun
public import proofs.«01_k».proof.Proof.OuuClaim
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Reference10Ideal
public import proofs.«01_k».proof.Proof.Gen.Reference10Ideal.Run
public import proofs.«01_k».proof.Proof.Gen.Reference10Ideal.Read
public import proofs.«01_k».proof.Proof.PllRun
public import proofs.«01_k».proof.Proof.PllClaim
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.AttClaim
public import Idealize.ShloMosaic.Adequacy
public import Idealize.ShloMosaic.Init

@[expose] public section

noncomputable section

namespace Cert.Proof

open Idealize.ShloMosaic Idealize.SL.Sem Cert.Kernel

/-- The in-projection's first result, as a function of its arguments. -/
theorem inA (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    Cert.KernelIdeal.Gen.W7 m ρ c (Proc.devRef .tc Cert.KernelIdeal.main_v8)
      = Cert.ReferenceIdeal.Read.val_main_v33 (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1)) (m ((c.tc : Thread Cert.KernelIdeal.nD Cert.KernelIdeal.τ).loc Cert.KernelIdeal.main_arg2)) := by
  rw [Cert.KernelIdeal.InProj.v8_eq, Cert.KernelIdeal.InProj.v7_eq, Cert.KernelIdeal.InProj.v1_eq, Cert.KernelIdeal.InProj.v0_eq,
    Cert.KernelIdeal.InProj.v3_eq, Cert.KernelIdeal.InProj.v6_eq]
  exact (funext fun i => by rw [eq_ix2 i]; exact Cert.KernelIdeal.InProj.zA_eq _ _ _ (i 0) (i 1)).symm

/-- Its second result, as a function of its arguments. -/
theorem inF (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    Cert.KernelIdeal.Gen.W7 m ρ c (Proc.devRef .tc Cert.KernelIdeal.main_v9)
      = Cert.ReferenceIdeal.Read.val_main_v32 (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1)) (m ((c.tc : Thread Cert.KernelIdeal.nD Cert.KernelIdeal.τ).loc Cert.KernelIdeal.main_arg2)) := by
  rw [Cert.KernelIdeal.InProj.v9_eq, Cert.KernelIdeal.InProj.v7_eq, Cert.KernelIdeal.InProj.v2_eq, Cert.KernelIdeal.InProj.v0_eq,
    Cert.KernelIdeal.InProj.v3_eq, Cert.KernelIdeal.InProj.v6_eq]
  exact (funext fun i => by rw [eq_ix2 i]; exact Cert.KernelIdeal.InProj.zF_eq _ _ _ (i 0) (i 1)).symm

/-- The value claim of the program 3. -/
theorem alg3 : @Cert.algebraic_Kernel3Ideal_Reference3Ideal Cert.Kernel3Ideal.Gen.facts Cert.Reference3Ideal.Gen.facts :=
  fun m ρ m' ρ' _ ha => ⟨fun c => Cert.Kernel3Ideal.Ffn.H9 m c, fun c => Cert.Kernel3Ideal.Ffn.H10 m c,
    (θ_run _ _ _).mono (fun r h c => ⟨(h c).1.trans (Cert.Kernel3Ideal.Ffn.final9 m c), (h c).2.1.trans (Cert.Kernel3Ideal.Ffn.final10 m c), (h c).2.2⟩)
      (Cert.Kernel3Ideal.Value.run_blocks m ρ),
    (θ_run _ _ _).mono (fun r h c => by
      obtain ⟨h0, h1, h2, h3, h4, h5, h6, h7⟩ := ha c
      obtain ⟨ra, rf, rest⟩ := h c
      refine ⟨?_, ?_, rest⟩
      · rw [ra, Cert.Reference3Ideal.Read.val_main_v49_eq, h0, h1, h2, h3, h4, h5, h6]; exact Cert.Kernel3Ideal.Ffn.ref49 _ _ _ _ _ _ _
      · rw [rf, Cert.Reference3Ideal.Read.val_main_v66_eq, h0, h1, h2, h3, h4, h5, h6, h7]; exact Cert.Kernel3Ideal.Ffn.ref66 _ _ _ _ _ _ _ _)
      (Cert.Reference3Ideal.Value.run m' ρ')⟩

/-- The value claim of the program 4. -/
theorem alg4 : @Cert.algebraic_Kernel4Ideal_Reference4Ideal Cert.Kernel4Ideal.Gen.facts Cert.Reference4Ideal.Gen.facts :=
  fun m ρ m' ρ' _ ha => ⟨_, _,
    (θ_run _ _ _).mono (fun r h c => ⟨(h c).1.trans (Cert.Kernel4Ideal.Out.first m ρ c), (h c).2.1.trans (Cert.Kernel4Ideal.Out.second m ρ c), (h c).2.2⟩)
      (Cert.Kernel4Ideal.Out.launch m ρ),
    (θ_run _ _ _).mono (fun r h c => by
      obtain ⟨h0, h1, h2, h3, h4, h5⟩ := ha c
      obtain ⟨ra, rf, rest⟩ := h c
      refine ⟨?_, ?_, rest⟩
      · rw [ra, Cert.Reference4Ideal.Read.val_main_v21_eq, h0, h1, h2, h3, h4]
        exact Cert.Kernel4Ideal.Out.ref21 _ _ _ _ _
      · rw [rf, Cert.Reference4Ideal.Read.val_main_v38_eq, h0, h1, h2, h3, h4, h5]
        exact Cert.Kernel4Ideal.Out.ref38 _ _ _ _ _ _) (Cert.Reference4Ideal.Value.run m' ρ')⟩

/-- The value claim of the program 5. -/
theorem alg5 : @Cert.algebraic_Kernel5Ideal_Reference5Ideal Cert.Kernel5Ideal.Gen.facts Cert.Reference5Ideal.Gen.facts :=
  fun m ρ m' ρ' _ ha => ⟨_, _,
    (θ_run _ _ _).mono (fun r h c => ⟨(h c).1.trans (Cert.Kernel5Ideal.Ple.first m ρ c), (h c).2.1.trans (Cert.Kernel5Ideal.Ple.second m ρ c), (h c).2.2⟩)
      (Cert.Kernel5Ideal.Ple.launch m ρ),
    (θ_run _ _ _).mono (fun r h c => by
      obtain ⟨h0, h1, h2, h3, h4, h5, h6⟩ := ha c
      obtain ⟨ra, rf, rest⟩ := h c
      refine ⟨?_, ?_, rest⟩
      · rw [ra, Cert.Reference5Ideal.Read.val_main_v32_eq, h0, h1, h2, h3, h4, h5]
        exact Cert.Kernel5Ideal.Ple.ref32 _ _ _ _ _ _
      · rw [rf, Cert.Reference5Ideal.Read.val_main_v49_eq, h0, h1, h2, h3, h4, h5, h6]
        exact Cert.Kernel5Ideal.Ple.ref49 _ _ _ _ _ _ _) (Cert.Reference5Ideal.Value.run m' ρ')⟩

/-- The value claim of the program 6. -/
theorem alg6 : @Cert.algebraic_Kernel6Ideal_Reference6Ideal Cert.Kernel6Ideal.Gen.facts Cert.Reference6Ideal.Gen.facts :=
  fun m ρ m' ρ' _ ha => ⟨_, _,
    (θ_run _ _ _).mono (fun r h c => ⟨(h c).1.trans (Cert.Kernel6Ideal.Prep.first m ρ c), (h c).2.1.trans (Cert.Kernel6Ideal.Prep.second m ρ c), (h c).2.2⟩)
      (Cert.Kernel6Ideal.Prep.launch m ρ),
    (θ_run _ _ _).mono (fun r h c => by
      obtain ⟨h0, h1⟩ := ha c
      obtain ⟨ra, rf, rest⟩ := h c
      refine ⟨?_, ?_, rest⟩
      · rw [ra, Cert.Reference6Ideal.Read.val_main_v8_eq, h0]
        exact Cert.Kernel6Ideal.Prep.ref8 _
      · rw [rf, Cert.Reference6Ideal.Read.val_main_v9_eq, h1]
        rfl) (Cert.Reference6Ideal.Value.run m' ρ')⟩

/-- The value claim of the program 7. -/
theorem alg7 : @Cert.algebraic_Kernel7Ideal_Reference7Ideal Cert.Kernel7Ideal.Gen.facts Cert.Reference7Ideal.Gen.facts :=
  fun m ρ m' ρ' _ ha => ⟨fun c => Cert.Kernel7Ideal.Ffn.H9 m c, fun c => Cert.Kernel7Ideal.Ffn.H10 m c,
    (θ_run _ _ _).mono (fun r h c => ⟨(h c).1.trans (Cert.Kernel7Ideal.Ffn.final9 m c), (h c).2.1.trans (Cert.Kernel7Ideal.Ffn.final10 m c), (h c).2.2⟩)
      (Cert.Kernel7Ideal.Value.run_blocks m ρ),
    (θ_run _ _ _).mono (fun r h c => by
      obtain ⟨h0, h1, h2, h3, h4, h5, h6, h7⟩ := ha c
      obtain ⟨ra, rf, rest⟩ := h c
      refine ⟨?_, ?_, rest⟩
      · rw [ra, Cert.Reference7Ideal.Read.val_main_v49_eq, h0, h1, h2, h3, h4, h5, h6]; exact Cert.Kernel7Ideal.Ffn.ref49 _ _ _ _ _ _ _
      · rw [rf, Cert.Reference7Ideal.Read.val_main_v66_eq, h0, h1, h2, h3, h4, h5, h6, h7]; exact Cert.Kernel7Ideal.Ffn.ref66 _ _ _ _ _ _ _ _)
      (Cert.Reference7Ideal.Value.run m' ρ')⟩

/-- The value claim of the program 8. -/
theorem alg8 : @Cert.algebraic_Kernel8Ideal_Reference8Ideal Cert.Kernel8Ideal.Gen.facts Cert.Reference8Ideal.Gen.facts :=
  fun m ρ m' ρ' _ ha => ⟨_, _,
    (θ_run _ _ _).mono (fun r h c => ⟨(h c).1.trans (Cert.Kernel8Ideal.InProj.first m ρ c), (h c).2.1.trans (Cert.Kernel8Ideal.InProj.second m ρ c), (h c).2.2⟩)
      (Cert.Kernel8Ideal.InProj.launch m ρ),
    (θ_run _ _ _).mono (fun r h c => by
      obtain ⟨h0, h1⟩ := ha c
      obtain ⟨ra, rf, rest⟩ := h c
      refine ⟨?_, ?_, rest⟩
      · rw [ra, Cert.Reference8Ideal.Read.val_main_v19_eq, h0, h1]
      · rw [rf, Cert.Reference8Ideal.Read.val_main_v18_eq, h0, h1]) (Cert.Reference8Ideal.Value.run m' ρ')⟩

/-- The value claim of the program 9. -/
theorem alg9 : @Cert.algebraic_Kernel9Ideal_Reference9Ideal Cert.Kernel9Ideal.Gen.facts Cert.Reference9Ideal.Gen.facts :=
  fun m ρ m' ρ' _ ha => ⟨_, _,
    (θ_run _ _ _).mono (fun r h c => ⟨(h c).1.trans (Cert.Kernel9Ideal.Out.first m ρ c), (h c).2.1.trans (Cert.Kernel9Ideal.Out.second m ρ c), (h c).2.2⟩)
      (Cert.Kernel9Ideal.Out.launch m ρ),
    (θ_run _ _ _).mono (fun r h c => by
      obtain ⟨h0, h1, h2, h3, h4, h5⟩ := ha c
      obtain ⟨ra, rf, rest⟩ := h c
      refine ⟨?_, ?_, rest⟩
      · rw [ra, Cert.Reference9Ideal.Read.val_main_v21_eq, h0, h1, h2, h3, h4]
        exact Cert.Kernel9Ideal.Out.ref21 _ _ _ _ _
      · rw [rf, Cert.Reference9Ideal.Read.val_main_v38_eq, h0, h1, h2, h3, h4, h5]
        exact Cert.Kernel9Ideal.Out.ref38 _ _ _ _ _ _) (Cert.Reference9Ideal.Value.run m' ρ')⟩

/-- The value claim of the program 10. -/
theorem alg10 : @Cert.algebraic_Kernel10Ideal_Reference10Ideal Cert.Kernel10Ideal.Gen.facts Cert.Reference10Ideal.Gen.facts :=
  fun m ρ m' ρ' _ ha => ⟨_, _,
    (θ_run _ _ _).mono (fun r h c => ⟨(h c).1.trans (Cert.Kernel10Ideal.Ple.first m ρ c), (h c).2.1.trans (Cert.Kernel10Ideal.Ple.second m ρ c), (h c).2.2⟩)
      (Cert.Kernel10Ideal.Ple.launch m ρ),
    (θ_run _ _ _).mono (fun r h c => by
      obtain ⟨h0, h1, h2, h3, h4, h5, h6⟩ := ha c
      obtain ⟨ra, rf, rest⟩ := h c
      refine ⟨?_, ?_, rest⟩
      · rw [ra, Cert.Reference10Ideal.Read.val_main_v32_eq, h0, h1, h2, h3, h4, h5]
        exact Cert.Kernel10Ideal.Ple.ref32 _ _ _ _ _ _
      · rw [rf, Cert.Reference10Ideal.Read.val_main_v49_eq, h0, h1, h2, h3, h4, h5, h6]
        exact Cert.Kernel10Ideal.Ple.ref49 _ _ _ _ _ _ _) (Cert.Reference10Ideal.Value.run m' ρ')⟩

theorem claim : Cert.Claim := ⟨Cert.Kernel.Gen.facts, Cert.KernelIdeal.Gen.facts, Cert.ReferenceIdeal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel2.Gen.facts, Cert.Kernel2Ideal.Gen.facts, Cert.Reference2Ideal.Gen.facts, Cert.Kernel2Ideal.Att.finite_facts,
  fun m ρ _ => Cert.Kernel.Gen.frame m ρ,
  fun m ρ _ => Cert.KernelIdeal.Gen.frame m ρ,
  fun m ρ _ => (θ_run _ _ _).mono (fun r h => ⟨fun c => (h c).2.2, Idealize.ShloMosaic.sem_eq_zero_of_no_sems (by decide) r.2⟩)
    (Cert.ReferenceIdeal.Value.run m ρ),
  fun m ρ _ => Cert.Kernel3.Gen.frame m ρ,
  fun m ρ _ => Cert.Kernel3Ideal.Gen.frame m ρ,
  fun m ρ _ => (θ_run _ _ _).mono (fun r h => ⟨fun c => (h c).2.2, Idealize.ShloMosaic.sem_eq_zero_of_no_sems (by decide) r.2⟩)
    (Cert.Reference3Ideal.Value.run m ρ),
  fun m ρ _ => Cert.Kernel4.Gen.frame m ρ,
  fun m ρ _ => Cert.Kernel4Ideal.Gen.frame m ρ,
  fun m ρ _ => (θ_run _ _ _).mono (fun r h => ⟨fun c => (h c).2.2, Idealize.ShloMosaic.sem_eq_zero_of_no_sems (by decide) r.2⟩)
    (Cert.Reference4Ideal.Value.run m ρ),
  fun m ρ _ => Cert.Kernel5.Gen.frame m ρ,
  fun m ρ _ => Cert.Kernel5Ideal.Gen.frame m ρ,
  fun m ρ _ => (θ_run _ _ _).mono (fun r h => ⟨fun c => (h c).2.2, Idealize.ShloMosaic.sem_eq_zero_of_no_sems (by decide) r.2⟩)
    (Cert.Reference5Ideal.Value.run m ρ),
  fun m ρ _ => Cert.Kernel6.Gen.frame m ρ,
  fun m ρ _ => Cert.Kernel6Ideal.Gen.frame m ρ,
  fun m ρ _ => (θ_run _ _ _).mono (fun r h => ⟨fun c => (h c).2.2, Idealize.ShloMosaic.sem_eq_zero_of_no_sems (by decide) r.2⟩)
    (Cert.Reference6Ideal.Value.run m ρ),
  fun m ρ _ => Cert.Kernel7.Gen.frame m ρ,
  fun m ρ _ => Cert.Kernel7Ideal.Gen.frame m ρ,
  fun m ρ _ => (θ_run _ _ _).mono (fun r h => ⟨fun c => (h c).2.2, Idealize.ShloMosaic.sem_eq_zero_of_no_sems (by decide) r.2⟩)
    (Cert.Reference7Ideal.Value.run m ρ),
  fun m ρ _ => Cert.Kernel8.Gen.frame m ρ,
  fun m ρ _ => Cert.Kernel8Ideal.Gen.frame m ρ,
  fun m ρ _ => (θ_run _ _ _).mono (fun r h => ⟨fun c => (h c).2.2, Idealize.ShloMosaic.sem_eq_zero_of_no_sems (by decide) r.2⟩)
    (Cert.Reference8Ideal.Value.run m ρ),
  fun m ρ _ => Cert.Kernel9.Gen.frame m ρ,
  fun m ρ _ => Cert.Kernel9Ideal.Gen.frame m ρ,
  fun m ρ _ => (θ_run _ _ _).mono (fun r h => ⟨fun c => (h c).2.2, Idealize.ShloMosaic.sem_eq_zero_of_no_sems (by decide) r.2⟩)
    (Cert.Reference9Ideal.Value.run m ρ),
  fun m ρ _ => Cert.Kernel10.Gen.frame m ρ,
  fun m ρ _ => Cert.Kernel10Ideal.Gen.frame m ρ,
  fun m ρ _ => (θ_run _ _ _).mono (fun r h => ⟨fun c => (h c).2.2, Idealize.ShloMosaic.sem_eq_zero_of_no_sems (by decide) r.2⟩)
    (Cert.Reference10Ideal.Value.run m ρ),
  fun m ρ _ => Cert.Kernel2.Gen.frame m ρ,
  fun m ρ _ => Cert.Kernel2Ideal.Gen.frame m ρ,
  fun m ρ _ => Cert.Kernel2Ideal.Gen.frame m ρ,
  fun m ρ _ => (θ_run _ _ _).mono (fun r h => ⟨fun c => (h c).2, Idealize.ShloMosaic.sem_eq_zero_of_no_sems (by decide) r.2⟩)
    (Cert.Reference2Ideal.Value.run m ρ),
  fun m ρ _ => (θ_run _ _ _).mono (fun r h => ⟨fun c => (h c).2, Idealize.ShloMosaic.sem_eq_zero_of_no_sems (by decide) r.2⟩)
    (Cert.Reference2Ideal.Value.run m ρ),
  IdealRules.named_const.statement Cert.KernelIdeal.κ "q_scale" .f32 _ _ rfl,
  fun m ρ m' ρ' _ ha => ⟨fun c => Cert.KernelIdeal.Gen.W7 m ρ c (Proc.devRef .tc Cert.KernelIdeal.main_v8),
    fun c => Cert.KernelIdeal.Gen.W7 m ρ c (Proc.devRef .tc Cert.KernelIdeal.main_v9),
    Cert.KernelIdeal.InProj.launch m ρ,
    (θ_run _ _ _).mono (fun r h c => by
      obtain ⟨h0, h1, h2⟩ := ha c
      obtain ⟨ra, rf, r0, r1, r2⟩ := h c
      refine ⟨?_, ?_, r0, r1, r2⟩
      · rw [ra, Cert.ReferenceIdeal.Read.val_main_v33_eq, h0, h1, h2]; exact (inA m ρ c).symm
      · rw [rf, Cert.ReferenceIdeal.Read.val_main_v32_eq, h0, h1, h2]; exact (inF m ρ c).symm) (Cert.ReferenceIdeal.Value.run m' ρ')⟩,
  trivial, alg3,
  trivial, alg4,
  trivial, alg5,
  trivial, alg6,
  trivial, alg7,
  IdealRules.named_const.statement Cert.Kernel8Ideal.κ "q_scale" .f32 _ _ rfl, alg8,
  trivial, alg9,
  trivial, alg10,
  IdealRules.named_const.statement Cert.Kernel2Ideal.κ "mask" .f32 _ _ rfl, Cert.Kernel2Ideal.Att.alg2⟩

end Cert.Proof

end
